-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_scales_nonzero [hPre_scales_nonzero : Cert.Pre_scales_nonzero.Facts] (m : (ℓ : Loc Cert.QkvIdeal.nD Cert.QkvIdeal.τ Cert.QkvIdeal.sig) → Buf (Elt Ideal) ℓ) : Prop :=
  ∀ c : Dev Cert.QkvIdeal.nD,
    (Cert.Pre_scales_nonzero.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).1 = (fun _ => 1#1)
    ∧ (Cert.Pre_scales_nonzero.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.1 = (fun _ => 1#1)
    ∧ (Cert.Pre_scales_nonzero.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.1 = (fun _ => 1#1)
    ∧ (Cert.Pre_scales_nonzero.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2 = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_scales_nonzero [hPre_scales_nonzero : Cert.Pre_scales_nonzero.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_scales_nonzero.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11))).1 = (fun _ => 1#1)
    ∧ (Cert.Pre_scales_nonzero.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11))).2.1 = (fun _ => 1#1)
    ∧ (Cert.Pre_scales_nonzero.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11))).2.2.1 = (fun _ => 1#1)
    ∧ (Cert.Pre_scales_nonzero.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11))).2.2.2 = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojIdeal_x_scale_nonzero [hPre_x_scale_nonzero : Cert.Pre_x_scale_nonzero.Facts] (m : (ℓ : Loc Cert.OprojIdeal.nD Cert.OprojIdeal.τ Cert.OprojIdeal.sig) → Buf (Elt Ideal) ℓ) : Prop :=
  ∀ c : Dev Cert.OprojIdeal.nD,
    (Cert.Pre_x_scale_nonzero.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6))) = (fun _ => 1#1)

def Pre_OprojRefIdeal (m : (ℓ : Loc Cert.OprojRefIdeal.nD Cert.OprojRefIdeal.τ Cert.OprojRefIdeal.sig) → Buf (Elt Ideal) ℓ) : Prop :=
  True

def Pre_OprojRefIdeal_x_scale_nonzero [hPre_x_scale_nonzero : Cert.Pre_x_scale_nonzero.Facts] (m : (ℓ : Loc Cert.OprojRefIdeal.nD Cert.OprojRefIdeal.τ Cert.OprojRefIdeal.sig) → Buf (Elt Ideal) ℓ) : Prop :=
  ∀ c : Dev Cert.OprojRefIdeal.nD,
    (Cert.Pre_x_scale_nonzero.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_h_scale_nonzero [hPre_h_scale_nonzero : Cert.Pre_h_scale_nonzero.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_h_scale_nonzero.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4))) = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_h_scale_nonzero [hPre_h_scale_nonzero : Cert.Pre_h_scale_nonzero.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_h_scale_nonzero.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2)) (m ((c.tc : Thread Cert.GateUpRefIdeal.nD Cert.GateUpRefIdeal.τ).loc Cert.GateUpRefIdeal.main_arg3)) (m ((c.tc : Thread Cert.GateUpRefIdeal.nD Cert.GateUpRefIdeal.τ).loc Cert.GateUpRefIdeal.main_arg4))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvIdeal_pre_scales_nonzero [hQkvIdeal : Cert.QkvIdeal.Facts] [hPre_scales_nonzero : Cert.Pre_scales_nonzero.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_scales_nonzero m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def quiescent_QkvRefIdeal_pre_scales_nonzero [hQkvRefIdeal : Cert.QkvRefIdeal.Facts] [hPre_scales_nonzero : Cert.Pre_scales_nonzero.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_scales_nonzero m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ r.2.sem = fun _ => 0)

def quiescent_OprojIdeal_pre_x_scale_nonzero [hOprojIdeal : Cert.OprojIdeal.Facts] [hPre_x_scale_nonzero : Cert.Pre_x_scale_nonzero.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal_x_scale_nonzero m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6))
      ∧ r.2.sem = fun _ => 0)

def quiescent_OprojRefIdeal_pre_x_scale_nonzero [hOprojRefIdeal : Cert.OprojRefIdeal.Facts] [hPre_x_scale_nonzero : Cert.Pre_x_scale_nonzero.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal_x_scale_nonzero m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpIdeal_pre_h_scale_nonzero [hGateUpIdeal : Cert.GateUpIdeal.Facts] [hPre_h_scale_nonzero : Cert.Pre_h_scale_nonzero.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_h_scale_nonzero m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_GateUpRefIdeal_pre_h_scale_nonzero [hGateUpRefIdeal : Cert.GateUpRefIdeal.Facts] [hPre_h_scale_nonzero : Cert.Pre_h_scale_nonzero.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_h_scale_nonzero m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_Qkv_QkvIdeal : Prop :=
  IdealRules.named_const.Statement Cert.QkvIdeal.κ "inv_d" .f32 0x394CCCCD#32 ((1 / 5120 : ℝ) : EReal)

def algebraic_QkvIdeal_QkvRefIdeal_pre_scales_nonzero [hQkvIdeal : Cert.QkvIdeal.Facts] [hQkvRefIdeal : Cert.QkvRefIdeal.Facts] [hPre_scales_nonzero : Cert.Pre_scales_nonzero.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_scales_nonzero m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)) (v5 : (c : Dev Cert.QkvIdeal.nD) → Buf (Elt Ideal) ((c.tc : Thread Cert.QkvIdeal.nD Cert.QkvIdeal.τ).loc Cert.QkvIdeal.main_v0_5)) (v6 : (c : Dev Cert.QkvIdeal.nD) → Buf (Elt Ideal) ((c.tc : Thread Cert.QkvIdeal.nD Cert.QkvIdeal.τ).loc Cert.QkvIdeal.main_v0_6)) (v7 : (c : Dev Cert.QkvIdeal.nD) → Buf (Elt Ideal) ((c.tc : Thread Cert.QkvIdeal.nD Cert.QkvIdeal.τ).loc Cert.QkvIdeal.main_v0_7)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_v0_5) = v5 c
          ∧ r.2.mem ((c.tc : Thread Cert.QkvIdeal.nD Cert.QkvIdeal.τ).loc Cert.QkvIdeal.main_v0_6) = v6 c
          ∧ r.2.mem ((c.tc : Thread Cert.QkvIdeal.nD Cert.QkvIdeal.τ).loc Cert.QkvIdeal.main_v0_7) = v7 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_v0_5) = v5 c
          ∧ r.2.mem ((c.tc : Thread Cert.QkvRefIdeal.nD Cert.QkvRefIdeal.τ).loc Cert.QkvRefIdeal.main_v0_6) = v6 c
          ∧ r.2.mem ((c.tc : Thread Cert.QkvRefIdeal.nD Cert.QkvRefIdeal.τ).loc Cert.QkvRefIdeal.main_v0_7) = v7 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11))

def preserves_Oproj_OprojIdeal : Prop :=
  IdealRules.named_const.Statement Cert.OprojIdeal.κ "inv_d" .f32 0x394CCCCD#32 ((1 / 5120 : ℝ) : EReal)

def algebraic_OprojIdeal_OprojRefIdeal_pre_x_scale_nonzero [hOprojIdeal : Cert.OprojIdeal.Facts] [hOprojRefIdeal : Cert.OprojRefIdeal.Facts] [hPre_x_scale_nonzero : Cert.Pre_x_scale_nonzero.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal_x_scale_nonzero m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)) (v2 : (c : Dev Cert.OprojIdeal.nD) → Buf (Elt Ideal) ((c.tc : Thread Cert.OprojIdeal.nD Cert.OprojIdeal.τ).loc Cert.OprojIdeal.main_v0_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_v0_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0_0) = v0 c
          ∧ r.2.mem ((c.tc : Thread Cert.OprojRefIdeal.nD Cert.OprojRefIdeal.τ).loc Cert.OprojRefIdeal.main_v0_1) = v1 c
          ∧ r.2.mem ((c.tc : Thread Cert.OprojRefIdeal.nD Cert.OprojRefIdeal.τ).loc Cert.OprojRefIdeal.main_v0_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6))

def preserves_GateUp_GateUpIdeal : Prop :=
  True

def algebraic_GateUpIdeal_GateUpRefIdeal_pre_h_scale_nonzero [hGateUpIdeal : Cert.GateUpIdeal.Facts] [hGateUpRefIdeal : Cert.GateUpRefIdeal.Facts] [hPre_h_scale_nonzero : Cert.Pre_h_scale_nonzero.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal_h_scale_nonzero m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hQkv : Cert.Qkv.Facts) (hQkvIdeal : Cert.QkvIdeal.Facts) (hQkvRefIdeal : Cert.QkvRefIdeal.Facts) (hOproj : Cert.Oproj.Facts) (hOprojIdeal : Cert.OprojIdeal.Facts) (hOprojRefIdeal : Cert.OprojRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hPre_scales_nonzero : Cert.Pre_scales_nonzero.Facts) (hPre_x_scale_nonzero : Cert.Pre_x_scale_nonzero.Facts) (hPre_h_scale_nonzero : Cert.Pre_h_scale_nonzero.Facts),
    quiescent_Qkv (hQkv := hQkv)
    ∧ quiescent_QkvIdeal (hQkvIdeal := hQkvIdeal)
    ∧ quiescent_QkvIdeal_pre_scales_nonzero (hQkvIdeal := hQkvIdeal) (hPre_scales_nonzero := hPre_scales_nonzero)
    ∧ quiescent_QkvRefIdeal (hQkvRefIdeal := hQkvRefIdeal)
    ∧ quiescent_QkvRefIdeal_pre_scales_nonzero (hQkvRefIdeal := hQkvRefIdeal) (hPre_scales_nonzero := hPre_scales_nonzero)
    ∧ quiescent_Oproj (hOproj := hOproj)
    ∧ quiescent_OprojIdeal (hOprojIdeal := hOprojIdeal)
    ∧ quiescent_OprojIdeal_pre_x_scale_nonzero (hOprojIdeal := hOprojIdeal) (hPre_x_scale_nonzero := hPre_x_scale_nonzero)
    ∧ quiescent_OprojRefIdeal (hOprojRefIdeal := hOprojRefIdeal)
    ∧ quiescent_OprojRefIdeal_pre_x_scale_nonzero (hOprojRefIdeal := hOprojRefIdeal) (hPre_x_scale_nonzero := hPre_x_scale_nonzero)
    ∧ quiescent_GateUp (hGateUp := hGateUp)
    ∧ quiescent_GateUpIdeal (hGateUpIdeal := hGateUpIdeal)
    ∧ quiescent_GateUpIdeal_pre_h_scale_nonzero (hGateUpIdeal := hGateUpIdeal) (hPre_h_scale_nonzero := hPre_h_scale_nonzero)
    ∧ quiescent_GateUpRefIdeal (hGateUpRefIdeal := hGateUpRefIdeal)
    ∧ quiescent_GateUpRefIdeal_pre_h_scale_nonzero (hGateUpRefIdeal := hGateUpRefIdeal) (hPre_h_scale_nonzero := hPre_h_scale_nonzero)
    ∧ quiescent_Down (hDown := hDown)
    ∧ quiescent_DownIdeal (hDownIdeal := hDownIdeal)
    ∧ quiescent_DownRefIdeal (hDownRefIdeal := hDownRefIdeal)
    ∧ preserves_Qkv_QkvIdeal
    ∧ algebraic_QkvIdeal_QkvRefIdeal_pre_scales_nonzero (hQkvIdeal := hQkvIdeal) (hQkvRefIdeal := hQkvRefIdeal) (hPre_scales_nonzero := hPre_scales_nonzero)
    ∧ preserves_Oproj_OprojIdeal
    ∧ algebraic_OprojIdeal_OprojRefIdeal_pre_x_scale_nonzero (hOprojIdeal := hOprojIdeal) (hOprojRefIdeal := hOprojRefIdeal) (hPre_x_scale_nonzero := hPre_x_scale_nonzero)
    ∧ preserves_GateUp_GateUpIdeal
    ∧ algebraic_GateUpIdeal_GateUpRefIdeal_pre_h_scale_nonzero (hGateUpIdeal := hGateUpIdeal) (hGateUpRefIdeal := hGateUpRefIdeal) (hPre_h_scale_nonzero := hPre_h_scale_nonzero)
    ∧ preserves_Down_DownIdeal
    ∧ algebraic_DownIdeal_DownRefIdeal (hDownIdeal := hDownIdeal) (hDownRefIdeal := hDownRefIdeal)
-- ==== Pre_h_scale_nonzero.lean ====
abbrev S1 : Shape := ⟨1, ![1]⟩
abbrev S8192x5120 : Shape := ⟨2, ![8192, 5120]⟩
abbrev S5120x8704 : Shape := ⟨2, ![5120, 8704]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1 .f32) (main_arg1 : FVec F S1 .f32) (main_arg2 : FVec F S1 .f32) (main_arg3 : FVec F S8192x5120 .fp8e4m3) (main_arg4 : FVec F S5120x8704 .fp8e4m3) : IVec S1 1 :=
  let main_cst : FVec F S_ .f32 := constant S_ .f32 0x00000000#32
  let main_v0 : FVec F S1 .f32 := broadcastInDim S1 ![] bcast_S_S1 main_cst
  let main_v1 : IVec S1 1 := cmpf .une main_arg2 main_v0
  main_v1
-- ==== Pre_scales_nonzero.lean ====
abbrev S1 : Shape := ⟨1, ![1]⟩
abbrev S10 : Shape := ⟨1, ![10]⟩
abbrev S2 : Shape := ⟨1, ![2]⟩
abbrev S8192x5120 : Shape := ⟨2, ![8192, 5120]⟩
abbrev S1x5120 : Shape := ⟨2, ![1, 5120]⟩
abbrev S5120x1792 : Shape := ⟨2, ![5120, 1792]⟩
abbrev S1x128 : Shape := ⟨2, ![1, 128]⟩
abbrev S4x64x1024 : Shape := ⟨3, ![4, 64, 1024]⟩
abbrev S_ : Shape := ⟨0, ![]⟩

class Facts : Prop where
  bcast_S_S1 : S_.BroadcastsInDim S1 (![] : Fin 0 → Fin S1.rank)
  bcast_S_S10 : S_.BroadcastsInDim S10 (![] : Fin 0 → Fin S10.rank)
  bcast_S_S2 : S_.BroadcastsInDim S2 (![] : Fin 0 → Fin S2.rank)

variable [Facts]

def fn {F : FTy → Type} [FloatOps F] (main_arg0 : FVec F S1 .f32) (main_arg1 : FVec F S10 .f32) (main_arg2 : FVec F S2 .f32) (main_arg3 : FVec F S2 .f32) (main_arg4 : FVec F S1 .f32) (main_arg5 : FVec F S8192x5120 .bf16) (main_arg6 : FVec F S1x5120 .f32) (main_arg7 : FVec F S5120x1792 .fp8e4m3) (main_arg8 : FVec F S1x128 .f32) (main_arg9 : FVec F S1x128 .f32) (main_arg10 : FVec F S4x64x1024 .f32) (main_arg11 : FVec F S4x64x1024 .f32) : IVec S1 1 × IVec S10 1 × IVec S2 1 × IVec S2 1 :=
  let main_cst : FVec F S_ .f32 := constant S_ .f32 0x00000000#32
  let main_v0 : FVec F S1 .f32 := broadcastInDim S1 ![] bcast_S_S1 main_cst
  let main_v1 : IVec S1 1 := cmpf .une main_arg0 main_v0
  let main_cst_0 : FVec F S_ .f32 := constant S_ .f32 0x00000000#32
  let main_v2 : FVec F S10 .f32 := broadcastInDim S10 ![] bcast_S_S10 main_cst_0
  let main_v3 : IVec S10 1 := cmpf .une main_arg1 main_v2
  let main_cst_1 : FVec F S_ .f32 := constant S_ .f32 0x00000000#32
  let main_v4 : FVec F S2 .f32 := broadcastInDim S2 ![] bcast_S_S2 main_cst_1
  let main_v5 : IVec S2 1 := cmpf .une main_arg2 main_v4
  let main_cst_2 : FVec F S_ .f32 := constant S_ .f32 0x00000000#32
  let main_v6 : FVec F S2 .f32 := broadcastInDim S2 ![] bcast_S_S2 main_cst_2
  let main_v7 : IVec S2 1 := cmpf .une main_arg3 main_v6
  (main_v1, main_v3, main_v5, main_v7)
-- ==== Pre_x_scale_nonzero.lean ====
abbrev S1 : Shape := ⟨1, ![1]⟩
abbrev S8192x1280 : Shape := ⟨2, ![8192, 1280]⟩
abbrev S8192x5120 : Shape := ⟨2, ![8192, 5120]⟩
abbrev S1280x5120 : Shape := ⟨2, ![1280, 5120]⟩
abbrev S1x5120 : Shape := ⟨2, ![1, 5120]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1 .f32) (main_arg1 : FVec F S1 .f32) (main_arg2 : FVec F S1 .f32) (main_arg3 : FVec F S8192x1280 .fp8e4m3) (main_arg4 : FVec F S8192x5120 .bf16) (main_arg5 : FVec F S1280x5120 .fp8e4m3) (main_arg6 : FVec F S1x5120 .f32) : IVec S1 1 :=
  let main_cst : FVec F S_ .f32 := constant S_ .f32 0x00000000#32
  let main_v0 : FVec F S1 .f32 := broadcastInDim S1 ![] bcast_S_S1 main_cst
  let main_v1 : IVec S1 1 := cmpf .une main_arg2 main_v0
  main_v1
-- ==== Qkv.lean ====
abbrev S1 : Shape := ⟨1, ![1]⟩
abbrev S10 : Shape := ⟨1, ![10]⟩
abbrev S2 : Shape := ⟨1, ![2]⟩
abbrev S8192x5120 : Shape := ⟨2, ![8192, 5120]⟩
abbrev S1x5120 : Shape := ⟨2, ![1, 5120]⟩
abbrev S5120x1792 : Shape := ⟨2, ![5120, 1792]⟩
abbrev S1x128 : Shape := ⟨2, ![1, 128]⟩
abbrev S4x64x1024 : Shape := ⟨3, ![4, 64, 1024]⟩
abbrev S4x10x2048x128 : Shape := ⟨4, ![4, 10, 2048, 128]⟩
abbrev S4x2x2048x128 : Shape := ⟨4, ![4, 2, 2048, 128]⟩
abbrev S256x5120 : Shape := ⟨2, ![256, 5120]⟩
abbrev S1x64x256 : Shape := ⟨3, ![1, 64, 256]⟩
abbrev S1x10x256x128 : Shape := ⟨4, ![1, 10, 256, 128]⟩
abbrev S1x2x256x128 : Shape := ⟨4, ![1, 2, 256, 128]⟩
abbrev S32x128 : Shape := ⟨2, ![32, 128]⟩
abbrev S16x128 : Shape := ⟨2, ![16, 128]⟩
abbrev S32x5120 : Shape := ⟨2, ![32, 5120]⟩
abbrev S32 : Shape := ⟨1, ![32]⟩
abbrev S32x1 : Shape := ⟨2, ![32, 1]⟩
abbrev S1x1 : Shape := ⟨2, ![1, 1]⟩
abbrev S64x256 : Shape := ⟨2, ![64, 256]⟩
abbrev S128x256 : Shape := ⟨2, ![128, 256]⟩
abbrev S256x128 : Shape := ⟨2, ![256, 128]⟩
abbrev S5120x256 : Shape := ⟨2, ![5120, 256]⟩
abbrev S256x256 : Shape := ⟨2, ![256, 256]⟩
abbrev S256 : Shape := ⟨1, ![256]⟩
abbrev S256x1 : Shape := ⟨2, ![256, 1]⟩
abbrev S128 : Shape := ⟨1, ![128]⟩
abbrev S1x1x256x128 : Shape := ⟨4, ![1, 1, 256, 128]⟩
abbrev S1x32x128 : Shape := ⟨3, ![1, 32, 128]⟩
abbrev S1x1x1 : Shape := ⟨3, ![1, 1, 1]⟩
abbrev S1x1x128 : Shape := ⟨3, ![1, 1, 128]⟩

abbrev nBuf : Space → Nat
  | .hbm => 20
  | .vmem => 20
  | .smem => 9
  | _ => 0

abbrev bufTy : (tb : Table) → Fin (tcTables nBuf tb) → BufTy
  | .hbm, ⟨0, _⟩ => ⟨S1, .f32⟩
  | .hbm, ⟨1, _⟩ => ⟨S10, .f32⟩
  | .hbm, ⟨2, _⟩ => ⟨S2, .f32⟩
  | .hbm, ⟨3, _⟩ => ⟨S2, .f32⟩
  | .hbm, ⟨4, _⟩ => ⟨S1, .f32⟩
  | .hbm, ⟨5, _⟩ => ⟨S8192x5120, .bf16⟩
  | .hbm, ⟨6, _⟩ => ⟨S1x5120, .f32⟩
  | .hbm, ⟨7, _⟩ => ⟨S5120x1792, .fp8e4m3⟩
  | .hbm, ⟨8, _⟩ => ⟨S1x128, .f32⟩
  | .hbm, ⟨9, _⟩ => ⟨S1x128, .f32⟩
  | .hbm, ⟨10, _⟩ => ⟨S4x64x1024, .f32⟩
  | .hbm, ⟨11, _⟩ => ⟨S4x64x1024, .f32⟩
  | .hbm, ⟨12, _⟩ => ⟨S8192x5120, .fp8e4m3⟩
  | .hbm, ⟨13, _⟩ => ⟨S4x10x2048x128, .fp8e4m3⟩
  | .hbm, ⟨14, _⟩ => ⟨S4x2x2048x128, .fp8e4m3⟩
  | .hbm, ⟨15, _⟩ => ⟨S4x2x2048x128, .fp8e4m3⟩
  | .hbm, ⟨16, _⟩ => ⟨S1, .f32⟩
  | .hbm, ⟨17, _⟩ => ⟨S10, .f32⟩
  | .hbm, ⟨18, _⟩ => ⟨S2, .f32⟩
  | .hbm, ⟨19, _⟩ => ⟨S2, .f32⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S5120x1792, .fp8e4m3⟩
  | .local _ .vmem, ⟨4, _⟩ => ⟨S1x128, .f32⟩
  | .local _ .vmem, ⟨5, _⟩ => ⟨S1x128, .f32⟩
  | .local _ .vmem, ⟨6, _⟩ => ⟨S1x64x256, .f32⟩
  | .local _ .vmem, ⟨7, _⟩ => ⟨S1x64x256, .f32⟩
  | .local _ .vmem, ⟨8, _⟩ => ⟨S1x64x256, .f32⟩
  | .local _ .vmem, ⟨9, _⟩ => ⟨S1x64x256, .f32⟩
  | .local _ .vmem, ⟨10, _⟩ => ⟨S256x5120, .fp8e4m3⟩
  | .local _ .vmem, ⟨11, _⟩ => ⟨S256x5120, .fp8e4m3⟩
  | .local _ .vmem, ⟨12, _⟩ => ⟨S1x10x256x128, .fp8e4m3⟩
  | .local _ .vmem, ⟨13, _⟩ => ⟨S1x10x256x128, .fp8e4m3⟩
  | .local _ .vmem, ⟨14, _⟩ => ⟨S1x2x256x128, .fp8e4m3⟩
  | .local _ .vmem, ⟨15, _⟩ => ⟨S1x2x256x128, .fp8e4m3⟩
  | .local _ .vmem, ⟨16, _⟩ => ⟨S1x2x256x128, .fp8e4m3⟩
  | .local _ .vmem, ⟨17, _⟩ => ⟨S1x2x256x128, .fp8e4m3⟩
  | .local _ .vmem, ⟨18, _⟩ => ⟨S32x128, .f32⟩
  | .local _ .vmem, ⟨19, _⟩ => ⟨S16x128, .f32⟩
  | .local _ .smem, ⟨0, _⟩ => ⟨S1, .f32⟩
  | .local _ .smem, ⟨1, _⟩ => ⟨S10, .f32⟩
  | .local _ .smem, ⟨2, _⟩ => ⟨S2, .f32⟩
  | .local _ .smem, ⟨3, _⟩ => ⟨S2, .f32⟩
  | .local _ .smem, ⟨4, _⟩ => ⟨S1, .f32⟩
  | .local _ .smem, ⟨5, _⟩ => ⟨S1, .f32⟩
  | .local _ .smem, ⟨6, _⟩ => ⟨S10, .f32⟩
  | .local _ .smem, ⟨7, _⟩ => ⟨S2, .f32⟩
  | .local _ .smem, ⟨8, _⟩ => ⟨S2, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg10_1 : Ref sig .tc := ⟨.vmem, 7, rfl⟩
abbrev cc0_stg11_0 : Ref sig .tc := ⟨.vmem, 8, rfl⟩
abbrev cc0_stg11_1 : Ref sig .tc := ⟨.vmem, 9, rfl⟩
abbrev cc0_stg12_0 : Ref sig .tc := ⟨.vmem, 10, rfl⟩
abbrev cc0_stg12_1 : Ref sig .tc := ⟨.vmem, 11, rfl⟩
abbrev cc0_stg13_0 : Ref sig .tc := ⟨.vmem, 12, rfl⟩
abbrev cc0_stg13_1 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg16_0 : Ref sig .tc := ⟨.smem, 5, rfl⟩
abbrev cc0_stg17_0 : Ref sig .tc := ⟨.smem, 6, rfl⟩
abbrev cc0_stg18_0 : Ref sig .tc := ⟨.smem, 7, rfl⟩
abbrev cc0_stg19_0 : Ref sig .tc := ⟨.smem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem18_0 : DmaSem sig := 25
abbrev cc0_sem19_0 : DmaSem sig := 26

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c8_i32 : BitVec 32 := 8#32
  let v7 : BitVec 32 := Scalar.addi c0_i32_1 c8_i32
  let c1_i32 : BitVec 32 := 1#32
  ⟨c0_i32_1, v7, c1_i32⟩
def k0_mult1 (k0_t1 : Fin k0_t1_loop.trips) : BitVec 32 :=
  let c0_i32_1 : BitVec 32 := 0#32
  let c1_i32 : BitVec 32 := 1#32
  let arg23 : BitVec 32 := Scf.iv c0_i32_1 c1_i32 k0_t1
  let c32_i32 : BitVec 32 := 32#32
  let v560 : BitVec 32 := Scalar.muli arg23 c32_i32
  v560
def k0_off1 (k0_t1 : Fin k0_t1_loop.trips) : Fin 2 → Nat :=
  let c0_i32_1 : BitVec 32 := 0#32
  let c1_i32 : BitVec 32 := 1#32
  let arg23 : BitVec 32 := Scf.iv c0_i32_1 c1_i32 k0_t1
  let c32_i32 : BitVec 32 := 32#32
  let v560 : BitVec 32 := Scalar.muli arg23 c32_i32
  let v561 : BitVec 32 := v560
  let v562 : Index := Scalar.indexCast v561
  let c0_258 : Index := 0#32
  ![v562.toNat, 0]
def k0_cond2 (i : grid0.Coords) : BitVec 1 :=
  let arg0 : BitVec 32 := BitVec.ofNat 32 (i 0).val
  let c31_i32 : BitVec 32 := 31#32
  let v557 : BitVec 1 := Scalar.cmpi .eq arg0 c31_i32
  let v558 : BitVec 32 := Scalar.extui v557
  let c0_i32_257 : BitVec 32 := 0#32
  let v559 : BitVec 1 := Scalar.cmpi .ne v558 c0_i32_257
  v559

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let c0_i32_10 : BitVec 32 := 0#32
  let v27 : BitVec 1 := Scalar.cmpi .eq c4_i32 c0_i32_10
  let c1_i32_11 : BitVec 32 := 1#32
  let v28 : BitVec 32 := Scalar.select v27 c1_i32_11 c4_i32
  let v29 : BitVec 32 := Scalar.remsi v26 v28
  let c0_i32_12 : BitVec 32 := 0#32
  let v30 : BitVec 1 := Scalar.cmpi .ne v29 c0_i32_12
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let v34 : BitVec 1 := Scalar.andi v33 v30
  let v35 : BitVec 32 := Scalar.addi v29 v28
  let v36 : BitVec 32 := Scalar.select v34 v35 v29
  let c0_i32_15 : BitVec 32 := 0#32
  let c0_i32_16 : BitVec 32 := 0#32
  ![v16.toNat, c0_i32_15.toNat, v36.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let c0_i32_10 : BitVec 32 := 0#32
  let v27 : BitVec 1 := Scalar.cmpi .eq c4_i32 c0_i32_10
  let c1_i32_11 : BitVec 32 := 1#32
  let v28 : BitVec 32 := Scalar.select v27 c1_i32_11 c4_i32
  let v29 : BitVec 32 := Scalar.remsi v26 v28
  let c0_i32_12 : BitVec 32 := 0#32
  let v30 : BitVec 1 := Scalar.cmpi .ne v29 c0_i32_12
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let v34 : BitVec 1 := Scalar.andi v33 v30
  let v35 : BitVec 32 := Scalar.addi v29 v28
  let v36 : BitVec 32 := Scalar.select v34 v35 v29
  let c0_i32_15 : BitVec 32 := 0#32
  let c0_i32_16 : BitVec 32 := 0#32
  ![v16.toNat, c0_i32_15.toNat, v36.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5120x1792 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5120 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x10x256x128 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x256x128 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x256x128 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .smem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .smem S10 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .smem S2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .smem S2 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== QkvIdeal.lean ====
variable {F : FTy → Type} [FloatOps F] [Named F]
def κ : String → Option EReal := fun
  | "inv_d" => some ((1 / 5120 : ℝ) : EReal)
  | _ => none
-- ==== QkvRefIdeal.lean ====
abbrev S1 : Shape := ⟨1, ![1]⟩
abbrev S10 : Shape := ⟨1, ![10]⟩
abbrev S2 : Shape := ⟨1, ![2]⟩
abbrev S8192x5120 : Shape := ⟨2, ![8192, 5120]⟩
abbrev S1x5120 : Shape := ⟨2, ![1, 5120]⟩
abbrev S5120x1792 : Shape := ⟨2, ![5120, 1792]⟩
abbrev S1x128 : Shape := ⟨2, ![1, 128]⟩
abbrev S4x64x1024 : Shape := ⟨3, ![4, 64, 1024]⟩
abbrev S4x10x2048x128 : Shape := ⟨4, ![4, 10, 2048, 128]⟩
abbrev S4x2x2048x128 : Shape := ⟨4, ![4, 2, 2048, 128]⟩
abbrev S8192 : Shape := ⟨1, ![8192]⟩
abbrev S8192x1 : Shape := ⟨2, ![8192, 1]⟩
abbrev S1x8192x5120 : Shape := ⟨3, ![1, 8192, 5120]⟩
abbrev S1x1x1 : Shape := ⟨3, ![1, 1, 1]⟩
abbrev S8192x1792 : Shape := ⟨2, ![8192, 1792]⟩
abbrev S4x1024x64 : Shape := ⟨3, ![4, 1024, 64]⟩
abbrev S4x1024x128 : Shape := ⟨3, ![4, 1024, 128]⟩
abbrev S4x2048x128 : Shape := ⟨3, ![4, 2048, 128]⟩
abbrev S8192x128 : Shape := ⟨2, ![8192, 128]⟩
abbrev S4x2048 : Shape := ⟨2, ![4, 2048]⟩
abbrev S4x2048x1 : Shape := ⟨3, ![4, 2048, 1]⟩
abbrev S1x1x128 : Shape := ⟨3, ![1, 1, 128]⟩
abbrev S4x2048x64 : Shape := ⟨3, ![4, 2048, 64]⟩
abbrev S4x1x2048x128 : Shape := ⟨4, ![4, 1, 2048, 128]⟩
abbrev S1x4x2048x128 : Shape := ⟨4, ![1, 4, 2048, 128]⟩
abbrev S1x1x1x1 : Shape := ⟨4, ![1, 1, 1, 1]⟩

abbrev nBuf : Space → Nat
  | .hbm => 20
  | .vmem => 11
  | .smem => 9
  | _ => 0

abbrev bufTy : (tb : Table) → Fin (tcTables nBuf tb) → BufTy
  | .hbm, ⟨0, _⟩ => ⟨S1, .f32⟩
  | .hbm, ⟨1, _⟩ => ⟨S10, .f32⟩
  | .hbm, ⟨2, _⟩ => ⟨S2, .f32⟩
  | .hbm, ⟨3, _⟩ => ⟨S2, .f32⟩
  | .hbm, ⟨4, _⟩ => ⟨S1, .f32⟩
  | .hbm, ⟨5, _⟩ => ⟨S8192x5120, .bf16⟩
  | .hbm, ⟨6, _⟩ => ⟨S1x5120, .f32⟩
  | .hbm, ⟨7, _⟩ => ⟨S5120x1792, .fp8e4m3⟩
  | .hbm, ⟨8, _⟩ => ⟨S1x128, .f32⟩
  | .hbm, ⟨9, _⟩ => ⟨S1x128, .f32⟩
  | .hbm, ⟨10, _⟩ => ⟨S4x64x1024, .f32⟩
  | .hbm, ⟨11, _⟩ => ⟨S4x64x1024, .f32⟩
  | .hbm, ⟨12, _⟩ => ⟨S8192x5120, .fp8e4m3⟩
  | .hbm, ⟨13, _⟩ => ⟨S4x10x2048x128, .fp8e4m3⟩
  | .hbm, ⟨14, _⟩ => ⟨S4x2x2048x128, .fp8e4m3⟩
  | .hbm, ⟨15, _⟩ => ⟨S4x2x2048x128, .fp8e4m3⟩
  | .hbm, ⟨16, _⟩ => ⟨S1, .f32⟩
  | .hbm, ⟨17, _⟩ => ⟨S10, .f32⟩
  | .hbm, ⟨18, _⟩ => ⟨S2, .f32⟩
  | .hbm, ⟨19, _⟩ => ⟨S2, .f32⟩
  | .local _ .vmem, ⟨0, _⟩ => ⟨S8192x5120, .bf16⟩
  | .local _ .vmem, ⟨1, _⟩ => ⟨S1x5120, .f32⟩
  | .local _ .vmem, ⟨2, _⟩ => ⟨S5120x1792, .fp8e4m3⟩
  | .local _ .vmem, ⟨3, _⟩ => ⟨S1x128, .f32⟩
  | .local _ .vmem, ⟨4, _⟩ => ⟨S1x128, .f32⟩
  | .local _ .vmem, ⟨5, _⟩ => ⟨S4x64x1024, .f32⟩
  | .local _ .vmem, ⟨6, _⟩ => ⟨S4x64x1024, .f32⟩
  | .local _ .vmem, ⟨7, _⟩ => ⟨S8192x5120, .fp8e4m3⟩
  | .local _ .vmem, ⟨8, _⟩ => ⟨S4x10x2048x128, .fp8e4m3⟩
  | .local _ .vmem, ⟨9, _⟩ => ⟨S4x2x2048x128, .fp8e4m3⟩
  | .local _ .vmem, ⟨10, _⟩ => ⟨S4x2x2048x128, .fp8e4m3⟩
  | .local _ .smem, ⟨0, _⟩ => ⟨S1, .f32⟩
  | .local _ .smem, ⟨1, _⟩ => ⟨S10, .f32⟩
  | .local _ .smem, ⟨2, _⟩ => ⟨S2, .f32⟩
  | .local _ .smem, ⟨3, _⟩ => ⟨S2, .f32⟩
  | .local _ .smem, ⟨4, _⟩ => ⟨S1, .f32⟩
  | .local _ .smem, ⟨5, _⟩ => ⟨S1, .f32⟩
  | .local _ .smem, ⟨6, _⟩ => ⟨S10, .f32⟩
  | .local _ .smem, ⟨7, _⟩ => ⟨S2, .f32⟩
  | .local _ .smem, ⟨8, _⟩ => ⟨S2, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg11_0 : Ref sig .tc := ⟨.vmem, 6, rfl⟩
abbrev cc0_stg12_0 : Ref sig .tc := ⟨.vmem, 7, rfl⟩
abbrev cc0_stg13_0 : Ref sig .tc := ⟨.vmem, 8, rfl⟩
abbrev cc0_stg14_0 : Ref sig .tc := ⟨.vmem, 9, rfl⟩
abbrev cc0_stg15_0 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg16_0 : Ref sig .tc := ⟨.smem, 5, rfl⟩
abbrev cc0_stg17_0 : Ref sig .tc := ⟨.smem, 6, rfl⟩
abbrev cc0_stg18_0 : Ref sig .tc := ⟨.smem, 7, rfl⟩
abbrev cc0_stg19_0 : Ref sig .tc := ⟨.smem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x1792 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x64x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x5120 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x10x2048x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x2x2048x128 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x2x2048x128 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .smem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .smem S10 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .smem S2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .smem S2 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Oproj.lean ====
abbrev S1 : Shape := ⟨1, ![1]⟩
abbrev S8192x1280 : Shape := ⟨2, ![8192, 1280]⟩
abbrev S8192x5120 : Shape := ⟨2, ![8192, 5120]⟩
abbrev S1280x5120 : Shape := ⟨2, ![1280, 5120]⟩
abbrev S1x5120 : Shape := ⟨2, ![1, 5120]⟩
abbrev S256x1280 : Shape := ⟨2, ![256, 1280]⟩
abbrev S256x5120 : Shape := ⟨2, ![256, 5120]⟩
abbrev S256x128 : Shape := ⟨2, ![256, 128]⟩
abbrev S1x128 : Shape := ⟨2, ![1, 128]⟩
abbrev S256x256 : Shape := ⟨2, ![256, 256]⟩
abbrev S1280x256 : Shape := ⟨2, ![1280, 256]⟩
abbrev S256 : Shape := ⟨1, ![256]⟩
abbrev S256x1 : Shape := ⟨2, ![256, 1]⟩
abbrev S1x1 : Shape := ⟨2, ![1, 1]⟩
abbrev S1x256x128 : Shape := ⟨3, ![1, 256, 128]⟩
abbrev S1x1x1 : Shape := ⟨3, ![1, 1, 1]⟩

abbrev nBuf : Space → Nat
  | .hbm => 10
  | .vmem => 11
  | .smem => 4
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S8192x1280, .fp8e4m3⟩
  | .hbm, ⟨4, _⟩ => ⟨S8192x5120, .bf16⟩
  | .hbm, ⟨5, _⟩ => ⟨S1280x5120, .fp8e4m3⟩
  | .hbm, ⟨6, _⟩ => ⟨S1x5120, .f32⟩
  | .hbm, ⟨7, _⟩ => ⟨S8192x5120, .f32⟩
  | .hbm, ⟨8, _⟩ => ⟨S8192x5120, .fp8e4m3⟩
  | .hbm, ⟨9, _⟩ => ⟨S1, .f32⟩
  | .local _ .vmem, ⟨0, _⟩ => ⟨S256x1280, .fp8e4m3⟩
  | .local _ .vmem, ⟨1, _⟩ => ⟨S256x1280, .fp8e4m3⟩
  | .local _ .vmem, ⟨2, _⟩ => ⟨S256x5120, .bf16⟩
  | .local _ .vmem, ⟨3, _⟩ => ⟨S256x5120, .bf16⟩
  | .local _ .vmem, ⟨4, _⟩ => ⟨S1280x5120, .fp8e4m3⟩
  | .local _ .vmem, ⟨5, _⟩ => ⟨S1x5120, .f32⟩
  | .local _ .vmem, ⟨6, _⟩ => ⟨S256x5120, .f32⟩
  | .local _ .vmem, ⟨7, _⟩ => ⟨S256x5120, .f32⟩
  | .local _ .vmem, ⟨8, _⟩ => ⟨S256x5120, .fp8e4m3⟩
  | .local _ .vmem, ⟨9, _⟩ => ⟨S256x5120, .fp8e4m3⟩
  | .local _ .vmem, ⟨10, _⟩ => ⟨S256x128, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg9_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v892 : BitVec 1 := Scalar.cmpi .eq arg0 c31_i32
  let v893 : BitVec 32 := Scalar.extui v892
  let c0_i32_436 : BitVec 32 := 0#32
  let v894 : BitVec 1 := Scalar.cmpi .ne v893 c0_i32_436
  v894

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1280 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1280x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OprojIdeal.lean ====
variable {F : FTy → Type} [FloatOps F] [Named F]
def κ : String → Option EReal := fun
  | "inv_d" => some ((1 / 5120 : ℝ) : EReal)
  | _ => none
-- ==== OprojRefIdeal.lean ====
abbrev S1 : Shape := ⟨1, ![1]⟩
abbrev S8192x1280 : Shape := ⟨2, ![8192, 1280]⟩
abbrev S8192x5120 : Shape := ⟨2, ![8192, 5120]⟩
abbrev S1280x5120 : Shape := ⟨2, ![1280, 5120]⟩
abbrev S1x5120 : Shape := ⟨2, ![1, 5120]⟩
abbrev S8192 : Shape := ⟨1, ![8192]⟩
abbrev S8192x1 : Shape := ⟨2, ![8192, 1]⟩
abbrev S1x8192x5120 : Shape := ⟨3, ![1, 8192, 5120]⟩
abbrev S1x1x1 : Shape := ⟨3, ![1, 1, 1]⟩

abbrev nBuf : Space → Nat
  | .hbm => 10
  | .vmem => 6
  | .smem => 4
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S8192x1280, .fp8e4m3⟩
  | .hbm, ⟨4, _⟩ => ⟨S8192x5120, .bf16⟩
  | .hbm, ⟨5, _⟩ => ⟨S1280x5120, .fp8e4m3⟩
  | .hbm, ⟨6, _⟩ => ⟨S1x5120, .f32⟩
  | .hbm, ⟨7, _⟩ => ⟨S8192x5120, .f32⟩
  | .hbm, ⟨8, _⟩ => ⟨S8192x5120, .fp8e4m3⟩
  | .hbm, ⟨9, _⟩ => ⟨S1, .f32⟩
  | .local _ .vmem, ⟨0, _⟩ => ⟨S8192x1280, .fp8e4m3⟩
  | .local _ .vmem, ⟨1, _⟩ => ⟨S8192x5120, .bf16⟩
  | .local _ .vmem, ⟨2, _⟩ => ⟨S1280x5120, .fp8e4m3⟩
  | .local _ .vmem, ⟨3, _⟩ => ⟨S1x5120, .f32⟩
  | .local _ .vmem, ⟨4, _⟩ => ⟨S8192x5120, .f32⟩
  | .local _ .vmem, ⟨5, _⟩ => ⟨S8192x5120, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg9_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== GateUp.lean ====
abbrev S1 : Shape := ⟨1, ![1]⟩
abbrev S8192x5120 : Shape := ⟨2, ![8192, 5120]⟩
abbrev S5120x8704 : Shape := ⟨2, ![5120, 8704]⟩
abbrev S8192x4352 : Shape := ⟨2, ![8192, 4352]⟩
abbrev S256x5120 : Shape := ⟨2, ![256, 5120]⟩
abbrev S256x4352 : Shape := ⟨2, ![256, 4352]⟩
abbrev S1x256 : Shape := ⟨2, ![1, 256]⟩
abbrev S5120x256 : Shape := ⟨2, ![5120, 256]⟩
abbrev S256x256 : Shape := ⟨2, ![256, 256]⟩
abbrev S256 : Shape := ⟨1, ![256]⟩
abbrev S1x1x256 : Shape := ⟨3, ![1, 1, 256]⟩
abbrev S1x1x1 : Shape := ⟨3, ![1, 1, 1]⟩

abbrev nBuf : Space → Nat
  | .hbm => 7
  | .vmem => 6
  | .smem => 4
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S8192x5120, .fp8e4m3⟩
  | .hbm, ⟨4, _⟩ => ⟨S5120x8704, .fp8e4m3⟩
  | .hbm, ⟨5, _⟩ => ⟨S8192x4352, .fp8e4m3⟩
  | .hbm, ⟨6, _⟩ => ⟨S1, .f32⟩
  | .local _ .vmem, ⟨0, _⟩ => ⟨S256x5120, .fp8e4m3⟩
  | .local _ .vmem, ⟨1, _⟩ => ⟨S256x5120, .fp8e4m3⟩
  | .local _ .vmem, ⟨2, _⟩ => ⟨S5120x8704, .fp8e4m3⟩
  | .local _ .vmem, ⟨3, _⟩ => ⟨S256x4352, .fp8e4m3⟩
  | .local _ .vmem, ⟨4, _⟩ => ⟨S256x4352, .fp8e4m3⟩
  | .local _ .vmem, ⟨5, _⟩ => ⟨S1x256, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_scratch0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg6_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v468 : BitVec 1 := Scalar.cmpi .eq arg0 c31_i32
  let v469 : BitVec 32 := Scalar.extui v468
  let c0_i32_227 : BitVec 32 := 0#32
  let v470 : BitVec 1 := Scalar.cmpi .ne v469 c0_i32_227
  v470

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5120 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5120x8704 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4352 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateUpRefIdeal.lean ====
abbrev S1 : Shape := ⟨1, ![1]⟩
abbrev S8192x5120 : Shape := ⟨2, ![8192, 5120]⟩
abbrev S5120x8704 : Shape := ⟨2, ![5120, 8704]⟩
abbrev S8192x4352 : Shape := ⟨2, ![8192, 4352]⟩
abbrev S8192x8704 : Shape := ⟨2, ![8192, 8704]⟩
abbrev S1x8192x4352 : Shape := ⟨3, ![1, 8192, 4352]⟩
abbrev S1x1x1 : Shape := ⟨3, ![1, 1, 1]⟩

abbrev nBuf : Space → Nat
  | .hbm => 7
  | .vmem => 3
  | .smem => 4
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S8192x5120, .fp8e4m3⟩
  | .hbm, ⟨4, _⟩ => ⟨S5120x8704, .fp8e4m3⟩
  | .hbm, ⟨5, _⟩ => ⟨S8192x4352, .fp8e4m3⟩
  | .hbm, ⟨6, _⟩ => ⟨S1, .f32⟩
  | .local _ .vmem, ⟨0, _⟩ => ⟨S8192x5120, .fp8e4m3⟩
  | .local _ .vmem, ⟨1, _⟩ => ⟨S5120x8704, .fp8e4m3⟩
  | .local _ .vmem, ⟨2, _⟩ => ⟨S8192x4352, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg6_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x8704 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x4352 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Down.lean ====
abbrev S1 : Shape := ⟨1, ![1]⟩
abbrev S8192x4352 : Shape := ⟨2, ![8192, 4352]⟩
abbrev S8192x5120 : Shape := ⟨2, ![8192, 5120]⟩
abbrev S4352x5120 : Shape := ⟨2, ![4352, 5120]⟩
abbrev S256x4352 : Shape := ⟨2, ![256, 4352]⟩
abbrev S256x5120 : Shape := ⟨2, ![256, 5120]⟩
abbrev S256x256 : Shape := ⟨2, ![256, 256]⟩
abbrev S4352x256 : Shape := ⟨2, ![4352, 256]⟩

abbrev nBuf : Space → Nat
  | .hbm => 6
  | .vmem => 7
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S8192x4352, .fp8e4m3⟩
  | .hbm, ⟨3, _⟩ => ⟨S8192x5120, .f32⟩
  | .hbm, ⟨4, _⟩ => ⟨S4352x5120, .fp8e4m3⟩
  | .hbm, ⟨5, _⟩ => ⟨S8192x5120, .bf16⟩
  | .local _ .vmem, ⟨0, _⟩ => ⟨S256x4352, .fp8e4m3⟩
  | .local _ .vmem, ⟨1, _⟩ => ⟨S256x4352, .fp8e4m3⟩
  | .local _ .vmem, ⟨2, _⟩ => ⟨S256x5120, .f32⟩
  | .local _ .vmem, ⟨3, _⟩ => ⟨S256x5120, .f32⟩
  | .local _ .vmem, ⟨4, _⟩ => ⟨S4352x5120, .fp8e4m3⟩
  | .local _ .vmem, ⟨5, _⟩ => ⟨S256x5120, .bf16⟩
  | .local _ .vmem, ⟨6, _⟩ => ⟨S256x5120, .bf16⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4352 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4352x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S1 : Shape := ⟨1, ![1]⟩
abbrev S8192x4352 : Shape := ⟨2, ![8192, 4352]⟩
abbrev S8192x5120 : Shape := ⟨2, ![8192, 5120]⟩
abbrev S4352x5120 : Shape := ⟨2, ![4352, 5120]⟩

abbrev nBuf : Space → Nat
  | .hbm => 6
  | .vmem => 4
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S8192x4352, .fp8e4m3⟩
  | .hbm, ⟨3, _⟩ => ⟨S8192x5120, .f32⟩
  | .hbm, ⟨4, _⟩ => ⟨S4352x5120, .fp8e4m3⟩
  | .hbm, ⟨5, _⟩ => ⟨S8192x5120, .bf16⟩
  | .local _ .vmem, ⟨0, _⟩ => ⟨S8192x4352, .fp8e4m3⟩
  | .local _ .vmem, ⟨1, _⟩ => ⟨S8192x5120, .f32⟩
  | .local _ .vmem, ⟨2, _⟩ => ⟨S4352x5120, .fp8e4m3⟩
  | .local _ .vmem, ⟨3, _⟩ => ⟨S8192x5120, .bf16⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4352 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4352x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.DownValue.lean ====
module

public import proofs.«01_k».proof.Proof.Gen.DownIdeal.Value
public import Idealize.ShloMosaic.Lib.Pipeline.ValueKit
set_option maxRecDepth 16384
@[expose] public section
noncomputable section
open Idealize.ShloMosaic Idealize.ShloMosaic.TcCoe Idealize.SL.Sem
open Idealize.ShloMosaic.Pipeline (Dat)
namespace Cert.DownIdeal.Value
open Cert.DownIdeal Cert.DownIdeal.Gen
variable (m : (ℓ : Loc nD τ sig) → Buf (Elt Ideal) ℓ)

/-- The down projection with its residual, element by element: the residual plus the dot product of a row of
    codes with a column of weights, times the product of the two scales. -/
def out (hs ws : FVec Ideal S1 .f32) (C : FVec Ideal S8192x4352 .fp8e4m3) (R : FVec Ideal S8192x5120 .f32)
    (W : FVec Ideal S4352x5120 .fp8e4m3) : FVec Ideal S8192x5120 .bf16 := fun i =>
  R i + (∑ k : Fin 4352, C (ix2 (i 0) k) * W (ix2 k (i 1))) * (hs (ix1 0) * ws (ix1 0))

/-- Where each window's block sits at grid point `t`. -/
theorem idx_val : ∀ t : Fin cfg0.N, win0_0.index t = ![0] ∧ win0_1.index t = ![0] ∧ win0_2.index t = ![t.val, 0]
    ∧ win0_3.index t = ![t.val, 0] ∧ win0_4.index t = ![0, 0] ∧ win0_5.index t = ![t.val, 0] :=
  (by decide +kernel : ∀ t : Fin grid0.N, _)

set_option maxHeartbeats 2000000 in
/-- After the run the result array of the tiled kernel holds the down projection with its residual. -/
theorem final (c : Dev nD) : (dats m 0 c).arrAt 5 (cfgs 0).N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  frame_out
  canon_tiles x h
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, out]
    blk_point [iblk, V, idx_val t]
end Cert.DownIdeal.Value
-- ==== Proof.DownRefValue.lean ====
module

public import proofs.«01_k».proof.Proof.Gen.DownRefIdeal.Value
public import proofs.«01_k».proof.Proof.DownValue
public import Idealize.ShloMosaic.Lib.Pipeline.ValueKit
public import Idealize.ShloMosaic.Lib.Pipeline.ReadBack
set_option maxRecDepth 16384
@[expose] public section
noncomputable section
open Idealize.ShloMosaic Idealize.ShloMosaic.TcCoe Idealize.SL.Sem
open Idealize.ShloMosaic.Pipeline (Dat)
namespace Cert.DownRefIdeal.Value
open Cert.DownRefIdeal Cert.DownRefIdeal.Gen
variable (m : (ℓ : Loc nD τ sig) → Buf (Elt Ideal) ℓ)

/-- The reference has one point, and every block is its whole array. -/
theorem idx_val : ∀ t : Fin cfg0.N, win0_0.index t = ![0] ∧ win0_1.index t = ![0] ∧ win0_2.index t = ![0, 0]
    ∧ win0_3.index t = ![0, 0] ∧ win0_4.index t = ![0, 0] ∧ win0_5.index t = ![0, 0] :=
  (by decide +kernel : ∀ t : Fin grid0.N, _)

/-- After the run the result array of the reference holds the down projection with its residual. -/
theorem final (c : Dev nD) : (dats m 0 c).arrAt 5 (cfgs 0).N
    = Cert.DownIdeal.Value.out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  frame_out
  simp only [read_unread_whole]
  pointwise [k0_pay1, Cert.DownIdeal.Value.out]
  blk_point [iblk, V, idx_val t]
end Cert.DownRefIdeal.Value
-- ==== Proof.Common.lean ====
module

public import Idealize.ShloMosaic.Lib.Pipeline.ValueKit
@[expose] public section
noncomputable section
open Idealize.ShloMosaic Idealize.ShloMosaic.TcCoe
namespace Cert.Common

/-- The word of minus infinity denotes the bottom of the extended reals. -/
theorem ofBits_neg_inf : Ideal.ofBits .f32 0xFF800000#32 = ⊥ := by
  simp [Ideal.ofBits, Ideal.ieee]

/-- The word of one denotes one. -/
theorem ofBits_one : Ideal.ofBits .f32 0x3F800000#32 = 1 := by
  simp [Ideal.ofBits, Ideal.ieee, -EReal.coe_mul]; norm_num

/-- Multiplying by the reciprocal of a nonzero scale is dividing by it. -/
theorem mul_one_div (x s : EReal) (hs : s ≠ 0) : x * Ideal.div 1 s = Ideal.div x s := by
  simp [Ideal.div, hs]

/-- The quantiser: divide by the scale, clip to the largest finite magnitude of the eight-bit format. -/
def code (x s : EReal) : EReal :=
  min (Ideal.ofBits .f32 0x43E00000#32) (max (Ideal.ofBits .f32 0xC3E00000#32) (Ideal.div x s))

/-- An absolute value is not negative. -/
theorem abs_nonneg (x : EReal) : 0 ≤ max x (-x) := by
  rcases le_total 0 x with h | h
  · exact le_max_of_le_left h
  · exact le_max_of_le_right (EReal.neg_nonneg.mpr h)

end Cert.Common
-- ==== Proof.GateUpValue.lean ====
module

public import proofs.«01_k».proof.Proof.Gen.GateUpIdeal.Value
public import Idealize.ShloMosaic.Lib.Pipeline.ValueKit
public import Idealize.ShloMosaic.Lib.Pipeline.ReadBack
public import proofs.«01_k».proof.Proof.Common
set_option maxRecDepth 16384
@[expose] public section
noncomputable section
open Idealize.ShloMosaic Idealize.ShloMosaic.TcCoe Idealize.SL.Sem
open Idealize.ShloMosaic.Pipeline (Dat)
namespace Cert.GateUpIdeal.Value
open Cert.GateUpIdeal Cert.GateUpIdeal.Gen
variable (m : (ℓ : Loc nD τ sig) → Buf (Elt Ideal) ℓ)

/-- Row `i 0` of the codes times column `j` of the weights, times the product of the two scales. -/
def proj (xs ws : FVec Ideal S1 .f32) (C : FVec Ideal S8192x5120 .fp8e4m3) (W : FVec Ideal S5120x8704 .fp8e4m3)
    (r : Fin 8192) (j : Fin 8704) : EReal :=
  (∑ k : Fin 5120, C (ix2 r k) * W (ix2 k j)) * (xs (ix1 0) * ws (ix1 0))

/-- The hidden vector: the gate half through `z ↦ z * logistic z`, times the up half. -/
def hid (xs ws : FVec Ideal S1 .f32) (C : FVec Ideal S8192x5120 .fp8e4m3) (W : FVec Ideal S5120x8704 .fp8e4m3) :
    FVec Ideal S8192x4352 .f32 := fun i =>
  proj xs ws C W (i 0) ⟨(i 1).val, by have h : (i 1).val < 4352 := (i 1).isLt; omega⟩
    * (FloatOps.logistic (F := Ideal) (φ := .f32) (proj xs ws C W (i 0) ⟨(i 1).val, by have h : (i 1).val < 4352 := (i 1).isLt; omega⟩) : EReal)
    * proj xs ws C W (i 0) ⟨4352 + (i 1).val, by have h : (i 1).val < 4352 := (i 1).isLt; omega⟩

/-- The codes of the hidden vector: divided by the scale and clipped. -/
def codes (xs ws hs : FVec Ideal S1 .f32) (C : FVec Ideal S8192x5120 .fp8e4m3) (W : FVec Ideal S5120x8704 .fp8e4m3) :
    FVec Ideal S8192x4352 .fp8e4m3 := fun i => Cert.Common.code (hid xs ws C W i) (hs (ix1 0))

/-- The greatest absolute value of the hidden vector. -/
def amax (xs ws : FVec Ideal S1 .f32) (C : FVec Ideal S8192x5120 .fp8e4m3) (W : FVec Ideal S5120x8704 .fp8e4m3) :
    FVec Ideal S1 .f32 := fun _ => (⨆ i : S8192x4352.Idx, (FloatOps.absf (F := Ideal) (φ := .f32) (hid xs ws C W i) : EReal))

/-- Where each window's block sits at grid point `t`. -/
theorem idx_val : ∀ t : Fin cfg0.N, win0_0.index t = ![0] ∧ win0_1.index t = ![0] ∧ win0_2.index t = ![0] ∧ win0_3.index t = ![t.val, 0]
    ∧ win0_4.index t = ![0, 0] ∧ win0_5.index t = ![t.val, 0] ∧ win0_6.index t = ![0] :=
  (by decide +kernel : ∀ t : Fin grid0.N, _)

/-- One 256 by 256 tile of the hidden vector, computed from the blocks of grid point `t`. -/
theorem tile_hid (c : Dev nD) (t : Fin cfg0.N) (o o' : ℕ) (hp : 0 < S1.numel) (inb : ∀ a, (![0, o] : Fin 2 → ℕ) a + (![5120, 256] : Fin 2 → ℕ) a ≤ S5120x8704.size a)
    (inb' : ∀ a, (![0, o'] : Fin 2 → ℕ) a + (![5120, 256] : Fin 2 → ℕ) a ≤ S5120x8704.size a) (x : S256x256.Idx) (i : S8192x4352.Idx)
    (ho : o' = 4352 + o) (h0 : (i 0 : ℕ) = t.val * 256 + x 0) (h1 : (i 1 : ℕ) = o + x 1) :
    k0_pay8 (F := Ideal) (k0_pay3 (View.ld (iblk m c 0 t) (Rect.unit ![0] ![1] inb_S1_S1_0) (Shape.Idx.first hp))
        (View.ld (iblk m c 1 t) (Rect.unit ![0] ![1] inb_S1_S1_0) (Shape.Idx.first hp))) (iblk m c 3 t)
      (View.ld (iblk m c 4 t) (Rect.unit ![0, o] ![5120, 256] inb)) (View.ld (iblk m c 4 t) (Rect.unit ![0, o'] ![5120, 256] inb')) x
    = hid (m ((c : Thread nD τ).loc main_arg0)) (m ((c : Thread nD τ).loc main_arg1)) (m ((c : Thread nD τ).loc main_arg3)) (m ((c : Thread nD τ).loc main_arg4)) i := by
  subst ho
  pointwise [k0_pay8, k0_pay3, hid, proj]
  blk_point [iblk, V, idx_val t]

/-- One tile of the codes. -/
theorem tile_code (c : Dev nD) (t : Fin cfg0.N) (hz : m ((c : Thread nD τ).loc main_arg2) (ix1 0) ≠ (0 : EReal)) (o o' : ℕ) (hp : 0 < S1.numel)
    (inb : ∀ a, (![0, o] : Fin 2 → ℕ) a + (![5120, 256] : Fin 2 → ℕ) a ≤ S5120x8704.size a)
    (inb' : ∀ a, (![0, o'] : Fin 2 → ℕ) a + (![5120, 256] : Fin 2 → ℕ) a ≤ S5120x8704.size a) (x : S256x256.Idx) (i : S8192x4352.Idx)
    (ho : o' = 4352 + o) (h0 : (i 0 : ℕ) = t.val * 256 + x 0) (h1 : (i 1 : ℕ) = o + x 1) :
    k0_pay10 (F := Ideal) (k0_pay3 (View.ld (iblk m c 0 t) (Rect.unit ![0] ![1] inb_S1_S1_0) (Shape.Idx.first hp))
        (View.ld (iblk m c 1 t) (Rect.unit ![0] ![1] inb_S1_S1_0) (Shape.Idx.first hp)))
      (k0_pay4 (View.ld (iblk m c 2 t) (Rect.unit ![0] ![1] inb_S1_S1_0) (Shape.Idx.first hp))) (iblk m c 3 t)
      (View.ld (iblk m c 4 t) (Rect.unit ![0, o] ![5120, 256] inb)) (View.ld (iblk m c 4 t) (Rect.unit ![0, o'] ![5120, 256] inb')) x
    = codes (m ((c : Thread nD τ).loc main_arg0)) (m ((c : Thread nD τ).loc main_arg1)) (m ((c : Thread nD τ).loc main_arg2))
      (m ((c : Thread nD τ).loc main_arg3)) (m ((c : Thread nD τ).loc main_arg4)) i := by
  have e : View.ld (iblk m c 2 t) (Rect.unit ![0] ![1] inb_S1_S1_0) (Shape.Idx.first hp) = m ((c : Thread nD τ).loc main_arg2) (ix1 0) := by
    pointwise
    blk_ext [iblk, V, idx_val t]
  have hk : ∀ (a : Ideal .f32) (z : Ideal .f32) (v8 : Vec Ideal S256x5120 .fp8e4m3) (u w : Vec Ideal S5120x256 .fp8e4m3) (x : S256x256.Idx),
      k0_pay10 (F := Ideal) a (k0_pay4 z) v8 u w x = min (Ideal.ofBits .f32 0x43E00000#32) (max (Ideal.ofBits .f32 0xC3E00000#32)
        (k0_pay8 (F := Ideal) a v8 u w x * Ideal.div (Ideal.ofBits .f32 0x3F800000#32) z)) := fun _ _ _ _ _ _ => rfl
  rw [hk, tile_hid m c t o o' hp inb inb' x i ho h0 h1, e, Cert.Common.ofBits_one, Cert.Common.mul_one_div _ _ hz]
  rfl

/-- The running maximum of absolute values of a tile, per column. -/
def step (v47 : Vec Ideal S1x256 .f32) (h : FVec Ideal S256x256 .f32) : FVec Ideal S1x256 .f32 :=
  have v48 : FVec Ideal S256x256 .f32 := absf h
  have v49 : FVec Ideal S256 .f32 := multiReduction .maximumf [0] S256 v48 0xFF800000#32 reduces_S256x256_S256 (.inl rfl) rfl
  have v50 : FVec Ideal S1x256 .f32 := shapeCast S1x256 v49 shapeCasts_S256_S1x256
  have v51 : FVec Ideal S1x256 .f32 := maximumf v47 v50
  have v54 : FVec Ideal S1x256 .f32 := shapeCast S1x256 v51 shapeCasts_S1x256_S1x256
  v54

/-- A bound of the lanes' maxima after one chunk: of those before it and of the chunk's entries in that lane. -/
theorem step_le (v : Vec Ideal S1x256 .f32) (h : FVec Ideal S256x256 .f32) (y : S1x256.Idx) (b : EReal) :
    step v h y ≤ b ↔ v y ≤ b ∧ ∀ r : Fin 256, FloatOps.absf (F := Ideal) (φ := .f32) (h (ix2 r (y 1))) ≤ b := by
  pointwise [step]
  rw [max_le_iff, Finset.fold_max_le]
  simp [Cert.Common.ofBits_neg_inf]

/-- A bound of the greatest of the lanes' maxima is a bound of each of them. -/
theorem pay1_le (v : Vec Ideal S1x256 .f32) (b : EReal) :
    k0_pay1 (F := Ideal) v ≤ b ↔ ∀ r : Fin 256, v (ix2 0 r) ≤ b := by
  pointwise [k0_pay1]
  rw [Finset.fold_max_le]
  simp [Cert.Common.ofBits_neg_inf]

/-- The scratch after a point that is neither the first nor the last of the grid. -/
def fold17 (c : Dev nD) (t : Fin cfg0.N) (v : Vec Ideal S1x256 .f32) : Vec Ideal S1x256 .f32 :=
  let s := k0_pay3 (F := Ideal) (View.ld (iblk m c 0 t) (Rect.unit ![0] ![1] inb_S1_S1_0) (Shape.Idx.first (s := S1) (by decide)))
        (View.ld (iblk m c 1 t) (Rect.unit ![0] ![1] inb_S1_S1_0) (Shape.Idx.first (s := S1) (by decide)))
  let p := fun (u w : Vec Ideal S5120x256 .fp8e4m3) => k0_pay8 s (iblk m c 3 t) u w
  let W := iblk m c 4 t
  step (step (step (step (step (step (step (step (step (step (step (step (step (step (step (step (step (v)
    (p (View.ld W (Rect.unit ![0, 0] ![5120, 256] inb_S5120x8704_S5120x256_0_0)) (View.ld W (Rect.unit ![0, 4352] ![5120, 256] inb_S5120x8704_S5120x256_0_4352))))
    (p (View.ld W (Rect.unit ![0, 256] ![5120, 256] inb_S5120x8704_S5120x256_0_256)) (View.ld W (Rect.unit ![0, 4608] ![5120, 256] inb_S5120x8704_S5120x256_0_4608))))
    (p (View.ld W (Rect.unit ![0, 512] ![5120, 256] inb_S5120x8704_S5120x256_0_512)) (View.ld W (Rect.unit ![0, 4864] ![5120, 256] inb_S5120x8704_S5120x256_0_4864))))
    (p (View.ld W (Rect.unit ![0, 768] ![5120, 256] inb_S5120x8704_S5120x256_0_768)) (View.ld W (Rect.unit ![0, 5120] ![5120, 256] inb_S5120x8704_S5120x256_0_5120))))
    (p (View.ld W (Rect.unit ![0, 1024] ![5120, 256] inb_S5120x8704_S5120x256_0_1024)) (View.ld W (Rect.unit ![0, 5376] ![5120, 256] inb_S5120x8704_S5120x256_0_5376))))
    (p (View.ld W (Rect.unit ![0, 1280] ![5120, 256] inb_S5120x8704_S5120x256_0_1280)) (View.ld W (Rect.unit ![0, 5632] ![5120, 256] inb_S5120x8704_S5120x256_0_5632))))
    (p (View.ld W (Rect.unit ![0, 1536] ![5120, 256] inb_S5120x8704_S5120x256_0_1536)) (View.ld W (Rect.unit ![0, 5888] ![5120, 256] inb_S5120x8704_S5120x256_0_5888))))
    (p (View.ld W (Rect.unit ![0, 1792] ![5120, 256] inb_S5120x8704_S5120x256_0_1792)) (View.ld W (Rect.unit ![0, 6144] ![5120, 256] inb_S5120x8704_S5120x256_0_6144))))
    (p (View.ld W (Rect.unit ![0, 2048] ![5120, 256] inb_S5120x8704_S5120x256_0_2048)) (View.ld W (Rect.unit ![0, 6400] ![5120, 256] inb_S5120x8704_S5120x256_0_6400))))
    (p (View.ld W (Rect.unit ![0, 2304] ![5120, 256] inb_S5120x8704_S5120x256_0_2304)) (View.ld W (Rect.unit ![0, 6656] ![5120, 256] inb_S5120x8704_S5120x256_0_6656))))
    (p (View.ld W (Rect.unit ![0, 2560] ![5120, 256] inb_S5120x8704_S5120x256_0_2560)) (View.ld W (Rect.unit ![0, 6912] ![5120, 256] inb_S5120x8704_S5120x256_0_6912))))
    (p (View.ld W (Rect.unit ![0, 2816] ![5120, 256] inb_S5120x8704_S5120x256_0_2816)) (View.ld W (Rect.unit ![0, 7168] ![5120, 256] inb_S5120x8704_S5120x256_0_7168))))
    (p (View.ld W (Rect.unit ![0, 3072] ![5120, 256] inb_S5120x8704_S5120x256_0_3072)) (View.ld W (Rect.unit ![0, 7424] ![5120, 256] inb_S5120x8704_S5120x256_0_7424))))
    (p (View.ld W (Rect.unit ![0, 3328] ![5120, 256] inb_S5120x8704_S5120x256_0_3328)) (View.ld W (Rect.unit ![0, 7680] ![5120, 256] inb_S5120x8704_S5120x256_0_7680))))
    (p (View.ld W (Rect.unit ![0, 3584] ![5120, 256] inb_S5120x8704_S5120x256_0_3584)) (View.ld W (Rect.unit ![0, 7936] ![5120, 256] inb_S5120x8704_S5120x256_0_7936))))
    (p (View.ld W (Rect.unit ![0, 3840] ![5120, 256] inb_S5120x8704_S5120x256_0_3840)) (View.ld W (Rect.unit ![0, 8192] ![5120, 256] inb_S5120x8704_S5120x256_0_8192))))
    (p (View.ld W (Rect.unit ![0, 4096] ![5120, 256] inb_S5120x8704_S5120x256_0_4096)) (View.ld W (Rect.unit ![0, 8448] ![5120, 256] inb_S5120x8704_S5120x256_0_8448)))

/-- The lanes' maxima after a point that is neither the first nor the last. -/
theorem scB (c : Dev nD) (t : Fin cfg0.N) (h0 : ¬ t.val % 32 = 0) (h1 : ¬t.val % 32 = 31) :
    (outsAt0 m c t.val t.isLt).2.2 = fold17 m c t (outsAt0 m c (t.val - 1) (lt_of_le_of_lt (Nat.sub_le _ _) t.isLt)).2.2 := by
  rw [outsAt0_B m c t h0 h1]
  frame_out
  simp only [read_unread_whole]
  rfl

/-- The lanes' maxima after the last point. -/
theorem scC (c : Dev nD) (t : Fin cfg0.N) (h0 : ¬ t.val % 32 = 0) (h1 : t.val % 32 = 31) :
    (outsAt0 m c t.val t.isLt).2.2 = fold17 m c t (outsAt0 m c (t.val - 1) (lt_of_le_of_lt (Nat.sub_le _ _) t.isLt)).2.2 := by
  rw [outsAt0_C m c t h0 h1]
  frame_out
  simp only [read_unread_whole]
  rfl

/-- The lanes' maxima after the first point. -/
theorem scA (c : Dev nD) (t : Fin cfg0.N) (h0 : t.val % 32 = 0) (h1 : ¬t.val % 32 = 31) :
    (outsAt0 m c t.val t.isLt).2.2 = fold17 m c t (k0_pay2 (F := Ideal)) := by
  rw [outsAt0_A m c t h0 h1]
  frame_out
  rfl

/-- What the last point leaves as the greatest absolute value. -/
theorem out6 (c : Dev nD) (t : Fin cfg0.N) (h0 : ¬ t.val % 32 = 0) (h1 : t.val % 32 = 31) (y : S1.Idx) :
    (outsAt0 m c t.val t.isLt).2.1 y = k0_pay1 (F := Ideal) (outsAt0 m c t.val t.isLt).2.2 := by
  rw [scC m c t h0 h1, outsAt0_C m c t h0 h1]
  frame_out
  simp only [read_unread_whole]
  rfl

/-- The codes that a point leaves in its block. -/
theorem codesAt (c : Dev nD) (t : Fin cfg0.N) (hz : m ((c : Thread nD τ).loc main_arg2) (ix1 0) ≠ (0 : EReal)) (y : S256x4352.Idx) (i : S8192x4352.Idx)
    (hi0 : (i 0 : ℕ) = t.val * 256 + y 0) (hi1 : (i 1 : ℕ) = y 1) :
    (outsAt0 m c t.val t.isLt).1 y = codes (m ((c : Thread nD τ).loc main_arg0)) (m ((c : Thread nD τ).loc main_arg1)) (m ((c : Thread nD τ).loc main_arg2))
      (m ((c : Thread nD τ).loc main_arg3)) (m ((c : Thread nD τ).loc main_arg4)) i := by
  by_cases h0 : t.val % 32 = 0
  · rw [outsAt0_A m c t h0 (by omega)]
    frame_out
    canon_tiles x h
    all_goals exact tile_code m c t hz _ _ (by decide) _ _ x i (by rfl) (by omega) (by omega)
  · by_cases h1 : t.val % 32 = 31
    · rw [outsAt0_C m c t h0 h1]
      frame_out
      canon_tiles x h
      all_goals exact tile_code m c t hz _ _ (by decide) _ _ x i (by rfl) (by omega) (by omega)
    · rw [outsAt0_B m c t h0 h1]
      frame_out
      canon_tiles x h
      all_goals exact tile_code m c t hz _ _ (by decide) _ _ x i (by rfl) (by omega) (by omega)

/-- The codes array after the run. -/
theorem final5 (c : Dev nD) (hz : m ((c : Thread nD τ).loc main_arg2) (ix1 0) ≠ (0 : EReal)) : (dats m 0 c).arrAt 5 (cfgs 0).N
    = codes (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  refine codesAt m c t hz y _ ?_ ?_
  all_goals (blk_simp [idx_val t] <;> try omega)

/-- A bound of the running maximum after one point: a bound of what it was, and of every absolute value in the point's rows. -/
theorem fold17_le (c : Dev nD) (t : Fin cfg0.N) (v : Vec Ideal S1x256 .f32) (y : S1x256.Idx) (b : EReal) :
    fold17 m c t v y ≤ b ↔ v y ≤ b ∧ ∀ i : S8192x4352.Idx, (i 0 : ℕ) / 256 = t.val → (i 1 : ℕ) % 256 = y 1 →
      FloatOps.absf (F := Ideal) (φ := .f32) (hid (m ((c : Thread nD τ).loc main_arg0)) (m ((c : Thread nD τ).loc main_arg1))
        (m ((c : Thread nD τ).loc main_arg3)) (m ((c : Thread nD τ).loc main_arg4)) i) ≤ b := by
  have hN : cfg0.N = 32 := N_0
  have ht := t.isLt
  have hy : (y 1).val < 256 := (y 1).isLt
  -- one tile: a bound of it is a bound of the hidden vector on its rows and columns
  have tile : ∀ (q : ℕ) (hq : q < 17) (u : FVec Ideal S256x256 .f32)
      (hu : ∀ (x : S256x256.Idx) (i : S8192x4352.Idx), (i 0 : ℕ) = t.val * 256 + x 0 → (i 1 : ℕ) = 256 * q + x 1 →
        u x = hid (m ((c : Thread nD τ).loc main_arg0)) (m ((c : Thread nD τ).loc main_arg1))
          (m ((c : Thread nD τ).loc main_arg3)) (m ((c : Thread nD τ).loc main_arg4)) i),
      (∀ r : Fin 256, FloatOps.absf (F := Ideal) (φ := .f32) (u (ix2 r (y 1))) ≤ b) ↔
      ∀ i : S8192x4352.Idx, (i 0 : ℕ) / 256 = t.val → (i 1 : ℕ) = 256 * q + y 1 →
        FloatOps.absf (F := Ideal) (φ := .f32) (hid (m ((c : Thread nD τ).loc main_arg0)) (m ((c : Thread nD τ).loc main_arg1))
          (m ((c : Thread nD τ).loc main_arg3)) (m ((c : Thread nD τ).loc main_arg4)) i) ≤ b := by
    intro q hq u hu
    constructor
    · intro h i hi0 hi1
      rw [← hu (ix2 ⟨(i 0 : ℕ) % 256, by omega⟩ (y 1)) i (by show (i 0 : ℕ) = t.val * 256 + (i 0 : ℕ) % 256; omega) hi1]
      exact h _
    · intro h r
      have hr := r.isLt
      rw [hu (ix2 r (y 1)) (ix2 ⟨t.val * 256 + r, by omega⟩ ⟨256 * q + y 1, by omega⟩) rfl rfl]
      exact h _ (by show (t.val * 256 + r.val) / 256 = t.val; omega) rfl
  unfold fold17
  simp only [step_le]
  rw [
    tile 0 (by omega) _ (fun x i hx0 hx1 => tile_hid m c t 0 4352 _ _ _ x i rfl hx0 hx1),
    tile 1 (by omega) _ (fun x i hx0 hx1 => tile_hid m c t 256 4608 _ _ _ x i rfl hx0 hx1),
    tile 2 (by omega) _ (fun x i hx0 hx1 => tile_hid m c t 512 4864 _ _ _ x i rfl hx0 hx1),
    tile 3 (by omega) _ (fun x i hx0 hx1 => tile_hid m c t 768 5120 _ _ _ x i rfl hx0 hx1),
    tile 4 (by omega) _ (fun x i hx0 hx1 => tile_hid m c t 1024 5376 _ _ _ x i rfl hx0 hx1),
    tile 5 (by omega) _ (fun x i hx0 hx1 => tile_hid m c t 1280 5632 _ _ _ x i rfl hx0 hx1),
    tile 6 (by omega) _ (fun x i hx0 hx1 => tile_hid m c t 1536 5888 _ _ _ x i rfl hx0 hx1),
    tile 7 (by omega) _ (fun x i hx0 hx1 => tile_hid m c t 1792 6144 _ _ _ x i rfl hx0 hx1),
    tile 8 (by omega) _ (fun x i hx0 hx1 => tile_hid m c t 2048 6400 _ _ _ x i rfl hx0 hx1),
    tile 9 (by omega) _ (fun x i hx0 hx1 => tile_hid m c t 2304 6656 _ _ _ x i rfl hx0 hx1),
    tile 10 (by omega) _ (fun x i hx0 hx1 => tile_hid m c t 2560 6912 _ _ _ x i rfl hx0 hx1),
    tile 11 (by omega) _ (fun x i hx0 hx1 => tile_hid m c t 2816 7168 _ _ _ x i rfl hx0 hx1),
    tile 12 (by omega) _ (fun x i hx0 hx1 => tile_hid m c t 3072 7424 _ _ _ x i rfl hx0 hx1),
    tile 13 (by omega) _ (fun x i hx0 hx1 => tile_hid m c t 3328 7680 _ _ _ x i rfl hx0 hx1),
    tile 14 (by omega) _ (fun x i hx0 hx1 => tile_hid m c t 3584 7936 _ _ _ x i rfl hx0 hx1),
    tile 15 (by omega) _ (fun x i hx0 hx1 => tile_hid m c t 3840 8192 _ _ _ x i rfl hx0 hx1),
    tile 16 (by omega) _ (fun x i hx0 hx1 => tile_hid m c t 4096 8448 _ _ _ x i rfl hx0 hx1)]
  constructor
  · intro h
    refine ⟨by tauto, fun i hi0 hi1 => ?_⟩
    have hi : (i 1 : ℕ) < 4352 := (i 1).isLt
    obtain ⟨q, hq⟩ : ∃ q, (i 1 : ℕ) / 256 = q := ⟨_, rfl⟩
    have hq17 : q < 17 := by omega
    have hi1' : (i 1 : ℕ) = 256 * q + y 1 := by omega
    obtain ⟨⟨⟨⟨⟨⟨⟨⟨⟨⟨⟨⟨⟨⟨⟨⟨⟨hv, H0⟩, H1⟩, H2⟩, H3⟩, H4⟩, H5⟩, H6⟩, H7⟩, H8⟩, H9⟩, H10⟩, H11⟩, H12⟩, H13⟩, H14⟩, H15⟩, H16⟩ := h
    interval_cases q
    · exact H0 i hi0 hi1'
    · exact H1 i hi0 hi1'
    · exact H2 i hi0 hi1'
    · exact H3 i hi0 hi1'
    · exact H4 i hi0 hi1'
    · exact H5 i hi0 hi1'
    · exact H6 i hi0 hi1'
    · exact H7 i hi0 hi1'
    · exact H8 i hi0 hi1'
    · exact H9 i hi0 hi1'
    · exact H10 i hi0 hi1'
    · exact H11 i hi0 hi1'
    · exact H12 i hi0 hi1'
    · exact H13 i hi0 hi1'
    · exact H14 i hi0 hi1'
    · exact H15 i hi0 hi1'
    · exact H16 i hi0 hi1'
  · rintro ⟨hv, h⟩
    refine ⟨⟨⟨⟨⟨⟨⟨⟨⟨⟨⟨⟨⟨⟨⟨⟨⟨hv, ?_⟩, ?_⟩, ?_⟩, ?_⟩, ?_⟩, ?_⟩, ?_⟩, ?_⟩, ?_⟩, ?_⟩, ?_⟩, ?_⟩, ?_⟩, ?_⟩, ?_⟩, ?_⟩, ?_⟩
    all_goals exact fun i hi0 hi1 => h i hi0 (by omega)

/-- A bound of the running maximum after point `n`. -/
theorem sc_le (c : Dev nD) (y : S1x256.Idx) (b : EReal) : ∀ (n : ℕ) (hn : n < cfg0.N), (outsAt0 m c n hn).2.2 y ≤ b ↔
    0 ≤ b ∧ ∀ i : S8192x4352.Idx, (i 0 : ℕ) / 256 ≤ n → (i 1 : ℕ) % 256 = y 1 →
      FloatOps.absf (F := Ideal) (φ := .f32) (hid (m ((c : Thread nD τ).loc main_arg0)) (m ((c : Thread nD τ).loc main_arg1))
        (m ((c : Thread nD τ).loc main_arg3)) (m ((c : Thread nD τ).loc main_arg4)) i) ≤ b
  | 0, hn => by
    rw [scA m c ⟨0, hn⟩ (Nat.zero_mod _) (by show ¬ 0 % 32 = 31; omega), fold17_le m c ⟨0, hn⟩]
    have hz : k0_pay2 (F := Ideal) y = (0 : EReal) := by pointwise [k0_pay2]
    rw [hz]
    refine and_congr Iff.rfl (forall_congr' fun i => ?_)
    rw [Nat.le_zero]
  | n + 1, hn => by
    have hN : cfg0.N = 32 := N_0
    have e : (outsAt0 m c (n + 1) hn).2.2 = fold17 m c ⟨n + 1, hn⟩ (outsAt0 m c n (by omega)).2.2 := by
      by_cases h1 : (n + 1) % 32 = 31
      · exact scC m c ⟨n + 1, hn⟩ (by show ¬ (n + 1) % 32 = 0; omega) h1
      · exact scB m c ⟨n + 1, hn⟩ (by show ¬ (n + 1) % 32 = 0; omega) h1
    rw [e, fold17_le m c ⟨n + 1, hn⟩, sc_le c y b n (by omega), and_assoc]
    refine and_congr Iff.rfl ⟨fun h i hi hy => ?_, fun h => ⟨fun i hi hy => h i (by omega) hy, fun i hi hy => h i (le_of_eq hi) hy⟩⟩
    rcases Nat.lt_or_ge ((i 0 : ℕ) / 256) (n + 1) with hl | hl
    · exact h.1 i (by omega) hy
    · exact h.2 i (le_antisymm hi hl) hy

/-- The maximum over the lanes of the scratch after the last point. -/
theorem pay1_sc (c : Dev nD) (n : ℕ) (hn : n < cfg0.N) (h31 : n = 31) (j : S1.Idx) : k0_pay1 (F := Ideal) (outsAt0 m c n hn).2.2
    = amax (m ((c : Thread nD τ).loc main_arg0)) (m ((c : Thread nD τ).loc main_arg1))
        (m ((c : Thread nD τ).loc main_arg3)) (m ((c : Thread nD τ).loc main_arg4)) j := by
  refine eq_of_forall_ge_iff fun b => ?_
  unfold amax
  rw [pay1_le, iSup_le_iff]
  constructor
  · intro h i
    have h0 : (i 0 : ℕ) < 8192 := (i 0).isLt
    exact ((sc_le m c _ b n hn).mp (h ⟨(i 1 : ℕ) % 256, Nat.mod_lt _ (by omega)⟩)).2 i (by omega) rfl
  · intro h r
    exact (sc_le m c _ b n hn).mpr ⟨le_trans (Cert.Common.abs_nonneg _) (h (ix2 0 0)), fun i _ _ => h i⟩

/-- The amax array after the run. -/
theorem final6 (c : Dev nD) : (dats m 0 c).arrAt 6 (cfgs 0).N
    = amax (m ((c : Thread nD τ).loc main_arg0)) (m ((c : Thread nD τ).loc main_arg1))
        (m ((c : Thread nD τ).loc main_arg3)) (m ((c : Thread nD τ).loc main_arg4)) := by
  refine (dats m 0 c).arrAt_eq_of_covers 6 _ (by decide +kernel) fun t hf y => ?_
  blk_simp
  rw [after0_6]
  have ht : t.val < 32 := lt_of_lt_of_eq t.isLt N_0
  have h31 : t.val % 32 = 31 := (flush0_6 t).mp hf
  rw [out6 m c t (by omega) h31]
  exact pay1_sc m c t.val t.isLt (by omega) _

end Cert.GateUpIdeal.Value
-- ==== Proof.GateUpRefValue.lean ====
module

public import proofs.«01_k».proof.Proof.Gen.GateUpRefIdeal.Value
public import proofs.«01_k».proof.Proof.GateUpValue
public import Idealize.ShloMosaic.Lib.Pipeline.ValueKit
public import Idealize.ShloMosaic.Lib.Pipeline.ReadBack
set_option maxRecDepth 16384
@[expose] public section
noncomputable section
open Idealize.ShloMosaic Idealize.ShloMosaic.TcCoe Idealize.SL.Sem
open Idealize.ShloMosaic.Pipeline (Dat)
namespace Cert.GateUpRefIdeal.Value
open Cert.GateUpRefIdeal Cert.GateUpRefIdeal.Gen
variable (m : (ℓ : Loc nD τ sig) → Buf (Elt Ideal) ℓ)

/-- The reference has one point, and every block is its whole array. -/
theorem idx_val : ∀ t : Fin cfg0.N, win0_0.index t = ![0] ∧ win0_1.index t = ![0] ∧ win0_2.index t = ![0] ∧ win0_3.index t = ![0, 0]
    ∧ win0_4.index t = ![0, 0] ∧ win0_5.index t = ![0, 0] ∧ win0_6.index t = ![0] :=
  (by decide +kernel : ∀ t : Fin grid0.N, _)

/-- The reference's hidden vector over any arrays. -/
theorem pay1_eq (C : FVec Ideal S8192x5120 .fp8e4m3) (W : FVec Ideal S5120x8704 .fp8e4m3) (xs ws : FVec Ideal S1 .f32) (i : S8192x4352.Idx) :
    k0_pay1 (F := Ideal) C W (xs (ix1 0)) (ws (ix1 0)) i = Cert.GateUpIdeal.Value.hid xs ws C W i := by
  pointwise [k0_pay1, Cert.GateUpIdeal.Value.hid, Cert.GateUpIdeal.Value.proj]

/-- The reference's codes over any arrays. -/
theorem pay2_eq (C : FVec Ideal S8192x5120 .fp8e4m3) (W : FVec Ideal S5120x8704 .fp8e4m3) (xs ws hs : FVec Ideal S1 .f32) (i : S8192x4352.Idx) :
    k0_pay2 (F := Ideal) C W (xs (ix1 0)) (ws (ix1 0)) (hs (ix1 0)) i = Cert.GateUpIdeal.Value.codes xs ws hs C W i := by
  unfold Cert.GateUpIdeal.Value.codes
  rw [← pay1_eq]
  pointwise [k0_pay2, Cert.Common.code]

/-- The reference's greatest absolute value over any arrays. -/
theorem pay3_eq (C : FVec Ideal S8192x5120 .fp8e4m3) (W : FVec Ideal S5120x8704 .fp8e4m3) (xs ws : FVec Ideal S1 .f32) (j : S1.Idx) :
    k0_pay3 (F := Ideal) C W (xs (ix1 0)) (ws (ix1 0)) = Cert.GateUpIdeal.Value.amax xs ws C W j := by
  refine eq_of_forall_ge_iff fun b => ?_
  unfold Cert.GateUpIdeal.Value.amax
  rw [iSup_le_iff]
  simp only [← pay1_eq]
  pointwise [k0_pay3]
  rw [Finset.fold_max_le]
  simp only [Finset.mem_univ, true_implies, Prod.forall]
  constructor
  · intro h i
    have e : i = ix2 (i 0) (i 1) := by
      funext a; match a with | ⟨0, _⟩ => rfl | ⟨1, _⟩ => rfl
    rw [e]
    exact h.2 _ _
  · intro h
    exact ⟨by rw [Cert.Common.ofBits_neg_inf]; exact bot_le, fun x y => h _⟩

/-- The one block of each input is the whole argument. -/
theorem blk0 (c : Dev nD) (t : Fin cfg0.N) : iblk m c 0 t = m ((c : Thread nD τ).loc main_arg0) := by blk_ext! [iblk, V, idx_val t]
/-- The same for argument 1. -/
theorem blk1 (c : Dev nD) (t : Fin cfg0.N) : iblk m c 1 t = m ((c : Thread nD τ).loc main_arg1) := by blk_ext! [iblk, V, idx_val t]
/-- The same for argument 2. -/
theorem blk2 (c : Dev nD) (t : Fin cfg0.N) : iblk m c 2 t = m ((c : Thread nD τ).loc main_arg2) := by blk_ext! [iblk, V, idx_val t]
/-- The same for argument 3. -/
theorem blk3 (c : Dev nD) (t : Fin cfg0.N) : iblk m c 3 t = m ((c : Thread nD τ).loc main_arg3) := by blk_ext! [iblk, V, idx_val t]
/-- The same for argument 4. -/
theorem blk4 (c : Dev nD) (t : Fin cfg0.N) : iblk m c 4 t = m ((c : Thread nD τ).loc main_arg4) := by blk_ext! [iblk, V, idx_val t]

/-- The first index of a one-element array. -/
theorem first_eq (h : 0 < S1.numel) : Shape.Idx.first h = (ix1 0 : S1.Idx) := by
  funext a; match a with | ⟨0, _⟩ => exact Fin.ext (by have := (Shape.Idx.first h 0).isLt; show (Shape.Idx.first h 0).val = 0; have e : S1.size 0 = 1 := rfl; omega)

/-- The codes array of the reference after its run. -/
theorem final5 (c : Dev nD) : (dats m 0 c).arrAt 5 (cfgs 0).N
    = Cert.GateUpIdeal.Value.codes (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have e : (((cfg0.win 5).blk t).view.emb y : S8192x4352.Idx) = y := by blk_ext! [idx_val t]
  blk_simp
  rw [after0_5]
  unfold outsAt0
  frame_out
  simp only [read_unread_whole]
  rw [blk0, blk1, blk2, blk3, blk4, first_eq]
  refine (pay2_eq _ _ _ _ _ y).trans (congrArg _ ?_)
  exact e.symm

/-- The amax array of the reference after its run. -/
theorem final6 (c : Dev nD) : (dats m 0 c).arrAt 6 (cfgs 0).N
    = Cert.GateUpIdeal.Value.amax (m ((c : Thread nD τ).loc main_arg0)) (m ((c : Thread nD τ).loc main_arg1))
      (m ((c : Thread nD τ).loc main_arg3)) (m ((c : Thread nD τ).loc main_arg4)) := by
  refine (dats m 0 c).arrAt_eq_of_covers 6 _ (by decide +kernel) fun t hf y => ?_
  blk_simp
  rw [after0_6]
  unfold outsAt0
  frame_out
  simp only [read_unread_whole]
  rw [blk0, blk1, blk3, blk4, first_eq]
  exact pay3_eq _ _ _ _ _

end Cert.GateUpRefIdeal.Value
-- ==== Proof.Norm.lean ====
module

public import proofs.«01_k».proof.Proof.Common
@[expose] public section
noncomputable section
open Idealize.ShloMosaic Idealize.ShloMosaic.TcCoe
namespace Cert.Common

/-- A square is not negative. -/
theorem sq_nonneg (x : EReal) : 0 ≤ x * x := by
  induction x with
  | bot => simp
  | top => simp
  | coe r => exact_mod_cast mul_self_nonneg r

/-- The word of the norms' epsilon denotes a positive number. -/
theorem eps_pos : 0 < Ideal.ofBits .f32 0x358637BD#32 := by
  simp [Ideal.ofBits, Ideal.ieee, -EReal.coe_mul]

/-- The word of 5120 denotes 5120. -/
theorem ofBits_5120 : Ideal.ofBits .f32 0x45A00000#32 = ((5120 : ℝ) : EReal) := by
  simp [Ideal.ofBits, Ideal.ieee, -EReal.coe_mul]; norm_num

/-- Dividing by a nonzero real number is multiplying by its reciprocal. -/
theorem div_coe (x : EReal) (r : ℝ) (hr : r ≠ 0) : Ideal.div x (r : EReal) = x * ((1 / r : ℝ) : EReal) := by
  have h : (r : EReal) ≠ 0 := by exact_mod_cast hr
  rw [Ideal.div, if_neg h, one_div, EReal.coe_inv]

/-- A reciprocal square root of something not negative is not negative. -/
theorem rsqrt_nonneg (y : EReal) (hy : 0 ≤ y) : 0 ≤ Ideal.rsqrt y := by
  induction y with
  | bot => simp at hy
  | top => exact le_of_eq (rfl : (0 : EReal) = Ideal.rsqrt ⊤)
  | coe r =>
    have hr : 0 ≤ r := by exact_mod_cast hy
    show 0 ≤ (if r < 0 then (⊥ : EReal) else if r = 0 then ⊤ else (((Real.sqrt r)⁻¹ : ℝ) : EReal))
    rw [if_neg (not_lt.mpr hr)]
    split
    · exact le_top
    · exact_mod_cast inv_nonneg.mpr (Real.sqrt_nonneg r)

/-- Dividing by the square root of something positive is multiplying by its reciprocal square root. -/
theorem div_sqrt (x y : EReal) (hy : 0 < y) : Ideal.div x (Ideal.sqrt y) = x * Ideal.rsqrt y := by
  induction y with
  | bot => simp at hy
  | top =>
    rw [show Ideal.sqrt ⊤ = ⊤ from rfl, show Ideal.rsqrt ⊤ = 0 from rfl]
    simp [Ideal.div]
  | coe r =>
    have hr : 0 < r := by exact_mod_cast hy
    have h1 : Ideal.sqrt (r : EReal) = (Real.sqrt r : EReal) := if_neg (not_lt.mpr hr.le)
    have h2 : Ideal.rsqrt (r : EReal) = (((Real.sqrt r)⁻¹ : ℝ) : EReal) := (if_neg (not_lt.mpr hr.le)).trans (if_neg hr.ne')
    rw [h1, h2, div_coe _ _ (Real.sqrt_pos.mpr hr).ne', one_div]

/-- A bound of a maximum times something not negative. -/
theorem max_mul_le (a c r b : EReal) (hr : 0 ≤ r) : max a c * r ≤ b ↔ a * r ≤ b ∧ c * r ≤ b := by
  rcases le_total a c with h | h
  · rw [max_eq_right h]
    exact ⟨fun H => ⟨(mul_le_mul_of_nonneg_right h hr).trans H, H⟩, fun H => H.2⟩
  · rw [max_eq_left h]
    exact ⟨fun H => ⟨H, (mul_le_mul_of_nonneg_right h hr).trans H⟩, fun H => H.1⟩

/-- An absolute value times something not negative is the absolute value of the product. -/
theorem abs_mul (u r : EReal) (hr : 0 ≤ r) : max u (-u) * r = max (u * r) (-(u * r)) := by
  refine eq_of_forall_ge_iff fun b => ?_
  rw [max_mul_le _ _ _ _ hr, max_le_iff, EReal.neg_mul]

/-- A bound of the maximum of finitely many numbers times something not negative. -/
theorem fold_mul_le {n : ℕ} [NeZero n] (f : Fin n → EReal) (r b : EReal) (hr : 0 ≤ r) :
    (Finset.univ : Finset (Fin n)).fold max ⊥ f * r ≤ b ↔ ∀ l, f l * r ≤ b := by
  obtain ⟨l0, -, h0⟩ := Finset.exists_max_image (Finset.univ : Finset (Fin n)) f ⟨0, Finset.mem_univ _⟩
  have e : (Finset.univ : Finset (Fin n)).fold max ⊥ f = f l0 :=
    le_antisymm (Finset.fold_max_le _ |>.mpr ⟨bot_le, fun l hl => h0 l hl⟩) (Finset.le_fold_max _ |>.mpr (Or.inr ⟨l0, Finset.mem_univ _, le_rfl⟩))
  rw [e]
  exact ⟨fun H l => (mul_le_mul_of_nonneg_right (h0 l (Finset.mem_univ _)) hr).trans H, fun H => H l0⟩

end Cert.Common
-- ==== Proof.OprojValue.lean ====
module

public import proofs.«01_k».proof.Proof.Gen.OprojIdeal.Value
public import Idealize.ShloMosaic.Lib.Pipeline.ValueKit
public import Idealize.ShloMosaic.Lib.Pipeline.ReadBack
public import proofs.«01_k».proof.Proof.Norm
set_option maxRecDepth 16384
@[expose] public section
noncomputable section
open Idealize.ShloMosaic Idealize.ShloMosaic.TcCoe Idealize.SL.Sem
open Idealize.ShloMosaic.Pipeline (Dat)
namespace Cert.OprojIdeal.Value
open Cert.OprojIdeal Cert.OprojIdeal.Gen
variable (m : (ℓ : Loc nD τ sig) → Buf (Elt Ideal) ℓ)

/-- The residual stream after the output projection: the input plus the row of codes times the column of weights,
    times the product of the two scales. -/
def res (os ws : FVec Ideal S1 .f32) (C : FVec Ideal S8192x1280 .fp8e4m3) (X : FVec Ideal S8192x5120 .bf16)
    (W : FVec Ideal S1280x5120 .fp8e4m3) : FVec Ideal S8192x5120 .f32 := fun i =>
  X i + (∑ k : Fin 1280, C (ix2 (i 0) k) * W (ix2 k (i 1))) * (os (ix1 0) * ws (ix1 0))

/-- One over the root mean square of a row of the residual stream. -/
def rinv (os ws : FVec Ideal S1 .f32) (C : FVec Ideal S8192x1280 .fp8e4m3) (X : FVec Ideal S8192x5120 .bf16)
    (W : FVec Ideal S1280x5120 .fp8e4m3) (r : Fin 8192) : EReal :=
  Ideal.rsqrt ((∑ j : Fin 5120, res os ws C X W (ix2 r j) * res os ws C X W (ix2 r j)) * ((1 / 5120 : ℝ) : EReal)
    + Ideal.ofBits .f32 0x358637BD#32)

/-- The normalised row: the residual stream times the weights of the norm, over the root mean square. -/
def nrm (os ws : FVec Ideal S1 .f32) (C : FVec Ideal S8192x1280 .fp8e4m3) (X : FVec Ideal S8192x5120 .bf16)
    (W : FVec Ideal S1280x5120 .fp8e4m3) (g : FVec Ideal S1x5120 .f32) : FVec Ideal S8192x5120 .f32 := fun i =>
  res os ws C X W i * g (ix2 0 (i 1)) * rinv os ws C X W (i 0)

/-- The codes of the normalised row: divided by the scale and clipped. -/
def codes (os ws xs : FVec Ideal S1 .f32) (C : FVec Ideal S8192x1280 .fp8e4m3) (X : FVec Ideal S8192x5120 .bf16)
    (W : FVec Ideal S1280x5120 .fp8e4m3) (g : FVec Ideal S1x5120 .f32) : FVec Ideal S8192x5120 .fp8e4m3 := fun i =>
  Cert.Common.code (nrm os ws C X W g i) (xs (ix1 0))

/-- The greatest absolute value of the normalised rows. -/
def amax (os ws : FVec Ideal S1 .f32) (C : FVec Ideal S8192x1280 .fp8e4m3) (X : FVec Ideal S8192x5120 .bf16)
    (W : FVec Ideal S1280x5120 .fp8e4m3) (g : FVec Ideal S1x5120 .f32) : FVec Ideal S1 .f32 := fun _ =>
  (⨆ i : S8192x5120.Idx, (FloatOps.absf (F := Ideal) (φ := .f32) (nrm os ws C X W g i) : EReal))

/-- `res` at the kernel's arguments on one device. -/
abbrev resM (c : Dev nD) := res (m ((c : Thread nD τ).loc main_arg0)) (m ((c : Thread nD τ).loc main_arg1)) (m ((c : Thread nD τ).loc main_arg3))
  (m ((c : Thread nD τ).loc main_arg4)) (m ((c : Thread nD τ).loc main_arg5))

/-- `rinv` at the kernel's arguments on one device. -/
abbrev rinvM (c : Dev nD) := rinv (m ((c : Thread nD τ).loc main_arg0)) (m ((c : Thread nD τ).loc main_arg1)) (m ((c : Thread nD τ).loc main_arg3))
  (m ((c : Thread nD τ).loc main_arg4)) (m ((c : Thread nD τ).loc main_arg5))

/-- `nrm` at the kernel's arguments on one device. -/
abbrev nrmM (c : Dev nD) := nrm (m ((c : Thread nD τ).loc main_arg0)) (m ((c : Thread nD τ).loc main_arg1)) (m ((c : Thread nD τ).loc main_arg3))
  (m ((c : Thread nD τ).loc main_arg4)) (m ((c : Thread nD τ).loc main_arg5)) (m ((c : Thread nD τ).loc main_arg6))

/-- Where each window's block sits at grid point `t`. -/
theorem idx_val : ∀ t : Fin cfg0.N, win0_0.index t = ![0] ∧ win0_1.index t = ![0] ∧ win0_2.index t = ![0] ∧ win0_3.index t = ![t.val, 0]
    ∧ win0_4.index t = ![t.val, 0] ∧ win0_5.index t = ![0, 0] ∧ win0_6.index t = ![0, 0] ∧ win0_7.index t = ![t.val, 0]
    ∧ win0_8.index t = ![t.val, 0] ∧ win0_9.index t = ![0] :=
  (by decide +kernel : ∀ t : Fin grid0.N, _)

/-- The product of the two scales, as the point reads them. -/
def sc (c : Dev nD) (t : Fin cfg0.N) : Ideal .f32 :=
  k0_pay4 (F := Ideal) (View.ld (iblk m c 0 t) (Rect.unit ![0] ![1] inb_S1_S1_0) (Shape.Idx.first (s := S1) (by decide)))
    (View.ld (iblk m c 1 t) (Rect.unit ![0] ![1] inb_S1_S1_0) (Shape.Idx.first (s := S1) (by decide)))

/-- One tile of the residual stream, from the column `o` on. -/
def tl (c : Dev nD) (t : Fin cfg0.N) (o : ℕ) (inb : ∀ a, (![0, o] : Fin 2 → ℕ) a + (![256, 256] : Fin 2 → ℕ) a ≤ S256x5120.size a)
    (inb' : ∀ a, (![0, o] : Fin 2 → ℕ) a + (![1280, 256] : Fin 2 → ℕ) a ≤ S1280x5120.size a) : FVec Ideal S256x256 .f32 :=
  k0_pay9 (F := Ideal) (sc m c t) (iblk m c 3 t) (View.ld (iblk m c 4 t) (Rect.unit ![0, o] ![256, 256] inb))
    (View.ld (iblk m c 5 t) (Rect.unit ![0, o] ![1280, 256] inb'))

/-- A tile holds the residual stream at its rows and columns. -/
theorem tl_eq (c : Dev nD) (t : Fin cfg0.N) (o : ℕ) (inb : ∀ a, (![0, o] : Fin 2 → ℕ) a + (![256, 256] : Fin 2 → ℕ) a ≤ S256x5120.size a)
    (inb' : ∀ a, (![0, o] : Fin 2 → ℕ) a + (![1280, 256] : Fin 2 → ℕ) a ≤ S1280x5120.size a) (x : S256x256.Idx) (i : S8192x5120.Idx)
    (h0 : (i 0 : ℕ) = t.val * 256 + x 0) (h1 : (i 1 : ℕ) = o + x 1) : tl m c t o inb inb' x = resM m c i := by
  pointwise [tl, sc, k0_pay9, k0_pay4, resM, res]
  blk_point [iblk, V, idx_val t]

/-- What the point has stored into the block of the residual stream, last store first. -/
def stores (c : Dev nD) (t : Fin cfg0.N) : List (View.Piece (Elt Ideal) S256x5120 .f32) :=
  [⟨Rect.unit ![0, 4864] ![256, 256] inb_S256x5120_S256x256_0_4864, tl m c t 4864 inb_S256x5120_S256x256_0_4864 inb_S1280x5120_S1280x256_0_4864⟩,
   ⟨Rect.unit ![0, 4608] ![256, 256] inb_S256x5120_S256x256_0_4608, tl m c t 4608 inb_S256x5120_S256x256_0_4608 inb_S1280x5120_S1280x256_0_4608⟩,
   ⟨Rect.unit ![0, 4352] ![256, 256] inb_S256x5120_S256x256_0_4352, tl m c t 4352 inb_S256x5120_S256x256_0_4352 inb_S1280x5120_S1280x256_0_4352⟩,
   ⟨Rect.unit ![0, 4096] ![256, 256] inb_S256x5120_S256x256_0_4096, tl m c t 4096 inb_S256x5120_S256x256_0_4096 inb_S1280x5120_S1280x256_0_4096⟩,
   ⟨Rect.unit ![0, 3840] ![256, 256] inb_S256x5120_S256x256_0_3840, tl m c t 3840 inb_S256x5120_S256x256_0_3840 inb_S1280x5120_S1280x256_0_3840⟩,
   ⟨Rect.unit ![0, 3584] ![256, 256] inb_S256x5120_S256x256_0_3584, tl m c t 3584 inb_S256x5120_S256x256_0_3584 inb_S1280x5120_S1280x256_0_3584⟩,
   ⟨Rect.unit ![0, 3328] ![256, 256] inb_S256x5120_S256x256_0_3328, tl m c t 3328 inb_S256x5120_S256x256_0_3328 inb_S1280x5120_S1280x256_0_3328⟩,
   ⟨Rect.unit ![0, 3072] ![256, 256] inb_S256x5120_S256x256_0_3072, tl m c t 3072 inb_S256x5120_S256x256_0_3072 inb_S1280x5120_S1280x256_0_3072⟩,
   ⟨Rect.unit ![0, 2816] ![256, 256] inb_S256x5120_S256x256_0_2816, tl m c t 2816 inb_S256x5120_S256x256_0_2816 inb_S1280x5120_S1280x256_0_2816⟩,
   ⟨Rect.unit ![0, 2560] ![256, 256] inb_S256x5120_S256x256_0_2560, tl m c t 2560 inb_S256x5120_S256x256_0_2560 inb_S1280x5120_S1280x256_0_2560⟩,
   ⟨Rect.unit ![0, 2304] ![256, 256] inb_S256x5120_S256x256_0_2304, tl m c t 2304 inb_S256x5120_S256x256_0_2304 inb_S1280x5120_S1280x256_0_2304⟩,
   ⟨Rect.unit ![0, 2048] ![256, 256] inb_S256x5120_S256x256_0_2048, tl m c t 2048 inb_S256x5120_S256x256_0_2048 inb_S1280x5120_S1280x256_0_2048⟩,
   ⟨Rect.unit ![0, 1792] ![256, 256] inb_S256x5120_S256x256_0_1792, tl m c t 1792 inb_S256x5120_S256x256_0_1792 inb_S1280x5120_S1280x256_0_1792⟩,
   ⟨Rect.unit ![0, 1536] ![256, 256] inb_S256x5120_S256x256_0_1536, tl m c t 1536 inb_S256x5120_S256x256_0_1536 inb_S1280x5120_S1280x256_0_1536⟩,
   ⟨Rect.unit ![0, 1280] ![256, 256] inb_S256x5120_S256x256_0_1280, tl m c t 1280 inb_S256x5120_S256x256_0_1280 inb_S1280x5120_S1280x256_0_1280⟩,
   ⟨Rect.unit ![0, 1024] ![256, 256] inb_S256x5120_S256x256_0_1024, tl m c t 1024 inb_S256x5120_S256x256_0_1024 inb_S1280x5120_S1280x256_0_1024⟩,
   ⟨Rect.unit ![0, 768] ![256, 256] inb_S256x5120_S256x256_0_768, tl m c t 768 inb_S256x5120_S256x256_0_768 inb_S1280x5120_S1280x256_0_768⟩,
   ⟨Rect.unit ![0, 512] ![256, 256] inb_S256x5120_S256x256_0_512, tl m c t 512 inb_S256x5120_S256x256_0_512 inb_S1280x5120_S1280x256_0_512⟩,
   ⟨Rect.unit ![0, 256] ![256, 256] inb_S256x5120_S256x256_0_256, tl m c t 256 inb_S256x5120_S256x256_0_256 inb_S1280x5120_S1280x256_0_256⟩,
   ⟨Rect.unit ![0, 0] ![256, 256] inb_S256x5120_S256x256_0_0, tl m c t 0 inb_S256x5120_S256x256_0_0 inb_S1280x5120_S1280x256_0_0⟩]

/-- The rows of the residual stream that belong to point `t`. -/
def rows (c : Dev nD) (t : Fin cfg0.N) (y : S256x5120.Idx) : EReal :=
  resM m c (ix2 ⟨t.val * 256 + y 0, by have hN : cfg0.N = 32 := N_0; have h := t.isLt; have h' : (y 0).val < 256 := (y 0).isLt; omega⟩ (y 1))

/-- The stores together leave the residual stream at the rows of the point. -/
theorem canon_stores (c : Dev nD) (t : Fin cfg0.N) (y : S256x5120.Idx) (i : S8192x5120.Idx) (hi0 : (i 0 : ℕ) = t.val * 256 + y 0)
    (hi1 : (i 1 : ℕ) = y 1) : View.canon (stores m c t) y = resM m c i := by
  unfold stores
  canon_tiles x h
  all_goals exact tl_eq m c t _ _ _ x i (by omega) (by omega)

/-- A load from the block reads those rows back. -/
theorem readBack (c : Dev nD) (t : Fin cfg0.N) {sp : Space} (v : View sig .tc sp S256x5120 .f32) (B : LoadRect S256x5120) :
    v.readCov (Val := Elt Ideal) (stores m c t) B = fun j => rows m c t (B.idx j) := by
  rw [View.readCov_eq_canon']
  funext j
  exact canon_stores m c t _ _ rfl rfl

/-- A running sum of squares per lane, after one more tile: the two halves of the tile fall on the same lanes. -/
def rstep (a : FVec Ideal S256x128 .f32) (h : FVec Ideal S256x256 .f32) : FVec Ideal S256x128 .f32 :=
  addf a (addf (extractStridedSlice S256x128 ![0, 0] (mulf h h) slices_S256x256_o0_0_S256x128)
    (extractStridedSlice S256x128 ![0, 128] (mulf h h) slices_S256x256_o0_128_S256x128))

/-- One step of the running sum, at one lane. -/
theorem rstep_eq (a : FVec Ideal S256x128 .f32) (h : FVec Ideal S256x256 .f32) (y : S256x128.Idx) : rstep a h y
    = (a y : EReal) + ((h (ix2 (y 0) ⟨(y 1).val, by have h : (y 1).val < 128 := (y 1).isLt; omega⟩) : EReal) * h (ix2 (y 0) ⟨(y 1).val, by have h : (y 1).val < 128 := (y 1).isLt; omega⟩)
      + (h (ix2 (y 0) ⟨128 + (y 1).val, by have h : (y 1).val < 128 := (y 1).isLt; omega⟩) : EReal) * h (ix2 (y 0) ⟨128 + (y 1).val, by have h : (y 1).val < 128 := (y 1).isLt; omega⟩)) := by
  pointwise [rstep]

/-- The sums of squares per lane, over all tiles of the point. -/
def ss (c : Dev nD) (t : Fin cfg0.N) : FVec Ideal S256x128 .f32 :=
  rstep (rstep (rstep (rstep (rstep (rstep (rstep (rstep (rstep (rstep (rstep (rstep (rstep (rstep (rstep (rstep (rstep (rstep (rstep (rstep (broadcast S256x128 (Scalar.ofBits (F := Ideal) .f32 0x00000000#32))
    (tl m c t 0 inb_S256x5120_S256x256_0_0 inb_S1280x5120_S1280x256_0_0))
    (tl m c t 256 inb_S256x5120_S256x256_0_256 inb_S1280x5120_S1280x256_0_256))
    (tl m c t 512 inb_S256x5120_S256x256_0_512 inb_S1280x5120_S1280x256_0_512))
    (tl m c t 768 inb_S256x5120_S256x256_0_768 inb_S1280x5120_S1280x256_0_768))
    (tl m c t 1024 inb_S256x5120_S256x256_0_1024 inb_S1280x5120_S1280x256_0_1024))
    (tl m c t 1280 inb_S256x5120_S256x256_0_1280 inb_S1280x5120_S1280x256_0_1280))
    (tl m c t 1536 inb_S256x5120_S256x256_0_1536 inb_S1280x5120_S1280x256_0_1536))
    (tl m c t 1792 inb_S256x5120_S256x256_0_1792 inb_S1280x5120_S1280x256_0_1792))
    (tl m c t 2048 inb_S256x5120_S256x256_0_2048 inb_S1280x5120_S1280x256_0_2048))
    (tl m c t 2304 inb_S256x5120_S256x256_0_2304 inb_S1280x5120_S1280x256_0_2304))
    (tl m c t 2560 inb_S256x5120_S256x256_0_2560 inb_S1280x5120_S1280x256_0_2560))
    (tl m c t 2816 inb_S256x5120_S256x256_0_2816 inb_S1280x5120_S1280x256_0_2816))
    (tl m c t 3072 inb_S256x5120_S256x256_0_3072 inb_S1280x5120_S1280x256_0_3072))
    (tl m c t 3328 inb_S256x5120_S256x256_0_3328 inb_S1280x5120_S1280x256_0_3328))
    (tl m c t 3584 inb_S256x5120_S256x256_0_3584 inb_S1280x5120_S1280x256_0_3584))
    (tl m c t 3840 inb_S256x5120_S256x256_0_3840 inb_S1280x5120_S1280x256_0_3840))
    (tl m c t 4096 inb_S256x5120_S256x256_0_4096 inb_S1280x5120_S1280x256_0_4096))
    (tl m c t 4352 inb_S256x5120_S256x256_0_4352 inb_S1280x5120_S1280x256_0_4352))
    (tl m c t 4608 inb_S256x5120_S256x256_0_4608 inb_S1280x5120_S1280x256_0_4608))
    (tl m c t 4864 inb_S256x5120_S256x256_0_4864 inb_S1280x5120_S1280x256_0_4864)

/-- One over the root mean square of each row of the point, as the kernel computes it. -/
def rr (c : Dev nD) (t : Fin cfg0.N) : FVec Ideal S256x1 .f32 :=
  rsqrt (addf (mulf (shapeCast S256x1 (multiReduction .add [1] S256 (ss m c t) 0x00000000#32 reduces_S256x128_S256 (.inl rfl) rfl)
    shapeCasts_S256_S256x1) (broadcast S256x1 (Named.named κ "inv_d" 0x394CCCCD#32))) (broadcast S256x1 (Scalar.ofBits .f32 0x358637BD#32)))

/-- The square of the residual stream at row `r`, as a function of the column's number. -/
def sq (c : Dev nD) (r : Fin 8192) (j : ℕ) : EReal := if h : j < 5120 then resM m c (ix2 r ⟨j, h⟩) * resM m c (ix2 r ⟨j, h⟩) else 0

/-- The row of the array that is row `y` of the point's block. -/
def row (t : Fin cfg0.N) (y : Fin 256) : Fin 8192 := ⟨t.val * 256 + y, by have hN : cfg0.N = 32 := N_0; have h := t.isLt; omega⟩

/-- The square of a tile's entry. -/
theorem tl_sq (c : Dev nD) (t : Fin cfg0.N) (o : ℕ) (inb : ∀ a, (![0, o] : Fin 2 → ℕ) a + (![256, 256] : Fin 2 → ℕ) a ≤ S256x5120.size a)
    (inb' : ∀ a, (![0, o] : Fin 2 → ℕ) a + (![1280, 256] : Fin 2 → ℕ) a ≤ S1280x5120.size a) (r : Fin 256) (l : Fin 256) :
    (tl m c t o inb inb' (ix2 r l) * tl m c t o inb inb' (ix2 r l) : EReal) = sq m c (row t r) (o + l) := by
  have ho : o + 256 ≤ 5120 := inb 1
  have hl := l.isLt
  rw [tl_eq m c t o inb inb' (ix2 r l) (ix2 (row t r) ⟨o + l, by omega⟩) rfl rfl, sq, dif_pos (by omega)]

/-- The sums of squares per lane, as a sum over the tiles. -/
theorem ss_eq (c : Dev nD) (t : Fin cfg0.N) (r : Fin 256) (l : Fin 128) : ss m c t (ix2 r l)
    = ∑ k ∈ Finset.range 20, (sq m c (row t r) (256 * k + l) + sq m c (row t r) (256 * k + (128 + l))) := by
  unfold ss
  simp only [rstep_eq, Finset.sum_range_succ, Finset.sum_range_zero, ix2_0, ix2_1]
  have hz : (broadcast S256x128 (Scalar.ofBits (F := Ideal) .f32 0x00000000#32) (ix2 r l) : EReal) = 0 := by pointwise
  rw [hz]
  simp only [tl_sq]

/-- A sum over twenty times 256 columns, tile by tile and with the halves of a tile on the same lanes. -/
theorem sum_tiles (f : ℕ → EReal) (n : ℕ) : ∑ l ∈ Finset.range 128, ∑ k ∈ Finset.range n, (f (256 * k + l) + f (256 * k + (128 + l)))
    = ∑ j ∈ Finset.range (256 * n), f j := by
  rw [Finset.sum_comm]
  induction n with
  | zero => simp
  | succ n ih =>
    rw [Finset.sum_range_succ, ih, Finset.sum_add_distrib, show 256 * (n + 1) = 256 * n + (128 + 128) by omega, Finset.sum_range_add, Finset.sum_range_add]

/-- The sums of squares per lane add up to the one of the whole row. -/
theorem ss_sum (c : Dev nD) (t : Fin cfg0.N) (r : Fin 256) : (∑ l : Fin 128, (ss m c t (ix2 r l) : EReal))
    = ∑ j : Fin 5120, resM m c (ix2 (row t r) j) * resM m c (ix2 (row t r) j) := by
  simp only [ss_eq]
  rw [Fin.sum_univ_eq_sum_range (fun l => ∑ k ∈ Finset.range 20, (sq m c (row t r) (256 * k + l) + sq m c (row t r) (256 * k + (128 + l)))) 128,
    sum_tiles, ← Fin.sum_univ_eq_sum_range (fun j => sq m c (row t r) j) 5120]
  exact Finset.sum_congr rfl fun j _ => dif_pos j.isLt

/-- The kernel's reciprocal root mean square is the one over the whole row. -/
theorem rr_eq (c : Dev nD) (t : Fin cfg0.N) (y : S256x1.Idx) : rr m c t y = rinvM m c (row t (y 0)) := by
  have hk : (Named.named κ "inv_d" 0x394CCCCD#32 : Ideal .f32) = ((1 / 5120 : ℝ) : EReal) := rfl
  have e : rr m c t y = Ideal.rsqrt ((∑ l : Fin 128, ss m c t (ix2 (y 0) l)) * ((1 / 5120 : ℝ) : EReal) + Ideal.ofBits .f32 0x358637BD#32) := by
    pointwise [rr]
    rw [hk]
  rw [e]
  exact congrArg (fun s : EReal => Ideal.rsqrt (s * ((1 / 5120 : ℝ) : EReal) + Ideal.ofBits .f32 0x358637BD#32)) (ss_sum m c t (y 0))

/-- The columns from `o` on, loaded back from the block of the residual stream. -/
def back (c : Dev nD) (t : Fin cfg0.N) (o : ℕ) (inb : ∀ a, (![0, o] : Fin 2 → ℕ) a + (![256, 128] : Fin 2 → ℕ) a ≤ S256x5120.size a) :
    Vec Ideal S256x128 .f32 :=
  (ms0_7 t).view.readCov (stores m c t) (Rect.unit (s := S256x5120) ![0, o] ![256, 128] inb).toLoadRect

/-- The reciprocal root mean square over the scale, per row. -/
def rs (c : Dev nD) (t : Fin cfg0.N) : FVec Ideal S256x1 .f32 :=
  mulf (rr m c t) (broadcastTo S256x1 (extractStridedSlice S1x1 ![0, 0]
    (k0_pay5 (F := Ideal) (View.ld (iblk m c 2 t) (Rect.unit ![0] ![1] inb_S1_S1_0) (Shape.Idx.first (s := S1) (by decide)))) slices_S1x128_o0_0_S1x1) broadcasts_S1x1_S256x1)

/-- The residual stream times the weights of the norm, on one tile of 128 columns. -/
theorem back_mul (c : Dev nD) (t : Fin cfg0.N) (o : ℕ) (inb : ∀ a, (![0, o] : Fin 2 → ℕ) a + (![256, 128] : Fin 2 → ℕ) a ≤ S256x5120.size a)
    (inb' : ∀ a, (![0, o] : Fin 2 → ℕ) a + (![1, 128] : Fin 2 → ℕ) a ≤ S1x5120.size a) (x : S256x128.Idx) (i : S8192x5120.Idx)
    (h0 : (i 0 : ℕ) = t.val * 256 + x 0) (h1 : (i 1 : ℕ) = o + x 1) :
    k0_pay46 (F := Ideal) (back m c t o inb) (View.ld (iblk m c 6 t) (Rect.unit ![0, o] ![1, 128] inb')) x
    = resM m c i * m ((c : Thread nD τ).loc main_arg6) (ix2 0 (i 1)) := by
  have e1 : back m c t o inb x = resM m c i := by
    unfold back
    rw [View.readCov_eq_canon']
    exact canon_stores m c t _ i (h0.trans (by show _ = t.val * 256 + (0 + 1 * (x 0).val); omega)) (h1.trans (by show _ = o + 1 * (x 1).val; omega))
  have e2 : View.ld (iblk m c 6 t) (Rect.unit ![0, o] ![1, 128] inb') (ix2 0 (x 1)) = m ((c : Thread nD τ).loc main_arg6) (ix2 0 (i 1)) := by
    pointwise
    blk_point [iblk, V, idx_val t]
  have e : k0_pay46 (F := Ideal) (back m c t o inb) (View.ld (iblk m c 6 t) (Rect.unit ![0, o] ![1, 128] inb')) x
      = back m c t o inb x * View.ld (iblk m c 6 t) (Rect.unit ![0, o] ![1, 128] inb') (ix2 0 (x 1)) := by
    pointwise [k0_pay46]
  rw [e, e1, e2]

/-- What multiplies a row to make its codes. -/
theorem rs_eq (c : Dev nD) (t : Fin cfg0.N) (y : S256x1.Idx) :
    rs m c t y = rinvM m c (row t (y 0)) * Ideal.div 1 (m ((c : Thread nD τ).loc main_arg2) (ix1 0)) := by
  have e : View.ld (iblk m c 2 t) (Rect.unit ![0] ![1] inb_S1_S1_0) (Shape.Idx.first (s := S1) (by decide)) = m ((c : Thread nD τ).loc main_arg2) (ix1 0) := by
    pointwise
    blk_ext [iblk, V, idx_val t]
  have e' : rs m c t y = rr m c t y * Ideal.div (Ideal.ofBits .f32 0x3F800000#32) (View.ld (iblk m c 2 t) (Rect.unit ![0] ![1] inb_S1_S1_0) (Shape.Idx.first (s := S1) (by decide))) := by
    rfl
  rw [e', e, rr_eq, Cert.Common.ofBits_one]

/-- One tile of the codes. -/
theorem tile_code (c : Dev nD) (t : Fin cfg0.N) (hz : m ((c : Thread nD τ).loc main_arg2) (ix1 0) ≠ (0 : EReal)) (o : ℕ)
    (inb : ∀ a, (![0, o] : Fin 2 → ℕ) a + (![256, 128] : Fin 2 → ℕ) a ≤ S256x5120.size a)
    (inb' : ∀ a, (![0, o] : Fin 2 → ℕ) a + (![1, 128] : Fin 2 → ℕ) a ≤ S1x5120.size a) (x : S256x128.Idx) (i : S8192x5120.Idx)
    (h0 : (i 0 : ℕ) = t.val * 256 + x 0) (h1 : (i 1 : ℕ) = o + x 1) :
    k0_pay47 (F := Ideal) (rs m c t) (back m c t o inb) (View.ld (iblk m c 6 t) (Rect.unit ![0, o] ![1, 128] inb')) x
    = codes (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) i := by
  have hk : k0_pay47 (F := Ideal) (rs m c t) (back m c t o inb) (View.ld (iblk m c 6 t) (Rect.unit ![0, o] ![1, 128] inb')) x
      = min (Ideal.ofBits .f32 0x43E00000#32) (max (Ideal.ofBits .f32 0xC3E00000#32)
        (k0_pay46 (F := Ideal) (back m c t o inb) (View.ld (iblk m c 6 t) (Rect.unit ![0, o] ![1, 128] inb')) x * rs m c t (ix2 (x 0) 0))) := by
    pointwise [k0_pay47]
  have hr : row t (x 0) = i 0 := Fin.ext h0.symm
  rw [hk, back_mul m c t o inb inb' x i h0 h1, rs_eq]
  rw [show (ix2 (x 0) 0 : S256x1.Idx) 0 = x 0 from rfl, hr, ← mul_assoc, Cert.Common.mul_one_div _ _ hz]
  rfl

/-- The code stores of the point, last store first. -/
def cstores (c : Dev nD) (t : Fin cfg0.N) : List (View.Piece (Elt Ideal) S256x5120 .fp8e4m3) :=
  [⟨Rect.unit ![0, 4992] ![256, 128] inb_S256x5120_S256x128_0_4992, k0_pay47 (rs m c t) (back m c t 4992 inb_S256x5120_S256x128_0_4992) (View.ld (iblk m c 6 t) (Rect.unit ![0, 4992] ![1, 128] inb_S1x5120_S1x128_0_4992))⟩,
   ⟨Rect.unit ![0, 4864] ![256, 128] inb_S256x5120_S256x128_0_4864, k0_pay47 (rs m c t) (back m c t 4864 inb_S256x5120_S256x128_0_4864) (View.ld (iblk m c 6 t) (Rect.unit ![0, 4864] ![1, 128] inb_S1x5120_S1x128_0_4864))⟩,
   ⟨Rect.unit ![0, 4736] ![256, 128] inb_S256x5120_S256x128_0_4736, k0_pay47 (rs m c t) (back m c t 4736 inb_S256x5120_S256x128_0_4736) (View.ld (iblk m c 6 t) (Rect.unit ![0, 4736] ![1, 128] inb_S1x5120_S1x128_0_4736))⟩,
   ⟨Rect.unit ![0, 4608] ![256, 128] inb_S256x5120_S256x128_0_4608, k0_pay47 (rs m c t) (back m c t 4608 inb_S256x5120_S256x128_0_4608) (View.ld (iblk m c 6 t) (Rect.unit ![0, 4608] ![1, 128] inb_S1x5120_S1x128_0_4608))⟩,
   ⟨Rect.unit ![0, 4480] ![256, 128] inb_S256x5120_S256x128_0_4480, k0_pay47 (rs m c t) (back m c t 4480 inb_S256x5120_S256x128_0_4480) (View.ld (iblk m c 6 t) (Rect.unit ![0, 4480] ![1, 128] inb_S1x5120_S1x128_0_4480))⟩,
   ⟨Rect.unit ![0, 4352] ![256, 128] inb_S256x5120_S256x128_0_4352, k0_pay47 (rs m c t) (back m c t 4352 inb_S256x5120_S256x128_0_4352) (View.ld (iblk m c 6 t) (Rect.unit ![0, 4352] ![1, 128] inb_S1x5120_S1x128_0_4352))⟩,
   ⟨Rect.unit ![0, 4224] ![256, 128] inb_S256x5120_S256x128_0_4224, k0_pay47 (rs m c t) (back m c t 4224 inb_S256x5120_S256x128_0_4224) (View.ld (iblk m c 6 t) (Rect.unit ![0, 4224] ![1, 128] inb_S1x5120_S1x128_0_4224))⟩,
   ⟨Rect.unit ![0, 4096] ![256, 128] inb_S256x5120_S256x128_0_4096, k0_pay47 (rs m c t) (back m c t 4096 inb_S256x5120_S256x128_0_4096) (View.ld (iblk m c 6 t) (Rect.unit ![0, 4096] ![1, 128] inb_S1x5120_S1x128_0_4096))⟩,
   ⟨Rect.unit ![0, 3968] ![256, 128] inb_S256x5120_S256x128_0_3968, k0_pay47 (rs m c t) (back m c t 3968 inb_S256x5120_S256x128_0_3968) (View.ld (iblk m c 6 t) (Rect.unit ![0, 3968] ![1, 128] inb_S1x5120_S1x128_0_3968))⟩,
   ⟨Rect.unit ![0, 3840] ![256, 128] inb_S256x5120_S256x128_0_3840, k0_pay47 (rs m c t) (back m c t 3840 inb_S256x5120_S256x128_0_3840) (View.ld (iblk m c 6 t) (Rect.unit ![0, 3840] ![1, 128] inb_S1x5120_S1x128_0_3840))⟩,
   ⟨Rect.unit ![0, 3712] ![256, 128] inb_S256x5120_S256x128_0_3712, k0_pay47 (rs m c t) (back m c t 3712 inb_S256x5120_S256x128_0_3712) (View.ld (iblk m c 6 t) (Rect.unit ![0, 3712] ![1, 128] inb_S1x5120_S1x128_0_3712))⟩,
   ⟨Rect.unit ![0, 3584] ![256, 128] inb_S256x5120_S256x128_0_3584, k0_pay47 (rs m c t) (back m c t 3584 inb_S256x5120_S256x128_0_3584) (View.ld (iblk m c 6 t) (Rect.unit ![0, 3584] ![1, 128] inb_S1x5120_S1x128_0_3584))⟩,
   ⟨Rect.unit ![0, 3456] ![256, 128] inb_S256x5120_S256x128_0_3456, k0_pay47 (rs m c t) (back m c t 3456 inb_S256x5120_S256x128_0_3456) (View.ld (iblk m c 6 t) (Rect.unit ![0, 3456] ![1, 128] inb_S1x5120_S1x128_0_3456))⟩,
   ⟨Rect.unit ![0, 3328] ![256, 128] inb_S256x5120_S256x128_0_3328, k0_pay47 (rs m c t) (back m c t 3328 inb_S256x5120_S256x128_0_3328) (View.ld (iblk m c 6 t) (Rect.unit ![0, 3328] ![1, 128] inb_S1x5120_S1x128_0_3328))⟩,
   ⟨Rect.unit ![0, 3200] ![256, 128] inb_S256x5120_S256x128_0_3200, k0_pay47 (rs m c t) (back m c t 3200 inb_S256x5120_S256x128_0_3200) (View.ld (iblk m c 6 t) (Rect.unit ![0, 3200] ![1, 128] inb_S1x5120_S1x128_0_3200))⟩,
   ⟨Rect.unit ![0, 3072] ![256, 128] inb_S256x5120_S256x128_0_3072, k0_pay47 (rs m c t) (back m c t 3072 inb_S256x5120_S256x128_0_3072) (View.ld (iblk m c 6 t) (Rect.unit ![0, 3072] ![1, 128] inb_S1x5120_S1x128_0_3072))⟩,
   ⟨Rect.unit ![0, 2944] ![256, 128] inb_S256x5120_S256x128_0_2944, k0_pay47 (rs m c t) (back m c t 2944 inb_S256x5120_S256x128_0_2944) (View.ld (iblk m c 6 t) (Rect.unit ![0, 2944] ![1, 128] inb_S1x5120_S1x128_0_2944))⟩,
   ⟨Rect.unit ![0, 2816] ![256, 128] inb_S256x5120_S256x128_0_2816, k0_pay47 (rs m c t) (back m c t 2816 inb_S256x5120_S256x128_0_2816) (View.ld (iblk m c 6 t) (Rect.unit ![0, 2816] ![1, 128] inb_S1x5120_S1x128_0_2816))⟩,
   ⟨Rect.unit ![0, 2688] ![256, 128] inb_S256x5120_S256x128_0_2688, k0_pay47 (rs m c t) (back m c t 2688 inb_S256x5120_S256x128_0_2688) (View.ld (iblk m c 6 t) (Rect.unit ![0, 2688] ![1, 128] inb_S1x5120_S1x128_0_2688))⟩,
   ⟨Rect.unit ![0, 2560] ![256, 128] inb_S256x5120_S256x128_0_2560, k0_pay47 (rs m c t) (back m c t 2560 inb_S256x5120_S256x128_0_2560) (View.ld (iblk m c 6 t) (Rect.unit ![0, 2560] ![1, 128] inb_S1x5120_S1x128_0_2560))⟩,
   ⟨Rect.unit ![0, 2432] ![256, 128] inb_S256x5120_S256x128_0_2432, k0_pay47 (rs m c t) (back m c t 2432 inb_S256x5120_S256x128_0_2432) (View.ld (iblk m c 6 t) (Rect.unit ![0, 2432] ![1, 128] inb_S1x5120_S1x128_0_2432))⟩,
   ⟨Rect.unit ![0, 2304] ![256, 128] inb_S256x5120_S256x128_0_2304, k0_pay47 (rs m c t) (back m c t 2304 inb_S256x5120_S256x128_0_2304) (View.ld (iblk m c 6 t) (Rect.unit ![0, 2304] ![1, 128] inb_S1x5120_S1x128_0_2304))⟩,
   ⟨Rect.unit ![0, 2176] ![256, 128] inb_S256x5120_S256x128_0_2176, k0_pay47 (rs m c t) (back m c t 2176 inb_S256x5120_S256x128_0_2176) (View.ld (iblk m c 6 t) (Rect.unit ![0, 2176] ![1, 128] inb_S1x5120_S1x128_0_2176))⟩,
   ⟨Rect.unit ![0, 2048] ![256, 128] inb_S256x5120_S256x128_0_2048, k0_pay47 (rs m c t) (back m c t 2048 inb_S256x5120_S256x128_0_2048) (View.ld (iblk m c 6 t) (Rect.unit ![0, 2048] ![1, 128] inb_S1x5120_S1x128_0_2048))⟩,
   ⟨Rect.unit ![0, 1920] ![256, 128] inb_S256x5120_S256x128_0_1920, k0_pay47 (rs m c t) (back m c t 1920 inb_S256x5120_S256x128_0_1920) (View.ld (iblk m c 6 t) (Rect.unit ![0, 1920] ![1, 128] inb_S1x5120_S1x128_0_1920))⟩,
   ⟨Rect.unit ![0, 1792] ![256, 128] inb_S256x5120_S256x128_0_1792, k0_pay47 (rs m c t) (back m c t 1792 inb_S256x5120_S256x128_0_1792) (View.ld (iblk m c 6 t) (Rect.unit ![0, 1792] ![1, 128] inb_S1x5120_S1x128_0_1792))⟩,
   ⟨Rect.unit ![0, 1664] ![256, 128] inb_S256x5120_S256x128_0_1664, k0_pay47 (rs m c t) (back m c t 1664 inb_S256x5120_S256x128_0_1664) (View.ld (iblk m c 6 t) (Rect.unit ![0, 1664] ![1, 128] inb_S1x5120_S1x128_0_1664))⟩,
   ⟨Rect.unit ![0, 1536] ![256, 128] inb_S256x5120_S256x128_0_1536, k0_pay47 (rs m c t) (back m c t 1536 inb_S256x5120_S256x128_0_1536) (View.ld (iblk m c 6 t) (Rect.unit ![0, 1536] ![1, 128] inb_S1x5120_S1x128_0_1536))⟩,
   ⟨Rect.unit ![0, 1408] ![256, 128] inb_S256x5120_S256x128_0_1408, k0_pay47 (rs m c t) (back m c t 1408 inb_S256x5120_S256x128_0_1408) (View.ld (iblk m c 6 t) (Rect.unit ![0, 1408] ![1, 128] inb_S1x5120_S1x128_0_1408))⟩,
   ⟨Rect.unit ![0, 1280] ![256, 128] inb_S256x5120_S256x128_0_1280, k0_pay47 (rs m c t) (back m c t 1280 inb_S256x5120_S256x128_0_1280) (View.ld (iblk m c 6 t) (Rect.unit ![0, 1280] ![1, 128] inb_S1x5120_S1x128_0_1280))⟩,
   ⟨Rect.unit ![0, 1152] ![256, 128] inb_S256x5120_S256x128_0_1152, k0_pay47 (rs m c t) (back m c t 1152 inb_S256x5120_S256x128_0_1152) (View.ld (iblk m c 6 t) (Rect.unit ![0, 1152] ![1, 128] inb_S1x5120_S1x128_0_1152))⟩,
   ⟨Rect.unit ![0, 1024] ![256, 128] inb_S256x5120_S256x128_0_1024, k0_pay47 (rs m c t) (back m c t 1024 inb_S256x5120_S256x128_0_1024) (View.ld (iblk m c 6 t) (Rect.unit ![0, 1024] ![1, 128] inb_S1x5120_S1x128_0_1024))⟩,
   ⟨Rect.unit ![0, 896] ![256, 128] inb_S256x5120_S256x128_0_896, k0_pay47 (rs m c t) (back m c t 896 inb_S256x5120_S256x128_0_896) (View.ld (iblk m c 6 t) (Rect.unit ![0, 896] ![1, 128] inb_S1x5120_S1x128_0_896))⟩,
   ⟨Rect.unit ![0, 768] ![256, 128] inb_S256x5120_S256x128_0_768, k0_pay47 (rs m c t) (back m c t 768 inb_S256x5120_S256x128_0_768) (View.ld (iblk m c 6 t) (Rect.unit ![0, 768] ![1, 128] inb_S1x5120_S1x128_0_768))⟩,
   ⟨Rect.unit ![0, 640] ![256, 128] inb_S256x5120_S256x128_0_640, k0_pay47 (rs m c t) (back m c t 640 inb_S256x5120_S256x128_0_640) (View.ld (iblk m c 6 t) (Rect.unit ![0, 640] ![1, 128] inb_S1x5120_S1x128_0_640))⟩,
   ⟨Rect.unit ![0, 512] ![256, 128] inb_S256x5120_S256x128_0_512, k0_pay47 (rs m c t) (back m c t 512 inb_S256x5120_S256x128_0_512) (View.ld (iblk m c 6 t) (Rect.unit ![0, 512] ![1, 128] inb_S1x5120_S1x128_0_512))⟩,
   ⟨Rect.unit ![0, 384] ![256, 128] inb_S256x5120_S256x128_0_384, k0_pay47 (rs m c t) (back m c t 384 inb_S256x5120_S256x128_0_384) (View.ld (iblk m c 6 t) (Rect.unit ![0, 384] ![1, 128] inb_S1x5120_S1x128_0_384))⟩,
   ⟨Rect.unit ![0, 256] ![256, 128] inb_S256x5120_S256x128_0_256, k0_pay47 (rs m c t) (back m c t 256 inb_S256x5120_S256x128_0_256) (View.ld (iblk m c 6 t) (Rect.unit ![0, 256] ![1, 128] inb_S1x5120_S1x128_0_256))⟩,
   ⟨Rect.unit ![0, 128] ![256, 128] inb_S256x5120_S256x128_0_128, k0_pay47 (rs m c t) (back m c t 128 inb_S256x5120_S256x128_0_128) (View.ld (iblk m c 6 t) (Rect.unit ![0, 128] ![1, 128] inb_S1x5120_S1x128_0_128))⟩,
   ⟨Rect.unit ![0, 0] ![256, 128] inb_S256x5120_S256x128_0_0, k0_pay47 (rs m c t) (back m c t 0 inb_S256x5120_S256x128_0_0) (View.ld (iblk m c 6 t) (Rect.unit ![0, 0] ![1, 128] inb_S1x5120_S1x128_0_0))⟩]

/-- The greatest absolute value per lane so far, after one more tile. -/
def tstep (a h : FVec Ideal S256x128 .f32) : FVec Ideal S256x128 .f32 := maximumf a (absf h)

/-- The greatest absolute value per lane over all tiles of the point, before the rows are normalised. -/
def top (c : Dev nD) (t : Fin cfg0.N) : FVec Ideal S256x128 .f32 :=
  tstep (tstep (tstep (tstep (tstep (tstep (tstep (tstep (tstep (tstep (tstep (tstep (tstep (tstep (tstep (tstep (tstep (tstep (tstep (tstep (tstep (tstep (tstep (tstep (tstep (tstep (tstep (tstep (tstep (tstep (tstep (tstep (tstep (tstep (tstep (tstep (tstep (tstep (tstep (tstep (broadcast S256x128 (Scalar.ofBits (F := Ideal) .f32 0x00000000#32))
    (k0_pay46 (back m c t 0 inb_S256x5120_S256x128_0_0) (View.ld (iblk m c 6 t) (Rect.unit ![0, 0] ![1, 128] inb_S1x5120_S1x128_0_0))))
    (k0_pay46 (back m c t 128 inb_S256x5120_S256x128_0_128) (View.ld (iblk m c 6 t) (Rect.unit ![0, 128] ![1, 128] inb_S1x5120_S1x128_0_128))))
    (k0_pay46 (back m c t 256 inb_S256x5120_S256x128_0_256) (View.ld (iblk m c 6 t) (Rect.unit ![0, 256] ![1, 128] inb_S1x5120_S1x128_0_256))))
    (k0_pay46 (back m c t 384 inb_S256x5120_S256x128_0_384) (View.ld (iblk m c 6 t) (Rect.unit ![0, 384] ![1, 128] inb_S1x5120_S1x128_0_384))))
    (k0_pay46 (back m c t 512 inb_S256x5120_S256x128_0_512) (View.ld (iblk m c 6 t) (Rect.unit ![0, 512] ![1, 128] inb_S1x5120_S1x128_0_512))))
    (k0_pay46 (back m c t 640 inb_S256x5120_S256x128_0_640) (View.ld (iblk m c 6 t) (Rect.unit ![0, 640] ![1, 128] inb_S1x5120_S1x128_0_640))))
    (k0_pay46 (back m c t 768 inb_S256x5120_S256x128_0_768) (View.ld (iblk m c 6 t) (Rect.unit ![0, 768] ![1, 128] inb_S1x5120_S1x128_0_768))))
    (k0_pay46 (back m c t 896 inb_S256x5120_S256x128_0_896) (View.ld (iblk m c 6 t) (Rect.unit ![0, 896] ![1, 128] inb_S1x5120_S1x128_0_896))))
    (k0_pay46 (back m c t 1024 inb_S256x5120_S256x128_0_1024) (View.ld (iblk m c 6 t) (Rect.unit ![0, 1024] ![1, 128] inb_S1x5120_S1x128_0_1024))))
    (k0_pay46 (back m c t 1152 inb_S256x5120_S256x128_0_1152) (View.ld (iblk m c 6 t) (Rect.unit ![0, 1152] ![1, 128] inb_S1x5120_S1x128_0_1152))))
    (k0_pay46 (back m c t 1280 inb_S256x5120_S256x128_0_1280) (View.ld (iblk m c 6 t) (Rect.unit ![0, 1280] ![1, 128] inb_S1x5120_S1x128_0_1280))))
    (k0_pay46 (back m c t 1408 inb_S256x5120_S256x128_0_1408) (View.ld (iblk m c 6 t) (Rect.unit ![0, 1408] ![1, 128] inb_S1x5120_S1x128_0_1408))))
    (k0_pay46 (back m c t 1536 inb_S256x5120_S256x128_0_1536) (View.ld (iblk m c 6 t) (Rect.unit ![0, 1536] ![1, 128] inb_S1x5120_S1x128_0_1536))))
    (k0_pay46 (back m c t 1664 inb_S256x5120_S256x128_0_1664) (View.ld (iblk m c 6 t) (Rect.unit ![0, 1664] ![1, 128] inb_S1x5120_S1x128_0_1664))))
    (k0_pay46 (back m c t 1792 inb_S256x5120_S256x128_0_1792) (View.ld (iblk m c 6 t) (Rect.unit ![0, 1792] ![1, 128] inb_S1x5120_S1x128_0_1792))))
    (k0_pay46 (back m c t 1920 inb_S256x5120_S256x128_0_1920) (View.ld (iblk m c 6 t) (Rect.unit ![0, 1920] ![1, 128] inb_S1x5120_S1x128_0_1920))))
    (k0_pay46 (back m c t 2048 inb_S256x5120_S256x128_0_2048) (View.ld (iblk m c 6 t) (Rect.unit ![0, 2048] ![1, 128] inb_S1x5120_S1x128_0_2048))))
    (k0_pay46 (back m c t 2176 inb_S256x5120_S256x128_0_2176) (View.ld (iblk m c 6 t) (Rect.unit ![0, 2176] ![1, 128] inb_S1x5120_S1x128_0_2176))))
    (k0_pay46 (back m c t 2304 inb_S256x5120_S256x128_0_2304) (View.ld (iblk m c 6 t) (Rect.unit ![0, 2304] ![1, 128] inb_S1x5120_S1x128_0_2304))))
    (k0_pay46 (back m c t 2432 inb_S256x5120_S256x128_0_2432) (View.ld (iblk m c 6 t) (Rect.unit ![0, 2432] ![1, 128] inb_S1x5120_S1x128_0_2432))))
    (k0_pay46 (back m c t 2560 inb_S256x5120_S256x128_0_2560) (View.ld (iblk m c 6 t) (Rect.unit ![0, 2560] ![1, 128] inb_S1x5120_S1x128_0_2560))))
    (k0_pay46 (back m c t 2688 inb_S256x5120_S256x128_0_2688) (View.ld (iblk m c 6 t) (Rect.unit ![0, 2688] ![1, 128] inb_S1x5120_S1x128_0_2688))))
    (k0_pay46 (back m c t 2816 inb_S256x5120_S256x128_0_2816) (View.ld (iblk m c 6 t) (Rect.unit ![0, 2816] ![1, 128] inb_S1x5120_S1x128_0_2816))))
    (k0_pay46 (back m c t 2944 inb_S256x5120_S256x128_0_2944) (View.ld (iblk m c 6 t) (Rect.unit ![0, 2944] ![1, 128] inb_S1x5120_S1x128_0_2944))))
    (k0_pay46 (back m c t 3072 inb_S256x5120_S256x128_0_3072) (View.ld (iblk m c 6 t) (Rect.unit ![0, 3072] ![1, 128] inb_S1x5120_S1x128_0_3072))))
    (k0_pay46 (back m c t 3200 inb_S256x5120_S256x128_0_3200) (View.ld (iblk m c 6 t) (Rect.unit ![0, 3200] ![1, 128] inb_S1x5120_S1x128_0_3200))))
    (k0_pay46 (back m c t 3328 inb_S256x5120_S256x128_0_3328) (View.ld (iblk m c 6 t) (Rect.unit ![0, 3328] ![1, 128] inb_S1x5120_S1x128_0_3328))))
    (k0_pay46 (back m c t 3456 inb_S256x5120_S256x128_0_3456) (View.ld (iblk m c 6 t) (Rect.unit ![0, 3456] ![1, 128] inb_S1x5120_S1x128_0_3456))))
    (k0_pay46 (back m c t 3584 inb_S256x5120_S256x128_0_3584) (View.ld (iblk m c 6 t) (Rect.unit ![0, 3584] ![1, 128] inb_S1x5120_S1x128_0_3584))))
    (k0_pay46 (back m c t 3712 inb_S256x5120_S256x128_0_3712) (View.ld (iblk m c 6 t) (Rect.unit ![0, 3712] ![1, 128] inb_S1x5120_S1x128_0_3712))))
    (k0_pay46 (back m c t 3840 inb_S256x5120_S256x128_0_3840) (View.ld (iblk m c 6 t) (Rect.unit ![0, 3840] ![1, 128] inb_S1x5120_S1x128_0_3840))))
    (k0_pay46 (back m c t 3968 inb_S256x5120_S256x128_0_3968) (View.ld (iblk m c 6 t) (Rect.unit ![0, 3968] ![1, 128] inb_S1x5120_S1x128_0_3968))))
    (k0_pay46 (back m c t 4096 inb_S256x5120_S256x128_0_4096) (View.ld (iblk m c 6 t) (Rect.unit ![0, 4096] ![1, 128] inb_S1x5120_S1x128_0_4096))))
    (k0_pay46 (back m c t 4224 inb_S256x5120_S256x128_0_4224) (View.ld (iblk m c 6 t) (Rect.unit ![0, 4224] ![1, 128] inb_S1x5120_S1x128_0_4224))))
    (k0_pay46 (back m c t 4352 inb_S256x5120_S256x128_0_4352) (View.ld (iblk m c 6 t) (Rect.unit ![0, 4352] ![1, 128] inb_S1x5120_S1x128_0_4352))))
    (k0_pay46 (back m c t 4480 inb_S256x5120_S256x128_0_4480) (View.ld (iblk m c 6 t) (Rect.unit ![0, 4480] ![1, 128] inb_S1x5120_S1x128_0_4480))))
    (k0_pay46 (back m c t 4608 inb_S256x5120_S256x128_0_4608) (View.ld (iblk m c 6 t) (Rect.unit ![0, 4608] ![1, 128] inb_S1x5120_S1x128_0_4608))))
    (k0_pay46 (back m c t 4736 inb_S256x5120_S256x128_0_4736) (View.ld (iblk m c 6 t) (Rect.unit ![0, 4736] ![1, 128] inb_S1x5120_S1x128_0_4736))))
    (k0_pay46 (back m c t 4864 inb_S256x5120_S256x128_0_4864) (View.ld (iblk m c 6 t) (Rect.unit ![0, 4864] ![1, 128] inb_S1x5120_S1x128_0_4864))))
    (k0_pay46 (back m c t 4992 inb_S256x5120_S256x128_0_4992) (View.ld (iblk m c 6 t) (Rect.unit ![0, 4992] ![1, 128] inb_S1x5120_S1x128_0_4992)))

/-- What the first point leaves in the block of the residual stream. -/
theorem o7A (c : Dev nD) (t : Fin cfg0.N) (h0 : t.val % 32 = 0) (h1 : ¬t.val % 32 = 31) : (outsAt0 m c t.val t.isLt).1 = View.canon (stores m c t) := by
  rw [outsAt0_A m c t h0 h1]
  frame_out
  rfl

/-- What the first point leaves in the block of the codes. -/
theorem o8A (c : Dev nD) (t : Fin cfg0.N) (h0 : t.val % 32 = 0) (h1 : ¬t.val % 32 = 31) : (outsAt0 m c t.val t.isLt).2.1 = View.canon (cstores m c t) := by
  rw [outsAt0_A m c t h0 h1]
  frame_out
  rfl

/-- What the first point leaves in the scratch. -/
theorem scA (c : Dev nD) (t : Fin cfg0.N) (h0 : t.val % 32 = 0) (h1 : ¬t.val % 32 = 31) : (outsAt0 m c t.val t.isLt).2.2.2 = k0_pay1 (F := Ideal) (rr m c t) (top m c t) (k0_pay3 (F := Ideal)) := by
  rw [outsAt0_A m c t h0 h1]
  frame_out
  rfl

/-- What a point between leaves in the block of the residual stream. -/
theorem o7B (c : Dev nD) (t : Fin cfg0.N) (h0 : ¬ t.val % 32 = 0) (h1 : ¬t.val % 32 = 31) : (outsAt0 m c t.val t.isLt).1 = View.canon (stores m c t) := by
  rw [outsAt0_B m c t h0 h1]
  frame_out
  rfl

/-- What a point between leaves in the block of the codes. -/
theorem o8B (c : Dev nD) (t : Fin cfg0.N) (h0 : ¬ t.val % 32 = 0) (h1 : ¬t.val % 32 = 31) : (outsAt0 m c t.val t.isLt).2.1 = View.canon (cstores m c t) := by
  rw [outsAt0_B m c t h0 h1]
  frame_out
  rfl

/-- What a point between leaves in the scratch. -/
theorem scB (c : Dev nD) (t : Fin cfg0.N) (h0 : ¬ t.val % 32 = 0) (h1 : ¬t.val % 32 = 31) : (outsAt0 m c t.val t.isLt).2.2.2 = k0_pay1 (F := Ideal) (rr m c t) (top m c t) ((outsAt0 m c (t.val - 1) (lt_of_le_of_lt (Nat.sub_le _ _) t.isLt)).2.2.2) := by
  rw [outsAt0_B m c t h0 h1]
  frame_out
  simp only [read_unread_whole]
  rfl

/-- What the last point leaves in the block of the residual stream. -/
theorem o7C (c : Dev nD) (t : Fin cfg0.N) (h0 : ¬ t.val % 32 = 0) (h1 : t.val % 32 = 31) : (outsAt0 m c t.val t.isLt).1 = View.canon (stores m c t) := by
  rw [outsAt0_C m c t h0 h1]
  frame_out
  rfl

/-- What the last point leaves in the block of the codes. -/
theorem o8C (c : Dev nD) (t : Fin cfg0.N) (h0 : ¬ t.val % 32 = 0) (h1 : t.val % 32 = 31) : (outsAt0 m c t.val t.isLt).2.1 = View.canon (cstores m c t) := by
  rw [outsAt0_C m c t h0 h1]
  frame_out
  rfl

/-- What the last point leaves in the scratch. -/
theorem scC (c : Dev nD) (t : Fin cfg0.N) (h0 : ¬ t.val % 32 = 0) (h1 : t.val % 32 = 31) : (outsAt0 m c t.val t.isLt).2.2.2 = k0_pay1 (F := Ideal) (rr m c t) (top m c t) ((outsAt0 m c (t.val - 1) (lt_of_le_of_lt (Nat.sub_le _ _) t.isLt)).2.2.2) := by
  rw [outsAt0_C m c t h0 h1]
  frame_out
  simp only [read_unread_whole]
  rfl

/-- What the last point leaves in the result of the greatest absolute value. -/
theorem o9 (c : Dev nD) (t : Fin cfg0.N) (h0 : ¬ t.val % 32 = 0) (h1 : t.val % 32 = 31) (y : S1.Idx) :
    (outsAt0 m c t.val t.isLt).2.2.1 y = k0_pay2 (F := Ideal) (outsAt0 m c t.val t.isLt).2.2.2 := by
  rw [scC m c t h0 h1, outsAt0_C m c t h0 h1]
  frame_out
  simp only [read_unread_whole]
  rfl

/-- The residual stream that a point leaves in its block. -/
theorem resAt (c : Dev nD) (t : Fin cfg0.N) (y : S256x5120.Idx) (i : S8192x5120.Idx) (hi0 : (i 0 : ℕ) = t.val * 256 + y 0) (hi1 : (i 1 : ℕ) = y 1) :
    (outsAt0 m c t.val t.isLt).1 y = resM m c i := by
  have e : (outsAt0 m c t.val t.isLt).1 = View.canon (stores m c t) := by
    by_cases h0 : t.val % 32 = 0
    · exact o7A m c t h0 (by omega)
    · by_cases h1 : t.val % 32 = 31
      · exact o7C m c t h0 h1
      · exact o7B m c t h0 h1
  rw [e]
  exact canon_stores m c t y i hi0 hi1

/-- The codes that a point leaves in its block. -/
theorem codesAt (c : Dev nD) (t : Fin cfg0.N) (hz : m ((c : Thread nD τ).loc main_arg2) (ix1 0) ≠ (0 : EReal)) (y : S256x5120.Idx) (i : S8192x5120.Idx)
    (hi0 : (i 0 : ℕ) = t.val * 256 + y 0) (hi1 : (i 1 : ℕ) = y 1) :
    (outsAt0 m c t.val t.isLt).2.1 y = codes (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) i := by
  have e : (outsAt0 m c t.val t.isLt).2.1 = View.canon (cstores m c t) := by
    by_cases h0 : t.val % 32 = 0
    · exact o8A m c t h0 (by omega)
    · by_cases h1 : t.val % 32 = 31
      · exact o8C m c t h0 h1
      · exact o8B m c t h0 h1
  rw [e]
  unfold cstores
  canon_tiles x h
  all_goals exact tile_code m c t hz _ _ _ x i (by omega) (by omega)

/-- The array of the residual stream after the run. -/
theorem final7 (c : Dev nD) : (dats m 0 c).arrAt 7 (cfgs 0).N = resM m c := by
  refine (dats m 0 c).arrAt_eq_of_covers 7 _ (by decide +kernel) fun t hf y => ?_
  blk_simp
  rw [after0_7]
  refine resAt m c t y _ ?_ ?_
  all_goals (blk_simp [idx_val t] <;> try omega)

/-- The codes array after the run. -/
theorem final8 (c : Dev nD) (hz : m ((c : Thread nD τ).loc main_arg2) (ix1 0) ≠ (0 : EReal)) : (dats m 0 c).arrAt 8 (cfgs 0).N
    = codes (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  refine codesAt m c t hz y _ ?_ ?_
  all_goals (blk_simp [idx_val t] <;> try omega)

/-- The reciprocal root mean square is not negative. -/
theorem rinv_nonneg (c : Dev nD) (r : Fin 8192) : 0 ≤ rinvM m c r := by
  refine Cert.Common.rsqrt_nonneg _ (add_nonneg (EReal.mul_nonneg (Finset.sum_nonneg fun _ _ => Cert.Common.sq_nonneg _) ?_) Cert.Common.eps_pos.le)
  exact_mod_cast (by norm_num : (0 : ℝ) ≤ 1 / 5120)

/-- The absolute value of the normalised row `r`, as a function of the column's number. -/
def absn (c : Dev nD) (r : Fin 8192) (j : ℕ) : EReal := if h : j < 5120 then FloatOps.absf (F := Ideal) (φ := .f32) (nrmM m c (ix2 r ⟨j, h⟩)) else 0

/-- A lane's candidate, over the root mean square, is an absolute value of the normalised row. -/
theorem piece_abs (c : Dev nD) (t : Fin cfg0.N) (o : ℕ) (inb : ∀ a, (![0, o] : Fin 2 → ℕ) a + (![256, 128] : Fin 2 → ℕ) a ≤ S256x5120.size a)
    (inb' : ∀ a, (![0, o] : Fin 2 → ℕ) a + (![1, 128] : Fin 2 → ℕ) a ≤ S1x5120.size a) (r : Fin 256) (l : Fin 128) :
    (FloatOps.absf (F := Ideal) (φ := .f32) (k0_pay46 (F := Ideal) (back m c t o inb) (View.ld (iblk m c 6 t) (Rect.unit ![0, o] ![1, 128] inb')) (ix2 r l)) : EReal)
      * rinvM m c (row t r) = absn m c (row t r) (o + l) := by
  have ho : o + 128 ≤ 5120 := inb 1
  have hl := l.isLt
  rw [back_mul m c t o inb inb' (ix2 r l) (ix2 (row t r) ⟨o + l, by omega⟩) rfl rfl, absn, dif_pos (show o + l.val < 5120 by omega)]
  exact Cert.Common.abs_mul _ _ (rinv_nonneg m c _)

/-- A bound of one more step of the running maximum, over the root mean square. -/
theorem tstep_le (a h : FVec Ideal S256x128 .f32) (y : S256x128.Idx) (r b : EReal) (hr : 0 ≤ r) :
    tstep a h y * r ≤ b ↔ a y * r ≤ b ∧ (FloatOps.absf (F := Ideal) (φ := .f32) (h y) : EReal) * r ≤ b :=
  Cert.Common.max_mul_le _ _ _ _ hr

/-- A bound of a lane of the point's maximum, over the root mean square. -/
theorem top_le (c : Dev nD) (t : Fin cfg0.N) (r : Fin 256) (l : Fin 128) (b : EReal) : top m c t (ix2 r l) * rinvM m c (row t r) ≤ b ↔
    0 ≤ b ∧ ∀ k < 40, absn m c (row t r) (128 * k + l) ≤ b := by
  have hz : (broadcast S256x128 (Scalar.ofBits (F := Ideal) .f32 0x00000000#32) (ix2 r l) : EReal) = 0 := by pointwise
  unfold top
  simp only [tstep_le _ _ _ _ _ (rinv_nonneg m c _), piece_abs]
  rw [hz, zero_mul]
  constructor
  · intro h
    obtain ⟨⟨⟨⟨⟨⟨⟨⟨⟨⟨⟨⟨⟨⟨⟨⟨⟨⟨⟨⟨⟨⟨⟨⟨⟨⟨⟨⟨⟨⟨⟨⟨⟨⟨⟨⟨⟨⟨⟨⟨h0, H0⟩, H1⟩, H2⟩, H3⟩, H4⟩, H5⟩, H6⟩, H7⟩, H8⟩, H9⟩, H10⟩, H11⟩, H12⟩, H13⟩, H14⟩, H15⟩, H16⟩, H17⟩, H18⟩, H19⟩, H20⟩, H21⟩, H22⟩, H23⟩, H24⟩, H25⟩, H26⟩, H27⟩, H28⟩, H29⟩, H30⟩, H31⟩, H32⟩, H33⟩, H34⟩, H35⟩, H36⟩, H37⟩, H38⟩, H39⟩ := h
    refine ⟨h0, fun k hk => ?_⟩
    interval_cases k
    exacts [H0, H1, H2, H3, H4, H5, H6, H7, H8, H9, H10, H11, H12, H13, H14, H15, H16, H17, H18, H19, H20, H21, H22, H23, H24, H25, H26, H27, H28, H29, H30, H31, H32, H33, H34, H35, H36, H37, H38, H39]
  · rintro ⟨h0, h⟩
    exact ⟨⟨⟨⟨⟨⟨⟨⟨⟨⟨⟨⟨⟨⟨⟨⟨⟨⟨⟨⟨⟨⟨⟨⟨⟨⟨⟨⟨⟨⟨⟨⟨⟨⟨⟨⟨⟨⟨⟨⟨h0, h 0 (by omega)⟩, h 1 (by omega)⟩, h 2 (by omega)⟩, h 3 (by omega)⟩, h 4 (by omega)⟩, h 5 (by omega)⟩, h 6 (by omega)⟩, h 7 (by omega)⟩, h 8 (by omega)⟩, h 9 (by omega)⟩, h 10 (by omega)⟩, h 11 (by omega)⟩, h 12 (by omega)⟩, h 13 (by omega)⟩, h 14 (by omega)⟩, h 15 (by omega)⟩, h 16 (by omega)⟩, h 17 (by omega)⟩, h 18 (by omega)⟩, h 19 (by omega)⟩, h 20 (by omega)⟩, h 21 (by omega)⟩, h 22 (by omega)⟩, h 23 (by omega)⟩, h 24 (by omega)⟩, h 25 (by omega)⟩, h 26 (by omega)⟩, h 27 (by omega)⟩, h 28 (by omega)⟩, h 29 (by omega)⟩, h 30 (by omega)⟩, h 31 (by omega)⟩, h 32 (by omega)⟩, h 33 (by omega)⟩, h 34 (by omega)⟩, h 35 (by omega)⟩, h 36 (by omega)⟩, h 37 (by omega)⟩, h 38 (by omega)⟩, h 39 (by omega)⟩

/-- A bound of the scratch after one point: a bound of what it was, and of every absolute value in the row. -/
theorem pay1_le (c : Dev nD) (t : Fin cfg0.N) (v : Vec Ideal S256x128 .f32) (y : S256x128.Idx) (b : EReal) :
    k0_pay1 (F := Ideal) (rr m c t) (top m c t) v y ≤ b ↔ v y ≤ b ∧ (0 ≤ b ∧ ∀ i : S8192x5120.Idx, i 0 = row t (y 0) →
      FloatOps.absf (F := Ideal) (φ := .f32) (nrmM m c i) ≤ b) := by
  have e : k0_pay1 (F := Ideal) (rr m c t) (top m c t) v y
      = max (v y) ((Finset.univ : Finset (Fin 128)).fold max (Ideal.ofBits .f32 0xFF800000#32) (fun l => top m c t (ix2 (y 0) l)) * rr m c t (ix2 (y 0) 0)) := by
    pointwise [k0_pay1]
  rw [e, max_le_iff, rr_eq, Cert.Common.ofBits_neg_inf, Cert.Common.fold_mul_le _ _ _ (rinv_nonneg m c _)]
  refine and_congr Iff.rfl ?_
  rw [show (ix2 (y 0) 0 : S256x1.Idx) 0 = y 0 from rfl]
  constructor
  · intro h
    refine ⟨((top_le m c t (y 0) 0 b).mp (h 0)).1, fun i hi => ?_⟩
    have hi1 : (i 1).val < 5120 := (i 1).isLt
    have hb := ((top_le m c t (y 0) ⟨(i 1).val % 128, by omega⟩ b).mp (h _)).2 ((i 1).val / 128) (by omega)
    rw [absn, dif_pos (show 128 * ((i 1).val / 128) + (i 1).val % 128 < 5120 by omega)] at hb
    have ei : i = ix2 (row t (y 0)) ⟨128 * ((i 1).val / 128) + (i 1).val % 128, by omega⟩ := by
      funext a
      match a with
      | ⟨0, _⟩ => exact hi
      | ⟨1, _⟩ => exact Fin.ext (by show (i 1).val = 128 * ((i 1).val / 128) + (i 1).val % 128; omega)
    rw [ei]
    exact hb
  · intro h l
    have hl := l.isLt
    refine (top_le m c t (y 0) l b).mpr ⟨h.1, fun k hk => ?_⟩
    rw [absn, dif_pos (show 128 * k + l.val < 5120 by omega)]
    exact h.2 _ rfl

/-- A bound of the scratch after point `n`. -/
theorem sc_le (c : Dev nD) (y : S256x128.Idx) (b : EReal) : ∀ (n : ℕ) (hn : n < cfg0.N), (outsAt0 m c n hn).2.2.2 y ≤ b ↔
    0 ≤ b ∧ ∀ i : S8192x5120.Idx, (i 0 : ℕ) / 256 ≤ n → (i 0 : ℕ) % 256 = y 0 → FloatOps.absf (F := Ideal) (φ := .f32) (nrmM m c i) ≤ b
  | 0, hn => by
    have hy : (y 0).val < 256 := (y 0).isLt
    rw [scA m c ⟨0, hn⟩ (Nat.zero_mod _) (by show ¬ 0 % 32 = 31; omega), pay1_le m c ⟨0, hn⟩]
    have hz : k0_pay3 (F := Ideal) y = (0 : EReal) := by pointwise [k0_pay3]
    rw [hz]
    constructor
    · rintro ⟨h, -, H⟩
      exact ⟨h, fun i hi hy' => H i (Fin.ext (by show (i 0 : ℕ) = 0 * 256 + (y 0).val; omega))⟩
    · rintro ⟨h, H⟩
      refine ⟨h, h, fun i hi => ?_⟩
      have e : (i 0 : ℕ) = 0 * 256 + (y 0).val := congrArg Fin.val hi
      exact H i (by omega) (by omega)
  | n + 1, hn => by
    have hy : (y 0).val < 256 := (y 0).isLt
    have hN : cfg0.N = 32 := N_0
    have e : (outsAt0 m c (n + 1) hn).2.2.2 = k0_pay1 (F := Ideal) (rr m c ⟨n + 1, hn⟩) (top m c ⟨n + 1, hn⟩) (outsAt0 m c n (by omega)).2.2.2 := by
      by_cases h1 : (n + 1) % 32 = 31
      · exact scC m c ⟨n + 1, hn⟩ (by show ¬ (n + 1) % 32 = 0; omega) h1
      · exact scB m c ⟨n + 1, hn⟩ (by show ¬ (n + 1) % 32 = 0; omega) h1
    rw [e, pay1_le m c ⟨n + 1, hn⟩, sc_le c y b n (by omega)]
    constructor
    · rintro ⟨⟨h, H⟩, -, H'⟩
      refine ⟨h, fun i hi hy' => ?_⟩
      rcases Nat.lt_or_ge ((i 0 : ℕ) / 256) (n + 1) with hl | hl
      · exact H i (by omega) hy'
      · exact H' i (Fin.ext (by show (i 0 : ℕ) = (n + 1) * 256 + (y 0).val; omega))
    · rintro ⟨h, H⟩
      refine ⟨⟨h, fun i hi hy' => H i (by omega) hy'⟩, h, fun i hi => ?_⟩
      have e : (i 0 : ℕ) = (n + 1) * 256 + (y 0).val := congrArg Fin.val hi
      exact H i (by omega) (by omega)

/-- The maximum over the whole scratch is bounded exactly when every entry is. -/
theorem pay2_le (v : Vec Ideal S256x128 .f32) (b : EReal) : k0_pay2 (F := Ideal) v ≤ b ↔ ∀ y : S256x128.Idx, v y ≤ b := by
  pointwise [k0_pay2]
  rw [Finset.fold_max_le]
  simp only [Finset.mem_univ, true_implies, Prod.forall]
  constructor
  · intro h y
    have e : y = ix2 (y 0) (y 1) := by
      funext a; match a with | ⟨0, _⟩ => rfl | ⟨1, _⟩ => rfl
    rw [e]
    exact h.2 _ _
  · intro h
    exact ⟨by rw [Cert.Common.ofBits_neg_inf]; exact bot_le, fun x y => h _⟩

/-- The maximum over the scratch after the last point. -/
theorem pay2_sc (c : Dev nD) (n : ℕ) (hn : n < cfg0.N) (h31 : n = 31) (j : S1.Idx) : k0_pay2 (F := Ideal) (outsAt0 m c n hn).2.2.2
    = amax (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6)) j := by
  refine eq_of_forall_ge_iff fun b => ?_
  unfold amax
  rw [pay2_le, iSup_le_iff]
  constructor
  · intro h i
    have h0 : (i 0 : ℕ) < 8192 := (i 0).isLt
    exact ((sc_le m c (ix2 ⟨(i 0 : ℕ) % 256, Nat.mod_lt _ (by omega)⟩ 0) b n hn).mp (h _)).2 i (by omega) rfl
  · intro h y
    exact (sc_le m c y b n hn).mpr ⟨le_trans (Cert.Common.abs_nonneg _) (h (ix2 0 0)), fun i _ _ => h i⟩

/-- The array of the greatest absolute value after the run. -/
theorem final9 (c : Dev nD) : (dats m 0 c).arrAt 9 (cfgs 0).N
    = amax (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  have ht : t.val < 32 := lt_of_lt_of_eq t.isLt N_0
  have h31 : t.val % 32 = 31 := (flush0_9 t).mp hf
  rw [o9 m c t (by omega) h31]
  exact pay2_sc m c t.val t.isLt (by omega) _

end Cert.OprojIdeal.Value
-- ==== Proof.OprojRefValue.lean ====
module

public import proofs.«01_k».proof.Proof.Gen.OprojRefIdeal.Value
public import proofs.«01_k».proof.Proof.OprojValue
public import Idealize.ShloMosaic.Lib.Pipeline.ValueKit
public import Idealize.ShloMosaic.Lib.Pipeline.ReadBack
set_option maxRecDepth 16384
@[expose] public section
noncomputable section
open Idealize.ShloMosaic Idealize.ShloMosaic.TcCoe Idealize.SL.Sem
open Idealize.ShloMosaic.Pipeline (Dat)
namespace Cert.OprojRefIdeal.Value
open Cert.OprojRefIdeal Cert.OprojRefIdeal.Gen
variable (m : (ℓ : Loc nD τ sig) → Buf (Elt Ideal) ℓ)

/-- The reference has one point, and every block is its whole array. -/
theorem idx_val : ∀ t : Fin cfg0.N, win0_0.index t = ![0] ∧ win0_1.index t = ![0] ∧ win0_2.index t = ![0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0] :=
  (by decide +kernel : ∀ t : Fin grid0.N, _)

/-- The reference's residual stream over any arrays. -/
theorem pay2_eq (os ws : FVec Ideal S1 .f32) (C : FVec Ideal S8192x1280 .fp8e4m3) (X : FVec Ideal S8192x5120 .bf16)
    (W : FVec Ideal S1280x5120 .fp8e4m3) (i : S8192x5120.Idx) :
    k0_pay2 (F := Ideal) X C W (os (ix1 0)) (ws (ix1 0)) i = Cert.OprojIdeal.Value.res os ws C X W i := by
  pointwise [k0_pay2, Cert.OprojIdeal.Value.res]

/-- The reference's normalised rows over any arrays: it divides by the square root of the mean of squares, which is positive, so that
    dividing is multiplying by the reciprocal. -/
theorem pay3_eq (os ws : FVec Ideal S1 .f32) (C : FVec Ideal S8192x1280 .fp8e4m3) (X : FVec Ideal S8192x5120 .bf16)
    (W : FVec Ideal S1280x5120 .fp8e4m3) (g : FVec Ideal S1x5120 .f32) (i : S8192x5120.Idx) :
    k0_pay3 (F := Ideal) X C W (os (ix1 0)) (ws (ix1 0)) g i = Cert.OprojIdeal.Value.nrm os ws C X W g i := by
  have e : k0_pay3 (F := Ideal) X C W (os (ix1 0)) (ws (ix1 0)) g i
      = Ideal.div (k0_pay2 (F := Ideal) X C W (os (ix1 0)) (ws (ix1 0)) i)
          (Ideal.sqrt (Ideal.div (∑ j : Fin 5120, k0_pay2 (F := Ideal) X C W (os (ix1 0)) (ws (ix1 0)) (ix2 (i 0) j)
            * k0_pay2 (F := Ideal) X C W (os (ix1 0)) (ws (ix1 0)) (ix2 (i 0) j)) (Ideal.ofBits .f32 0x45A00000#32)
            + Ideal.ofBits .f32 0x358637BD#32)) * g (ix2 0 (i 1)) := by
    pointwise [k0_pay3]
  rw [e]
  simp only [pay2_eq]
  rw [Cert.Common.ofBits_5120, Cert.Common.div_coe _ _ (by norm_num), Cert.Common.div_sqrt, mul_right_comm]
  · rfl
  · refine Cert.Common.eps_pos.trans_le (le_add_of_nonneg_left (mul_nonneg (Finset.sum_nonneg fun _ _ => Cert.Common.sq_nonneg _) ?_))
    exact_mod_cast (by norm_num : (0 : ℝ) ≤ 1 / 5120)

/-- The reference's codes over any arrays. -/
theorem pay4_eq (os ws xs : FVec Ideal S1 .f32) (C : FVec Ideal S8192x1280 .fp8e4m3) (X : FVec Ideal S8192x5120 .bf16)
    (W : FVec Ideal S1280x5120 .fp8e4m3) (g : FVec Ideal S1x5120 .f32) (i : S8192x5120.Idx) :
    k0_pay4 (F := Ideal) X C W (os (ix1 0)) (ws (ix1 0)) g (xs (ix1 0)) i = Cert.OprojIdeal.Value.codes os ws xs C X W g i := by
  unfold Cert.OprojIdeal.Value.codes
  rw [← pay3_eq]
  pointwise [k0_pay4, Cert.Common.code]

/-- The reference's greatest absolute value over any arrays. -/
theorem pay1_eq (os ws : FVec Ideal S1 .f32) (C : FVec Ideal S8192x1280 .fp8e4m3) (X : FVec Ideal S8192x5120 .bf16)
    (W : FVec Ideal S1280x5120 .fp8e4m3) (g : FVec Ideal S1x5120 .f32) (j : S1.Idx) :
    k0_pay1 (F := Ideal) (k0_pay5 X C W (os (ix1 0)) (ws (ix1 0)) g) = Cert.OprojIdeal.Value.amax os ws C X W g j := by
  refine eq_of_forall_ge_iff fun b => ?_
  unfold Cert.OprojIdeal.Value.amax
  rw [iSup_le_iff]
  simp only [← pay3_eq]
  pointwise [k0_pay1, k0_pay5]
  rw [Finset.fold_max_le]
  simp only [Finset.mem_univ, true_implies, Prod.forall]
  constructor
  · intro h i
    have e : i = ix2 (i 0) (i 1) := by
      funext a; match a with | ⟨0, _⟩ => rfl | ⟨1, _⟩ => rfl
    rw [e]
    exact h.2 _ _
  · intro h
    exact ⟨by rw [Cert.Common.ofBits_neg_inf]; exact bot_le, fun x y => h _⟩

/-- The one block of each input is the whole argument. -/
theorem blk0 (c : Dev nD) (t : Fin cfg0.N) : iblk m c 0 t = m ((c : Thread nD τ).loc main_arg0) := by blk_ext! [iblk, V, idx_val t]
/-- The same for argument 1. -/
theorem blk1 (c : Dev nD) (t : Fin cfg0.N) : iblk m c 1 t = m ((c : Thread nD τ).loc main_arg1) := by blk_ext! [iblk, V, idx_val t]
/-- The same for argument 2. -/
theorem blk2 (c : Dev nD) (t : Fin cfg0.N) : iblk m c 2 t = m ((c : Thread nD τ).loc main_arg2) := by blk_ext! [iblk, V, idx_val t]
/-- The same for argument 3. -/
theorem blk3 (c : Dev nD) (t : Fin cfg0.N) : iblk m c 3 t = m ((c : Thread nD τ).loc main_arg3) := by blk_ext! [iblk, V, idx_val t]
/-- The same for argument 4. -/
theorem blk4 (c : Dev nD) (t : Fin cfg0.N) : iblk m c 4 t = m ((c : Thread nD τ).loc main_arg4) := by blk_ext! [iblk, V, idx_val t]
/-- The same for argument 5. -/
theorem blk5 (c : Dev nD) (t : Fin cfg0.N) : iblk m c 5 t = m ((c : Thread nD τ).loc main_arg5) := by blk_ext! [iblk, V, idx_val t]
/-- The same for argument 6. -/
theorem blk6 (c : Dev nD) (t : Fin cfg0.N) : iblk m c 6 t = m ((c : Thread nD τ).loc main_arg6) := by blk_ext! [iblk, V, idx_val t]

/-- The first index of a one-element array. -/
theorem first_eq (h : 0 < S1.numel) : Shape.Idx.first h = (ix1 0 : S1.Idx) := by
  funext a; match a with | ⟨0, _⟩ => exact Fin.ext (by have := (Shape.Idx.first h 0).isLt; show (Shape.Idx.first h 0).val = 0; have e : S1.size 0 = 1 := rfl; omega)

/-- The array of the residual stream of the reference after its run. -/
theorem final7 (c : Dev nD) : (dats m 0 c).arrAt 7 (cfgs 0).N = Cert.OprojIdeal.Value.res (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have e : (((cfg0.win 7).blk t).view.emb y : S8192x5120.Idx) = y := by blk_ext! [idx_val t]
  blk_simp
  rw [after0_7]
  unfold outsAt0
  frame_out
  simp only [read_unread_whole]
  rw [blk0, blk1, blk3, blk4, blk5, first_eq]
  refine (pay2_eq _ _ _ _ _ y).trans (congrArg _ ?_)
  exact e.symm

/-- The codes array of the reference after its run. -/
theorem final8 (c : Dev nD) : (dats m 0 c).arrAt 8 (cfgs 0).N = Cert.OprojIdeal.Value.codes (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 8 _ (by decide +kernel) fun t hf y => ?_
  have e : (((cfg0.win 8).blk t).view.emb y : S8192x5120.Idx) = y := by blk_ext! [idx_val t]
  blk_simp
  rw [after0_8]
  unfold outsAt0
  frame_out
  simp only [read_unread_whole]
  rw [blk0, blk1, blk2, blk3, blk4, blk5, blk6, first_eq]
  refine (pay4_eq _ _ _ _ _ _ _ y).trans (congrArg _ ?_)
  exact e.symm

/-- The array of the greatest absolute value of the reference after its run. -/
theorem final9 (c : Dev nD) : (dats m 0 c).arrAt 9 (cfgs 0).N = Cert.OprojIdeal.Value.amax (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  unfold outsAt0
  frame_out
  simp only [read_unread_whole]
  rw [blk0, blk1, blk3, blk4, blk5, blk6, first_eq]
  exact pay1_eq _ _ _ _ _ _ _

end Cert.OprojRefIdeal.Value
-- ==== Proof.Claims.lean ====
module

public import proofs.«01_k».proof.Defs
public import proofs.«01_k».proof.Proof.DownValue
public import proofs.«01_k».proof.Proof.DownRefValue
public import proofs.«01_k».proof.Proof.GateUpValue
public import proofs.«01_k».proof.Proof.GateUpRefValue
public import proofs.«01_k».proof.Proof.OprojValue
public import proofs.«01_k».proof.Proof.OprojRefValue
public import proofs.«01_k».proof.Proof.Gen.Pre_x_scale_nonzero
public import proofs.«01_k».proof.Proof.Gen.Pre_h_scale_nonzero
public import Idealize.ShloMosaic.Lib.Pipeline.ValueKit

@[expose] public section

set_option maxRecDepth 16384

noncomputable section

open Idealize.ShloMosaic Idealize.ShloMosaic.TcCoe Idealize.SL.Sem

namespace Cert.Proof.Claims

/-- The down projection: the kernel's result array and the reference's end at the same function of the arguments. -/
theorem algebraic_down : Cert.algebraic_DownIdeal_DownRefIdeal := by
  intro m ρ m' ρ' _ hagree
  refine ⟨fun c => Cert.DownIdeal.Value.out (m ((c.tc : Thread Cert.DownIdeal.nD Cert.DownIdeal.τ).loc Cert.DownIdeal.main_arg0)) (m ((c.tc : Thread Cert.DownIdeal.nD Cert.DownIdeal.τ).loc Cert.DownIdeal.main_arg1))
    (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)), ?_, ?_⟩
  · exact (θ_run Cert.DownIdeal.defs _ _).mono (fun _ h c => ⟨(h c).1.trans (Cert.DownIdeal.Value.final m c), (h c).2⟩)
      (Cert.DownIdeal.Value.run_blocks (F := Ideal) m ρ)
  · refine (θ_run Cert.DownRefIdeal.defs _ _).mono (fun _ h c => ⟨(h c).1.trans ((Cert.DownRefIdeal.Value.final m' c).trans ?_), (h c).2⟩)
      (Cert.DownRefIdeal.Value.run_blocks (F := Ideal) m' ρ')
    obtain ⟨a0, a1, a2, a3, a4⟩ := hagree c
    rw [a0, a1, a2, a3, a4]

/-- What the precondition says: the scale of the hidden vector's codes is not zero. -/
theorem h_scale_ne (m : (ℓ : Loc Cert.GateUpIdeal.nD Cert.GateUpIdeal.τ Cert.GateUpIdeal.sig) → Buf (Elt Ideal) ℓ)
    (hp : Cert.Pre_GateUpIdeal_h_scale_nonzero m) (c : Dev Cert.GateUpIdeal.nD) :
    m ((c.tc : Thread Cert.GateUpIdeal.nD Cert.GateUpIdeal.τ).loc Cert.GateUpIdeal.main_arg2) (ix1 0) ≠ (0 : EReal) := by
  intro h0
  have h := congrFun (hp c) (ix1 0)
  revert h
  pointwise [Cert.Pre_h_scale_nonzero.fn]
  simp [h0]

/-- The gate and up projections: the codes and the greatest absolute value of the kernel and of the reference end at
    the same functions of the arguments. -/
theorem algebraic_gate_up : Cert.algebraic_GateUpIdeal_GateUpRefIdeal_pre_h_scale_nonzero := by
  intro m ρ m' ρ' hp hagree
  refine ⟨fun c => Cert.GateUpIdeal.Value.codes (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1))
      (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)),
    fun c => Cert.GateUpIdeal.Value.amax (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1))
      (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)), ?_, ?_⟩
  · exact (θ_run Cert.GateUpIdeal.defs _ _).mono (fun _ h c => ⟨(h c).1.trans (Cert.GateUpIdeal.Value.final5 m c (h_scale_ne m hp c)),
      (h c).2.1.trans (Cert.GateUpIdeal.Value.final6 m c), (h c).2.2⟩) (Cert.GateUpIdeal.Value.run_blocks (F := Ideal) m ρ)
  · refine (θ_run Cert.GateUpRefIdeal.defs _ _).mono (fun _ h c => ⟨(h c).1.trans ((Cert.GateUpRefIdeal.Value.final5 m' c).trans ?_),
      (h c).2.1.trans ((Cert.GateUpRefIdeal.Value.final6 m' c).trans ?_), (h c).2.2⟩) (Cert.GateUpRefIdeal.Value.run_blocks (F := Ideal) m' ρ')
    all_goals
      obtain ⟨a0, a1, a2, a3, a4⟩ := hagree c
      simp only [a0, a1, a2, a3, a4]

/-- What the precondition says: the scale of the normalised rows' codes is not zero. -/
theorem x_scale_ne (m : (ℓ : Loc Cert.OprojIdeal.nD Cert.OprojIdeal.τ Cert.OprojIdeal.sig) → Buf (Elt Ideal) ℓ)
    (hp : Cert.Pre_OprojIdeal_x_scale_nonzero m) (c : Dev Cert.OprojIdeal.nD) :
    m ((c.tc : Thread Cert.OprojIdeal.nD Cert.OprojIdeal.τ).loc Cert.OprojIdeal.main_arg2) (ix1 0) ≠ (0 : EReal) := by
  intro h0
  have h := congrFun (hp c) (ix1 0)
  revert h
  pointwise [Cert.Pre_x_scale_nonzero.fn]
  simp [h0]

/-- The output projection and the norm after it: the residual stream, the codes and the greatest absolute value of the kernel and
    of the reference end at the same functions of the arguments. -/
theorem algebraic_oproj : Cert.algebraic_OprojIdeal_OprojRefIdeal_pre_x_scale_nonzero := by
  intro m ρ m' ρ' hp hagree
  refine ⟨fun c => Cert.OprojIdeal.Value.res (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)),
    fun c => Cert.OprojIdeal.Value.codes (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)),
    fun c => Cert.OprojIdeal.Value.amax (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)), ?_, ?_⟩
  · exact (θ_run Cert.OprojIdeal.defs _ _).mono (fun _ h c => ⟨(h c).1.trans (Cert.OprojIdeal.Value.final7 m c),
      (h c).2.1.trans (Cert.OprojIdeal.Value.final8 m c (x_scale_ne m hp c)), (h c).2.2.1.trans (Cert.OprojIdeal.Value.final9 m c), (h c).2.2.2⟩)
      (Cert.OprojIdeal.Value.run_blocks (F := Ideal) m ρ)
  · refine (θ_run Cert.OprojRefIdeal.defs _ _).mono (fun _ h c => ⟨(h c).1.trans ((Cert.OprojRefIdeal.Value.final7 m' c).trans ?_),
      (h c).2.1.trans ((Cert.OprojRefIdeal.Value.final8 m' c).trans ?_), (h c).2.2.1.trans ((Cert.OprojRefIdeal.Value.final9 m' c).trans ?_), (h c).2.2.2⟩)
      (Cert.OprojRefIdeal.Value.run_blocks (F := Ideal) m' ρ')
    all_goals
      obtain ⟨a0, a1, a2, a3, a4, a5, a6⟩ := hagree c
      simp only [a0, a1, a2, a3, a4, a5, a6]

end Cert.Proof.Claims
-- ==== Proof.QkvIdealLoops.lean ====
module

public import proofs.«01_k».proof.Proof.Gen.QkvIdeal.Skeleton
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄G" => MT nD τ sig Unit (Elt F) ℕ (UR sig nD τ) ℕ

/-- The invariants of the row loop of the kernel body. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3)

/-- The four buffers one trip of the row loop touches: two read, two written. -/
abbrev Trip_k0_t1 (c : Dev nD) (a6 : Memref sig .tc .vmem S256x5120 .bf16) (a7 : Memref sig .tc .vmem S1x5120 .f32) (a13 : Memref sig .tc .vmem S256x5120 .fp8e4m3) (a21 : Memref sig .tc .vmem S32x128 .f32) (X_arg6 : BufTy.Contents (Elt F) a6.view.ty) (X_arg7 : BufTy.Contents (Elt F) a7.view.ty) (f_arg13 : BufTy.Contents (Elt F) a13.view.ty) (f_arg21 : BufTy.Contents (Elt F) a21.view.ty) : sProp 𝕄G :=
  iprop((a6.view.loc (c : Thread nD τ) ↦[a6.view.set]{fullShare} X_arg6) ∗ (a7.view.loc (c : Thread nD τ) ↦[a7.view.set]{fullShare} X_arg7) ∗ (a13.view.loc (c : Thread nD τ) ↦[a13.view.set]{fullShare} f_arg13) ∗ (a21.view.loc (c : Thread nD τ) ↦[a21.view.set]{fullShare} f_arg21))

/-- One trip of the row loop: the pieces it stores, as functions of the running maxima it finds, and the proof that it stores them. -/
@[irreducible] def trip_k0_t1 (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (k : Fin k0_t1_loop.trips) :
    Σ' (L_arg13 : (BufTy.Contents (Elt F) a21.view.ty → List (View.Piece (Elt F) S256x5120 .fp8e4m3))) , { L_arg21 : (BufTy.Contents (Elt F) a21.view.ty → List (View.Piece (Elt F) S32x128 .f32)) // ∀ (E : Set ℕ) (f_arg13 : BufTy.Contents (Elt F) a13.view.ty) (f_arg21 : BufTy.Contents (Elt F) a21.view.ty),
      Trip_k0_t1 (F := F) c a6 a7 a13 a21 X_arg6 X_arg7 f_arg13 f_arg21
      ⊢ wp frame (wpE (defs₀ (F := F)) 𝒱 (c : Thread nD τ) bd) E (k0_t1_body (F := F) i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 k PUnit.unit)
          (fun _ => Trip_k0_t1 (F := F) c a6 a7 a13 a21 X_arg6 X_arg7 (a13.view.writes (Elt F) f_arg13 (L_arg13 f_arg21)) (a21.view.writes (Elt F) f_arg21 (L_arg21 f_arg21))) } := by
  have hk : k.val < 8 := Nat.lt_of_lt_of_le k.isLt k0_t1_abs.2.1
  refine ⟨?_, ?_, fun E f_arg13 f_arg21 => ?run⟩
  case run =>
    unfold k0_t1_body
    iintro ⟨HR_arg6, HR_arg7, HW_arg13, HW_arg21⟩
    sl_exec
    sl_step
    sl_close

/-- The pieces of one trip, without the proof. -/
abbrev tripL_k0_t1 (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (k : Fin k0_t1_loop.trips) (f_arg21 : BufTy.Contents (Elt F) a21.view.ty) : List (View.Piece (Elt F) S256x5120 .fp8e4m3) × List (View.Piece (Elt F) S32x128 .f32) :=
  ((trip_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 k).1 f_arg21, (trip_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 k).2.1 f_arg21)

/-- One more trip: its pieces in front of those before. -/
@[irreducible] def pb_k0_t1Step (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg21 : BufTy.Contents (Elt F) a21.view.ty) (k : ℕ) (prev : List (View.Piece (Elt F) S256x5120 .fp8e4m3) × List (View.Piece (Elt F) S32x128 .f32)) : List (View.Piece (Elt F) S256x5120 .fp8e4m3) × List (View.Piece (Elt F) S32x128 .f32) :=
  if h : k < k0_t1_loop.trips then
    ((tripL_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 ⟨k, h⟩ (a21.view.writes (Elt F) G_arg21 prev.2)).1 ++ prev.1, (tripL_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 ⟨k, h⟩ (a21.view.writes (Elt F) G_arg21 prev.2)).2 ++ prev.2)
  else prev

/-- The pieces of the trips before trip `k`, the latest first. -/
def pb_k0_t1 (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg21 : BufTy.Contents (Elt F) a21.view.ty) : ℕ → List (View.Piece (Elt F) S256x5120 .fp8e4m3) × List (View.Piece (Elt F) S32x128 .f32)
  | 0 => ([], [])
  | k + 1 => pb_k0_t1Step 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k (pb_k0_t1 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k)

/-- The pieces after one more trip. -/
theorem pb_k0_t1_succ (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg21 : BufTy.Contents (Elt F) a21.view.ty) (k : Fin k0_t1_loop.trips) :
    pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 (k.val + 1)
      = ((tripL_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 k (a21.view.writes (Elt F) G_arg21 (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k.val).2)).1 ++ (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k.val).1, (tripL_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 k (a21.view.writes (Elt F) G_arg21 (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k.val).2)).2 ++ (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k.val).2) := by
  rw [pb_k0_t1.eq_2]; unfold pb_k0_t1Step; exact dif_pos k.isLt

/-- What holds before trip `k`: the inputs are unchanged and the written buffers hold the pieces so far. -/
abbrev inv_k0_t1 (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg13 : BufTy.Contents (Elt F) a13.view.ty) (G_arg21 : BufTy.Contents (Elt F) a21.view.ty) (k : ℕ) (_u : PUnit) : sProp 𝕄G :=
  iprop((a6.view.loc (c : Thread nD τ) ↦[a6.view.set]{fullShare} X_arg6) ∗ (a7.view.loc (c : Thread nD τ) ↦[a7.view.set]{fullShare} X_arg7) ∗ (∃ f, (a13.view.loc (c : Thread nD τ) ↦[a13.view.set]{fullShare} f) ∗ ⌜f = a13.view.writes (Elt F) G_arg13 (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k).1⌝) ∗ (∃ f, (a21.view.loc (c : Thread nD τ) ↦[a21.view.set]{fullShare} f) ∗ ⌜f = a21.view.writes (Elt F) G_arg21 (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k).2⌝))

set_option warn.classDefReducibility false in
/-- The loop by its invariant. -/
@[sl_loop] def loopInv_k0_t1 (𝒱 : Variants) (c : Dev nD) (bd : Option 𝒱.V) (E : Set ℕ) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg13 : BufTy.Contents (Elt F) a13.view.ty) (G_arg21 : BufTy.Contents (Elt F) a21.view.ty) :
    LoopInvTy_k0_t1 (F := F) Unit ℕ (UR sig nD τ) ℕ 𝒱 c bd E i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 where
  inv := inv_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg13 G_arg21
  step k acc := by
    iintro ⟨HR_arg6, HR_arg7, ⟨%f_arg13, HW_arg13, %h_arg13⟩, ⟨%f_arg21, HW_arg21, %h_arg21⟩⟩
    iapply (wp_wand_r Idealize.ShloMosaic.frame (wpE (defs₀ (F := F)) 𝒱 (c : Thread nD τ) bd) E)
    isplitl [HR_arg6 HR_arg7 HW_arg13 HW_arg21]
    · iapply ((trip_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 k).2.2 E f_arg13 f_arg21)
      isplitl [HR_arg6]; · iexact HR_arg6
      isplitl [HR_arg7]; · iexact HR_arg7
      isplitl [HW_arg13]; · iexact HW_arg13
      iexact HW_arg21
    · iintro %_ ⟨HR_arg6, HR_arg7, HW_arg13, HW_arg21⟩
      isplitl [HR_arg6]; · iexact HR_arg6
      isplitl [HR_arg7]; · iexact HR_arg7
      rw [pb_k0_t1_succ]
      isplitl [HW_arg13]
      · iexists _; isplitl [HW_arg13]; · iexact HW_arg13
        ipureintro; rw [h_arg21, h_arg13, ← View.writes_append]
      iexists _; isplitl [HW_arg21]; · iexact HW_arg21
      ipureintro; rw [h_arg21, ← View.writes_append]

end Cert.QkvIdeal.Gen

end
-- ==== Proof.QkvIdealRuns.lean ====
module

public import proofs.«01_k».proof.Proof.QkvIdealLoops
public import proofs.«01_k».proof.Proof.Gen.QkvIdeal.Frame

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body is at the first grid point. -/
abbrev cond0_0 (i : grid0.Coords) : Prop := (Scalar.cmpi .ne (Scalar.extui (Scalar.cmpi .eq (BitVec.ofNat 32 (i 0).val) 0#32)) 0#32) = 1#1
/-- That condition by the number of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The body is at the last grid point. -/
abbrev cond0_1 (i : grid0.Coords) : Prop := k0_cond2 i = 1#1
/-- That condition by the number of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-- Window 0 is used at this point. -/
theorem liveAt0_0 : ∀ t : Fin cfg0.N, cfg0.idle 0 (grid0.coords t) = false := fun _ => rfl
/-- Window 1 is used at this point. -/
theorem liveAt0_1 : ∀ t : Fin cfg0.N, cfg0.idle 1 (grid0.coords t) = false := fun _ => rfl
/-- Window 2 is used at this point. -/
theorem liveAt0_2 : ∀ t : Fin cfg0.N, cfg0.idle 2 (grid0.coords t) = false := fun _ => rfl
/-- Window 3 is used at this point. -/
theorem liveAt0_3 : ∀ t : Fin cfg0.N, cfg0.idle 3 (grid0.coords t) = false := fun _ => rfl
/-- Window 4 is used at this point. -/
theorem liveAt0_4 : ∀ t : Fin cfg0.N, cfg0.idle 4 (grid0.coords t) = false := fun _ => rfl
/-- Window 5 is used at this point. -/
theorem liveAt0_5 : ∀ t : Fin cfg0.N, cfg0.idle 5 (grid0.coords t) = false := fun _ => rfl
/-- Window 6 is used at this point. -/
theorem liveAt0_6 : ∀ t : Fin cfg0.N, cfg0.idle 6 (grid0.coords t) = false := fun _ => rfl
/-- Window 7 is used at this point. -/
theorem liveAt0_7 : ∀ t : Fin cfg0.N, cfg0.idle 7 (grid0.coords t) = false := fun _ => rfl
/-- Window 8 is used at this point. -/
theorem liveAt0_8 : ∀ t : Fin cfg0.N, cfg0.idle 8 (grid0.coords t) = false := fun _ => rfl
/-- Window 9 is used at this point. -/
theorem liveAt0_9 : ∀ t : Fin cfg0.N, cfg0.idle 9 (grid0.coords t) = false := fun _ => rfl
/-- Window 10 is used at this point. -/
theorem liveAt0_10 : ∀ t : Fin cfg0.N, cfg0.idle 10 (grid0.coords t) = false := fun _ => rfl
/-- Window 11 is used at this point. -/
theorem liveAt0_11 : ∀ t : Fin cfg0.N, cfg0.idle 11 (grid0.coords t) = false := fun _ => rfl
/-- Window 12 is used at this point. -/
theorem liveAt0_12 : ∀ t : Fin cfg0.N, cfg0.idle 12 (grid0.coords t) = false := fun _ => rfl
/-- Window 13 is used at this point. -/
theorem liveAt0_13 : ∀ t : Fin cfg0.N, cfg0.idle 13 (grid0.coords t) = false := fun _ => rfl
/-- Window 14 is used at this point. -/
theorem liveAt0_14 : ∀ t : Fin cfg0.N, cfg0.idle 14 (grid0.coords t) = false := fun _ => rfl
/-- Window 15 is used at this point. -/
theorem liveAt0_15 : ∀ t : Fin cfg0.N, cfg0.idle 15 (grid0.coords t) = false := fun _ => rfl
/-- Window 16 is not used at this point. -/
theorem idleAt0_16_A : ∀ t : Fin cfg0.N, cond0_0 (grid0.coords t) → ¬cond0_1 (grid0.coords t) → cfg0.idle 16 (grid0.coords t) = true := by decide +kernel
/-- The block of window 16 is not written back at this point. -/
theorem noFlush0_16_A : ∀ t : Fin cfg0.N, cond0_0 (grid0.coords t) → ¬cond0_1 (grid0.coords t) → (cfg0.win 16).flush t = false := by decide +kernel
/-- Window 16 is not used at this point. -/
theorem idleAt0_16_B : ∀ t : Fin cfg0.N, ¬cond0_0 (grid0.coords t) → ¬cond0_1 (grid0.coords t) → cfg0.idle 16 (grid0.coords t) = true := by decide +kernel
/-- The block of window 16 is not written back at this point. -/
theorem noFlush0_16_B : ∀ t : Fin cfg0.N, ¬cond0_0 (grid0.coords t) → ¬cond0_1 (grid0.coords t) → (cfg0.win 16).flush t = false := by decide +kernel
/-- Window 16 is used at this point. -/
theorem liveAt0_16_C : ∀ t : Fin cfg0.N, ¬cond0_0 (grid0.coords t) → cond0_1 (grid0.coords t) → cfg0.idle 16 (grid0.coords t) = false := by decide +kernel
/-- Window 17 is not used at this point. -/
theorem idleAt0_17_A : ∀ t : Fin cfg0.N, cond0_0 (grid0.coords t) → ¬cond0_1 (grid0.coords t) → cfg0.idle 17 (grid0.coords t) = true := by decide +kernel
/-- The block of window 17 is not written back at this point. -/
theorem noFlush0_17_A : ∀ t : Fin cfg0.N, cond0_0 (grid0.coords t) → ¬cond0_1 (grid0.coords t) → (cfg0.win 17).flush t = false := by decide +kernel
/-- Window 17 is not used at this point. -/
theorem idleAt0_17_B : ∀ t : Fin cfg0.N, ¬cond0_0 (grid0.coords t) → ¬cond0_1 (grid0.coords t) → cfg0.idle 17 (grid0.coords t) = true := by decide +kernel
/-- The block of window 17 is not written back at this point. -/
theorem noFlush0_17_B : ∀ t : Fin cfg0.N, ¬cond0_0 (grid0.coords t) → ¬cond0_1 (grid0.coords t) → (cfg0.win 17).flush t = false := by decide +kernel
/-- Window 17 is used at this point. -/
theorem liveAt0_17_C : ∀ t : Fin cfg0.N, ¬cond0_0 (grid0.coords t) → cond0_1 (grid0.coords t) → cfg0.idle 17 (grid0.coords t) = false := by decide +kernel
/-- Window 18 is not used at this point. -/
theorem idleAt0_18_A : ∀ t : Fin cfg0.N, cond0_0 (grid0.coords t) → ¬cond0_1 (grid0.coords t) → cfg0.idle 18 (grid0.coords t) = true := by decide +kernel
/-- The block of window 18 is not written back at this point. -/
theorem noFlush0_18_A : ∀ t : Fin cfg0.N, cond0_0 (grid0.coords t) → ¬cond0_1 (grid0.coords t) → (cfg0.win 18).flush t = false := by decide +kernel
/-- Window 18 is not used at this point. -/
theorem idleAt0_18_B : ∀ t : Fin cfg0.N, ¬cond0_0 (grid0.coords t) → ¬cond0_1 (grid0.coords t) → cfg0.idle 18 (grid0.coords t) = true := by decide +kernel
/-- The block of window 18 is not written back at this point. -/
theorem noFlush0_18_B : ∀ t : Fin cfg0.N, ¬cond0_0 (grid0.coords t) → ¬cond0_1 (grid0.coords t) → (cfg0.win 18).flush t = false := by decide +kernel
/-- Window 18 is used at this point. -/
theorem liveAt0_18_C : ∀ t : Fin cfg0.N, ¬cond0_0 (grid0.coords t) → cond0_1 (grid0.coords t) → cfg0.idle 18 (grid0.coords t) = false := by decide +kernel
/-- Window 19 is not used at this point. -/
theorem idleAt0_19_A : ∀ t : Fin cfg0.N, cond0_0 (grid0.coords t) → ¬cond0_1 (grid0.coords t) → cfg0.idle 19 (grid0.coords t) = true := by decide +kernel
/-- The block of window 19 is not written back at this point. -/
theorem noFlush0_19_A : ∀ t : Fin cfg0.N, cond0_0 (grid0.coords t) → ¬cond0_1 (grid0.coords t) → (cfg0.win 19).flush t = false := by decide +kernel
/-- Window 19 is not used at this point. -/
theorem idleAt0_19_B : ∀ t : Fin cfg0.N, ¬cond0_0 (grid0.coords t) → ¬cond0_1 (grid0.coords t) → cfg0.idle 19 (grid0.coords t) = true := by decide +kernel
/-- The block of window 19 is not written back at this point. -/
theorem noFlush0_19_B : ∀ t : Fin cfg0.N, ¬cond0_0 (grid0.coords t) → ¬cond0_1 (grid0.coords t) → (cfg0.win 19).flush t = false := by decide +kernel
/-- Window 19 is used at this point. -/
theorem liveAt0_19_C : ∀ t : Fin cfg0.N, ¬cond0_0 (grid0.coords t) → cond0_1 (grid0.coords t) → cfg0.idle 19 (grid0.coords t) = false := by decide +kernel

/-- One staging buffer of window 12. -/
abbrev VO0_12 : View sig .tc .vmem S256x5120 .fp8e4m3 := (Memref.whole cc0_stg12_0 : Memref sig .tc .vmem S256x5120 .fp8e4m3).view
/-- One staging buffer of window 13. -/
abbrev VO0_13 : View sig .tc .vmem S1x10x256x128 .fp8e4m3 := (Memref.whole cc0_stg13_0 : Memref sig .tc .vmem S1x10x256x128 .fp8e4m3).view
/-- One staging buffer of window 14. -/
abbrev VO0_14 : View sig .tc .vmem S1x2x256x128 .fp8e4m3 := (Memref.whole cc0_stg14_0 : Memref sig .tc .vmem S1x2x256x128 .fp8e4m3).view
/-- One staging buffer of window 15. -/
abbrev VO0_15 : View sig .tc .vmem S1x2x256x128 .fp8e4m3 := (Memref.whole cc0_stg15_0 : Memref sig .tc .vmem S1x2x256x128 .fp8e4m3).view
/-- One staging buffer of window 16. -/
abbrev VO0_16 : View sig .tc .smem S1 .f32 := (Memref.whole cc0_stg16_0 : Memref sig .tc .smem S1 .f32).view
/-- One staging buffer of window 17. -/
abbrev VO0_17 : View sig .tc .smem S10 .f32 := (Memref.whole cc0_stg17_0 : Memref sig .tc .smem S10 .f32).view
/-- One staging buffer of window 18. -/
abbrev VO0_18 : View sig .tc .smem S2 .f32 := (Memref.whole cc0_stg18_0 : Memref sig .tc .smem S2 .f32).view
/-- One staging buffer of window 19. -/
abbrev VO0_19 : View sig .tc .smem S2 .f32 := (Memref.whole cc0_stg19_0 : Memref sig .tc .smem S2 .f32).view
/-- The staging buffer of window 0 at point `t`. -/
abbrev ms0_0 (t : Fin cfg0.N) : Memref sig .tc .smem S1 .f32 := win0_0.stage (cfg0.slots t 0)
/-- It is a whole buffer. -/
abbrev hs0_0 (t : Fin cfg0.N) : (ms0_0 t).IsWhole := hstage0_0 ((cfg0.slots t 0).cast nbuf0_0)
/-- The staging buffer of window 1 at point `t`. -/
abbrev ms0_1 (t : Fin cfg0.N) : Memref sig .tc .smem S10 .f32 := win0_1.stage (cfg0.slots t 1)
/-- It is a whole buffer. -/
abbrev hs0_1 (t : Fin cfg0.N) : (ms0_1 t).IsWhole := hstage0_1 ((cfg0.slots t 1).cast nbuf0_1)
/-- The staging buffer of window 2 at point `t`. -/
abbrev ms0_2 (t : Fin cfg0.N) : Memref sig .tc .smem S2 .f32 := win0_2.stage (cfg0.slots t 2)
/-- It is a whole buffer. -/
abbrev hs0_2 (t : Fin cfg0.N) : (ms0_2 t).IsWhole := hstage0_2 ((cfg0.slots t 2).cast nbuf0_2)
/-- The staging buffer of window 3 at point `t`. -/
abbrev ms0_3 (t : Fin cfg0.N) : Memref sig .tc .smem S2 .f32 := win0_3.stage (cfg0.slots t 3)
/-- It is a whole buffer. -/
abbrev hs0_3 (t : Fin cfg0.N) : (ms0_3 t).IsWhole := hstage0_3 ((cfg0.slots t 3).cast nbuf0_3)
/-- The staging buffer of window 4 at point `t`. -/
abbrev ms0_4 (t : Fin cfg0.N) : Memref sig .tc .smem S1 .f32 := win0_4.stage (cfg0.slots t 4)
/-- It is a whole buffer. -/
abbrev hs0_4 (t : Fin cfg0.N) : (ms0_4 t).IsWhole := hstage0_4 ((cfg0.slots t 4).cast nbuf0_4)
/-- The staging buffer of window 5 at point `t`. -/
abbrev ms0_5 (t : Fin cfg0.N) : Memref sig .tc .vmem S256x5120 .bf16 := win0_5.stage (cfg0.slots t 5)
/-- It is a whole buffer. -/
abbrev hs0_5 (t : Fin cfg0.N) : (ms0_5 t).IsWhole := hstage0_5 ((cfg0.slots t 5).cast nbuf0_5)
/-- The staging buffer of window 6 at point `t`. -/
abbrev ms0_6 (t : Fin cfg0.N) : Memref sig .tc .vmem S1x5120 .f32 := win0_6.stage (cfg0.slots t 6)
/-- It is a whole buffer. -/
abbrev hs0_6 (t : Fin cfg0.N) : (ms0_6 t).IsWhole := hstage0_6 ((cfg0.slots t 6).cast nbuf0_6)
/-- The staging buffer of window 7 at point `t`. -/
abbrev ms0_7 (t : Fin cfg0.N) : Memref sig .tc .vmem S5120x1792 .fp8e4m3 := win0_7.stage (cfg0.slots t 7)
/-- It is a whole buffer. -/
abbrev hs0_7 (t : Fin cfg0.N) : (ms0_7 t).IsWhole := hstage0_7 ((cfg0.slots t 7).cast nbuf0_7)
/-- The staging buffer of window 8 at point `t`. -/
abbrev ms0_8 (t : Fin cfg0.N) : Memref sig .tc .vmem S1x128 .f32 := win0_8.stage (cfg0.slots t 8)
/-- It is a whole buffer. -/
abbrev hs0_8 (t : Fin cfg0.N) : (ms0_8 t).IsWhole := hstage0_8 ((cfg0.slots t 8).cast nbuf0_8)
/-- The staging buffer of window 9 at point `t`. -/
abbrev ms0_9 (t : Fin cfg0.N) : Memref sig .tc .vmem S1x128 .f32 := win0_9.stage (cfg0.slots t 9)
/-- It is a whole buffer. -/
abbrev hs0_9 (t : Fin cfg0.N) : (ms0_9 t).IsWhole := hstage0_9 ((cfg0.slots t 9).cast nbuf0_9)
/-- The staging buffer of window 10 at point `t`. -/
abbrev ms0_10 (t : Fin cfg0.N) : Memref sig .tc .vmem S1x64x256 .f32 := win0_10.stage (cfg0.slots t 10)
/-- It is a whole buffer. -/
abbrev hs0_10 (t : Fin cfg0.N) : (ms0_10 t).IsWhole := hstage0_10 ((cfg0.slots t 10).cast nbuf0_10)
/-- The staging buffer of window 11 at point `t`. -/
abbrev ms0_11 (t : Fin cfg0.N) : Memref sig .tc .vmem S1x64x256 .f32 := win0_11.stage (cfg0.slots t 11)
/-- It is a whole buffer. -/
abbrev hs0_11 (t : Fin cfg0.N) : (ms0_11 t).IsWhole := hstage0_11 ((cfg0.slots t 11).cast nbuf0_11)
/-- The staging buffer of window 12 at point `t`. -/
abbrev ms0_12 (t : Fin cfg0.N) : Memref sig .tc .vmem S256x5120 .fp8e4m3 := win0_12.stage (cfg0.slots t 12)
/-- It is a whole buffer. -/
abbrev hs0_12 (t : Fin cfg0.N) : (ms0_12 t).IsWhole := hstage0_12 ((cfg0.slots t 12).cast nbuf0_12)
/-- The staging buffer of window 13 at point `t`. -/
abbrev ms0_13 (t : Fin cfg0.N) : Memref sig .tc .vmem S1x10x256x128 .fp8e4m3 := win0_13.stage (cfg0.slots t 13)
/-- It is a whole buffer. -/
abbrev hs0_13 (t : Fin cfg0.N) : (ms0_13 t).IsWhole := hstage0_13 ((cfg0.slots t 13).cast nbuf0_13)
/-- The staging buffer of window 14 at point `t`. -/
abbrev ms0_14 (t : Fin cfg0.N) : Memref sig .tc .vmem S1x2x256x128 .fp8e4m3 := win0_14.stage (cfg0.slots t 14)
/-- It is a whole buffer. -/
abbrev hs0_14 (t : Fin cfg0.N) : (ms0_14 t).IsWhole := hstage0_14 ((cfg0.slots t 14).cast nbuf0_14)
/-- The staging buffer of window 15 at point `t`. -/
abbrev ms0_15 (t : Fin cfg0.N) : Memref sig .tc .vmem S1x2x256x128 .fp8e4m3 := win0_15.stage (cfg0.slots t 15)
/-- It is a whole buffer. -/
abbrev hs0_15 (t : Fin cfg0.N) : (ms0_15 t).IsWhole := hstage0_15 ((cfg0.slots t 15).cast nbuf0_15)
/-- The staging buffer of window 16 at point `t`. -/
abbrev ms0_16 (t : Fin cfg0.N) : Memref sig .tc .smem S1 .f32 := win0_16.stage (cfg0.slots t 16)
/-- It is a whole buffer. -/
abbrev hs0_16 (t : Fin cfg0.N) : (ms0_16 t).IsWhole := hstage0_16 ((cfg0.slots t 16).cast nbuf0_16)
/-- The staging buffer of window 17 at point `t`. -/
abbrev ms0_17 (t : Fin cfg0.N) : Memref sig .tc .smem S10 .f32 := win0_17.stage (cfg0.slots t 17)
/-- It is a whole buffer. -/
abbrev hs0_17 (t : Fin cfg0.N) : (ms0_17 t).IsWhole := hstage0_17 ((cfg0.slots t 17).cast nbuf0_17)
/-- The staging buffer of window 18 at point `t`. -/
abbrev ms0_18 (t : Fin cfg0.N) : Memref sig .tc .smem S2 .f32 := win0_18.stage (cfg0.slots t 18)
/-- It is a whole buffer. -/
abbrev hs0_18 (t : Fin cfg0.N) : (ms0_18 t).IsWhole := hstage0_18 ((cfg0.slots t 18).cast nbuf0_18)
/-- The staging buffer of window 19 at point `t`. -/
abbrev ms0_19 (t : Fin cfg0.N) : Memref sig .tc .smem S2 .f32 := win0_19.stage (cfg0.slots t 19)
/-- It is a whole buffer. -/
abbrev hs0_19 (t : Fin cfg0.N) : (ms0_19 t).IsWhole := hstage0_19 ((cfg0.slots t 19).cast nbuf0_19)
/-- A buffer kept between grid points. -/
abbrev scM0_0 : Memref sig .tc .vmem S32x128 .f32 := Memref.whole cc0_scratch0
/-- A buffer kept between grid points. -/
abbrev scM0_1 : Memref sig .tc .vmem S16x128 .f32 := Memref.whole cc0_scratch1
/-- The view of that buffer. -/
abbrev VS0_0 : View sig .tc .vmem S32x128 .f32 := scM0_0.view
/-- The view of that buffer. -/
abbrev VS0_1 : View sig .tc .vmem S16x128 .f32 := scM0_1.view

/-- The buffers the kernel keeps between grid points, held at any contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What is read back of the codes the row loop stored depends on its pieces alone. -/
theorem codesRead : ∀ (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg21 : BufTy.Contents (Elt F) a21.view.ty) (hrdF : BufTy.Contents (Elt F) a13.view.ty) (hrdB : LoadRect S256x5120), a13.view.readAt (Elt F) hrdB (a13.view.writes (Elt F) hrdF (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 (Scf.trips k0_t1_loop.lb k0_t1_loop.ub k0_t1_loop.st)).1) = a13.view.readCov (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 (Scf.trips k0_t1_loop.lb k0_t1_loop.ub k0_t1_loop.st)).1 hrdB :=
  fun 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 hrdF hrdB => View.readAt_writes_of_cover _ hrdF _ hrdB (fun hrdJ => View.cover_of_tiledL (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 (Scf.trips k0_t1_loop.lb k0_t1_loop.ub k0_t1_loop.st)).1 S32x5120.size (by sl_kernel_rfl) (hrdB.idx hrdJ))

end Cert.QkvIdeal.Gen

end
-- ==== Proof.QkvIdealRunA.lean ====
module

public import proofs.«01_k».proof.Proof.QkvIdealRuns

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.proofsInPublic true in
set_option maxHeartbeats 1000000 in
/-- The kernel body at the first point: the pieces it stores into every block, and the proof that it runs and stores them. -/
noncomputable def kernelRun0_A (c : Dev nD) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (hc0 : cond0_0 i) (hc1 : ¬cond0_1 i)
    (x0 : Vec F S1 .f32) (x1 : Vec F S10 .f32) (x2 : Vec F S2 .f32) (x3 : Vec F S2 .f32) (x4 : Vec F S1 .f32) (x5 : Vec F S256x5120 .bf16) (x6 : Vec F S1x5120 .f32) (x7 : Vec F S5120x1792 .fp8e4m3) (x8 : Vec F S1x128 .f32) (x9 : Vec F S1x128 .f32) (x10 : Vec F S1x64x256 .f32) (x11 : Vec F S1x64x256 .f32) :
    Σ' (L12 : List (View.Piece (Elt F) S256x5120 .fp8e4m3)), Σ' (L13 : List (View.Piece (Elt F) S1x10x256x128 .fp8e4m3)), Σ' (L14 : List (View.Piece (Elt F) S1x2x256x128 .fp8e4m3)), Σ' (L15 : List (View.Piece (Elt F) S1x2x256x128 .fp8e4m3)), Σ' (L16 : List (View.Piece (Elt F) S1 .f32)), Σ' (L17 : List (View.Piece (Elt F) S10 .f32)), Σ' (L18 : List (View.Piece (Elt F) S2 .f32)), Σ' (L19 : List (View.Piece (Elt F) S2 .f32)), Σ' (LS0 : List (View.Piece (Elt F) S32x128 .f32)), { LS1 : List (View.Piece (Elt F) S16x128 .f32) //
      ∀ (xi16 : Vec F S1 .f32) (xi17 : Vec F S10 .f32) (xi18 : Vec F S2 .f32) (xi19 : Vec F S2 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ owns (c : Thread nD τ) a17 fullShare xi16 ∗ owns (c : Thread nD τ) a18 fullShare xi17 ∗ owns (c : Thread nD τ) a19 fullShare xi18 ∗ owns (c : Thread nD τ) a20 fullShare xi19 ∗ (∃ d, owns (c : Thread nD τ) a21 fullShare d) ∗ (∃ d, owns (c : Thread nD τ) a22 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ f, a13.view.loc (c : Thread nD τ) ↦[a13.view.set]{fullShare} a13.view.writes (Elt F) f L12) ∗ (∃ f, a14.view.loc (c : Thread nD τ) ↦[a14.view.set]{fullShare} a14.view.writes (Elt F) f L13) ∗ (∃ f, a15.view.loc (c : Thread nD τ) ↦[a15.view.set]{fullShare} a15.view.writes (Elt F) f L14) ∗ (∃ f, a16.view.loc (c : Thread nD τ) ↦[a16.view.set]{fullShare} a16.view.writes (Elt F) f L15) ∗ owns (c : Thread nD τ) a17 fullShare xi16 ∗ owns (c : Thread nD τ) a18 fullShare xi17 ∗ owns (c : Thread nD τ) a19 fullShare xi18 ∗ owns (c : Thread nD τ) a20 fullShare xi19 ∗ (∃ f, a21.view.loc (c : Thread nD τ) ↦[a21.view.set]{fullShare} a21.view.writes (Elt F) f LS0) ∗ (∃ f, a22.view.loc (c : Thread nD τ) ↦[a22.view.set]{fullShare} a22.view.writes (Elt F) f LS1)) -∗ K ⟨⟩))
          ⊢ wp frame (wpE (defs₀ (F := F)) Variants.none c none) E (cc0_norm_qkv i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22) K } := by
  refine ⟨?_, ?_, ?_, ?_, [], [], [], [], ?_, ?_, fun xi16 xi17 xi18 xi19 E K => ?run⟩
  case run =>
    simp only [cc0_norm_qkv_eq_skeleton]; unfold cc0_norm_qkv_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%ds0, %fs0, -, HS0⟩, ⟨%ds1, %fs1, -, HS1⟩, Hk⟩
    obtain rfl := b1.eq_unread hf0; obtain rfl := b2.eq_unread hf1; obtain rfl := b3.eq_unread hf2; obtain rfl := b4.eq_unread hf3; obtain rfl := b5.eq_unread hf4; obtain rfl := b6.eq_unread hf5; obtain rfl := b7.eq_unread hf6; obtain rfl := b8.eq_unread hf7; obtain rfl := b9.eq_unread hf8; obtain rfl := b10.eq_unread hf9; obtain rfl := b11.eq_unread hf10; obtain rfl := b12.eq_unread hf11; obtain rfl := b17.eq_unread hf16; obtain rfl := b18.eq_unread hf17; obtain rfl := b19.eq_unread hf18; obtain rfl := b20.eq_unread hf19
    have hrd0 := codesRead (F := F)
    sl_exec (disch := first | sl_exact hc0 | sl_exact hc1)
    sl_step
    iapply Hk
    isplitl [H0]
    · iexists _; isplitr; · ipureintro; exact b1.read_unread _
      iexact H0
    isplitl [H1]
    · iexists _; isplitr; · ipureintro; exact b2.read_unread _
      iexact H1
    isplitl [H2]
    · iexists _; isplitr; · ipureintro; exact b3.read_unread _
      iexact H2
    isplitl [H3]
    · iexists _; isplitr; · ipureintro; exact b4.read_unread _
      iexact H3
    isplitl [H4]
    · iexists _; isplitr; · ipureintro; exact b5.read_unread _
      iexact H4
    isplitl [H5]
    · iexists _; isplitr; · ipureintro; exact b6.read_unread _
      iexact H5
    isplitl [H6]
    · iexists _; isplitr; · ipureintro; exact b7.read_unread _
      iexact H6
    isplitl [H7]
    · iexists _; isplitr; · ipureintro; exact b8.read_unread _
      iexact H7
    isplitl [H8]
    · iexists _; isplitr; · ipureintro; exact b9.read_unread _
      iexact H8
    isplitl [H9]
    · iexists _; isplitr; · ipureintro; exact b10.read_unread _
      iexact H9
    isplitl [H10]
    · iexists _; isplitr; · ipureintro; exact b11.read_unread _
      iexact H10
    isplitl [H11]
    · iexists _; isplitr; · ipureintro; exact b12.read_unread _
      iexact H11
    isplitl [H12]; · iexists _; iexact H12
    isplitl [H13]; · iexists _; iexact H13
    isplitl [H14]; · iexists _; iexact H14
    isplitl [H15]; · iexists _; iexact H15
    isplitl [H16]
    · iexists _; isplitr; · ipureintro; exact b17.read_unread _
      iexact H16
    isplitl [H17]
    · iexists _; isplitr; · ipureintro; exact b18.read_unread _
      iexact H17
    isplitl [H18]
    · iexists _; isplitr; · ipureintro; exact b19.read_unread _
      iexact H18
    isplitl [H19]
    · iexists _; isplitr; · ipureintro; exact b20.read_unread _
      iexact H19
    isplitl [HS0]; · iexists _; iexact HS0
    iexists _; iexact HS1

end Cert.QkvIdeal.Gen

end
-- ==== Proof.QkvIdealRunB.lean ====
module

public import proofs.«01_k».proof.Proof.QkvIdealRunA

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.proofsInPublic true in
set_option maxHeartbeats 1000000 in
/-- The kernel body at the points between: the pieces it stores into every block, and the proof that it runs and stores them. -/
noncomputable def kernelRun0_B (c : Dev nD) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (hc0 : ¬cond0_0 i) (hc1 : ¬cond0_1 i)
    (x0 : Vec F S1 .f32) (x1 : Vec F S10 .f32) (x2 : Vec F S2 .f32) (x3 : Vec F S2 .f32) (x4 : Vec F S1 .f32) (x5 : Vec F S256x5120 .bf16) (x6 : Vec F S1x5120 .f32) (x7 : Vec F S5120x1792 .fp8e4m3) (x8 : Vec F S1x128 .f32) (x9 : Vec F S1x128 .f32) (x10 : Vec F S1x64x256 .f32) (x11 : Vec F S1x64x256 .f32) (xs0 : Vec F S32x128 .f32) (xs1 : Vec F S16x128 .f32) :
    Σ' (L12 : List (View.Piece (Elt F) S256x5120 .fp8e4m3)), Σ' (L13 : List (View.Piece (Elt F) S1x10x256x128 .fp8e4m3)), Σ' (L14 : List (View.Piece (Elt F) S1x2x256x128 .fp8e4m3)), Σ' (L15 : List (View.Piece (Elt F) S1x2x256x128 .fp8e4m3)), Σ' (L16 : List (View.Piece (Elt F) S1 .f32)), Σ' (L17 : List (View.Piece (Elt F) S10 .f32)), Σ' (L18 : List (View.Piece (Elt F) S2 .f32)), Σ' (L19 : List (View.Piece (Elt F) S2 .f32)), Σ' (LS0 : List (View.Piece (Elt F) S32x128 .f32)), { LS1 : List (View.Piece (Elt F) S16x128 .f32) //
      ∀ (xi16 : Vec F S1 .f32) (xi17 : Vec F S10 .f32) (xi18 : Vec F S2 .f32) (xi19 : Vec F S2 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ owns (c : Thread nD τ) a17 fullShare xi16 ∗ owns (c : Thread nD τ) a18 fullShare xi17 ∗ owns (c : Thread nD τ) a19 fullShare xi18 ∗ owns (c : Thread nD τ) a20 fullShare xi19 ∗ owns (c : Thread nD τ) a21 fullShare xs0 ∗ owns (c : Thread nD τ) a22 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ f, a13.view.loc (c : Thread nD τ) ↦[a13.view.set]{fullShare} a13.view.writes (Elt F) f L12) ∗ (∃ f, a14.view.loc (c : Thread nD τ) ↦[a14.view.set]{fullShare} a14.view.writes (Elt F) f L13) ∗ (∃ f, a15.view.loc (c : Thread nD τ) ↦[a15.view.set]{fullShare} a15.view.writes (Elt F) f L14) ∗ (∃ f, a16.view.loc (c : Thread nD τ) ↦[a16.view.set]{fullShare} a16.view.writes (Elt F) f L15) ∗ owns (c : Thread nD τ) a17 fullShare xi16 ∗ owns (c : Thread nD τ) a18 fullShare xi17 ∗ owns (c : Thread nD τ) a19 fullShare xi18 ∗ owns (c : Thread nD τ) a20 fullShare xi19 ∗ (∃ f, a21.view.loc (c : Thread nD τ) ↦[a21.view.set]{fullShare} a21.view.writes (Elt F) f LS0) ∗ (a22.view.loc (c : Thread nD τ) ↦[a22.view.set]{fullShare} a22.view.writes (Elt F) (b22.unread xs1) LS1)) -∗ K ⟨⟩))
          ⊢ wp frame (wpE (defs₀ (F := F)) Variants.none c none) E (cc0_norm_qkv i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22) K } := by
  refine ⟨?_, ?_, ?_, ?_, [], [], [], [], ?_, ?_, fun xi16 xi17 xi18 xi19 E K => ?run⟩
  case run =>
    simp only [cc0_norm_qkv_eq_skeleton]; unfold cc0_norm_qkv_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%fs0, %hfs0, HS0⟩, ⟨%fs1, %hfs1, HS1⟩, Hk⟩
    obtain rfl := b1.eq_unread hf0; obtain rfl := b2.eq_unread hf1; obtain rfl := b3.eq_unread hf2; obtain rfl := b4.eq_unread hf3; obtain rfl := b5.eq_unread hf4; obtain rfl := b6.eq_unread hf5; obtain rfl := b7.eq_unread hf6; obtain rfl := b8.eq_unread hf7; obtain rfl := b9.eq_unread hf8; obtain rfl := b10.eq_unread hf9; obtain rfl := b11.eq_unread hf10; obtain rfl := b12.eq_unread hf11; obtain rfl := b17.eq_unread hf16; obtain rfl := b18.eq_unread hf17; obtain rfl := b19.eq_unread hf18; obtain rfl := b20.eq_unread hf19; obtain rfl := b21.eq_unread hfs0; obtain rfl := b22.eq_unread hfs1
    have hrd0 := codesRead (F := F)
    sl_exec (disch := first | sl_exact hc0 | sl_exact hc1)
    sl_step
    iapply Hk
    isplitl [H0]
    · iexists _; isplitr; · ipureintro; exact b1.read_unread _
      iexact H0
    isplitl [H1]
    · iexists _; isplitr; · ipureintro; exact b2.read_unread _
      iexact H1
    isplitl [H2]
    · iexists _; isplitr; · ipureintro; exact b3.read_unread _
      iexact H2
    isplitl [H3]
    · iexists _; isplitr; · ipureintro; exact b4.read_unread _
      iexact H3
    isplitl [H4]
    · iexists _; isplitr; · ipureintro; exact b5.read_unread _
      iexact H4
    isplitl [H5]
    · iexists _; isplitr; · ipureintro; exact b6.read_unread _
      iexact H5
    isplitl [H6]
    · iexists _; isplitr; · ipureintro; exact b7.read_unread _
      iexact H6
    isplitl [H7]
    · iexists _; isplitr; · ipureintro; exact b8.read_unread _
      iexact H7
    isplitl [H8]
    · iexists _; isplitr; · ipureintro; exact b9.read_unread _
      iexact H8
    isplitl [H9]
    · iexists _; isplitr; · ipureintro; exact b10.read_unread _
      iexact H9
    isplitl [H10]
    · iexists _; isplitr; · ipureintro; exact b11.read_unread _
      iexact H10
    isplitl [H11]
    · iexists _; isplitr; · ipureintro; exact b12.read_unread _
      iexact H11
    isplitl [H12]; · iexists _; iexact H12
    isplitl [H13]; · iexists _; iexact H13
    isplitl [H14]; · iexists _; iexact H14
    isplitl [H15]; · iexists _; iexact H15
    isplitl [H16]
    · iexists _; isplitr; · ipureintro; exact b17.read_unread _
      iexact H16
    isplitl [H17]
    · iexists _; isplitr; · ipureintro; exact b18.read_unread _
      iexact H17
    isplitl [H18]
    · iexists _; isplitr; · ipureintro; exact b19.read_unread _
      iexact H18
    isplitl [H19]
    · iexists _; isplitr; · ipureintro; exact b20.read_unread _
      iexact H19
    isplitl [HS0]; · iexists _; iexact HS0
    iexact HS1

end Cert.QkvIdeal.Gen

end
-- ==== Proof.QkvIdealRunC.lean ====
module

public import proofs.«01_k».proof.Proof.QkvIdealRunB

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.proofsInPublic true in
set_option maxHeartbeats 1116000 in
/-- The kernel body at the last point: the pieces it stores into every block, and the proof that it runs and stores them. -/
noncomputable def kernelRun0_C (c : Dev nD) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (hc0 : ¬cond0_0 i) (hc1 : cond0_1 i)
    (x0 : Vec F S1 .f32) (x1 : Vec F S10 .f32) (x2 : Vec F S2 .f32) (x3 : Vec F S2 .f32) (x4 : Vec F S1 .f32) (x5 : Vec F S256x5120 .bf16) (x6 : Vec F S1x5120 .f32) (x7 : Vec F S5120x1792 .fp8e4m3) (x8 : Vec F S1x128 .f32) (x9 : Vec F S1x128 .f32) (x10 : Vec F S1x64x256 .f32) (x11 : Vec F S1x64x256 .f32) (xs0 : Vec F S32x128 .f32) (xs1 : Vec F S16x128 .f32) :
    Σ' (L12 : List (View.Piece (Elt F) S256x5120 .fp8e4m3)), Σ' (L13 : List (View.Piece (Elt F) S1x10x256x128 .fp8e4m3)), Σ' (L14 : List (View.Piece (Elt F) S1x2x256x128 .fp8e4m3)), Σ' (L15 : List (View.Piece (Elt F) S1x2x256x128 .fp8e4m3)), Σ' (L16 : List (View.Piece (Elt F) S1 .f32)), Σ' (L17 : List (View.Piece (Elt F) S10 .f32)), Σ' (L18 : List (View.Piece (Elt F) S2 .f32)), Σ' (L19 : List (View.Piece (Elt F) S2 .f32)), Σ' (LS0 : List (View.Piece (Elt F) S32x128 .f32)), { LS1 : List (View.Piece (Elt F) S16x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ owns (c : Thread nD τ) a21 fullShare xs0 ∗ owns (c : Thread nD τ) a22 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ f, a13.view.loc (c : Thread nD τ) ↦[a13.view.set]{fullShare} a13.view.writes (Elt F) f L12) ∗ (∃ f, a14.view.loc (c : Thread nD τ) ↦[a14.view.set]{fullShare} a14.view.writes (Elt F) f L13) ∗ (∃ f, a15.view.loc (c : Thread nD τ) ↦[a15.view.set]{fullShare} a15.view.writes (Elt F) f L14) ∗ (∃ f, a16.view.loc (c : Thread nD τ) ↦[a16.view.set]{fullShare} a16.view.writes (Elt F) f L15) ∗ (∃ f, a17.view.loc (c : Thread nD τ) ↦[a17.view.set]{fullShare} a17.view.writes (Elt F) f L16) ∗ (∃ f, a18.view.loc (c : Thread nD τ) ↦[a18.view.set]{fullShare} a18.view.writes (Elt F) f L17) ∗ (∃ f, a19.view.loc (c : Thread nD τ) ↦[a19.view.set]{fullShare} a19.view.writes (Elt F) f L18) ∗ (∃ f, a20.view.loc (c : Thread nD τ) ↦[a20.view.set]{fullShare} a20.view.writes (Elt F) f L19) ∗ (∃ f, a21.view.loc (c : Thread nD τ) ↦[a21.view.set]{fullShare} a21.view.writes (Elt F) f LS0) ∗ (a22.view.loc (c : Thread nD τ) ↦[a22.view.set]{fullShare} a22.view.writes (Elt F) (b22.unread xs1) LS1)) -∗ K ⟨⟩))
          ⊢ wp frame (wpE (defs₀ (F := F)) Variants.none c none) E (cc0_norm_qkv i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22) K } := by
  refine ⟨?_, ?_, ?_, ?_, ?_, ?_, ?_, ?_, ?_, ?_, fun E K => ?run⟩
  case run =>
    simp only [cc0_norm_qkv_eq_skeleton]; unfold cc0_norm_qkv_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, ⟨%fs1, %hfs1, HS1⟩, Hk⟩
    obtain rfl := b1.eq_unread hf0; obtain rfl := b2.eq_unread hf1; obtain rfl := b3.eq_unread hf2; obtain rfl := b4.eq_unread hf3; obtain rfl := b5.eq_unread hf4; obtain rfl := b6.eq_unread hf5; obtain rfl := b7.eq_unread hf6; obtain rfl := b8.eq_unread hf7; obtain rfl := b9.eq_unread hf8; obtain rfl := b10.eq_unread hf9; obtain rfl := b11.eq_unread hf10; obtain rfl := b12.eq_unread hf11; obtain rfl := b21.eq_unread hfs0; obtain rfl := b22.eq_unread hfs1
    have hrd0 := codesRead (F := F)
    sl_exec (disch := first | sl_exact hc0 | sl_exact hc1)
    sl_step
    iapply Hk
    isplitl [H0]
    · iexists _; isplitr; · ipureintro; exact b1.read_unread _
      iexact H0
    isplitl [H1]
    · iexists _; isplitr; · ipureintro; exact b2.read_unread _
      iexact H1
    isplitl [H2]
    · iexists _; isplitr; · ipureintro; exact b3.read_unread _
      iexact H2
    isplitl [H3]
    · iexists _; isplitr; · ipureintro; exact b4.read_unread _
      iexact H3
    isplitl [H4]
    · iexists _; isplitr; · ipureintro; exact b5.read_unread _
      iexact H4
    isplitl [H5]
    · iexists _; isplitr; · ipureintro; exact b6.read_unread _
      iexact H5
    isplitl [H6]
    · iexists _; isplitr; · ipureintro; exact b7.read_unread _
      iexact H6
    isplitl [H7]
    · iexists _; isplitr; · ipureintro; exact b8.read_unread _
      iexact H7
    isplitl [H8]
    · iexists _; isplitr; · ipureintro; exact b9.read_unread _
      iexact H8
    isplitl [H9]
    · iexists _; isplitr; · ipureintro; exact b10.read_unread _
      iexact H9
    isplitl [H10]
    · iexists _; isplitr; · ipureintro; exact b11.read_unread _
      iexact H10
    isplitl [H11]
    · iexists _; isplitr; · ipureintro; exact b12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexists _; iexact HS0
    iexact HS1

end Cert.QkvIdeal.Gen

end
-- ==== Proof.QkvIdealFrame.lean ====
module

public import proofs.«01_k».proof.Proof.QkvIdealRunC
public import Idealize.ShloMosaic.Lib.Claim

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves: the blocks of the eight results and the two buffers it keeps. -/
abbrev Outs (F : FTy → Type) : Type := Vec F S256x5120 .fp8e4m3 × Vec F S1x10x256x128 .fp8e4m3 × Vec F S1x2x256x128 .fp8e4m3 × Vec F S1x2x256x128 .fp8e4m3 × Vec F S1 .f32 × Vec F S10 .f32 × Vec F S2 .f32 × Vec F S2 .f32 × Vec F S32x128 .f32 × Vec F S16x128 .f32

/-- The body at grid point `t`, the first point. -/
abbrev runA (c : Dev nD) (t : Fin cfg0.N) (h0 : t.val % 32 = 0) (h1 : ¬t.val % 32 = 31) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The stores cover the block of result 0. -/
theorem coverA_12 (c : Dev nD) (t : Fin cfg0.N) (h0 : t.val % 32 = 0) (h1 : ¬t.val % 32 = 31) (y : S256x5120.Idx) : ∃ pc ∈ (runA m c t h0 h1).1, y ∈ pc.1.set :=
  View.cover_of_tiledL (runA m c t h0 h1).1 S32x5120.size (by sl_kernel_rfl) y

/-- The stores cover the block of result 1. -/
theorem coverA_13 (c : Dev nD) (t : Fin cfg0.N) (h0 : t.val % 32 = 0) (h1 : ¬t.val % 32 = 31) (y : S1x10x256x128.Idx) : ∃ pc ∈ (runA m c t h0 h1).2.1, y ∈ pc.1.set :=
  View.cover_of_tiledL (runA m c t h0 h1).2.1 S1x1x256x128.size (by sl_kernel_rfl) y

/-- The stores cover the block of result 2. -/
theorem coverA_14 (c : Dev nD) (t : Fin cfg0.N) (h0 : t.val % 32 = 0) (h1 : ¬t.val % 32 = 31) (y : S1x2x256x128.Idx) : ∃ pc ∈ (runA m c t h0 h1).2.2.1, y ∈ pc.1.set :=
  View.cover_of_tiledL (runA m c t h0 h1).2.2.1 S1x1x256x128.size (by sl_kernel_rfl) y

/-- The stores cover the block of result 3. -/
theorem coverA_15 (c : Dev nD) (t : Fin cfg0.N) (h0 : t.val % 32 = 0) (h1 : ¬t.val % 32 = 31) (y : S1x2x256x128.Idx) : ∃ pc ∈ (runA m c t h0 h1).2.2.2.1, y ∈ pc.1.set :=
  View.cover_of_tiledL (runA m c t h0 h1).2.2.2.1 S1x1x256x128.size (by sl_kernel_rfl) y

/-- The stores cover the first kept buffer. -/
theorem coverA_s0 (c : Dev nD) (t : Fin cfg0.N) (h0 : t.val % 32 = 0) (h1 : ¬t.val % 32 = 31) (y : S32x128.Idx) : ∃ pc ∈ (runA m c t h0 h1).2.2.2.2.2.2.2.2.1, y ∈ pc.1.set :=
  View.cover_of_tiledL (runA m c t h0 h1).2.2.2.2.2.2.2.2.1 S32x128.size (by sl_kernel_rfl) y

/-- The stores cover the second kept buffer. -/
theorem coverA_s1 (c : Dev nD) (t : Fin cfg0.N) (h0 : t.val % 32 = 0) (h1 : ¬t.val % 32 = 31) (y : S16x128.Idx) : ∃ pc ∈ (runA m c t h0 h1).2.2.2.2.2.2.2.2.2.1, y ∈ pc.1.set :=
  View.cover_of_wholeMem (runA m c t h0 h1).2.2.2.2.2.2.2.2.2.1 (by sl_whole_mem) y

/-- What the body leaves at the first point. -/
def outA (c : Dev nD) (t : Fin cfg0.N) (h0 : t.val % 32 = 0) (h1 : ¬t.val % 32 = 31) : Outs F :=
  (VO0_12.read (Elt F) (VO0_12.writes (Elt F) VO0_12.junk (runA m c t h0 h1).1),
    VO0_13.read (Elt F) (VO0_13.writes (Elt F) VO0_13.junk (runA m c t h0 h1).2.1),
    VO0_14.read (Elt F) (VO0_14.writes (Elt F) VO0_14.junk (runA m c t h0 h1).2.2.1),
    VO0_15.read (Elt F) (VO0_15.writes (Elt F) VO0_15.junk (runA m c t h0 h1).2.2.2.1),
    VO0_16.read (Elt F) (VO0_16.writes (Elt F) VO0_16.junk (runA m c t h0 h1).2.2.2.2.1),
    VO0_17.read (Elt F) (VO0_17.writes (Elt F) VO0_17.junk (runA m c t h0 h1).2.2.2.2.2.1),
    VO0_18.read (Elt F) (VO0_18.writes (Elt F) VO0_18.junk (runA m c t h0 h1).2.2.2.2.2.2.1),
    VO0_19.read (Elt F) (VO0_19.writes (Elt F) VO0_19.junk (runA m c t h0 h1).2.2.2.2.2.2.2.1),
    VS0_0.read (Elt F) (VS0_0.writes (Elt F) VS0_0.junk (runA m c t h0 h1).2.2.2.2.2.2.2.2.1),
    VS0_1.read (Elt F) (VS0_1.writes (Elt F) VS0_1.junk (runA m c t h0 h1).2.2.2.2.2.2.2.2.2.1))

/-- The body at grid point `t`, the points between. -/
abbrev runB (c : Dev nD) (t : Fin cfg0.N) (h0 : ¬t.val % 32 = 0) (h1 : ¬t.val % 32 = 31) (s0 : Vec F S32x128 .f32) (s1 : Vec F S16x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s0 s1

/-- The stores cover the block of result 0. -/
theorem coverB_12 (c : Dev nD) (t : Fin cfg0.N) (h0 : ¬t.val % 32 = 0) (h1 : ¬t.val % 32 = 31) (s0 : Vec F S32x128 .f32) (s1 : Vec F S16x128 .f32) (y : S256x5120.Idx) : ∃ pc ∈ (runB m c t h0 h1 s0 s1).1, y ∈ pc.1.set :=
  View.cover_of_tiledL (runB m c t h0 h1 s0 s1).1 S32x5120.size (by sl_kernel_rfl) y

/-- The stores cover the block of result 1. -/
theorem coverB_13 (c : Dev nD) (t : Fin cfg0.N) (h0 : ¬t.val % 32 = 0) (h1 : ¬t.val % 32 = 31) (s0 : Vec F S32x128 .f32) (s1 : Vec F S16x128 .f32) (y : S1x10x256x128.Idx) : ∃ pc ∈ (runB m c t h0 h1 s0 s1).2.1, y ∈ pc.1.set :=
  View.cover_of_tiledL (runB m c t h0 h1 s0 s1).2.1 S1x1x256x128.size (by sl_kernel_rfl) y

/-- The stores cover the block of result 2. -/
theorem coverB_14 (c : Dev nD) (t : Fin cfg0.N) (h0 : ¬t.val % 32 = 0) (h1 : ¬t.val % 32 = 31) (s0 : Vec F S32x128 .f32) (s1 : Vec F S16x128 .f32) (y : S1x2x256x128.Idx) : ∃ pc ∈ (runB m c t h0 h1 s0 s1).2.2.1, y ∈ pc.1.set :=
  View.cover_of_tiledL (runB m c t h0 h1 s0 s1).2.2.1 S1x1x256x128.size (by sl_kernel_rfl) y

/-- The stores cover the block of result 3. -/
theorem coverB_15 (c : Dev nD) (t : Fin cfg0.N) (h0 : ¬t.val % 32 = 0) (h1 : ¬t.val % 32 = 31) (s0 : Vec F S32x128 .f32) (s1 : Vec F S16x128 .f32) (y : S1x2x256x128.Idx) : ∃ pc ∈ (runB m c t h0 h1 s0 s1).2.2.2.1, y ∈ pc.1.set :=
  View.cover_of_tiledL (runB m c t h0 h1 s0 s1).2.2.2.1 S1x1x256x128.size (by sl_kernel_rfl) y

/-- The stores cover the first kept buffer. -/
theorem coverB_s0 (c : Dev nD) (t : Fin cfg0.N) (h0 : ¬t.val % 32 = 0) (h1 : ¬t.val % 32 = 31) (s0 : Vec F S32x128 .f32) (s1 : Vec F S16x128 .f32) (y : S32x128.Idx) : ∃ pc ∈ (runB m c t h0 h1 s0 s1).2.2.2.2.2.2.2.2.1, y ∈ pc.1.set :=
  View.cover_of_tiledL (runB m c t h0 h1 s0 s1).2.2.2.2.2.2.2.2.1 S32x128.size (by sl_kernel_rfl) y

/-- What the body leaves at the points between. -/
def outB (c : Dev nD) (t : Fin cfg0.N) (h0 : ¬t.val % 32 = 0) (h1 : ¬t.val % 32 = 31) (s0 : Vec F S32x128 .f32) (s1 : Vec F S16x128 .f32) : Outs F :=
  (VO0_12.read (Elt F) (VO0_12.writes (Elt F) VO0_12.junk (runB m c t h0 h1 s0 s1).1),
    VO0_13.read (Elt F) (VO0_13.writes (Elt F) VO0_13.junk (runB m c t h0 h1 s0 s1).2.1),
    VO0_14.read (Elt F) (VO0_14.writes (Elt F) VO0_14.junk (runB m c t h0 h1 s0 s1).2.2.1),
    VO0_15.read (Elt F) (VO0_15.writes (Elt F) VO0_15.junk (runB m c t h0 h1 s0 s1).2.2.2.1),
    VO0_16.read (Elt F) (VO0_16.writes (Elt F) VO0_16.junk (runB m c t h0 h1 s0 s1).2.2.2.2.1),
    VO0_17.read (Elt F) (VO0_17.writes (Elt F) VO0_17.junk (runB m c t h0 h1 s0 s1).2.2.2.2.2.1),
    VO0_18.read (Elt F) (VO0_18.writes (Elt F) VO0_18.junk (runB m c t h0 h1 s0 s1).2.2.2.2.2.2.1),
    VO0_19.read (Elt F) (VO0_19.writes (Elt F) VO0_19.junk (runB m c t h0 h1 s0 s1).2.2.2.2.2.2.2.1),
    VS0_0.read (Elt F) (VS0_0.writes (Elt F) VS0_0.junk (runB m c t h0 h1 s0 s1).2.2.2.2.2.2.2.2.1),
    scM0_1.view.read (Elt F) (scM0_1.view.writes (Elt F) ((Memref.isWhole_whole _ : scM0_1.IsWhole).unread s1) (runB m c t h0 h1 s0 s1).2.2.2.2.2.2.2.2.2.1))

/-- The body at grid point `t`, the last point. -/
abbrev runC (c : Dev nD) (t : Fin cfg0.N) (h0 : ¬t.val % 32 = 0) (h1 : t.val % 32 = 31) (s0 : Vec F S32x128 .f32) (s1 : Vec F S16x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s0 s1

/-- The stores cover the block of result 0. -/
theorem coverC_12 (c : Dev nD) (t : Fin cfg0.N) (h0 : ¬t.val % 32 = 0) (h1 : t.val % 32 = 31) (s0 : Vec F S32x128 .f32) (s1 : Vec F S16x128 .f32) (y : S256x5120.Idx) : ∃ pc ∈ (runC m c t h0 h1 s0 s1).1, y ∈ pc.1.set :=
  View.cover_of_tiledL (runC m c t h0 h1 s0 s1).1 S32x5120.size (by sl_kernel_rfl) y

/-- The stores cover the block of result 1. -/
theorem coverC_13 (c : Dev nD) (t : Fin cfg0.N) (h0 : ¬t.val % 32 = 0) (h1 : t.val % 32 = 31) (s0 : Vec F S32x128 .f32) (s1 : Vec F S16x128 .f32) (y : S1x10x256x128.Idx) : ∃ pc ∈ (runC m c t h0 h1 s0 s1).2.1, y ∈ pc.1.set :=
  View.cover_of_tiledL (runC m c t h0 h1 s0 s1).2.1 S1x1x256x128.size (by sl_kernel_rfl) y

/-- The stores cover the block of result 2. -/
theorem coverC_14 (c : Dev nD) (t : Fin cfg0.N) (h0 : ¬t.val % 32 = 0) (h1 : t.val % 32 = 31) (s0 : Vec F S32x128 .f32) (s1 : Vec F S16x128 .f32) (y : S1x2x256x128.Idx) : ∃ pc ∈ (runC m c t h0 h1 s0 s1).2.2.1, y ∈ pc.1.set :=
  View.cover_of_tiledL (runC m c t h0 h1 s0 s1).2.2.1 S1x1x256x128.size (by sl_kernel_rfl) y

/-- The stores cover the block of result 3. -/
theorem coverC_15 (c : Dev nD) (t : Fin cfg0.N) (h0 : ¬t.val % 32 = 0) (h1 : t.val % 32 = 31) (s0 : Vec F S32x128 .f32) (s1 : Vec F S16x128 .f32) (y : S1x2x256x128.Idx) : ∃ pc ∈ (runC m c t h0 h1 s0 s1).2.2.2.1, y ∈ pc.1.set :=
  View.cover_of_tiledL (runC m c t h0 h1 s0 s1).2.2.2.1 S1x1x256x128.size (by sl_kernel_rfl) y

/-- The stores cover the block of result 4. -/
theorem coverC_16 (c : Dev nD) (t : Fin cfg0.N) (h0 : ¬t.val % 32 = 0) (h1 : t.val % 32 = 31) (s0 : Vec F S32x128 .f32) (s1 : Vec F S16x128 .f32) (y : S1.Idx) : ∃ pc ∈ (runC m c t h0 h1 s0 s1).2.2.2.2.1, y ∈ pc.1.set :=
  View.cover_of_tiledL (runC m c t h0 h1 s0 s1).2.2.2.2.1 S1.size (by sl_kernel_rfl) y

/-- The stores cover the block of result 5. -/
theorem coverC_17 (c : Dev nD) (t : Fin cfg0.N) (h0 : ¬t.val % 32 = 0) (h1 : t.val % 32 = 31) (s0 : Vec F S32x128 .f32) (s1 : Vec F S16x128 .f32) (y : S10.Idx) : ∃ pc ∈ (runC m c t h0 h1 s0 s1).2.2.2.2.2.1, y ∈ pc.1.set :=
  View.cover_of_tiledL (runC m c t h0 h1 s0 s1).2.2.2.2.2.1 S1.size (by sl_kernel_rfl) y

/-- The stores cover the block of result 6. -/
theorem coverC_18 (c : Dev nD) (t : Fin cfg0.N) (h0 : ¬t.val % 32 = 0) (h1 : t.val % 32 = 31) (s0 : Vec F S32x128 .f32) (s1 : Vec F S16x128 .f32) (y : S2.Idx) : ∃ pc ∈ (runC m c t h0 h1 s0 s1).2.2.2.2.2.2.1, y ∈ pc.1.set :=
  View.cover_of_tiledL (runC m c t h0 h1 s0 s1).2.2.2.2.2.2.1 S1.size (by sl_kernel_rfl) y

/-- The stores cover the block of result 7. -/
theorem coverC_19 (c : Dev nD) (t : Fin cfg0.N) (h0 : ¬t.val % 32 = 0) (h1 : t.val % 32 = 31) (s0 : Vec F S32x128 .f32) (s1 : Vec F S16x128 .f32) (y : S2.Idx) : ∃ pc ∈ (runC m c t h0 h1 s0 s1).2.2.2.2.2.2.2.1, y ∈ pc.1.set :=
  View.cover_of_tiledL (runC m c t h0 h1 s0 s1).2.2.2.2.2.2.2.1 S1.size (by sl_kernel_rfl) y

/-- The stores cover the first kept buffer. -/
theorem coverC_s0 (c : Dev nD) (t : Fin cfg0.N) (h0 : ¬t.val % 32 = 0) (h1 : t.val % 32 = 31) (s0 : Vec F S32x128 .f32) (s1 : Vec F S16x128 .f32) (y : S32x128.Idx) : ∃ pc ∈ (runC m c t h0 h1 s0 s1).2.2.2.2.2.2.2.2.1, y ∈ pc.1.set :=
  View.cover_of_tiledL (runC m c t h0 h1 s0 s1).2.2.2.2.2.2.2.2.1 S32x128.size (by sl_kernel_rfl) y

/-- What the body leaves at the last point. -/
def outC (c : Dev nD) (t : Fin cfg0.N) (h0 : ¬t.val % 32 = 0) (h1 : t.val % 32 = 31) (s0 : Vec F S32x128 .f32) (s1 : Vec F S16x128 .f32) : Outs F :=
  (VO0_12.read (Elt F) (VO0_12.writes (Elt F) VO0_12.junk (runC m c t h0 h1 s0 s1).1),
    VO0_13.read (Elt F) (VO0_13.writes (Elt F) VO0_13.junk (runC m c t h0 h1 s0 s1).2.1),
    VO0_14.read (Elt F) (VO0_14.writes (Elt F) VO0_14.junk (runC m c t h0 h1 s0 s1).2.2.1),
    VO0_15.read (Elt F) (VO0_15.writes (Elt F) VO0_15.junk (runC m c t h0 h1 s0 s1).2.2.2.1),
    VO0_16.read (Elt F) (VO0_16.writes (Elt F) VO0_16.junk (runC m c t h0 h1 s0 s1).2.2.2.2.1),
    VO0_17.read (Elt F) (VO0_17.writes (Elt F) VO0_17.junk (runC m c t h0 h1 s0 s1).2.2.2.2.2.1),
    VO0_18.read (Elt F) (VO0_18.writes (Elt F) VO0_18.junk (runC m c t h0 h1 s0 s1).2.2.2.2.2.2.1),
    VO0_19.read (Elt F) (VO0_19.writes (Elt F) VO0_19.junk (runC m c t h0 h1 s0 s1).2.2.2.2.2.2.2.1),
    VS0_0.read (Elt F) (VS0_0.writes (Elt F) VS0_0.junk (runC m c t h0 h1 s0 s1).2.2.2.2.2.2.2.2.1),
    scM0_1.view.read (Elt F) (scM0_1.view.writes (Elt F) ((Memref.isWhole_whole _ : scM0_1.IsWhole).unread s1) (runC m c t h0 h1 s0 s1).2.2.2.2.2.2.2.2.2.1))

/-- What the blocks and the kept buffers hold after each grid point. -/
def outsAt0 (c : Dev nD) : (n : ℕ) → n < cfg0.N → Outs F
  | 0, hn => outA m c ⟨0, hn⟩ (Nat.zero_mod _) (fun h => by (try dsimp only at h); omega)
  | n + 1, hn =>
    if h0 : (n + 1) % 32 = 0 then
      if h1 : (n + 1) % 32 = 31 then
        False.elim (by have hN : n + 1 < 32 := lt_of_lt_of_eq hn (show cfg0.N = 32 from N_0); omega)
      else outA m c ⟨n + 1, hn⟩ h0 h1
    else
      if h1 : (n + 1) % 32 = 31 then
        outC m c ⟨n + 1, hn⟩ h0 h1 (outsAt0 c n (Nat.lt_of_succ_lt hn)).2.2.2.2.2.2.2.2.1 (outsAt0 c n (Nat.lt_of_succ_lt hn)).2.2.2.2.2.2.2.2.2
      else
        outB m c ⟨n + 1, hn⟩ h0 h1 (outsAt0 c n (Nat.lt_of_succ_lt hn)).2.2.2.2.2.2.2.2.1 (outsAt0 c n (Nat.lt_of_succ_lt hn)).2.2.2.2.2.2.2.2.2

/-- The contents after the first point. -/
theorem outsAt0_A (c : Dev nD) (t : Fin cfg0.N) (h0 : t.val % 32 = 0) (h1 : ¬t.val % 32 = 31) :
    outsAt0 m c t.val t.isLt = outA m c t h0 h1 := by
  obtain ⟨n, hn⟩ := t
  cases n with
  | zero => exact rfl
  | succ n => exact (dif_pos h0).trans ((dif_neg h1).trans rfl)

/-- The contents after the points between. -/
theorem outsAt0_B (c : Dev nD) (t : Fin cfg0.N) (h0 : ¬t.val % 32 = 0) (h1 : ¬t.val % 32 = 31) :
    outsAt0 m c t.val t.isLt = outB m c t h0 h1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 := by
  obtain ⟨n, hn⟩ := t
  cases n with
  | zero => exact absurd (Nat.zero_mod _) h0
  | succ n => exact (dif_neg h0).trans ((dif_neg h1).trans rfl)

/-- The contents after the last point. -/
theorem outsAt0_C (c : Dev nD) (t : Fin cfg0.N) (h0 : ¬t.val % 32 = 0) (h1 : t.val % 32 = 31) :
    outsAt0 m c t.val t.isLt = outC m c t h0 h1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 := by
  obtain ⟨n, hn⟩ := t
  cases n with
  | zero => exact absurd (Nat.zero_mod _) h0
  | succ n => exact (dif_neg h0).trans ((dif_pos h1).trans rfl)

/-- What holds of the kept buffers before position `n`. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2)) ∗ (∃ r, prngReg c r)) := by
  cases n with
  | zero => exact absurd rfl hz
  | succ n => rfl

/-- What the pipeline keeps: the arrays it starts from, the blocks after each point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨_ + 20, h⟩ => absurd h (Nat.not_lt.2 (Nat.le_add_left _ _))
  Φ t := PhiS m c t.val (Nat.le_of_lt_succ t.isLt)
  q _ := fullShare
  owed _ := 0

/-- The arrays it starts from. -/
theorem A_eq (c : Dev nD) (w : Fin cfg0.W) : (dats m 0 c).A w = V m c (Pipeline.arrRef spec0 w) := by
  dsimp only [dats]

/-- The invariant at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0 after a point. -/
theorem after0_0 (c : Dev nD) (t : Fin cfg0.N) : (dats m 0 c).after 0 t = iblk m c 0 t := by dsimp only [dats]
/-- Window 1 after a point. -/
theorem after0_1 (c : Dev nD) (t : Fin cfg0.N) : (dats m 0 c).after 1 t = iblk m c 1 t := by dsimp only [dats]
/-- Window 2 after a point. -/
theorem after0_2 (c : Dev nD) (t : Fin cfg0.N) : (dats m 0 c).after 2 t = iblk m c 2 t := by dsimp only [dats]
/-- Window 3 after a point. -/
theorem after0_3 (c : Dev nD) (t : Fin cfg0.N) : (dats m 0 c).after 3 t = iblk m c 3 t := by dsimp only [dats]
/-- Window 4 after a point. -/
theorem after0_4 (c : Dev nD) (t : Fin cfg0.N) : (dats m 0 c).after 4 t = iblk m c 4 t := by dsimp only [dats]
/-- Window 5 after a point. -/
theorem after0_5 (c : Dev nD) (t : Fin cfg0.N) : (dats m 0 c).after 5 t = iblk m c 5 t := by dsimp only [dats]
/-- Window 6 after a point. -/
theorem after0_6 (c : Dev nD) (t : Fin cfg0.N) : (dats m 0 c).after 6 t = iblk m c 6 t := by dsimp only [dats]
/-- Window 7 after a point. -/
theorem after0_7 (c : Dev nD) (t : Fin cfg0.N) : (dats m 0 c).after 7 t = iblk m c 7 t := by dsimp only [dats]
/-- Window 8 after a point. -/
theorem after0_8 (c : Dev nD) (t : Fin cfg0.N) : (dats m 0 c).after 8 t = iblk m c 8 t := by dsimp only [dats]
/-- Window 9 after a point. -/
theorem after0_9 (c : Dev nD) (t : Fin cfg0.N) : (dats m 0 c).after 9 t = iblk m c 9 t := by dsimp only [dats]
/-- Window 10 after a point. -/
theorem after0_10 (c : Dev nD) (t : Fin cfg0.N) : (dats m 0 c).after 10 t = iblk m c 10 t := by dsimp only [dats]
/-- Window 11 after a point. -/
theorem after0_11 (c : Dev nD) (t : Fin cfg0.N) : (dats m 0 c).after 11 t = iblk m c 11 t := by dsimp only [dats]
/-- Window 12 after a point. -/
theorem after0_12 (c : Dev nD) (t : Fin cfg0.N) : (dats m 0 c).after 12 t = (outsAt0 m c t.val t.isLt).1 := by dsimp only [dats]
/-- Window 13 after a point. -/
theorem after0_13 (c : Dev nD) (t : Fin cfg0.N) : (dats m 0 c).after 13 t = (outsAt0 m c t.val t.isLt).2.1 := by dsimp only [dats]
/-- Window 14 after a point. -/
theorem after0_14 (c : Dev nD) (t : Fin cfg0.N) : (dats m 0 c).after 14 t = (outsAt0 m c t.val t.isLt).2.2.1 := by dsimp only [dats]
/-- Window 15 after a point. -/
theorem after0_15 (c : Dev nD) (t : Fin cfg0.N) : (dats m 0 c).after 15 t = (outsAt0 m c t.val t.isLt).2.2.2.1 := by dsimp only [dats]
/-- Window 16 after a point. -/
theorem after0_16 (c : Dev nD) (t : Fin cfg0.N) : (dats m 0 c).after 16 t = (outsAt0 m c t.val t.isLt).2.2.2.2.1 := by dsimp only [dats]
/-- Window 17 after a point. -/
theorem after0_17 (c : Dev nD) (t : Fin cfg0.N) : (dats m 0 c).after 17 t = (outsAt0 m c t.val t.isLt).2.2.2.2.2.1 := by dsimp only [dats]
/-- Window 18 after a point. -/
theorem after0_18 (c : Dev nD) (t : Fin cfg0.N) : (dats m 0 c).after 18 t = (outsAt0 m c t.val t.isLt).2.2.2.2.2.2.1 := by dsimp only [dats]
/-- Window 19 after a point. -/
theorem after0_19 (c : Dev nD) (t : Fin cfg0.N) : (dats m 0 c).after 19 t = (outsAt0 m c t.val t.isLt).2.2.2.2.2.2.2.1 := by dsimp only [dats]

/-- Window 0 before a point. -/
theorem before0_0 (c : Dev nD) (t : Fin cfg0.N) (d) : (dats m 0 c).before 0 t d = iblk m c 0 t :=
  before0_0_of m (dats m 0 c) (A_eq m c 0) (after0_0 m c) t d
/-- Window 1 before a point. -/
theorem before0_1 (c : Dev nD) (t : Fin cfg0.N) (d) : (dats m 0 c).before 1 t d = iblk m c 1 t :=
  before0_1_of m (dats m 0 c) (A_eq m c 1) (after0_1 m c) t d
/-- Window 2 before a point. -/
theorem before0_2 (c : Dev nD) (t : Fin cfg0.N) (d) : (dats m 0 c).before 2 t d = iblk m c 2 t :=
  before0_2_of m (dats m 0 c) (A_eq m c 2) (after0_2 m c) t d
/-- Window 3 before a point. -/
theorem before0_3 (c : Dev nD) (t : Fin cfg0.N) (d) : (dats m 0 c).before 3 t d = iblk m c 3 t :=
  before0_3_of m (dats m 0 c) (A_eq m c 3) (after0_3 m c) t d
/-- Window 4 before a point. -/
theorem before0_4 (c : Dev nD) (t : Fin cfg0.N) (d) : (dats m 0 c).before 4 t d = iblk m c 4 t :=
  before0_4_of m (dats m 0 c) (A_eq m c 4) (after0_4 m c) t d
/-- Window 5 before a point. -/
theorem before0_5 (c : Dev nD) (t : Fin cfg0.N) (d) : (dats m 0 c).before 5 t d = iblk m c 5 t :=
  before0_5_of m (dats m 0 c) (A_eq m c 5) (after0_5 m c) t d
/-- Window 6 before a point. -/
theorem before0_6 (c : Dev nD) (t : Fin cfg0.N) (d) : (dats m 0 c).before 6 t d = iblk m c 6 t :=
  before0_6_of m (dats m 0 c) (A_eq m c 6) (after0_6 m c) t d
/-- Window 7 before a point. -/
theorem before0_7 (c : Dev nD) (t : Fin cfg0.N) (d) : (dats m 0 c).before 7 t d = iblk m c 7 t :=
  before0_7_of m (dats m 0 c) (A_eq m c 7) (after0_7 m c) t d
/-- Window 8 before a point. -/
theorem before0_8 (c : Dev nD) (t : Fin cfg0.N) (d) : (dats m 0 c).before 8 t d = iblk m c 8 t :=
  before0_8_of m (dats m 0 c) (A_eq m c 8) (after0_8 m c) t d
/-- Window 9 before a point. -/
theorem before0_9 (c : Dev nD) (t : Fin cfg0.N) (d) : (dats m 0 c).before 9 t d = iblk m c 9 t :=
  before0_9_of m (dats m 0 c) (A_eq m c 9) (after0_9 m c) t d
/-- Window 10 before a point. -/
theorem before0_10 (c : Dev nD) (t : Fin cfg0.N) (d) : (dats m 0 c).before 10 t d = iblk m c 10 t :=
  before0_10_of m (dats m 0 c) (A_eq m c 10) (after0_10 m c) t d
/-- Window 11 before a point. -/
theorem before0_11 (c : Dev nD) (t : Fin cfg0.N) (d) : (dats m 0 c).before 11 t d = iblk m c 11 t :=
  before0_11_of m (dats m 0 c) (A_eq m c 11) (after0_11 m c) t d

/-- What window 0 is left with. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
/-- What window 1 is left with. -/
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
/-- What window 2 is left with. -/
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
/-- What window 3 is left with. -/
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
/-- What window 4 is left with. -/
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
/-- What window 5 is left with. -/
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
/-- What window 6 is left with. -/
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
/-- What window 7 is left with. -/
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]
/-- What window 8 is left with. -/
theorem leaves0_8 (c : Dev nD) (t : Fin cfg0.N) :
    (dats m 0 c).leavesExact 8 t = owns (c : Thread nD τ) (ms0_8 t) fullShare (iblk m c 8 t) := by
  unfold Dat.leavesExact; rw [liveAt0_8 t, after0_8]
/-- What window 9 is left with. -/
theorem leaves0_9 (c : Dev nD) (t : Fin cfg0.N) :
    (dats m 0 c).leavesExact 9 t = owns (c : Thread nD τ) (ms0_9 t) fullShare (iblk m c 9 t) := by
  unfold Dat.leavesExact; rw [liveAt0_9 t, after0_9]
/-- What window 10 is left with. -/
theorem leaves0_10 (c : Dev nD) (t : Fin cfg0.N) :
    (dats m 0 c).leavesExact 10 t = owns (c : Thread nD τ) (ms0_10 t) fullShare (iblk m c 10 t) := by
  unfold Dat.leavesExact; rw [liveAt0_10 t, after0_10]
/-- What window 11 is left with. -/
theorem leaves0_11 (c : Dev nD) (t : Fin cfg0.N) :
    (dats m 0 c).leavesExact 11 t = owns (c : Thread nD τ) (ms0_11 t) fullShare (iblk m c 11 t) := by
  unfold Dat.leavesExact; rw [liveAt0_11 t, after0_11]
/-- What window 12 is left with. -/
theorem leaves0_12 (c : Dev nD) (t : Fin cfg0.N) :
    (dats m 0 c).leavesExact 12 t = owns (c : Thread nD τ) (ms0_12 t) fullShare (outsAt0 m c t.val t.isLt).1 := by
  unfold Dat.leavesExact; rw [liveAt0_12 t, after0_12]
/-- What window 13 is left with. -/
theorem leaves0_13 (c : Dev nD) (t : Fin cfg0.N) :
    (dats m 0 c).leavesExact 13 t = owns (c : Thread nD τ) (ms0_13 t) fullShare (outsAt0 m c t.val t.isLt).2.1 := by
  unfold Dat.leavesExact; rw [liveAt0_13 t, after0_13]
/-- What window 14 is left with. -/
theorem leaves0_14 (c : Dev nD) (t : Fin cfg0.N) :
    (dats m 0 c).leavesExact 14 t = owns (c : Thread nD τ) (ms0_14 t) fullShare (outsAt0 m c t.val t.isLt).2.2.1 := by
  unfold Dat.leavesExact; rw [liveAt0_14 t, after0_14]
/-- What window 15 is left with. -/
theorem leaves0_15 (c : Dev nD) (t : Fin cfg0.N) :
    (dats m 0 c).leavesExact 15 t = owns (c : Thread nD τ) (ms0_15 t) fullShare (outsAt0 m c t.val t.isLt).2.2.2.1 := by
  unfold Dat.leavesExact; rw [liveAt0_15 t, after0_15]

/-- What the body is run with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 24000000 in
/-- The body at any point runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [leaves0_0, leaves0_1, leaves0_2, leaves0_3, leaves0_4, leaves0_5, leaves0_6, leaves0_7, leaves0_8, leaves0_9, leaves0_10, leaves0_11, leaves0_12, leaves0_13, leaves0_14, leaves0_15]
      rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
      rw [Dat.leavesExact_idle (dats m 0 c) 17 t (idleAt0_17_A t ((hcond0_0 t).mpr h0) (fun h => h1 ((hcond0_1 t).mp h))) (noFlush0_17_A t ((hcond0_0 t).mpr h0) (fun h => h1 ((hcond0_1 t).mp h)))]
      rw [Dat.leavesExact_idle (dats m 0 c) 18 t (idleAt0_18_A t ((hcond0_0 t).mpr h0) (fun h => h1 ((hcond0_1 t).mp h))) (noFlush0_18_A t ((hcond0_0 t).mpr h0) (fun h => h1 ((hcond0_1 t).mp h)))]
      rw [Dat.leavesExact_idle (dats m 0 c) 19 t (idleAt0_19_A t ((hcond0_0 t).mpr h0) (fun h => h1 ((hcond0_1 t).mp h))) (noFlush0_19_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold outA; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((runA m c t h0 h1).2.2.2.2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexact H16
        isplitl [H17]; · iexact H17
        isplitl [H18]; · iexact H18
        isplitl [H19]; · iexact H19
        isplitl [HS0]; · iexact HS0
        isplitl [HS1]; · iexact HS1
        iintro ⟨H0, H1, H2, H3, H4, H5, H6, H7, H8, H9, H10, H11, ⟨%e12, H12⟩, ⟨%e13, H13⟩, ⟨%e14, H14⟩, ⟨%e15, H15⟩, H16, H17, H18, H19, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverA_s0 m c t h0 h1)
            unfold owns; iexists _; isplitr
            swap; · iexact HS1
            ipureintro; exact View.read_writes_of_cover _ _ _ _ _ (coverA_s1 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (coverA_12 m c t h0 h1)
        isplitl [H13]
        · unfold owns; iexists _; isplitr
          swap; · iexact H13
          ipureintro; exact View.read_writes_of_cover _ _ _ _ _ (coverA_13 m c t h0 h1)
        isplitl [H14]
        · unfold owns; iexists _; isplitr
          swap; · iexact H14
          ipureintro; exact View.read_writes_of_cover _ _ _ _ _ (coverA_14 m c t h0 h1)
        isplitl [H15]
        · unfold owns; iexists _; isplitr
          swap; · iexact H15
          ipureintro; exact View.read_writes_of_cover _ _ _ _ _ (coverA_15 m c t h0 h1)
        isplitl [H16]; · iexists _; iexact H16
        isplitl [H17]; · iexists _; iexact H17
        isplitl [H18]; · iexists _; iexact H18
        iexists _; iexact H19
      · exfalso; have hN : t.val < 32 := lt_of_lt_of_eq t.isLt (show cfg0.N = 32 from N_0); omega
  · by_cases h1 : t.val % 32 = 31
    · rw [leaves0_0, leaves0_1, leaves0_2, leaves0_3, leaves0_4, leaves0_5, leaves0_6, leaves0_7, leaves0_8, leaves0_9, leaves0_10, leaves0_11, leaves0_12, leaves0_13, leaves0_14, leaves0_15]
      rw [show (dats m 0 c).leavesExact 16 t = owns (c : Thread nD τ) (ms0_16 t) fullShare ((dats m 0 c).after 16 t) from by
      unfold Dat.leavesExact; rw [liveAt0_16_C t (fun h => h0 ((hcond0_0 t).mp h)) ((hcond0_1 t).mpr h1)], after0_16]
      rw [show (dats m 0 c).leavesExact 17 t = owns (c : Thread nD τ) (ms0_17 t) fullShare ((dats m 0 c).after 17 t) from by
      unfold Dat.leavesExact; rw [liveAt0_17_C t (fun h => h0 ((hcond0_0 t).mp h)) ((hcond0_1 t).mpr h1)], after0_17]
      rw [show (dats m 0 c).leavesExact 18 t = owns (c : Thread nD τ) (ms0_18 t) fullShare ((dats m 0 c).after 18 t) from by
      unfold Dat.leavesExact; rw [liveAt0_18_C t (fun h => h0 ((hcond0_0 t).mp h)) ((hcond0_1 t).mpr h1)], after0_18]
      rw [show (dats m 0 c).leavesExact 19 t = owns (c : Thread nD τ) (ms0_19 t) fullShare ((dats m 0 c).after 19 t) from by
      unfold Dat.leavesExact; rw [liveAt0_19_C t (fun h => h0 ((hcond0_0 t).mp h)) ((hcond0_1 t).mpr h1)], after0_19]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold outC; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((runC m c t h0 h1 _ _).2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [H19]; · iexists _; iexact H19
        isplitl [HS0]; · iexact HS0
        isplitl [HS1]; · iexact HS1
        iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (coverC_s0 m c t h0 h1 _ _)
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (coverC_12 m c t h0 h1 _ _)
        isplitl [H13]
        · unfold owns; iexists _; isplitr
          swap; · iexact H13
          ipureintro; exact View.read_writes_of_cover _ _ _ _ _ (coverC_13 m c t h0 h1 _ _)
        isplitl [H14]
        · unfold owns; iexists _; isplitr
          swap; · iexact H14
          ipureintro; exact View.read_writes_of_cover _ _ _ _ _ (coverC_14 m c t h0 h1 _ _)
        isplitl [H15]
        · unfold owns; iexists _; isplitr
          swap; · iexact H15
          ipureintro; exact View.read_writes_of_cover _ _ _ _ _ (coverC_15 m c t h0 h1 _ _)
        isplitl [H16]
        · unfold owns; iexists _; isplitr
          swap; · iexact H16
          ipureintro; exact View.read_writes_of_cover _ _ _ _ _ (coverC_16 m c t h0 h1 _ _)
        isplitl [H17]
        · unfold owns; iexists _; isplitr
          swap; · iexact H17
          ipureintro; exact View.read_writes_of_cover _ _ _ _ _ (coverC_17 m c t h0 h1 _ _)
        isplitl [H18]
        · unfold owns; iexists _; isplitr
          swap; · iexact H18
          ipureintro; exact View.read_writes_of_cover _ _ _ _ _ (coverC_18 m c t h0 h1 _ _)
        unfold owns; iexists _; isplitr
        swap; · iexact H19
        ipureintro; exact View.read_writes_of_cover _ _ _ _ _ (coverC_19 m c t h0 h1 _ _)
    · rw [leaves0_0, leaves0_1, leaves0_2, leaves0_3, leaves0_4, leaves0_5, leaves0_6, leaves0_7, leaves0_8, leaves0_9, leaves0_10, leaves0_11, leaves0_12, leaves0_13, leaves0_14, leaves0_15]
      rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
      rw [Dat.leavesExact_idle (dats m 0 c) 17 t (idleAt0_17_B t (fun h => h0 ((hcond0_0 t).mp h)) (fun h => h1 ((hcond0_1 t).mp h))) (noFlush0_17_B t (fun h => h0 ((hcond0_0 t).mp h)) (fun h => h1 ((hcond0_1 t).mp h)))]
      rw [Dat.leavesExact_idle (dats m 0 c) 18 t (idleAt0_18_B t (fun h => h0 ((hcond0_0 t).mp h)) (fun h => h1 ((hcond0_1 t).mp h))) (noFlush0_18_B t (fun h => h0 ((hcond0_0 t).mp h)) (fun h => h1 ((hcond0_1 t).mp h)))]
      rw [Dat.leavesExact_idle (dats m 0 c) 19 t (idleAt0_19_B t (fun h => h0 ((hcond0_0 t).mp h)) (fun h => h1 ((hcond0_1 t).mp h))) (noFlush0_19_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold outB; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((runB m c t h0 h1 _ _).2.2.2.2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexact H16
        isplitl [H17]; · iexact H17
        isplitl [H18]; · iexact H18
        isplitl [H19]; · iexact H19
        isplitl [HS0]; · iexact HS0
        isplitl [HS1]; · iexact HS1
        iintro ⟨H0, H1, H2, H3, H4, H5, H6, H7, H8, H9, H10, H11, ⟨%e12, H12⟩, ⟨%e13, H13⟩, ⟨%e14, H14⟩, ⟨%e15, H15⟩, H16, H17, H18, H19, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (coverB_s0 m c t h0 h1 _ _)
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (coverB_12 m c t h0 h1 _ _)
        isplitl [H13]
        · unfold owns; iexists _; isplitr
          swap; · iexact H13
          ipureintro; exact View.read_writes_of_cover _ _ _ _ _ (coverB_13 m c t h0 h1 _ _)
        isplitl [H14]
        · unfold owns; iexists _; isplitr
          swap; · iexact H14
          ipureintro; exact View.read_writes_of_cover _ _ _ _ _ (coverB_14 m c t h0 h1 _ _)
        isplitl [H15]
        · unfold owns; iexists _; isplitr
          swap; · iexact H15
          ipureintro; exact View.read_writes_of_cover _ _ _ _ _ (coverB_15 m c t h0 h1 _ _)
        isplitl [H16]; · iexists _; iexact H16
        isplitl [H17]; · iexists _; iexact H17
        isplitl [H18]; · iexists _; iexact H18
        iexists _; iexact H19

/-- The body the pipeline calls. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The kept buffers are given back after any point. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The kept buffers are given back at the end. -/
theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- The whole program runs, ends with the computed arrays, and leaves every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program runs and ends with the computed arrays. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The program runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.QkvIdeal.Gen

end
-- ==== Proof.QkvIdealBlocks.lean ====
module

public import proofs.«01_k».proof.Proof.QkvIdealFrame
public import Idealize.ShloMosaic.Lib.Pipeline.Value

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The array of window 12 at the end. -/
theorem post12 (r : PUnit × MemSt nD τ sig (Elt F)) (h : Pipeline.FramePost cfgs (dats m) 0 (V m) r) (c : Dev nD) :
    r.2.mem ((c : Thread nD τ).loc main_v0_0) = (dats m 0 c).arrAt 12 cfg0.N :=
  (h c).1 12

/-- The array of window 13 at the end. -/
theorem post13 (r : PUnit × MemSt nD τ sig (Elt F)) (h : Pipeline.FramePost cfgs (dats m) 0 (V m) r) (c : Dev nD) :
    r.2.mem ((c : Thread nD τ).loc main_v0_1) = (dats m 0 c).arrAt 13 cfg0.N :=
  (h c).1 13

/-- The array of window 14 at the end. -/
theorem post14 (r : PUnit × MemSt nD τ sig (Elt F)) (h : Pipeline.FramePost cfgs (dats m) 0 (V m) r) (c : Dev nD) :
    r.2.mem ((c : Thread nD τ).loc main_v0_2) = (dats m 0 c).arrAt 14 cfg0.N :=
  (h c).1 14

/-- The array of window 15 at the end. -/
theorem post15 (r : PUnit × MemSt nD τ sig (Elt F)) (h : Pipeline.FramePost cfgs (dats m) 0 (V m) r) (c : Dev nD) :
    r.2.mem ((c : Thread nD τ).loc main_v0_3) = (dats m 0 c).arrAt 15 cfg0.N :=
  (h c).1 15

/-- The array of window 16 at the end. -/
theorem post16 (r : PUnit × MemSt nD τ sig (Elt F)) (h : Pipeline.FramePost cfgs (dats m) 0 (V m) r) (c : Dev nD) :
    r.2.mem ((c : Thread nD τ).loc main_v0_4) = (dats m 0 c).arrAt 16 cfg0.N :=
  (h c).1 16

/-- The array of window 17 at the end. -/
theorem post17 (r : PUnit × MemSt nD τ sig (Elt F)) (h : Pipeline.FramePost cfgs (dats m) 0 (V m) r) (c : Dev nD) :
    r.2.mem ((c : Thread nD τ).loc main_v0_5) = (dats m 0 c).arrAt 17 cfg0.N :=
  (h c).1 17

/-- The array of window 18 at the end. -/
theorem post18 (r : PUnit × MemSt nD τ sig (Elt F)) (h : Pipeline.FramePost cfgs (dats m) 0 (V m) r) (c : Dev nD) :
    r.2.mem ((c : Thread nD τ).loc main_v0_6) = (dats m 0 c).arrAt 18 cfg0.N :=
  (h c).1 18

/-- The array of window 19 at the end. -/
theorem post19 (r : PUnit × MemSt nD τ sig (Elt F)) (h : Pipeline.FramePost cfgs (dats m) 0 (V m) r) (c : Dev nD) :
    r.2.mem ((c : Thread nD τ).loc main_v0_7) = (dats m 0 c).arrAt 19 cfg0.N :=
  (h c).1 19

/-- Argument 0 at the end. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- Argument 1 at the end. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- Argument 2 at the end. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- Argument 3 at the end. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- Argument 4 at the end. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- Argument 5 at the end. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- Argument 6 at the end. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- Argument 7 at the end. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- Argument 8 at the end. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- Argument 9 at the end. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- Argument 10 at the end. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- Argument 11 at the end. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- The whole program runs; every result is the computed array and every argument is unchanged. -/
theorem run_blocks : θ_run defs (onTc (τ := τ) (main (F := F))) ⟨m, fun _ => 0, ρ⟩ fun r => ∀ c : Dev nD,
      r.2.mem ((c : Thread nD τ).loc main_v0_0) = (dats m 0 c).arrAt 12 cfg0.N
      ∧ r.2.mem ((c : Thread nD τ).loc main_v0_1) = (dats m 0 c).arrAt 13 cfg0.N
      ∧ r.2.mem ((c : Thread nD τ).loc main_v0_2) = (dats m 0 c).arrAt 14 cfg0.N
      ∧ r.2.mem ((c : Thread nD τ).loc main_v0_3) = (dats m 0 c).arrAt 15 cfg0.N
      ∧ r.2.mem ((c : Thread nD τ).loc main_v0_4) = (dats m 0 c).arrAt 16 cfg0.N
      ∧ r.2.mem ((c : Thread nD τ).loc main_v0_5) = (dats m 0 c).arrAt 17 cfg0.N
      ∧ r.2.mem ((c : Thread nD τ).loc main_v0_6) = (dats m 0 c).arrAt 18 cfg0.N
      ∧ r.2.mem ((c : Thread nD τ).loc main_v0_7) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post12 m r h c,
      post13 m r h c,
      post14 m r h c,
      post15 m r h c,
      post16 m r h c,
      post17 m r h c,
      post18 m r h c,
      post19 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.QkvIdeal.Gen

end
-- ==== Proof.QkvMath.lean ====
module

public import proofs.«01_k».proof.QkvIdeal
public import proofs.«01_k».proof.Proof.Norm
@[expose] public section
noncomputable section
open Idealize.ShloMosaic Idealize.ShloMosaic.TcCoe
namespace Cert.QkvMath
open Cert.QkvIdeal

/-- The shape of the projection. -/
abbrev S8192x1792 : Shape := ⟨2, ![8192, 1792]⟩

/-- One over the root mean square of a row of the input. -/
def rinv (X : FVec Ideal S8192x5120 .bf16) (r : Fin 8192) : EReal :=
  Ideal.rsqrt ((∑ j : Fin 5120, (X (ix2 r j) : EReal) * X (ix2 r j)) * ((1 / 5120 : ℝ) : EReal) + Ideal.ofBits .f32 0x358637BD#32)

/-- The normalised rows: the input times the weights of the norm, over the root mean square of the row. -/
def nrm (X : FVec Ideal S8192x5120 .bf16) (g : FVec Ideal S1x5120 .f32) : FVec Ideal S8192x5120 .f32 := fun i =>
  (X i : EReal) * g (ix2 0 (i 1)) * rinv X (i 0)

/-- The codes of the normalised rows. -/
def codes (xs : FVec Ideal S1 .f32) (X : FVec Ideal S8192x5120 .bf16) (g : FVec Ideal S1x5120 .f32) : FVec Ideal S8192x5120 .fp8e4m3 := fun i =>
  Cert.Common.code (nrm X g i) (xs (ix1 0))

/-- The greatest absolute value of the normalised rows. -/
def xmax (X : FVec Ideal S8192x5120 .bf16) (g : FVec Ideal S1x5120 .f32) : FVec Ideal S1 .f32 := fun _ =>
  (⨆ i : S8192x5120.Idx, (FloatOps.absf (F := Ideal) (φ := .f32) (nrm X g i) : EReal))

/-- The column of the projection where lane `l` of head `n` stands: ten query heads, two key heads, two value heads. -/
def col (n : Fin 14) (l : Fin 128) : Fin 1792 := ⟨n.val * 128 + l.val, by omega⟩

/-- The projection: the row of codes times the column of weights, times the product of the two scales. -/
def proj (xs ws : FVec Ideal S1 .f32) (X : FVec Ideal S8192x5120 .bf16) (g : FVec Ideal S1x5120 .f32) (W : FVec Ideal S5120x1792 .fp8e4m3) :
    FVec Ideal S8192x1792 .f32 := fun i =>
  (∑ k : Fin 5120, (codes xs X g (ix2 (i 0) k) : EReal) * W (ix2 k (i 1))) * ((xs (ix1 0) : EReal) * ws (ix1 0))

/-- One over the root mean square of the 128 lanes of one head at one row. -/
def hinv (v : Fin 128 → EReal) : EReal :=
  Ideal.rsqrt ((∑ l : Fin 128, v l * v l) * Ideal.ofBits .f32 0x3C000000#32 + Ideal.ofBits .f32 0x358637BD#32)

/-- The lane half a head further on, around the end. -/
def opp (l : Fin 128) : Fin 128 := ⟨(l.val + 64) % 128, by omega⟩

/-- The cosine that rotates lane `l` at row `r`: the tables hold 64 lanes and 1024 positions of each of the four sequences, and both
    halves of a head and of a sequence use the same. -/
def cosv (ct : FVec Ideal S4x64x1024 .f32) (r : Fin 8192) (l : Fin 128) : EReal :=
  ct (ix3 ⟨r.val / 2048, by omega⟩ ⟨l.val % 64, by omega⟩ ⟨r.val % 1024, by omega⟩)

/-- The sine at lane `l` of row `r`, negative in the first half of a head. -/
def sinv (st : FVec Ideal S4x64x1024 .f32) (r : Fin 8192) (l : Fin 128) : EReal :=
  if l.val < 64 then 0 - st (ix3 ⟨r.val / 2048, by omega⟩ ⟨l.val % 64, by omega⟩ ⟨r.val % 1024, by omega⟩)
  else st (ix3 ⟨r.val / 2048, by omega⟩ ⟨l.val % 64, by omega⟩ ⟨r.val % 1024, by omega⟩)

/-- One row of a query or key head, normalised and rotated. -/
def rot (v c s g : Fin 128 → EReal) (l : Fin 128) : EReal :=
  v l * hinv v * g l * c l + v (opp l) * hinv v * g (opp l) * s l

/-- A query or key head at row `r`: lane `l` of the projection's head `n`, normalised with the weights `h` and rotated. -/
def qk (A : FVec Ideal S8192x1792 .f32) (h : FVec Ideal S1x128 .f32) (ct st : FVec Ideal S4x64x1024 .f32) (n : Fin 14) (r : Fin 8192) (l : Fin 128) : EReal :=
  rot (fun l => A (ix2 r (col n l))) (cosv ct r) (sinv st r) (fun l => h (ix2 0 l)) l

/-- The head `n` at row `r` and lane `l` as it is quantised: the query heads and the key heads normalised and rotated, the value heads as
    they are. -/
def head (A : FVec Ideal S8192x1792 .f32) (qg kg : FVec Ideal S1x128 .f32) (ct st : FVec Ideal S4x64x1024 .f32) (n : Fin 14) (r : Fin 8192) (l : Fin 128) : EReal :=
  if n.val < 10 then qk A qg ct st n r l else if n.val < 12 then qk A kg ct st n r l else A (ix2 r (col n l))

/-- The row where position `s` of sequence `b` stands. -/
def row (b : Fin 4) (s : Fin 2048) : Fin 8192 := ⟨b.val * 2048 + s.val, by omega⟩

/-- The codes of `q` heads from head `o` on, per sequence. -/
def hcodes {q : ℕ} (H : Fin 14 → Fin 8192 → Fin 128 → EReal) (sc : Fin q → EReal) (o : ℕ) (ho : o + q ≤ 14) (b : Fin 4) (j : Fin q) (s : Fin 2048) (l : Fin 128) : EReal :=
  Cert.Common.code (H ⟨o + j.val, by omega⟩ (row b s) l) (sc j)

/-- The greatest absolute value of head `n`. -/
def hmax (H : Fin 14 → Fin 8192 → Fin 128 → EReal) (n : Fin 14) : EReal :=
  (⨆ p : Fin 8192 × Fin 128, (FloatOps.absf (F := Ideal) (φ := .f32) (H n p.1 p.2) : EReal))

/-- The greatest absolute value of a head over the sequences and their positions is the one over all rows. -/
theorem hmax_eq (H : Fin 14 → Fin 8192 → Fin 128 → EReal) (n : Fin 14) :
    (⨆ p : Fin 4 × Fin 2048 × Fin 128, (FloatOps.absf (F := Ideal) (φ := .f32) (H n (row p.1 p.2.1) p.2.2) : EReal)) = hmax H n := by
  refine eq_of_forall_ge_iff fun b => ?_
  unfold hmax
  rw [iSup_le_iff, iSup_le_iff]
  constructor
  · rintro h ⟨r, l⟩
    have e : r = row ⟨r.val / 2048, by omega⟩ ⟨r.val % 2048, by omega⟩ := Fin.ext (by show r.val = r.val / 2048 * 2048 + r.val % 2048; omega)
    have := h (⟨r.val / 2048, by omega⟩, ⟨r.val % 2048, by omega⟩, l)
    dsimp only at this ⊢
    rw [← e] at this
    exact this
  · rintro h ⟨x, y, l⟩
    exact h (row x y, l)

/-- The codes of the ten query heads. -/
def outQ (H : Fin 14 → Fin 8192 → Fin 128 → EReal) (sc : FVec Ideal S10 .f32) : FVec Ideal S4x10x2048x128 .fp8e4m3 := fun i =>
  hcodes H (fun j => sc (ix1 j)) 0 (by omega) (i 0) (i 1) (i 2) (i 3)

/-- The codes of the two heads from head `a` on. -/
def outKV (H : Fin 14 → Fin 8192 → Fin 128 → EReal) (a : ℕ) (ha : a + 2 ≤ 14) (sc : FVec Ideal S2 .f32) : FVec Ideal S4x2x2048x128 .fp8e4m3 := fun i =>
  hcodes H (fun j => sc (ix1 j)) a ha (i 0) (i 1) (i 2) (i 3)

/-- The greatest absolute values of the ten query heads. -/
def maxQ (H : Fin 14 → Fin 8192 → Fin 128 → EReal) : FVec Ideal S10 .f32 := fun i =>
  hmax H ⟨(i 0).val, by have : (i 0).val < 10 := (i 0).isLt; omega⟩

/-- The greatest absolute values of the two heads from head `a` on. -/
def maxKV (H : Fin 14 → Fin 8192 → Fin 128 → EReal) (a : ℕ) (ha : a + 2 ≤ 14) : FVec Ideal S2 .f32 := fun i =>
  hmax H ⟨a + (i 0).val, by have : (i 0).val < 2 := (i 0).isLt; omega⟩

/-- Two places of a table that are the same numbers are the same place. -/
theorem tab_congr (T : FVec Ideal S4x64x1024 .f32) {a a' : Fin 4} {b b' : Fin 64} {c c' : Fin 1024} (ha : a.val = a'.val) (hb : b.val = b'.val)
    (hc : c.val = c'.val) : T (ix3 a b c) = T (ix3 a' b' c') := by
  rw [Fin.ext ha, Fin.ext hb, Fin.ext hc]

/-- The word of one over 128 denotes it. -/
theorem ofBits_inv_128 : Ideal.ofBits .f32 0x3C000000#32 = ((1 / 128 : ℝ) : EReal) := by
  simp [Ideal.ofBits, Ideal.ieee, -EReal.coe_mul]; norm_num

/-- The word of 128 denotes 128. -/
theorem ofBits_128 : Ideal.ofBits .f32 0x43000000#32 = ((128 : ℝ) : EReal) := by
  simp [Ideal.ofBits, Ideal.ieee, -EReal.coe_mul]; norm_num

/-- The reciprocal square root of something positive is not plus infinity. -/
theorem rsqrt_ne_top (y : EReal) (hy : 0 < y) : Ideal.rsqrt y ≠ ⊤ := by
  induction y with
  | bot => simp at hy
  | top => rw [show Ideal.rsqrt ⊤ = 0 from rfl]; exact EReal.zero_ne_top
  | coe r =>
    have hr : 0 < r := by exact_mod_cast hy
    have h : Ideal.rsqrt (r : EReal) = (((Real.sqrt r)⁻¹ : ℝ) : EReal) := (if_neg (not_lt.mpr hr.le)).trans (if_neg hr.ne')
    rw [h]
    exact EReal.coe_ne_top _

/-- The mean of the squares plus the norm's epsilon is positive. -/
theorem mean_pos (v : Fin 128 → EReal) :
    0 < (∑ l : Fin 128, v l * v l) * Ideal.ofBits .f32 0x3C000000#32 + Ideal.ofBits .f32 0x358637BD#32 := by
  refine Cert.Common.eps_pos.trans_le (le_add_of_nonneg_left (mul_nonneg (Finset.sum_nonneg fun _ _ => Cert.Common.sq_nonneg _) ?_))
  rw [ofBits_inv_128]
  exact_mod_cast (by norm_num : (0 : ℝ) ≤ 1 / 128)

/-- The kernel's order of the same products: the weights of the norm go with the sines and cosines, and the norm comes last. -/
theorem rot_eq (v c s g : Fin 128 → EReal) (l : Fin 128) :
    (v l * (c l * g l) + v (opp l) * (s l * g (opp l))) * hinv v = rot v c s g l := by
  have h0 : 0 ≤ hinv v := Cert.Common.rsqrt_nonneg _ (mean_pos v).le
  have h1 : hinv v ≠ ⊤ := rsqrt_ne_top _ (mean_pos v)
  rw [mul_comm, EReal.left_distrib_of_nonneg_of_ne_top h0 h1, rot]
  congr 1
  · ac_rfl
  · ac_rfl

/-- Dividing by the root mean square is multiplying by its reciprocal. -/
theorem div_mean (x : EReal) (v : Fin 128 → EReal) :
    Ideal.div x (Ideal.sqrt (Ideal.div (∑ l : Fin 128, v l * v l) (Ideal.ofBits .f32 0x43000000#32) + Ideal.ofBits .f32 0x358637BD#32)) = x * hinv v := by
  have h := mean_pos v
  rw [ofBits_128, Cert.Common.div_coe _ _ (by norm_num), ← ofBits_inv_128, Cert.Common.div_sqrt _ _ h, hinv]

end Cert.QkvMath
-- ==== Proof.QkvLoopValue.lean ====
module

public import proofs.«01_k».proof.Proof.QkvIdealBlocks
public import proofs.«01_k».proof.Proof.QkvMath
public import Idealize.ShloMosaic.Lib.Pipeline.ValueKit
public import Idealize.ShloMosaic.Lib.Pipeline.ReadBack
set_option maxRecDepth 16384
@[expose] public section
noncomputable section
open Idealize.ShloMosaic Idealize.ShloMosaic.TcCoe Idealize.SL.Sem
open Idealize.ShloMosaic.Pipeline (Dat)
namespace Cert.QkvIdeal.Value
open Cert.QkvIdeal Cert.QkvIdeal.Gen
open Cert.QkvMath (rinv nrm codes xmax)
variable (m : (ℓ : Loc nD τ sig) → Buf (Elt Ideal) ℓ)

/-- Where each window's block sits at grid point `t`. -/
theorem idx_val : ∀ t : Fin cfg0.N, win0_0.index t = ![0] ∧ win0_1.index t = ![0] ∧ win0_2.index t = ![0] ∧ win0_3.index t = ![0]
    ∧ win0_4.index t = ![0] ∧ win0_5.index t = ![t.val, 0] ∧ win0_6.index t = ![0, 0] ∧ win0_7.index t = ![0, 0] ∧ win0_8.index t = ![0, 0]
    ∧ win0_9.index t = ![0, 0] ∧ win0_10.index t = ![t.val / 8, 0, t.val % 4] ∧ win0_11.index t = ![t.val / 8, 0, t.val % 4]
    ∧ win0_12.index t = ![t.val, 0] ∧ win0_13.index t = ![t.val / 8, 0, t.val % 8, 0] ∧ win0_14.index t = ![t.val / 8, 0, t.val % 8, 0]
    ∧ win0_15.index t = ![t.val / 8, 0, t.val % 8, 0]
    ∧ win0_16.index t = ![0] ∧ win0_17.index t = ![0] ∧ win0_18.index t = ![0] ∧ win0_19.index t = ![0] :=
  (by decide +kernel : ∀ t : Fin grid0.N, _)

/-- The rectangle of the 32 rows of one trip of the loop. -/
abbrev tripR (k : Fin k0_t1_loop.trips) : Rect S256x5120 := Rect.unit (s := S256x5120) (k0_off1 k) S32x5120.size (k0_off1_inb k)

/-- The rows of the input that one trip reads. -/
def ldx (c : Dev nD) (t : Fin cfg0.N) (k : Fin k0_t1_loop.trips) : Vec Ideal S32x5120 .bf16 := View.ld (iblk m c 5 t) (tripR k)

/-- The stores of the first `n` trips of the loop at point `t`, when the lanes' maxima held `G`. -/
def P (c : Dev nD) (t : Fin cfg0.N) (G : BufTy.Contents (Elt Ideal) scM0_0.view.ty) (n : ℕ) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _)
    (View.ld (iblk m c 0 t) (Rect.unit ![0] ![1] inb_S1_S1_0) (Shape.Idx.first numel1_S1.symm.le)) ((hs0_5 t).unread (iblk m c 5 t)) ((hs0_6 t).unread (iblk m c 6 t)) G n

/-- The whole of the lanes' maxima. -/
abbrev wholeM : Rect S32x128 := Rect.unit (s := S32x128) ![0, 0] ![32, 128] inb_S32x128_S32x128_0_0

/-- The lanes' maxima after one more trip. -/
def xstep (c : Dev nD) (t : Fin cfg0.N) (k : Fin k0_t1_loop.trips) (a : Vec Ideal S32x128 .f32) : FVec Ideal S32x128 .f32 :=
  k0_pay12 (F := Ideal) (k0_pay8 (ldx m c t k)) (k0_pay10 (ldx m c t k) (iblk m c 6 t)) (k0_pay11 (ldx m c t k) (iblk m c 6 t)) a

/-- A read of all of the lanes' maxima after a store of all of them. -/
theorem canon_whole (p : wholeM.shape.Idx → Elt Ideal .f32) (L : List (View.Piece (Elt Ideal) S32x128 .f32)) :
    View.canon (⟨wholeM, p⟩ :: L) = p := by
  funext y
  have e : y = wholeM.emb y := by
    funext a
    match a with
    | ⟨0, _⟩ => exact Fin.ext (by show _ = 0 + 1 * _; omega)
    | ⟨1, _⟩ => exact Fin.ext (by show _ = 0 + 1 * _; omega)
  conv_lhs => rw [e]
  exact View.canon_cons_emb _ _ _ _

/-- What one trip stores, on any buffers. -/
theorem trip_eq (𝒱 : Variants) (c : Dev nD) (bd : Option 𝒱.V) (i : grid0.Coords) (arg1 : Memref sig .tc .smem S1 .f32) (harg1 : arg1.IsWhole) (arg2 : Memref sig .tc .smem S10 .f32) (harg2 : arg2.IsWhole) (arg3 : Memref sig .tc .smem S2 .f32) (harg3 : arg3.IsWhole) (arg4 : Memref sig .tc .smem S2 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S1x5120 .f32) (harg7 : arg7.IsWhole) (arg8 : Memref sig .tc .vmem S5120x1792 .fp8e4m3) (harg8 : arg8.IsWhole) (arg9 : Memref sig .tc .vmem S1x128 .f32) (harg9 : arg9.IsWhole) (arg10 : Memref sig .tc .vmem S1x128 .f32) (harg10 : arg10.IsWhole) (arg11 : Memref sig .tc .vmem S1x64x256 .f32) (harg11 : arg11.IsWhole) (arg12 : Memref sig .tc .vmem S1x64x256 .f32) (harg12 : arg12.IsWhole) (arg13 : Memref sig .tc .vmem S256x5120 .fp8e4m3) (harg13 : arg13.IsWhole) (arg14 : Memref sig .tc .vmem S1x10x256x128 .fp8e4m3) (harg14 : arg14.IsWhole) (arg15 : Memref sig .tc .vmem S1x2x256x128 .fp8e4m3) (harg15 : arg15.IsWhole) (arg16 : Memref sig .tc .vmem S1x2x256x128 .fp8e4m3) (harg16 : arg16.IsWhole) (arg17 : Memref sig .tc .smem S1 .f32) (harg17 : arg17.IsWhole) (arg18 : Memref sig .tc .smem S10 .f32) (harg18 : arg18.IsWhole) (arg19 : Memref sig .tc .smem S2 .f32) (harg19 : arg19.IsWhole) (arg20 : Memref sig .tc .smem S2 .f32) (harg20 : arg20.IsWhole) (arg21 : Memref sig .tc .vmem S32x128 .f32) (harg21 : arg21.IsWhole) (arg22 : Memref sig .tc .vmem S16x128 .f32) (harg22 : arg22.IsWhole) (v3 : Elt Ideal .f32) (X_arg6 : BufTy.Contents (Elt Ideal) arg6.view.ty) (X_arg7 : BufTy.Contents (Elt Ideal) arg7.view.ty) (k : Fin k0_t1_loop.trips) (f : BufTy.Contents (Elt Ideal) arg21.view.ty) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 X_arg6 X_arg7 k f = ([⟨tripR k, k0_pay27 (F := Ideal) v3 (k0_pay8 (View.readAt (Elt Ideal) arg6.view (tripR k).toLoadRect X_arg6)) (k0_pay9 (View.readAt (Elt Ideal) arg6.view (tripR k).toLoadRect X_arg6) (View.readAt (Elt Ideal) arg7.view (Rect.unit (s := S1x5120) ![0, 0] S1x5120.size inb_S1x5120_S1x5120_0_0).toLoadRect X_arg7))⟩],
      [⟨wholeM, k0_pay12 (F := Ideal) (k0_pay8 (View.readAt (Elt Ideal) arg6.view (tripR k).toLoadRect X_arg6)) (k0_pay10 (View.readAt (Elt Ideal) arg6.view (tripR k).toLoadRect X_arg6) (View.readAt (Elt Ideal) arg7.view (Rect.unit (s := S1x5120) ![0, 0] S1x5120.size inb_S1x5120_S1x5120_0_0).toLoadRect X_arg7)) (k0_pay11 (View.readAt (Elt Ideal) arg6.view (tripR k).toLoadRect X_arg6) (View.readAt (Elt Ideal) arg7.view (Rect.unit (s := S1x5120) ![0, 0] S1x5120.size inb_S1x5120_S1x5120_0_0).toLoadRect X_arg7)) (View.readAt (Elt Ideal) arg21.view (Rect.unit (s := S32x128) ![0, 0] S32x128.size inb_S32x128_S32x128_0_0).toLoadRect f)⟩]) := by
  unfold tripL_k0_t1 trip_k0_t1
  rfl

/-- The stores of one more trip. -/
theorem P_succ (c : Dev nD) (t : Fin cfg0.N) (G : BufTy.Contents (Elt Ideal) scM0_0.view.ty) (k : Fin k0_t1_loop.trips) :
    P m c t G (k.val + 1) = (⟨tripR k, k0_pay27 (F := Ideal) (View.ld (iblk m c 0 t) (Rect.unit ![0] ![1] inb_S1_S1_0) (Shape.Idx.first numel1_S1.symm.le)) (k0_pay8 (ldx m c t k)) (k0_pay9 (ldx m c t k) (iblk m c 6 t))⟩ :: (P m c t G k.val).1,
      ⟨wholeM, xstep m c t k (View.read (Elt Ideal) scM0_0.view (scM0_0.view.writes (Elt Ideal) G (P m c t G k.val).2))⟩ :: (P m c t G k.val).2) := by
  unfold P
  rw [pb_k0_t1_succ]
  have e5 : View.readAt (Elt Ideal) (ms0_5 t).view (tripR k).toLoadRect ((hs0_5 t).unread (iblk m c 5 t)) = ldx m c t k := by
    rw [View.readAt_eq_ld, Memref.IsWhole.read_unread]; rfl
  have e6 : View.readAt (Elt Ideal) (ms0_6 t).view (Rect.unit (s := S1x5120) ![0, 0] S1x5120.size inb_S1x5120_S1x5120_0_0).toLoadRect ((hs0_6 t).unread (iblk m c 6 t)) = iblk m c 6 t := by
    rw [View.readAt_eq_ld, Memref.IsWhole.read_unread]
    exact View.ld_unit_lit _ _ (by decide)
  have e21 : ∀ X, View.readAt (Elt Ideal) scM0_0.view (Rect.unit (s := S32x128) ![0, 0] S32x128.size inb_S32x128_S32x128_0_0).toLoadRect X = View.read (Elt Ideal) scM0_0.view X := by
    intro X
    rw [View.readAt_eq_ld]
    exact View.ld_unit_lit _ _ (by decide)
  rw [trip_eq, e5, e6, e21]
  rfl
end Cert.QkvIdeal.Value
-- ==== Proof.QkvCodes.lean ====
module

public import proofs.«01_k».proof.Proof.QkvLoopValue
set_option maxRecDepth 16384
@[expose] public section
noncomputable section
open Idealize.ShloMosaic Idealize.ShloMosaic.TcCoe Idealize.SL.Sem
open Idealize.ShloMosaic.Pipeline (Dat)
namespace Cert.QkvIdeal.Value
open Cert.QkvIdeal Cert.QkvIdeal.Gen
open Cert.QkvMath (rinv nrm codes xmax)
variable (m : (ℓ : Loc nD τ sig) → Buf (Elt Ideal) ℓ)

/-- The loop has eight trips. -/
theorem trips_eq : k0_t1_loop.trips = 8 := by decide +kernel

/-- Where the rows of one trip start. -/
theorem off_trip : ∀ k : Fin k0_t1_loop.trips, k0_off1 k = ![32 * k.val, 0] := by decide +kernel

/-- The row of the arrays that is row `x` of trip `k` at point `t`. -/
def rowK (t : Fin cfg0.N) (k : Fin k0_t1_loop.trips) (x : Fin 32) : Fin 8192 := ⟨t.val * 256 + (32 * k.val + x.val), by
  have := lt_of_lt_of_eq k.isLt trips_eq
  have := lt_of_lt_of_eq t.isLt N_0
  omega⟩

/-- The block of the input. -/
theorem blk5 (c : Dev nD) (t : Fin cfg0.N) (y : S256x5120.Idx) (i : S8192x5120.Idx) (h0 : (i 0 : ℕ) = t.val * 256 + y 0) (h1 : (i 1 : ℕ) = y 1) :
    iblk m c 5 t y = (m ((c : Thread nD τ).loc main_arg5)) i := by
  blk_point [iblk, V, idx_val t]

/-- The block of the norm's weights is the whole array. -/
theorem blk6 (c : Dev nD) (t : Fin cfg0.N) : iblk m c 6 t = (m ((c : Thread nD τ).loc main_arg6)) := by
  funext y
  blk_ext [iblk, V, idx_val t]

/-- The scale of the input's codes. -/
theorem ld0 (c : Dev nD) (t : Fin cfg0.N) : (View.ld (iblk m c 0 t) (Rect.unit ![0] ![1] inb_S1_S1_0) (Shape.Idx.first numel1_S1.symm.le)) = (m ((c : Thread nD τ).loc main_arg0)) (ix1 0) := by
  pointwise
  blk_ext [iblk, V, idx_val t]

/-- The rows that one trip reads. -/
theorem ldx_eq (c : Dev nD) (t : Fin cfg0.N) (k : Fin k0_t1_loop.trips) (x : Fin 32) (j : Fin 5120) :
    ldx m c t k (ix2 x j) = (m ((c : Thread nD τ).loc main_arg5)) (ix2 (rowK t k x) j) := by
  refine blk5 m c t _ _ ?_ ?_
  · show t.val * 256 + (32 * k.val + x.val) = t.val * 256 + (k0_off1 k 0 + 1 * x.val)
    rw [off_trip]
    show t.val * 256 + (32 * k.val + x.val) = t.val * 256 + (32 * k.val + 1 * x.val)
    omega
  · show j.val = k0_off1 k 1 + 1 * j.val
    rw [off_trip]
    show j.val = 0 + 1 * j.val
    omega

/-- One over the root mean square of a row of one trip. -/
theorem pay8_eq (c : Dev nD) (t : Fin cfg0.N) (k : Fin k0_t1_loop.trips) (x : Fin 32) :
    k0_pay8 (F := Ideal) (ldx m c t k) (ix2 x 0) = rinv (m ((c : Thread nD τ).loc main_arg5)) (rowK t k x) := by
  have hk : (Named.named κ "inv_d" 0x394CCCCD#32 : Ideal .f32) = ((1 / 5120 : ℝ) : EReal) := rfl
  have e : k0_pay8 (F := Ideal) (ldx m c t k) (ix2 x 0) = Ideal.rsqrt ((∑ j : Fin 5120, (ldx m c t k (ix2 x j) : EReal) * ldx m c t k (ix2 x j)) * ((1 / 5120 : ℝ) : EReal) + Ideal.ofBits .f32 0x358637BD#32) := by
    pointwise [k0_pay8, k0_pay7]
    rw [hk]
  rw [e]
  simp only [ldx_eq]
  rfl

/-- The rows of one trip times the norm's weights. -/
theorem pay9_eq (c : Dev nD) (t : Fin cfg0.N) (k : Fin k0_t1_loop.trips) (x : Fin 32) (j : Fin 5120) :
    k0_pay9 (F := Ideal) (ldx m c t k) (iblk m c 6 t) (ix2 x j) = HMul.hMul (α := EReal) (β := EReal) ((m ((c : Thread nD τ).loc main_arg5)) (ix2 (rowK t k x) j)) ((m ((c : Thread nD τ).loc main_arg6)) (ix2 0 j)) := by
  rw [← ldx_eq m c t k x j, blk6]
  pointwise [k0_pay9, k0_pay7]

/-- The codes that one trip stores. -/
theorem pay27_eq (c : Dev nD) (t : Fin cfg0.N) (hz : (m ((c : Thread nD τ).loc main_arg0)) (ix1 0) ≠ (0 : EReal)) (k : Fin k0_t1_loop.trips) (x : Fin 32) (j : Fin 5120) :
    k0_pay27 (F := Ideal) (View.ld (iblk m c 0 t) (Rect.unit ![0] ![1] inb_S1_S1_0) (Shape.Idx.first numel1_S1.symm.le)) (k0_pay8 (ldx m c t k)) (k0_pay9 (ldx m c t k) (iblk m c 6 t)) (ix2 x j)
      = codes (m ((c : Thread nD τ).loc main_arg0)) (m ((c : Thread nD τ).loc main_arg5)) (m ((c : Thread nD τ).loc main_arg6)) (ix2 (rowK t k x) j) := by
  have e : ∀ (v : EReal) (r : FVec Ideal S32x1 .f32) (u : FVec Ideal S32x5120 .f32), k0_pay27 (F := Ideal) v r u (ix2 x j)
      = min (Ideal.ofBits .f32 0x43E00000#32) (max (Ideal.ofBits .f32 0xC3E00000#32) ((u (ix2 x j) : EReal) * ((r (ix2 x 0) : EReal) * Ideal.div (Ideal.ofBits .f32 0x3F800000#32) v))) := by
    intro v r u
    pointwise [k0_pay27]
  rw [e, pay8_eq, pay9_eq, ld0, Cert.Common.ofBits_one, ← mul_assoc, Cert.Common.mul_one_div _ _ hz]
  rfl

/-- The codes after the first `n` trips. -/
theorem canon_P (c : Dev nD) (t : Fin cfg0.N) (hz : (m ((c : Thread nD τ).loc main_arg0)) (ix1 0) ≠ (0 : EReal)) (G : BufTy.Contents (Elt Ideal) scM0_0.view.ty) (y : S256x5120.Idx) (i : S8192x5120.Idx)
    (h0 : (i 0 : ℕ) = t.val * 256 + y 0) (h1 : (i 1 : ℕ) = y 1) :
    ∀ n ≤ 8, (y 0).val < 32 * n → View.canon (P m c t G n).1 y = codes (m ((c : Thread nD τ).loc main_arg0)) (m ((c : Thread nD τ).loc main_arg5)) (m ((c : Thread nD τ).loc main_arg6)) i
  | 0, _, h => absurd h (by omega)
  | n + 1, hn, h => by
    have hn' : n < k0_t1_loop.trips := by rw [trips_eq]; omega
    have hP := P_succ m c t G ⟨n, hn'⟩
    dsimp only at hP
    rw [hP]
    dsimp only
    by_cases hy : (y 0).val < 32 * n
    · rw [View.canon_cons_of_not_mem]
      · exact canon_P c t hz G y i h0 h1 n (by omega) hy
      · intro hm
        have := ((Rect.mem_set_unit (inb := k0_off1_inb ⟨n, hn'⟩)).mp hm 0).1
        rw [off_trip] at this
        have h2 : 32 * n ≤ (y 0).val := this
        omega
    · have ey : y = (tripR ⟨n, hn'⟩).emb (ix2 ⟨(y 0).val - 32 * n, by omega⟩ (y 1)) := by
        funext a
        match a with
        | ⟨0, _⟩ =>
          refine Fin.ext ?_
          show (y 0).val = k0_off1 ⟨n, hn'⟩ 0 + 1 * ((y 0).val - 32 * n)
          rw [off_trip]
          show (y 0).val = 32 * n + 1 * ((y 0).val - 32 * n)
          omega
        | ⟨1, _⟩ =>
          refine Fin.ext ?_
          show (y 1).val = k0_off1 ⟨n, hn'⟩ 1 + 1 * (y 1).val
          rw [off_trip]
          show (y 1).val = 0 + 1 * (y 1).val
          omega
      conv_lhs => rw [ey]
      rw [View.canon_cons_emb]
      refine (pay27_eq m c t hz ⟨n, hn'⟩ _ _).trans (congrArg _ ?_)
      funext a
      match a with
      | ⟨0, _⟩ => exact Fin.ext (by show t.val * 256 + (32 * n + ((y 0).val - 32 * n)) = (i 0).val; omega)
      | ⟨1, _⟩ => exact Fin.ext (by show (y 1).val = (i 1).val; omega)

/-- The codes of a point's rows. -/
theorem canon_P8 (c : Dev nD) (t : Fin cfg0.N) (hz : (m ((c : Thread nD τ).loc main_arg0)) (ix1 0) ≠ (0 : EReal)) (G : BufTy.Contents (Elt Ideal) scM0_0.view.ty) (y : S256x5120.Idx) (i : S8192x5120.Idx)
    (h0 : (i 0 : ℕ) = t.val * 256 + y 0) (h1 : (i 1 : ℕ) = y 1) : View.canon (P m c t G 8).1 y = codes (m ((c : Thread nD τ).loc main_arg0)) (m ((c : Thread nD τ).loc main_arg5)) (m ((c : Thread nD τ).loc main_arg6)) i :=
  canon_P m c t hz G y i h0 h1 8 (le_refl _) (y 0).isLt

/-- 128 columns from column `o` on. -/
def sl (U : FVec Ideal S32x5120 .f32) (o : ℕ) (hs : S32x5120.Slices ![0, o] S32x128) : FVec Ideal S32x128 .f32 := extractStridedSlice S32x128 ![0, o] U hs

/-- An entry of a row, as a function of the column's number. -/
def ent (U : FVec Ideal S32x5120 .f32) (x : Fin 32) (j : ℕ) : EReal := if h : j < 5120 then U (ix2 x ⟨j, h⟩) else 0

/-- A lane of a slice is an entry of the row. -/
theorem sl_eq (U : FVec Ideal S32x5120 .f32) (o : ℕ) (hs : S32x5120.Slices ![0, o] S32x128) (ho : o + 128 ≤ 5120) (x : Fin 32) (l : Fin 128) :
    sl U o hs (ix2 x l) = ent U x (o + l) := by
  have := l.isLt
  rw [ent, dif_pos (show o + l.val < 5120 by omega)]
  pointwise [sl]

/-- The greatest entry per lane over the forty slices of a row. -/
def top (U : FVec Ideal S32x5120 .f32) : FVec Ideal S32x128 .f32 :=
  maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (sl U 0 slices_S32x5120_o0_0_S32x128)
    (sl U 128 slices_S32x5120_o0_128_S32x128))
    (sl U 256 slices_S32x5120_o0_256_S32x128))
    (sl U 384 slices_S32x5120_o0_384_S32x128))
    (sl U 512 slices_S32x5120_o0_512_S32x128))
    (sl U 640 slices_S32x5120_o0_640_S32x128))
    (sl U 768 slices_S32x5120_o0_768_S32x128))
    (sl U 896 slices_S32x5120_o0_896_S32x128))
    (sl U 1024 slices_S32x5120_o0_1024_S32x128))
    (sl U 1152 slices_S32x5120_o0_1152_S32x128))
    (sl U 1280 slices_S32x5120_o0_1280_S32x128))
    (sl U 1408 slices_S32x5120_o0_1408_S32x128))
    (sl U 1536 slices_S32x5120_o0_1536_S32x128))
    (sl U 1664 slices_S32x5120_o0_1664_S32x128))
    (sl U 1792 slices_S32x5120_o0_1792_S32x128))
    (sl U 1920 slices_S32x5120_o0_1920_S32x128))
    (sl U 2048 slices_S32x5120_o0_2048_S32x128))
    (sl U 2176 slices_S32x5120_o0_2176_S32x128))
    (sl U 2304 slices_S32x5120_o0_2304_S32x128))
    (sl U 2432 slices_S32x5120_o0_2432_S32x128))
    (sl U 2560 slices_S32x5120_o0_2560_S32x128))
    (sl U 2688 slices_S32x5120_o0_2688_S32x128))
    (sl U 2816 slices_S32x5120_o0_2816_S32x128))
    (sl U 2944 slices_S32x5120_o0_2944_S32x128))
    (sl U 3072 slices_S32x5120_o0_3072_S32x128))
    (sl U 3200 slices_S32x5120_o0_3200_S32x128))
    (sl U 3328 slices_S32x5120_o0_3328_S32x128))
    (sl U 3456 slices_S32x5120_o0_3456_S32x128))
    (sl U 3584 slices_S32x5120_o0_3584_S32x128))
    (sl U 3712 slices_S32x5120_o0_3712_S32x128))
    (sl U 3840 slices_S32x5120_o0_3840_S32x128))
    (sl U 3968 slices_S32x5120_o0_3968_S32x128))
    (sl U 4096 slices_S32x5120_o0_4096_S32x128))
    (sl U 4224 slices_S32x5120_o0_4224_S32x128))
    (sl U 4352 slices_S32x5120_o0_4352_S32x128))
    (sl U 4480 slices_S32x5120_o0_4480_S32x128))
    (sl U 4608 slices_S32x5120_o0_4608_S32x128))
    (sl U 4736 slices_S32x5120_o0_4736_S32x128))
    (sl U 4864 slices_S32x5120_o0_4864_S32x128))
    (sl U 4992 slices_S32x5120_o0_4992_S32x128)

/-- A bound of a maximum, after both were scaled. -/
theorem max_le' (a h : FVec Ideal S32x128 .f32) (y : S32x128.Idx) (r b : EReal) (hr : 0 ≤ r) :
    maximumf a h y * r ≤ b ↔ (a y : EReal) * r ≤ b ∧ (h y : EReal) * r ≤ b :=
  Cert.Common.max_mul_le _ _ _ _ hr

/-- A bound of a lane's maximum, after it was scaled. -/
theorem top_le (U : FVec Ideal S32x5120 .f32) (x : Fin 32) (l : Fin 128) (r b : EReal) (hr : 0 ≤ r) : (top U (ix2 x l) : EReal) * r ≤ b ↔
    ∀ k < 40, ent U x (128 * k + l) * r ≤ b := by
  unfold top
  simp only [max_le' _ _ _ _ _ hr]
  simp (disch := decide) only [sl_eq]
  constructor
  · intro h
    obtain ⟨⟨⟨⟨⟨⟨⟨⟨⟨⟨⟨⟨⟨⟨⟨⟨⟨⟨⟨⟨⟨⟨⟨⟨⟨⟨⟨⟨⟨⟨⟨⟨⟨⟨⟨⟨⟨⟨⟨H0, H1⟩, H2⟩, H3⟩, H4⟩, H5⟩, H6⟩, H7⟩, H8⟩, H9⟩, H10⟩, H11⟩, H12⟩, H13⟩, H14⟩, H15⟩, H16⟩, H17⟩, H18⟩, H19⟩, H20⟩, H21⟩, H22⟩, H23⟩, H24⟩, H25⟩, H26⟩, H27⟩, H28⟩, H29⟩, H30⟩, H31⟩, H32⟩, H33⟩, H34⟩, H35⟩, H36⟩, H37⟩, H38⟩, H39⟩ := h
    intro k hk
    interval_cases k
    exacts [H0, H1, H2, H3, H4, H5, H6, H7, H8, H9, H10, H11, H12, H13, H14, H15, H16, H17, H18, H19, H20, H21, H22, H23, H24, H25, H26, H27, H28, H29, H30, H31, H32, H33, H34, H35, H36, H37, H38, H39]
  · intro h
    exact ⟨⟨⟨⟨⟨⟨⟨⟨⟨⟨⟨⟨⟨⟨⟨⟨⟨⟨⟨⟨⟨⟨⟨⟨⟨⟨⟨⟨⟨⟨⟨⟨⟨⟨⟨⟨⟨⟨⟨h 0 (by omega), h 1 (by omega)⟩, h 2 (by omega)⟩, h 3 (by omega)⟩, h 4 (by omega)⟩, h 5 (by omega)⟩, h 6 (by omega)⟩, h 7 (by omega)⟩, h 8 (by omega)⟩, h 9 (by omega)⟩, h 10 (by omega)⟩, h 11 (by omega)⟩, h 12 (by omega)⟩, h 13 (by omega)⟩, h 14 (by omega)⟩, h 15 (by omega)⟩, h 16 (by omega)⟩, h 17 (by omega)⟩, h 18 (by omega)⟩, h 19 (by omega)⟩, h 20 (by omega)⟩, h 21 (by omega)⟩, h 22 (by omega)⟩, h 23 (by omega)⟩, h 24 (by omega)⟩, h 25 (by omega)⟩, h 26 (by omega)⟩, h 27 (by omega)⟩, h 28 (by omega)⟩, h 29 (by omega)⟩, h 30 (by omega)⟩, h 31 (by omega)⟩, h 32 (by omega)⟩, h 33 (by omega)⟩, h 34 (by omega)⟩, h 35 (by omega)⟩, h 36 (by omega)⟩, h 37 (by omega)⟩, h 38 (by omega)⟩, h 39 (by omega)⟩

/-- The lanes' maxima after one trip: the greatest of each row, over its root mean square, in every lane. -/
theorem pay12_eq (X : Vec Ideal S32x5120 .bf16) (g : Vec Ideal S1x5120 .f32) (r : FVec Ideal S32x1 .f32) (a : Vec Ideal S32x128 .f32) (x : Fin 32) (l : Fin 128) :
    k0_pay12 (F := Ideal) r (k0_pay10 X g) (k0_pay11 X g) a (ix2 x l)
      = max (a (ix2 x l) : EReal) ((Finset.univ : Finset (Fin 128)).fold max (Ideal.ofBits .f32 0xFF800000#32) (fun l => top (k0_pay10 X g) (ix2 x l)) * r (ix2 x 0)) := by
  have e : k0_pay12 (F := Ideal) r (k0_pay10 X g) (k0_pay11 X g) a = shapeCast S32x128 (maximumf a (broadcastTo S32x128 (shapeCast S32x1
      (mulf (shapeCast S32x1 (multiReduction .maximumf [1] S32 (top (k0_pay10 X g)) 0xFF800000#32 reduces_S32x128_S32 (.inl rfl) rfl) shapeCasts_S32_S32x1) r)
      shapeCasts_S32x1_S32x1) broadcasts_S32x1_S32x128)) shapeCasts_S32x128_S32x128 := rfl
  rw [e]
  generalize top (k0_pay10 X g) = T
  pointwise

/-- The reciprocal root mean square is not negative. -/
theorem rinv_nonneg (X : FVec Ideal S8192x5120 .bf16) (r : Fin 8192) : 0 ≤ rinv X r := by
  refine Cert.Common.rsqrt_nonneg _ (add_nonneg (EReal.mul_nonneg (Finset.sum_nonneg fun _ _ => Cert.Common.sq_nonneg _) ?_) Cert.Common.eps_pos.le)
  exact_mod_cast (by norm_num : (0 : ℝ) ≤ 1 / 5120)

/-- The absolute value of the normalised rows. -/
def absM (c : Dev nD) (i : S8192x5120.Idx) : EReal := FloatOps.absf (F := Ideal) (φ := .f32) (nrm (m ((c : Thread nD τ).loc main_arg5)) (m ((c : Thread nD τ).loc main_arg6)) i)

/-- An entry of a trip's row, scaled, is an absolute value of the normalised row. -/
theorem ent_abs (c : Dev nD) (t : Fin cfg0.N) (k : Fin k0_t1_loop.trips) (x : Fin 32) (j : ℕ) (hj : j < 5120) :
    ent (k0_pay10 (F := Ideal) (ldx m c t k) (iblk m c 6 t)) x j * rinv (m ((c : Thread nD τ).loc main_arg5)) (rowK t k x) = absM m c (ix2 (rowK t k x) ⟨j, hj⟩) := by
  rw [ent, dif_pos hj]
  have e : k0_pay10 (F := Ideal) (ldx m c t k) (iblk m c 6 t) (ix2 x ⟨j, hj⟩) = FloatOps.absf (F := Ideal) (φ := .f32) (k0_pay9 (F := Ideal) (ldx m c t k) (iblk m c 6 t) (ix2 x ⟨j, hj⟩)) := rfl
  rw [e, pay9_eq]
  exact Cert.Common.abs_mul _ _ (rinv_nonneg _ _)

/-- A bound of the lanes' maxima after one more trip. -/
theorem xstep_le (c : Dev nD) (t : Fin cfg0.N) (k : Fin k0_t1_loop.trips) (a : Vec Ideal S32x128 .f32) (x : Fin 32) (l : Fin 128) (b : EReal) :
    xstep m c t k a (ix2 x l) ≤ b ↔ a (ix2 x l) ≤ b ∧ ∀ i : S8192x5120.Idx, i 0 = rowK t k x → absM m c i ≤ b := by
  unfold xstep
  rw [pay12_eq, max_le_iff, Cert.Common.ofBits_neg_inf, pay8_eq, Cert.Common.fold_mul_le _ _ _ (rinv_nonneg _ _)]
  refine and_congr Iff.rfl ?_
  constructor
  · intro h i hi
    have hi1 : (i 1).val < 5120 := (i 1).isLt
    have hb := (top_le _ x ⟨(i 1).val % 128, by omega⟩ _ b (rinv_nonneg _ _)).mp (h _) ((i 1).val / 128) (by omega)
    rw [ent_abs m c t k _ _ (show 128 * ((i 1).val / 128) + (i 1).val % 128 < 5120 by omega)] at hb
    have ei : i = ix2 (rowK t k x) ⟨128 * ((i 1).val / 128) + (i 1).val % 128, by omega⟩ := by
      funext a
      match a with
      | ⟨0, _⟩ => exact hi
      | ⟨1, _⟩ => exact Fin.ext (by show (i 1).val = 128 * ((i 1).val / 128) + (i 1).val % 128; omega)
    rw [ei]
    exact hb
  · intro h l'
    have hl := l'.isLt
    refine (top_le _ x l' _ b (rinv_nonneg _ _)).mpr fun k' hk => ?_
    rw [ent_abs m c t k _ _ (show 128 * k' + l'.val < 5120 by omega)]
    exact h _ rfl

/-- A read of the lanes' maxima after a store of all of them. -/
theorem read_whole (G : BufTy.Contents (Elt Ideal) scM0_0.view.ty) (p : wholeM.shape.Idx → Elt Ideal .f32) (L : List (View.Piece (Elt Ideal) S32x128 .f32)) :
    View.read (Elt Ideal) scM0_0.view (scM0_0.view.writes (Elt Ideal) G (⟨wholeM, p⟩ :: L)) = p := by
  rw [View.read_writes_eq_canon, canon_whole]
  intro y
  refine ⟨_, List.mem_cons_self, ?_⟩
  rw [Rect.mem_set_unit]
  intro a
  match a with
  | ⟨0, _⟩ => exact ⟨Nat.zero_le _, by have : (y 0).val < 32 := (y 0).isLt; show (y 0).val < 0 + 32; omega⟩
  | ⟨1, _⟩ => exact ⟨Nat.zero_le _, by have : (y 1).val < 128 := (y 1).isLt; show (y 1).val < 0 + 128; omega⟩

/-- A bound of the lanes' maxima after the first `n` trips. -/
theorem read_P (c : Dev nD) (t : Fin cfg0.N) (G : BufTy.Contents (Elt Ideal) scM0_0.view.ty) (x : Fin 32) (l : Fin 128) (b : EReal) :
    ∀ n ≤ 8, View.read (Elt Ideal) scM0_0.view (scM0_0.view.writes (Elt Ideal) G (P m c t G n).2) (ix2 x l) ≤ b ↔
      View.read (Elt Ideal) scM0_0.view G (ix2 x l) ≤ b ∧ ∀ i : S8192x5120.Idx, t.val * 256 ≤ (i 0).val → (i 0).val < t.val * 256 + 32 * n → (i 0).val % 32 = x.val → absM m c i ≤ b
  | 0, _ => by
    show View.read (Elt Ideal) scM0_0.view G (ix2 x l) ≤ b ↔ _
    exact ⟨fun h => ⟨h, fun i h1 h2 => absurd h1 (by omega)⟩, fun h => h.1⟩
  | n + 1, hn => by
    have hn' : n < k0_t1_loop.trips := by rw [trips_eq]; omega
    have hP := P_succ m c t G ⟨n, hn'⟩
    have hy := x.isLt
    dsimp only at hP
    rw [hP]
    dsimp only
    rw [read_whole, xstep_le, read_P c t G x l b n (by omega), and_assoc]
    refine and_congr Iff.rfl ?_
    constructor
    · rintro ⟨H, H'⟩ i h1 h2 h3
      rcases Nat.lt_or_ge (i 0).val (t.val * 256 + 32 * n) with hl | hl
      · exact H i h1 hl h3
      · exact H' i (Fin.ext (by show (i 0).val = t.val * 256 + (32 * n + x.val); omega))
    · intro H
      refine ⟨fun i h1 h2 h3 => H i h1 (by omega) h3, fun i hi => ?_⟩
      have e : (i 0 : ℕ) = t.val * 256 + (32 * n + x.val) := congrArg Fin.val hi
      exact H i (by omega) (by omega) (by omega)

/-- What the stores of the eight trips leave is what a read afterwards finds. -/
theorem canon_P2 (c : Dev nD) (t : Fin cfg0.N) (G : BufTy.Contents (Elt Ideal) scM0_0.view.ty) (L : List (View.Piece (Elt Ideal) S32x128 .f32)) :
    View.canon ((P m c t G 8).2 ++ L) = View.read (Elt Ideal) scM0_0.view (scM0_0.view.writes (Elt Ideal) G (P m c t G 8).2) := by
  have hP := P_succ m c t G ⟨7, by rw [trips_eq]; omega⟩
  dsimp only at hP
  rw [show (8 : ℕ) = 7 + 1 from rfl, hP]
  dsimp only
  rw [read_whole, List.cons_append, canon_whole]

end Cert.QkvIdeal.Value
-- ==== Proof.QkvHeads.lean ====
module

public import proofs.«01_k».proof.Proof.QkvCodes
set_option maxRecDepth 16384
@[expose] public section
noncomputable section
open Idealize.ShloMosaic Idealize.ShloMosaic.TcCoe Idealize.SL.Sem
open Idealize.ShloMosaic.Pipeline (Dat)
namespace Cert.QkvIdeal.Value
open Cert.QkvIdeal Cert.QkvIdeal.Gen
open Cert.QkvMath (rinv nrm codes xmax proj hinv col opp cosv sinv rot qk head outQ outKV maxQ maxKV hmax hcodes S8192x1792)
variable (m : (ℓ : Loc nD τ sig) → Buf (Elt Ideal) ℓ)

/-- The type of what the lanes' maxima held before the loop. -/
abbrev GT := BufTy.Contents (Elt Ideal) scM0_0.view.ty

/-- The row of the arrays that is row `x` at point `t`. -/
def rowT (t : Fin cfg0.N) (x : Fin 256) : Fin 8192 := ⟨t.val * 256 + x.val, by
  have := lt_of_lt_of_eq t.isLt N_0
  omega⟩

/-- The projection of the arguments. -/
def prj (c : Dev nD) : FVec Ideal S8192x1792 .f32 := proj (m ((c : Thread nD τ).loc main_arg0)) (m ((c : Thread nD τ).loc main_arg4)) (m ((c : Thread nD τ).loc main_arg5)) (m ((c : Thread nD τ).loc main_arg6)) (m ((c : Thread nD τ).loc main_arg7))

/-- The heads of the arguments. -/
def heads (c : Dev nD) : Fin 14 → Fin 8192 → Fin 128 → EReal := head (prj m c) (m ((c : Thread nD τ).loc main_arg8)) (m ((c : Thread nD τ).loc main_arg9)) (m ((c : Thread nD τ).loc main_arg10)) (m ((c : Thread nD τ).loc main_arg11))

/-- The codes, loaded back from their block. -/
def cb (c : Dev nD) (t : Fin cfg0.N) (G : GT) : FVec Ideal S256x5120 .fp8e4m3 :=
  k0_pay28 (F := Ideal) ((ms0_12 t).view.readCov (P m c t G 8).1 (Rect.unit (s := S256x5120) ![0, 0] ![256, 5120] inb_S256x5120_S256x5120_0_0).toLoadRect)

/-- The projection onto 256 columns from column `o` on. -/
def pj (c : Dev nD) (t : Fin cfg0.N) (G : GT) (o : ℕ) (inb : ∀ a, (![0, o] : Fin 2 → ℕ) a + (![5120, 256] : Fin 2 → ℕ) a ≤ S5120x1792.size a) : FVec Ideal S256x256 .f32 :=
  k0_pay36 (F := Ideal) (cb m c t G) (View.ld (iblk m c 0 t) (Rect.unit ![0] ![1] inb_S1_S1_0) (Shape.Idx.first numel1_S1.symm.le)) (View.ld (iblk m c 4 t) (Rect.unit ![0] ![1] inb_S1_S1_0) (Shape.Idx.first numel1_S1.symm.le)) (View.ld (iblk m c 7 t) (Rect.unit (s := S5120x1792) ![0, o] ![5120, 256] inb))

/-- The 128 columns of one head. -/
def hv (c : Dev nD) (t : Fin cfg0.N) (G : GT) (o : ℕ) (inb : ∀ a, (![0, o] : Fin 2 → ℕ) a + (![5120, 256] : Fin 2 → ℕ) a ≤ S5120x1792.size a) (a : ℕ) (hs : S256x256.Slices ![0, a] S256x128) : FVec Ideal S256x128 .f32 :=
  extractStridedSlice S256x128 ![0, a] (pj m c t G o inb) hs

/-- A head that is normalised and rotated, with the tables times the weights. -/
def rotK (v C S : FVec Ideal S256x128 .f32) : FVec Ideal S256x128 .f32 :=
  mulf (addf (mulf v C) (mulf (dynamicRotate 1 64#32 none v rotates_S256x128_d1) S)) (broadcastTo S256x128 (rsqrt (addf (mulf (shapeCast S256x1
    (multiReduction .add [1] S256 (mulf v v) 0x00000000#32 reduces_S256x128_S256 (.inl rfl) rfl) shapeCasts_S256_S256x1)
    (broadcast S256x1 (Scalar.ofBits .f32 0x3C000000#32))) (broadcast S256x1 (Scalar.ofBits .f32 0x358637BD#32)))) broadcasts_S256x1_S256x128)

/-- One query head. -/
def hq (c : Dev nD) (t : Fin cfg0.N) (G : GT) (o : ℕ) (inb : ∀ a, (![0, o] : Fin 2 → ℕ) a + (![5120, 256] : Fin 2 → ℕ) a ≤ S5120x1792.size a) (a : ℕ) (hs : S256x256.Slices ![0, a] S256x128) : FVec Ideal S256x128 .f32 :=
  rotK (hv m c t G o inb a hs) (k0_pay31 (iblk m c 10 t) (iblk m c 10 t) (iblk m c 8 t)) (k0_pay32 (iblk m c 11 t) (iblk m c 11 t) (iblk m c 8 t))

/-- One key head. -/
def hk (c : Dev nD) (t : Fin cfg0.N) (G : GT) (o : ℕ) (inb : ∀ a, (![0, o] : Fin 2 → ℕ) a + (![5120, 256] : Fin 2 → ℕ) a ≤ S5120x1792.size a) (a : ℕ) (hs : S256x256.Slices ![0, a] S256x128) : FVec Ideal S256x128 .f32 :=
  rotK (hv m c t G o inb a hs) (k0_pay33 (k0_pay29 (iblk m c 10 t) (iblk m c 10 t)) (iblk m c 9 t)) (k0_pay34 (k0_pay30 (iblk m c 11 t) (iblk m c 11 t)) (iblk m c 9 t))

/-- The block of the query weights of the norm is the whole array. -/
theorem blk8 (c : Dev nD) (t : Fin cfg0.N) : iblk m c 8 t = (m ((c : Thread nD τ).loc main_arg8)) := by
  funext y
  blk_ext [iblk, V, idx_val t]

/-- The block of the key weights of the norm is the whole array. -/
theorem blk9 (c : Dev nD) (t : Fin cfg0.N) : iblk m c 9 t = (m ((c : Thread nD τ).loc main_arg9)) := by
  funext y
  blk_ext [iblk, V, idx_val t]

/-- The scale of the weights' codes. -/
theorem ld4 (c : Dev nD) (t : Fin cfg0.N) : (View.ld (iblk m c 4 t) (Rect.unit ![0] ![1] inb_S1_S1_0) (Shape.Idx.first numel1_S1.symm.le)) = (m ((c : Thread nD τ).loc main_arg4)) (ix1 0) := by
  pointwise
  blk_ext [iblk, V, idx_val t]

/-- The columns of the weights. -/
theorem ld7 (c : Dev nD) (t : Fin cfg0.N) (o : ℕ) (inb : ∀ a, (![0, o] : Fin 2 → ℕ) a + (![5120, 256] : Fin 2 → ℕ) a ≤ S5120x1792.size a) (k : Fin 5120) (j : Fin 256) (i : Fin 1792) (hi : i.val = o + j.val) :
    View.ld (iblk m c 7 t) (Rect.unit (s := S5120x1792) ![0, o] ![5120, 256] inb) (ix2 k j) = (m ((c : Thread nD τ).loc main_arg7)) (ix2 k i) := by
  pointwise
  blk_point [iblk, V, idx_val t]

/-- The block of the cosines. -/
theorem blk10 (c : Dev nD) (t : Fin cfg0.N) (j : Fin 64) (x : Fin 256) (a : Fin 4) (s : Fin 1024) (ha : a.val = t.val / 8) (hs : s.val = t.val % 4 * 256 + x.val) :
    iblk m c 10 t (ix3 0 j x) = (m ((c : Thread nD τ).loc main_arg10)) (ix3 a j s) := by
  blk_point [iblk, V, idx_val t]

/-- The block of the sines. -/
theorem blk11 (c : Dev nD) (t : Fin cfg0.N) (j : Fin 64) (x : Fin 256) (a : Fin 4) (s : Fin 1024) (ha : a.val = t.val / 8) (hs : s.val = t.val % 4 * 256 + x.val) :
    iblk m c 11 t (ix3 0 j x) = (m ((c : Thread nD τ).loc main_arg11)) (ix3 a j s) := by
  blk_point [iblk, V, idx_val t]

/-- The codes that are loaded back are those of the point's rows. -/
theorem cb_eq (c : Dev nD) (t : Fin cfg0.N) (hz : (m ((c : Thread nD τ).loc main_arg0)) (ix1 0) ≠ (0 : EReal)) (G : GT) (x : Fin 256) (k : Fin 5120) :
    cb m c t G (ix2 x k) = codes (m ((c : Thread nD τ).loc main_arg0)) (m ((c : Thread nD τ).loc main_arg5)) (m ((c : Thread nD τ).loc main_arg6)) (ix2 (rowT t x) k) := by
  have e : cb m c t G (ix2 x k) = ((ms0_12 t).view.readCov (P m c t G 8).1 (Rect.unit (s := S256x5120) ![0, 0] ![256, 5120] inb_S256x5120_S256x5120_0_0).toLoadRect) (ix2 x k) := by
    unfold cb
    pointwise [k0_pay28]
  rw [e, View.readCov_eq_canon']
  exact canon_P8 m c t hz G _ _ (by show t.val * 256 + x.val = t.val * 256 + (0 + 1 * x.val); omega) (by show k.val = 0 + 1 * k.val; omega)

/-- The projection onto 256 columns. -/
theorem pj_eq (c : Dev nD) (t : Fin cfg0.N) (hz : (m ((c : Thread nD τ).loc main_arg0)) (ix1 0) ≠ (0 : EReal)) (G : GT) (o : ℕ) (inb : ∀ a, (![0, o] : Fin 2 → ℕ) a + (![5120, 256] : Fin 2 → ℕ) a ≤ S5120x1792.size a) (x j : Fin 256) (i : Fin 1792) (hi : i.val = o + j.val) :
    pj m c t G o inb (ix2 x j) = prj m c (ix2 (rowT t x) i) := by
  have e : ∀ (B : FVec Ideal S256x5120 .fp8e4m3) (a b : EReal) (w : Vec Ideal S5120x256 .fp8e4m3), k0_pay36 (F := Ideal) B a b w (ix2 x j)
      = (∑ k : Fin 5120, (B (ix2 x k) : EReal) * w (ix2 k j)) * (a * b) := by
    intro B a b w
    pointwise [k0_pay36, k0_pay35]
  unfold pj
  rw [e, ld0, ld4]
  simp only [cb_eq m c t hz, ld7 m c t o inb _ j i hi]
  rfl

/-- The lanes of a head are its columns of the projection. -/
theorem hv_eq (c : Dev nD) (t : Fin cfg0.N) (hz : (m ((c : Thread nD τ).loc main_arg0)) (ix1 0) ≠ (0 : EReal)) (G : GT) (o : ℕ) (inb : ∀ a, (![0, o] : Fin 2 → ℕ) a + (![5120, 256] : Fin 2 → ℕ) a ≤ S5120x1792.size a) (a : ℕ) (hs : S256x256.Slices ![0, a] S256x128) (n : Fin 14)
    (hn : n.val * 128 = o + a) (ha : a + 128 ≤ 256) (x : Fin 256) (l : Fin 128) : hv m c t G o inb a hs (ix2 x l) = prj m c (ix2 (rowT t x) (col n l)) := by
  have hl := l.isLt
  rw [← pj_eq m c t hz G o inb x ⟨a + l.val, by omega⟩ (col n l) (by show n.val * 128 + l.val = o + (a + l.val); omega)]
  unfold hv
  generalize pj m c t G o inb = A
  pointwise

/-- Half a head further on is half a head back. -/
theorem opp_eq (l : Fin 128) (h : (l.val + 128 - 64) % 128 < 128) : (⟨(l.val + 128 - 64) % 128, h⟩ : Fin 128) = opp l :=
  Fin.ext (by show (l.val + 128 - 64) % 128 = (l.val + 64) % 128; omega)

/-- One rotated head at one lane. -/
theorem rotK_eq (v C S : FVec Ideal S256x128 .f32) (x : Fin 256) (l : Fin 128) :
    rotK v C S (ix2 x l) = ((v (ix2 x l) : EReal) * C (ix2 x l) + v (ix2 x (opp l)) * S (ix2 x l)) * hinv (fun l => v (ix2 x l)) := by
  unfold rotK hinv
  pointwise
  rw [opp_eq]

/-- The table of cosines at one lane. -/
theorem cosK (c : Dev nD) (t : Fin cfg0.N) (x : Fin 256) (l : Fin 128) :
    k0_pay29 (F := Ideal) (iblk m c 10 t) (iblk m c 10 t) (ix2 x l) = cosv (m ((c : Thread nD τ).loc main_arg10)) (rowT t x) l := by
  have ht := lt_of_lt_of_eq t.isLt N_0
  unfold cosv
  rw [← blk10 m c t ⟨l.val % 64, by omega⟩ x ⟨(rowT t x).val / 2048, by omega⟩ ⟨(rowT t x).val % 1024, by omega⟩ (by show (t.val * 256 + x.val) / 2048 = t.val / 8; omega) (by show (t.val * 256 + x.val) % 1024 = t.val % 4 * 256 + x.val; omega)]
  generalize iblk m c 10 t = B
  pointwise [k0_pay29]
  split_ifs with h
  · exact congrArg (fun j => B (ix3 0 j x)) (Fin.ext (by show l.val = l.val % 64; omega))
  · exact congrArg (fun j => B (ix3 0 j x)) (Fin.ext (by show l.val - 64 = l.val % 64; omega))
  · rename_i h2
    exact absurd rfl h2

/-- The table of sines at one lane. -/
theorem sinK (c : Dev nD) (t : Fin cfg0.N) (x : Fin 256) (l : Fin 128) :
    k0_pay30 (F := Ideal) (iblk m c 11 t) (iblk m c 11 t) (ix2 x l) = sinv (m ((c : Thread nD τ).loc main_arg11)) (rowT t x) l := by
  have ht := lt_of_lt_of_eq t.isLt N_0
  unfold sinv
  rw [← blk11 m c t ⟨l.val % 64, by omega⟩ x ⟨(rowT t x).val / 2048, by omega⟩ ⟨(rowT t x).val % 1024, by omega⟩ (by show (t.val * 256 + x.val) / 2048 = t.val / 8; omega) (by show (t.val * 256 + x.val) % 1024 = t.val % 4 * 256 + x.val; omega)]
  generalize iblk m c 11 t = B
  pointwise [k0_pay30]
  split_ifs with h
  · exact congrArg (fun j => (0 : EReal) - B (ix3 0 j x)) (Fin.ext (by show l.val = l.val % 64; omega))
  · exact congrArg (fun j => B (ix3 0 j x)) (Fin.ext (by show l.val - 64 = l.val % 64; omega))
  · rename_i h2
    exact absurd rfl h2

/-- A table times the weights, at one lane. -/
theorem pay33_eq (T : FVec Ideal S256x128 .f32) (g : Vec Ideal S1x128 .f32) (x : Fin 256) (l : Fin 128) :
    k0_pay33 (F := Ideal) T g (ix2 x l) = (T (ix2 x l) : EReal) * g (ix2 0 l) := by
  pointwise [k0_pay33]

/-- A table times the weights of the opposite lanes, at one lane. -/
theorem pay34_eq (T : FVec Ideal S256x128 .f32) (g : Vec Ideal S1x128 .f32) (x : Fin 256) (l : Fin 128) :
    k0_pay34 (F := Ideal) T g (ix2 x l) = (T (ix2 x l) : EReal) * g (ix2 0 (opp l)) := by
  pointwise [k0_pay34]
  rw [opp_eq]

/-- A query head at one lane. -/
theorem hq_eq (c : Dev nD) (t : Fin cfg0.N) (hz : (m ((c : Thread nD τ).loc main_arg0)) (ix1 0) ≠ (0 : EReal)) (G : GT) (o : ℕ) (inb : ∀ a, (![0, o] : Fin 2 → ℕ) a + (![5120, 256] : Fin 2 → ℕ) a ≤ S5120x1792.size a) (a : ℕ) (hs : S256x256.Slices ![0, a] S256x128) (n : Fin 14)
    (hn : n.val * 128 = o + a) (ha : a + 128 ≤ 256) (h10 : n.val < 10) (x : Fin 256) (l : Fin 128) : hq m c t G o inb a hs (ix2 x l) = heads m c n (rowT t x) l := by
  have e1 : k0_pay31 (F := Ideal) (iblk m c 10 t) (iblk m c 10 t) (iblk m c 8 t) = k0_pay33 (k0_pay29 (iblk m c 10 t) (iblk m c 10 t)) (iblk m c 8 t) := rfl
  have e2 : k0_pay32 (F := Ideal) (iblk m c 11 t) (iblk m c 11 t) (iblk m c 8 t) = k0_pay34 (k0_pay30 (iblk m c 11 t) (iblk m c 11 t)) (iblk m c 8 t) := rfl
  unfold hq heads head
  rw [rotK_eq, e1, e2, pay33_eq, pay34_eq, cosK, sinK, blk8, if_pos h10]
  simp only [hv_eq m c t hz G o inb a hs n hn ha]
  exact Cert.QkvMath.rot_eq (fun l => prj m c (ix2 (rowT t x) (col n l))) (cosv (m ((c : Thread nD τ).loc main_arg10)) (rowT t x)) (sinv (m ((c : Thread nD τ).loc main_arg11)) (rowT t x)) (fun l => (m ((c : Thread nD τ).loc main_arg8)) (ix2 0 l)) l

/-- A key head at one lane. -/
theorem hk_eq (c : Dev nD) (t : Fin cfg0.N) (hz : (m ((c : Thread nD τ).loc main_arg0)) (ix1 0) ≠ (0 : EReal)) (G : GT) (o : ℕ) (inb : ∀ a, (![0, o] : Fin 2 → ℕ) a + (![5120, 256] : Fin 2 → ℕ) a ≤ S5120x1792.size a) (a : ℕ) (hs : S256x256.Slices ![0, a] S256x128) (n : Fin 14)
    (hn : n.val * 128 = o + a) (ha : a + 128 ≤ 256) (h10 : ¬ n.val < 10) (h12 : n.val < 12) (x : Fin 256) (l : Fin 128) : hk m c t G o inb a hs (ix2 x l) = heads m c n (rowT t x) l := by
  unfold hk heads head
  rw [rotK_eq, pay33_eq, pay34_eq, cosK, sinK, blk9, if_neg h10, if_pos h12]
  simp only [hv_eq m c t hz G o inb a hs n hn ha]
  exact Cert.QkvMath.rot_eq (fun l => prj m c (ix2 (rowT t x) (col n l))) (cosv (m ((c : Thread nD τ).loc main_arg10)) (rowT t x)) (sinv (m ((c : Thread nD τ).loc main_arg11)) (rowT t x)) (fun l => (m ((c : Thread nD τ).loc main_arg9)) (ix2 0 l)) l

/-- A value head at one lane. -/
theorem hv_head (c : Dev nD) (t : Fin cfg0.N) (hz : (m ((c : Thread nD τ).loc main_arg0)) (ix1 0) ≠ (0 : EReal)) (G : GT) (o : ℕ) (inb : ∀ a, (![0, o] : Fin 2 → ℕ) a + (![5120, 256] : Fin 2 → ℕ) a ≤ S5120x1792.size a) (a : ℕ) (hs : S256x256.Slices ![0, a] S256x128) (n : Fin 14)
    (hn : n.val * 128 = o + a) (ha : a + 128 ≤ 256) (h12 : ¬ n.val < 12) (x : Fin 256) (l : Fin 128) : hv m c t G o inb a hs (ix2 x l) = heads m c n (rowT t x) l := by
  unfold heads head
  rw [hv_eq m c t hz G o inb a hs n hn ha, if_neg (by omega), if_neg h12]

/-- The codes of one head at one lane, when the scale is not zero. -/
theorem code_eq (v : FVec Ideal S256x128 .f32) (s : EReal) (hs : s ≠ 0) (x : S1x1x256x128.Idx) : k0_pay2 (F := Ideal) v s x = Cert.Common.code (v (ix2 (x 2) (x 3))) s := by
  have e : k0_pay2 (F := Ideal) v s x = min (Ideal.ofBits .f32 0x43E00000#32) (max (Ideal.ofBits .f32 0xC3E00000#32) ((v (ix2 (x 2) (x 3)) : EReal) * Ideal.div (Ideal.ofBits .f32 0x3F800000#32) s)) := by
    pointwise [k0_pay2]
  rw [e, Cert.Common.ofBits_one, Cert.Common.mul_one_div _ _ hs]
  rfl

/-- A lane's maximum after one more point. -/
theorem pay1_eq (a : Vec Ideal S1x128 .f32) (v : FVec Ideal S256x128 .f32) (l : Fin 128) : k0_pay1 (F := Ideal) a v (ix2 0 l)
    = max (a (ix2 0 l) : EReal) ((Finset.univ : Finset (Fin 256)).fold max (Ideal.ofBits .f32 0xFF800000#32) (fun x => (v (ix2 x l) : EReal))) := by
  pointwise [k0_pay1]

/-- A bound of a lane's maximum after one more point. -/
theorem pay1_le (a : Vec Ideal S1x128 .f32) (v : FVec Ideal S256x128 .f32) (l : Fin 128) (b : EReal) : k0_pay1 (F := Ideal) a v (ix2 0 l) ≤ b ↔
    a (ix2 0 l) ≤ b ∧ ∀ x : Fin 256, (v (ix2 x l) : EReal) ≤ b := by
  rw [pay1_eq, max_le_iff, Finset.fold_max_le, Cert.Common.ofBits_neg_inf]
  simp only [bot_le, Finset.mem_univ, true_implies, true_and]

end Cert.QkvIdeal.Value
-- ==== Proof.QkvOuts.lean ====
module

public import proofs.«01_k».proof.Proof.QkvHeads
set_option maxRecDepth 16384
@[expose] public section
noncomputable section
open Idealize.ShloMosaic Idealize.ShloMosaic.TcCoe Idealize.SL.Sem
open Idealize.ShloMosaic.Pipeline (Dat)
namespace Cert.QkvIdeal.Value
open Cert.QkvIdeal Cert.QkvIdeal.Gen
open Cert.QkvMath (rinv nrm codes xmax proj hinv col opp cosv sinv rot qk head outQ outKV maxQ maxKV hmax hcodes S8192x1792)
variable (m : (ℓ : Loc nD τ sig) → Buf (Elt Ideal) ℓ)

/-- What the lanes' maxima hold when the loop of the first point starts. -/
def GA : GT := scM0_0.view.writes (Elt Ideal) scM0_0.view.junk [⟨wholeM, k0_pay25 (F := Ideal)⟩]

/-- What the lanes' maxima hold when the loop of a later point starts, from what the point before left. -/
def GB (a : Vec Ideal S32x128 .f32) : GT := (Memref.isWhole_whole _ : scM0_0.IsWhole).unread a

/-- The stores of one point into the block of the query heads' codes. -/
def st13 (c : Dev nD) (t : Fin cfg0.N) (G : GT) : List (View.Piece (Elt Ideal) S1x10x256x128 .fp8e4m3) :=
  [⟨Rect.unit (s := S1x10x256x128) ![0, 9, 0, 0] ![1, 1, 256, 128] inb_S1x10x256x128_S1x1x256x128_0_9_0_0, k0_pay2 (F := Ideal) (hq m c t G 1024 inb_S5120x1792_S5120x256_0_1024 128 slices_S256x256_o0_128_S256x128) (View.ld (iblk m c 1 t) (Rect.unit ![9] ![1] inb_S10_S1_9) (Shape.Idx.first numel1_S1.symm.le))⟩,
   ⟨Rect.unit (s := S1x10x256x128) ![0, 8, 0, 0] ![1, 1, 256, 128] inb_S1x10x256x128_S1x1x256x128_0_8_0_0, k0_pay2 (F := Ideal) (hq m c t G 1024 inb_S5120x1792_S5120x256_0_1024 0 slices_S256x256_o0_0_S256x128) (View.ld (iblk m c 1 t) (Rect.unit ![8] ![1] inb_S10_S1_8) (Shape.Idx.first numel1_S1.symm.le))⟩,
   ⟨Rect.unit (s := S1x10x256x128) ![0, 7, 0, 0] ![1, 1, 256, 128] inb_S1x10x256x128_S1x1x256x128_0_7_0_0, k0_pay2 (F := Ideal) (hq m c t G 768 inb_S5120x1792_S5120x256_0_768 128 slices_S256x256_o0_128_S256x128) (View.ld (iblk m c 1 t) (Rect.unit ![7] ![1] inb_S10_S1_7) (Shape.Idx.first numel1_S1.symm.le))⟩,
   ⟨Rect.unit (s := S1x10x256x128) ![0, 6, 0, 0] ![1, 1, 256, 128] inb_S1x10x256x128_S1x1x256x128_0_6_0_0, k0_pay2 (F := Ideal) (hq m c t G 768 inb_S5120x1792_S5120x256_0_768 0 slices_S256x256_o0_0_S256x128) (View.ld (iblk m c 1 t) (Rect.unit ![6] ![1] inb_S10_S1_6) (Shape.Idx.first numel1_S1.symm.le))⟩,
   ⟨Rect.unit (s := S1x10x256x128) ![0, 5, 0, 0] ![1, 1, 256, 128] inb_S1x10x256x128_S1x1x256x128_0_5_0_0, k0_pay2 (F := Ideal) (hq m c t G 512 inb_S5120x1792_S5120x256_0_512 128 slices_S256x256_o0_128_S256x128) (View.ld (iblk m c 1 t) (Rect.unit ![5] ![1] inb_S10_S1_5) (Shape.Idx.first numel1_S1.symm.le))⟩,
   ⟨Rect.unit (s := S1x10x256x128) ![0, 4, 0, 0] ![1, 1, 256, 128] inb_S1x10x256x128_S1x1x256x128_0_4_0_0, k0_pay2 (F := Ideal) (hq m c t G 512 inb_S5120x1792_S5120x256_0_512 0 slices_S256x256_o0_0_S256x128) (View.ld (iblk m c 1 t) (Rect.unit ![4] ![1] inb_S10_S1_4) (Shape.Idx.first numel1_S1.symm.le))⟩,
   ⟨Rect.unit (s := S1x10x256x128) ![0, 3, 0, 0] ![1, 1, 256, 128] inb_S1x10x256x128_S1x1x256x128_0_3_0_0, k0_pay2 (F := Ideal) (hq m c t G 256 inb_S5120x1792_S5120x256_0_256 128 slices_S256x256_o0_128_S256x128) (View.ld (iblk m c 1 t) (Rect.unit ![3] ![1] inb_S10_S1_3) (Shape.Idx.first numel1_S1.symm.le))⟩,
   ⟨Rect.unit (s := S1x10x256x128) ![0, 2, 0, 0] ![1, 1, 256, 128] inb_S1x10x256x128_S1x1x256x128_0_2_0_0, k0_pay2 (F := Ideal) (hq m c t G 256 inb_S5120x1792_S5120x256_0_256 0 slices_S256x256_o0_0_S256x128) (View.ld (iblk m c 1 t) (Rect.unit ![2] ![1] inb_S10_S1_2) (Shape.Idx.first numel1_S1.symm.le))⟩,
   ⟨Rect.unit (s := S1x10x256x128) ![0, 1, 0, 0] ![1, 1, 256, 128] inb_S1x10x256x128_S1x1x256x128_0_1_0_0, k0_pay2 (F := Ideal) (hq m c t G 0 inb_S5120x1792_S5120x256_0_0 128 slices_S256x256_o0_128_S256x128) (View.ld (iblk m c 1 t) (Rect.unit ![1] ![1] inb_S10_S1_1) (Shape.Idx.first numel1_S1.symm.le))⟩,
   ⟨Rect.unit (s := S1x10x256x128) ![0, 0, 0, 0] ![1, 1, 256, 128] inb_S1x10x256x128_S1x1x256x128_0_0_0_0, k0_pay2 (F := Ideal) (hq m c t G 0 inb_S5120x1792_S5120x256_0_0 0 slices_S256x256_o0_0_S256x128) (View.ld (iblk m c 1 t) (Rect.unit ![0] ![1] inb_S10_S1_0) (Shape.Idx.first numel1_S1.symm.le))⟩]

/-- The stores of one point into the block of the key heads' codes. -/
def st14 (c : Dev nD) (t : Fin cfg0.N) (G : GT) : List (View.Piece (Elt Ideal) S1x2x256x128 .fp8e4m3) :=
  [⟨Rect.unit (s := S1x2x256x128) ![0, 1, 0, 0] ![1, 1, 256, 128] inb_S1x2x256x128_S1x1x256x128_0_1_0_0, k0_pay2 (F := Ideal) (hk m c t G 1280 inb_S5120x1792_S5120x256_0_1280 128 slices_S256x256_o0_128_S256x128) (View.ld (iblk m c 2 t) (Rect.unit ![1] ![1] inb_S2_S1_1) (Shape.Idx.first numel1_S1.symm.le))⟩,
   ⟨Rect.unit (s := S1x2x256x128) ![0, 0, 0, 0] ![1, 1, 256, 128] inb_S1x2x256x128_S1x1x256x128_0_0_0_0, k0_pay2 (F := Ideal) (hk m c t G 1280 inb_S5120x1792_S5120x256_0_1280 0 slices_S256x256_o0_0_S256x128) (View.ld (iblk m c 2 t) (Rect.unit ![0] ![1] inb_S2_S1_0) (Shape.Idx.first numel1_S1.symm.le))⟩]

/-- The stores of one point into the block of the value heads' codes. -/
def st15 (c : Dev nD) (t : Fin cfg0.N) (G : GT) : List (View.Piece (Elt Ideal) S1x2x256x128 .fp8e4m3) :=
  [⟨Rect.unit (s := S1x2x256x128) ![0, 1, 0, 0] ![1, 1, 256, 128] inb_S1x2x256x128_S1x1x256x128_0_1_0_0, k0_pay2 (F := Ideal) (hv m c t G 1536 inb_S5120x1792_S5120x256_0_1536 128 slices_S256x256_o0_128_S256x128) (View.ld (iblk m c 3 t) (Rect.unit ![1] ![1] inb_S2_S1_1) (Shape.Idx.first numel1_S1.symm.le))⟩,
   ⟨Rect.unit (s := S1x2x256x128) ![0, 0, 0, 0] ![1, 1, 256, 128] inb_S1x2x256x128_S1x1x256x128_0_0_0_0, k0_pay2 (F := Ideal) (hv m c t G 1536 inb_S5120x1792_S5120x256_0_1536 0 slices_S256x256_o0_0_S256x128) (View.ld (iblk m c 3 t) (Rect.unit ![0] ![1] inb_S2_S1_0) (Shape.Idx.first numel1_S1.symm.le))⟩]

/-- The stores of one point into the block of the codes. -/
abbrev st12 (c : Dev nD) (t : Fin cfg0.N) (G : GT) : List (View.Piece (Elt Ideal) S256x5120 .fp8e4m3) := (P m c t G 8).1

/-- What the first point leaves in the block of result 0. -/
theorem o12A (c : Dev nD) (t : Fin cfg0.N) (h0 : t.val % 32 = 0) (h1 : ¬t.val % 32 = 31) : (outsAt0 m c t.val t.isLt).1 = View.canon (st12 m c t GA) := by
  rw [outsAt0_A m c t h0 h1]; unfold outA runA
  frame_out
  rfl

/-- What the first point leaves in the block of result 1. -/
theorem o13A (c : Dev nD) (t : Fin cfg0.N) (h0 : t.val % 32 = 0) (h1 : ¬t.val % 32 = 31) : (outsAt0 m c t.val t.isLt).2.1 = View.canon (st13 m c t GA) := by
  rw [outsAt0_A m c t h0 h1]; unfold outA runA
  frame_out
  rfl

/-- What the first point leaves in the block of result 2. -/
theorem o14A (c : Dev nD) (t : Fin cfg0.N) (h0 : t.val % 32 = 0) (h1 : ¬t.val % 32 = 31) : (outsAt0 m c t.val t.isLt).2.2.1 = View.canon (st14 m c t GA) := by
  rw [outsAt0_A m c t h0 h1]; unfold outA runA
  frame_out
  rfl

/-- What the first point leaves in the block of result 3. -/
theorem o15A (c : Dev nD) (t : Fin cfg0.N) (h0 : t.val % 32 = 0) (h1 : ¬t.val % 32 = 31) : (outsAt0 m c t.val t.isLt).2.2.2.1 = View.canon (st15 m c t GA) := by
  rw [outsAt0_A m c t h0 h1]; unfold outA runA
  frame_out
  rfl

/-- What the point between leaves in the block of result 0. -/
theorem o12B (c : Dev nD) (t : Fin cfg0.N) (h0 : ¬t.val % 32 = 0) (h1 : ¬t.val % 32 = 31) : (outsAt0 m c t.val t.isLt).1 = View.canon (st12 m c t (GB (outsAt0 m c (t.val - 1) (lt_of_le_of_lt (Nat.sub_le _ _) t.isLt)).2.2.2.2.2.2.2.2.1)) := by
  rw [outsAt0_B m c t h0 h1]; unfold outB runB
  frame_out
  rfl

/-- What the point between leaves in the block of result 1. -/
theorem o13B (c : Dev nD) (t : Fin cfg0.N) (h0 : ¬t.val % 32 = 0) (h1 : ¬t.val % 32 = 31) : (outsAt0 m c t.val t.isLt).2.1 = View.canon (st13 m c t (GB (outsAt0 m c (t.val - 1) (lt_of_le_of_lt (Nat.sub_le _ _) t.isLt)).2.2.2.2.2.2.2.2.1)) := by
  rw [outsAt0_B m c t h0 h1]; unfold outB runB
  frame_out
  rfl

/-- What the point between leaves in the block of result 2. -/
theorem o14B (c : Dev nD) (t : Fin cfg0.N) (h0 : ¬t.val % 32 = 0) (h1 : ¬t.val % 32 = 31) : (outsAt0 m c t.val t.isLt).2.2.1 = View.canon (st14 m c t (GB (outsAt0 m c (t.val - 1) (lt_of_le_of_lt (Nat.sub_le _ _) t.isLt)).2.2.2.2.2.2.2.2.1)) := by
  rw [outsAt0_B m c t h0 h1]; unfold outB runB
  frame_out
  rfl

/-- What the point between leaves in the block of result 3. -/
theorem o15B (c : Dev nD) (t : Fin cfg0.N) (h0 : ¬t.val % 32 = 0) (h1 : ¬t.val % 32 = 31) : (outsAt0 m c t.val t.isLt).2.2.2.1 = View.canon (st15 m c t (GB (outsAt0 m c (t.val - 1) (lt_of_le_of_lt (Nat.sub_le _ _) t.isLt)).2.2.2.2.2.2.2.2.1)) := by
  rw [outsAt0_B m c t h0 h1]; unfold outB runB
  frame_out
  rfl

/-- What the last point leaves in the block of result 0. -/
theorem o12C (c : Dev nD) (t : Fin cfg0.N) (h0 : ¬t.val % 32 = 0) (h1 : t.val % 32 = 31) : (outsAt0 m c t.val t.isLt).1 = View.canon (st12 m c t (GB (outsAt0 m c (t.val - 1) (lt_of_le_of_lt (Nat.sub_le _ _) t.isLt)).2.2.2.2.2.2.2.2.1)) := by
  rw [outsAt0_C m c t h0 h1]; unfold outC runC
  frame_out
  rfl

/-- What the last point leaves in the block of result 1. -/
theorem o13C (c : Dev nD) (t : Fin cfg0.N) (h0 : ¬t.val % 32 = 0) (h1 : t.val % 32 = 31) : (outsAt0 m c t.val t.isLt).2.1 = View.canon (st13 m c t (GB (outsAt0 m c (t.val - 1) (lt_of_le_of_lt (Nat.sub_le _ _) t.isLt)).2.2.2.2.2.2.2.2.1)) := by
  rw [outsAt0_C m c t h0 h1]; unfold outC runC
  frame_out
  rfl

/-- What the last point leaves in the block of result 2. -/
theorem o14C (c : Dev nD) (t : Fin cfg0.N) (h0 : ¬t.val % 32 = 0) (h1 : t.val % 32 = 31) : (outsAt0 m c t.val t.isLt).2.2.1 = View.canon (st14 m c t (GB (outsAt0 m c (t.val - 1) (lt_of_le_of_lt (Nat.sub_le _ _) t.isLt)).2.2.2.2.2.2.2.2.1)) := by
  rw [outsAt0_C m c t h0 h1]; unfold outC runC
  frame_out
  rfl

/-- What the last point leaves in the block of result 3. -/
theorem o15C (c : Dev nD) (t : Fin cfg0.N) (h0 : ¬t.val % 32 = 0) (h1 : t.val % 32 = 31) : (outsAt0 m c t.val t.isLt).2.2.2.1 = View.canon (st15 m c t (GB (outsAt0 m c (t.val - 1) (lt_of_le_of_lt (Nat.sub_le _ _) t.isLt)).2.2.2.2.2.2.2.2.1)) := by
  rw [outsAt0_C m c t h0 h1]; unfold outC runC
  frame_out
  rfl

end Cert.QkvIdeal.Value
-- ==== Proof.QkvMax.lean ====
module

public import proofs.«01_k».proof.Proof.QkvOuts
set_option maxRecDepth 16384
@[expose] public section
noncomputable section
open Idealize.ShloMosaic Idealize.ShloMosaic.TcCoe Idealize.SL.Sem
open Idealize.ShloMosaic.Pipeline (Dat)
namespace Cert.QkvIdeal.Value
open Cert.QkvIdeal Cert.QkvIdeal.Gen
open Cert.QkvMath (rinv nrm codes xmax proj hinv col opp cosv sinv rot qk head outQ outKV maxQ maxKV hmax hcodes S8192x1792)
variable (m : (ℓ : Loc nD τ sig) → Buf (Elt Ideal) ℓ)

/-- The stores of one point into the heads' maxima, which held `a`. -/
def sth (c : Dev nD) (t : Fin cfg0.N) (G : GT) (a : Vec Ideal S16x128 .f32) : List (View.Piece (Elt Ideal) S16x128 .f32) :=
  [⟨(Rect.unit (s := S16x128) ![13, 0] ![1, 128] inb_S16x128_S1x128_13_0), k0_pay1 (F := Ideal) (View.ld a (Rect.unit (s := S16x128) ![13, 0] ![1, 128] inb_S16x128_S1x128_13_0)) (absf (hv m c t G 1536 inb_S5120x1792_S5120x256_0_1536 128 slices_S256x256_o0_128_S256x128))⟩,
   ⟨(Rect.unit (s := S16x128) ![12, 0] ![1, 128] inb_S16x128_S1x128_12_0), k0_pay1 (F := Ideal) (View.ld a (Rect.unit (s := S16x128) ![12, 0] ![1, 128] inb_S16x128_S1x128_12_0)) (absf (hv m c t G 1536 inb_S5120x1792_S5120x256_0_1536 0 slices_S256x256_o0_0_S256x128))⟩,
   ⟨(Rect.unit (s := S16x128) ![11, 0] ![1, 128] inb_S16x128_S1x128_11_0), k0_pay1 (F := Ideal) (View.ld a (Rect.unit (s := S16x128) ![11, 0] ![1, 128] inb_S16x128_S1x128_11_0)) (absf (hk m c t G 1280 inb_S5120x1792_S5120x256_0_1280 128 slices_S256x256_o0_128_S256x128))⟩,
   ⟨(Rect.unit (s := S16x128) ![10, 0] ![1, 128] inb_S16x128_S1x128_10_0), k0_pay1 (F := Ideal) (View.ld a (Rect.unit (s := S16x128) ![10, 0] ![1, 128] inb_S16x128_S1x128_10_0)) (absf (hk m c t G 1280 inb_S5120x1792_S5120x256_0_1280 0 slices_S256x256_o0_0_S256x128))⟩,
   ⟨(Rect.unit (s := S16x128) ![9, 0] ![1, 128] inb_S16x128_S1x128_9_0), k0_pay1 (F := Ideal) (View.ld a (Rect.unit (s := S16x128) ![9, 0] ![1, 128] inb_S16x128_S1x128_9_0)) (absf (hq m c t G 1024 inb_S5120x1792_S5120x256_0_1024 128 slices_S256x256_o0_128_S256x128))⟩,
   ⟨(Rect.unit (s := S16x128) ![8, 0] ![1, 128] inb_S16x128_S1x128_8_0), k0_pay1 (F := Ideal) (View.ld a (Rect.unit (s := S16x128) ![8, 0] ![1, 128] inb_S16x128_S1x128_8_0)) (absf (hq m c t G 1024 inb_S5120x1792_S5120x256_0_1024 0 slices_S256x256_o0_0_S256x128))⟩,
   ⟨(Rect.unit (s := S16x128) ![7, 0] ![1, 128] inb_S16x128_S1x128_7_0), k0_pay1 (F := Ideal) (View.ld a (Rect.unit (s := S16x128) ![7, 0] ![1, 128] inb_S16x128_S1x128_7_0)) (absf (hq m c t G 768 inb_S5120x1792_S5120x256_0_768 128 slices_S256x256_o0_128_S256x128))⟩,
   ⟨(Rect.unit (s := S16x128) ![6, 0] ![1, 128] inb_S16x128_S1x128_6_0), k0_pay1 (F := Ideal) (View.ld a (Rect.unit (s := S16x128) ![6, 0] ![1, 128] inb_S16x128_S1x128_6_0)) (absf (hq m c t G 768 inb_S5120x1792_S5120x256_0_768 0 slices_S256x256_o0_0_S256x128))⟩,
   ⟨(Rect.unit (s := S16x128) ![5, 0] ![1, 128] inb_S16x128_S1x128_5_0), k0_pay1 (F := Ideal) (View.ld a (Rect.unit (s := S16x128) ![5, 0] ![1, 128] inb_S16x128_S1x128_5_0)) (absf (hq m c t G 512 inb_S5120x1792_S5120x256_0_512 128 slices_S256x256_o0_128_S256x128))⟩,
   ⟨(Rect.unit (s := S16x128) ![4, 0] ![1, 128] inb_S16x128_S1x128_4_0), k0_pay1 (F := Ideal) (View.ld a (Rect.unit (s := S16x128) ![4, 0] ![1, 128] inb_S16x128_S1x128_4_0)) (absf (hq m c t G 512 inb_S5120x1792_S5120x256_0_512 0 slices_S256x256_o0_0_S256x128))⟩,
   ⟨(Rect.unit (s := S16x128) ![3, 0] ![1, 128] inb_S16x128_S1x128_3_0), k0_pay1 (F := Ideal) (View.ld a (Rect.unit (s := S16x128) ![3, 0] ![1, 128] inb_S16x128_S1x128_3_0)) (absf (hq m c t G 256 inb_S5120x1792_S5120x256_0_256 128 slices_S256x256_o0_128_S256x128))⟩,
   ⟨(Rect.unit (s := S16x128) ![2, 0] ![1, 128] inb_S16x128_S1x128_2_0), k0_pay1 (F := Ideal) (View.ld a (Rect.unit (s := S16x128) ![2, 0] ![1, 128] inb_S16x128_S1x128_2_0)) (absf (hq m c t G 256 inb_S5120x1792_S5120x256_0_256 0 slices_S256x256_o0_0_S256x128))⟩,
   ⟨(Rect.unit (s := S16x128) ![1, 0] ![1, 128] inb_S16x128_S1x128_1_0), k0_pay1 (F := Ideal) (View.ld a (Rect.unit (s := S16x128) ![1, 0] ![1, 128] inb_S16x128_S1x128_1_0)) (absf (hq m c t G 0 inb_S5120x1792_S5120x256_0_0 128 slices_S256x256_o0_128_S256x128))⟩,
   ⟨(Rect.unit (s := S16x128) ![0, 0] ![1, 128] inb_S16x128_S1x128_0_0), k0_pay1 (F := Ideal) (View.ld a (Rect.unit (s := S16x128) ![0, 0] ![1, 128] inb_S16x128_S1x128_0_0)) (absf (hq m c t G 0 inb_S5120x1792_S5120x256_0_0 0 slices_S256x256_o0_0_S256x128))⟩]

/-- The heads' maxima after the first point. -/
theorem hmA (c : Dev nD) (t : Fin cfg0.N) (h0 : t.val % 32 = 0) (h1 : ¬t.val % 32 = 31) : (outsAt0 m c t.val t.isLt).2.2.2.2.2.2.2.2.2 = View.canon (sth m c t GA (k0_pay26 (F := Ideal)) ++ [⟨Rect.unit (s := S16x128) ![0, 0] ![16, 128] inb_S16x128_S16x128_0_0, k0_pay26 (F := Ideal)⟩]) := by
  rw [outsAt0_A m c t h0 h1]; unfold outA runA
  frame_out
  simp (disch := decide) only [View.readCov_skip, View.readCov_fill]
  rfl

/-- The heads' maxima after the point between. -/
theorem hmB (c : Dev nD) (t : Fin cfg0.N) (h0 : ¬t.val % 32 = 0) (h1 : ¬t.val % 32 = 31) : (outsAt0 m c t.val t.isLt).2.2.2.2.2.2.2.2.2 = View.read (Elt Ideal) scM0_1.view (scM0_1.view.writes (Elt Ideal)
    ((Memref.isWhole_whole _ : scM0_1.IsWhole).unread (outsAt0 m c (t.val - 1) (lt_of_le_of_lt (Nat.sub_le _ _) t.isLt)).2.2.2.2.2.2.2.2.2) (sth m c t (GB (outsAt0 m c (t.val - 1) (lt_of_le_of_lt (Nat.sub_le _ _) t.isLt)).2.2.2.2.2.2.2.2.1) (outsAt0 m c (t.val - 1) (lt_of_le_of_lt (Nat.sub_le _ _) t.isLt)).2.2.2.2.2.2.2.2.2)) := by
  rw [outsAt0_B m c t h0 h1]; unfold outB runB
  frame_out
  simp only [read_unread_whole]
  rfl

/-- The heads' maxima after the last point. -/
theorem hmC (c : Dev nD) (t : Fin cfg0.N) (h0 : ¬t.val % 32 = 0) (h1 : t.val % 32 = 31) : (outsAt0 m c t.val t.isLt).2.2.2.2.2.2.2.2.2 = View.read (Elt Ideal) scM0_1.view (scM0_1.view.writes (Elt Ideal)
    ((Memref.isWhole_whole _ : scM0_1.IsWhole).unread (outsAt0 m c (t.val - 1) (lt_of_le_of_lt (Nat.sub_le _ _) t.isLt)).2.2.2.2.2.2.2.2.2) (sth m c t (GB (outsAt0 m c (t.val - 1) (lt_of_le_of_lt (Nat.sub_le _ _) t.isLt)).2.2.2.2.2.2.2.2.1) (outsAt0 m c (t.val - 1) (lt_of_le_of_lt (Nat.sub_le _ _) t.isLt)).2.2.2.2.2.2.2.2.2)) := by
  rw [outsAt0_C m c t h0 h1]; unfold outC runC
  frame_out
  simp only [read_unread_whole]
  rfl

/-- The lanes' maxima after the first point. -/
theorem xmA (c : Dev nD) (t : Fin cfg0.N) (h0 : t.val % 32 = 0) (h1 : ¬t.val % 32 = 31) : (outsAt0 m c t.val t.isLt).2.2.2.2.2.2.2.2.1 = View.read (Elt Ideal) scM0_0.view (scM0_0.view.writes (Elt Ideal) GA (P m c t GA 8).2) := by
  rw [outsAt0_A m c t h0 h1]; unfold outA runA
  frame_out
  exact canon_P2 m c t GA _

/-- The lanes' maxima after the point between. -/
theorem xmB (c : Dev nD) (t : Fin cfg0.N) (h0 : ¬t.val % 32 = 0) (h1 : ¬t.val % 32 = 31) : (outsAt0 m c t.val t.isLt).2.2.2.2.2.2.2.2.1 = View.read (Elt Ideal) scM0_0.view (scM0_0.view.writes (Elt Ideal) (GB (outsAt0 m c (t.val - 1) (lt_of_le_of_lt (Nat.sub_le _ _) t.isLt)).2.2.2.2.2.2.2.2.1) (P m c t (GB (outsAt0 m c (t.val - 1) (lt_of_le_of_lt (Nat.sub_le _ _) t.isLt)).2.2.2.2.2.2.2.2.1) 8).2) := by
  rw [outsAt0_B m c t h0 h1]; unfold outB runB
  frame_out
  rw [← canon_P2 m c t _ [], List.append_nil]
  rfl

/-- The lanes' maxima after the last point. -/
theorem xmC (c : Dev nD) (t : Fin cfg0.N) (h0 : ¬t.val % 32 = 0) (h1 : t.val % 32 = 31) : (outsAt0 m c t.val t.isLt).2.2.2.2.2.2.2.2.1 = View.read (Elt Ideal) scM0_0.view (scM0_0.view.writes (Elt Ideal) (GB (outsAt0 m c (t.val - 1) (lt_of_le_of_lt (Nat.sub_le _ _) t.isLt)).2.2.2.2.2.2.2.2.1) (P m c t (GB (outsAt0 m c (t.val - 1) (lt_of_le_of_lt (Nat.sub_le _ _) t.isLt)).2.2.2.2.2.2.2.2.1) 8).2) := by
  rw [outsAt0_C m c t h0 h1]; unfold outC runC
  frame_out
  rw [← canon_P2 m c t _ [], List.append_nil]
  rfl

end Cert.QkvIdeal.Value
-- ==== Proof.QkvRows.lean ====
module

public import proofs.«01_k».proof.Proof.QkvMax
set_option maxRecDepth 16384
@[expose] public section
noncomputable section
open Idealize.ShloMosaic Idealize.ShloMosaic.TcCoe Idealize.SL.Sem
open Idealize.ShloMosaic.Pipeline (Dat)
namespace Cert.QkvIdeal.Value
open Cert.QkvIdeal Cert.QkvIdeal.Gen
open Cert.QkvMath (rinv nrm codes xmax proj hinv col opp cosv sinv rot qk head outQ outKV maxQ maxKV hmax hcodes S8192x1792)
variable (m : (ℓ : Loc nD τ sig) → Buf (Elt Ideal) ℓ)

/-- The row of one head in the heads' maxima. -/
abbrev rowR (n : Fin 14) : Rect S16x128 := Rect.unit (s := S16x128) ![n.val, 0] ![1, 128] (fun a => match a with
  | ⟨0, _⟩ => by have := n.isLt; show n.val + 1 ≤ 16; omega
  | ⟨1, _⟩ => by show 0 + 128 ≤ 128; omega)

/-- The heads of one point. -/
def hd (c : Dev nD) (t : Fin cfg0.N) (G : GT) : Fin 14 → FVec Ideal S256x128 .f32 :=
  ![(hq m c t G 0 inb_S5120x1792_S5120x256_0_0 0 slices_S256x256_o0_0_S256x128),
   (hq m c t G 0 inb_S5120x1792_S5120x256_0_0 128 slices_S256x256_o0_128_S256x128),
   (hq m c t G 256 inb_S5120x1792_S5120x256_0_256 0 slices_S256x256_o0_0_S256x128),
   (hq m c t G 256 inb_S5120x1792_S5120x256_0_256 128 slices_S256x256_o0_128_S256x128),
   (hq m c t G 512 inb_S5120x1792_S5120x256_0_512 0 slices_S256x256_o0_0_S256x128),
   (hq m c t G 512 inb_S5120x1792_S5120x256_0_512 128 slices_S256x256_o0_128_S256x128),
   (hq m c t G 768 inb_S5120x1792_S5120x256_0_768 0 slices_S256x256_o0_0_S256x128),
   (hq m c t G 768 inb_S5120x1792_S5120x256_0_768 128 slices_S256x256_o0_128_S256x128),
   (hq m c t G 1024 inb_S5120x1792_S5120x256_0_1024 0 slices_S256x256_o0_0_S256x128),
   (hq m c t G 1024 inb_S5120x1792_S5120x256_0_1024 128 slices_S256x256_o0_128_S256x128),
   (hk m c t G 1280 inb_S5120x1792_S5120x256_0_1280 0 slices_S256x256_o0_0_S256x128),
   (hk m c t G 1280 inb_S5120x1792_S5120x256_0_1280 128 slices_S256x256_o0_128_S256x128),
   (hv m c t G 1536 inb_S5120x1792_S5120x256_0_1536 0 slices_S256x256_o0_0_S256x128),
   (hv m c t G 1536 inb_S5120x1792_S5120x256_0_1536 128 slices_S256x256_o0_128_S256x128)]

/-- The heads of one point are those of its rows. -/
theorem hd_eq (c : Dev nD) (t : Fin cfg0.N) (hz : (m ((c : Thread nD τ).loc main_arg0)) (ix1 0) ≠ (0 : EReal)) (G : GT) (n : Fin 14) (x : Fin 256) (l : Fin 128) :
    hd m c t G n (ix2 x l) = heads m c n (rowT t x) l := by
  match n with
  | ⟨0, _⟩ => exact hq_eq m c t hz G 0 inb_S5120x1792_S5120x256_0_0 0 slices_S256x256_o0_0_S256x128 0 rfl (by decide) (by decide) x l
  | ⟨1, _⟩ => exact hq_eq m c t hz G 0 inb_S5120x1792_S5120x256_0_0 128 slices_S256x256_o0_128_S256x128 1 rfl (by decide) (by decide) x l
  | ⟨2, _⟩ => exact hq_eq m c t hz G 256 inb_S5120x1792_S5120x256_0_256 0 slices_S256x256_o0_0_S256x128 2 rfl (by decide) (by decide) x l
  | ⟨3, _⟩ => exact hq_eq m c t hz G 256 inb_S5120x1792_S5120x256_0_256 128 slices_S256x256_o0_128_S256x128 3 rfl (by decide) (by decide) x l
  | ⟨4, _⟩ => exact hq_eq m c t hz G 512 inb_S5120x1792_S5120x256_0_512 0 slices_S256x256_o0_0_S256x128 4 rfl (by decide) (by decide) x l
  | ⟨5, _⟩ => exact hq_eq m c t hz G 512 inb_S5120x1792_S5120x256_0_512 128 slices_S256x256_o0_128_S256x128 5 rfl (by decide) (by decide) x l
  | ⟨6, _⟩ => exact hq_eq m c t hz G 768 inb_S5120x1792_S5120x256_0_768 0 slices_S256x256_o0_0_S256x128 6 rfl (by decide) (by decide) x l
  | ⟨7, _⟩ => exact hq_eq m c t hz G 768 inb_S5120x1792_S5120x256_0_768 128 slices_S256x256_o0_128_S256x128 7 rfl (by decide) (by decide) x l
  | ⟨8, _⟩ => exact hq_eq m c t hz G 1024 inb_S5120x1792_S5120x256_0_1024 0 slices_S256x256_o0_0_S256x128 8 rfl (by decide) (by decide) x l
  | ⟨9, _⟩ => exact hq_eq m c t hz G 1024 inb_S5120x1792_S5120x256_0_1024 128 slices_S256x256_o0_128_S256x128 9 rfl (by decide) (by decide) x l
  | ⟨10, _⟩ => exact hk_eq m c t hz G 1280 inb_S5120x1792_S5120x256_0_1280 0 slices_S256x256_o0_0_S256x128 10 rfl (by decide) (by decide) (by decide) x l
  | ⟨11, _⟩ => exact hk_eq m c t hz G 1280 inb_S5120x1792_S5120x256_0_1280 128 slices_S256x256_o0_128_S256x128 11 rfl (by decide) (by decide) (by decide) x l
  | ⟨12, _⟩ => exact hv_head m c t hz G 1536 inb_S5120x1792_S5120x256_0_1536 0 slices_S256x256_o0_0_S256x128 12 rfl (by decide) (by decide) x l
  | ⟨13, _⟩ => exact hv_head m c t hz G 1536 inb_S5120x1792_S5120x256_0_1536 128 slices_S256x256_o0_128_S256x128 13 rfl (by decide) (by decide) x l

/-- A read of one head's row after the stores of one point. -/
theorem row_back (c : Dev nD) (t : Fin cfg0.N) (G : GT) (a : Vec Ideal S16x128 .f32) (L : List (View.Piece (Elt Ideal) S16x128 .f32)) (n : Fin 14) :
    scM0_1.view.readCov (sth m c t G a ++ L) (rowR n).toLoadRect = k0_pay1 (F := Ideal) (View.ld a (rowR n)) (absf (hd m c t G n)) := by
  unfold sth
  simp only [List.cons_append, List.nil_append]
  fin_cases n
  all_goals
    simp (disch := decide) only [View.readCov_skip]
    exact View.readCov_cons_toLoadRect _ _ _ _

/-- One head's row after the stores of one point, whatever was there. -/
theorem row_read (c : Dev nD) (t : Fin cfg0.N) (G : GT) (a : Vec Ideal S16x128 .f32) (f : BufTy.Contents (Elt Ideal) scM0_1.view.ty) (n : Fin 14) :
    View.ld (View.read (Elt Ideal) scM0_1.view (scM0_1.view.writes (Elt Ideal) f (sth m c t G a))) (rowR n) = k0_pay1 (F := Ideal) (View.ld a (rowR n)) (absf (hd m c t G n)) := by
  rw [← row_back m c t G a [] n, View.readCov_eq_canon', List.append_nil]
  funext j
  refine View.read_writes_apply_eq_canon _ _ _ _ ?_
  have hs : (rowR n).idx j ∈ (rowR n).set := (rowR n).idx_mem j
  have hm : ∃ w, (⟨rowR n, w⟩ : View.Piece (Elt Ideal) S16x128 .f32) ∈ sth m c t G a := by
    unfold sth
    fin_cases n
    all_goals
      refine ⟨?_, ?_⟩
      swap
      repeat first | exact List.mem_cons_self | apply List.mem_cons_of_mem
  obtain ⟨w, hw⟩ := hm
  exact ⟨_, hw, hs⟩

end Cert.QkvIdeal.Value
-- ==== Proof.QkvBounds.lean ====
module

public import proofs.«01_k».proof.Proof.QkvRows
set_option maxRecDepth 16384
@[expose] public section
noncomputable section
open Idealize.ShloMosaic Idealize.ShloMosaic.TcCoe Idealize.SL.Sem
open Idealize.ShloMosaic.Pipeline (Dat)
namespace Cert.QkvIdeal.Value
open Cert.QkvIdeal Cert.QkvIdeal.Gen
open Cert.QkvMath (rinv nrm codes xmax proj hinv col opp cosv sinv rot qk head outQ outKV maxQ maxKV hmax hcodes S8192x1792)
variable (m : (ℓ : Loc nD τ sig) → Buf (Elt Ideal) ℓ)

/-- A bound of the lanes' maxima after point `n`: a bound of the absolute values of the rows up to that point. -/
theorem xm_le (c : Dev nD) (x : Fin 32) (l : Fin 128) (b : EReal) : ∀ (n : ℕ) (hn : n < cfg0.N), (outsAt0 m c n hn).2.2.2.2.2.2.2.2.1 (ix2 x l) ≤ b ↔
    0 ≤ b ∧ ∀ i : S8192x5120.Idx, (i 0).val / 256 ≤ n → (i 0).val % 32 = x.val → absM m c i ≤ b
  | 0, hn => by
    have hx := xmA m c ⟨0, hn⟩ rfl (by show ¬ 0 % 32 = 31; decide)
    have hg : View.read (Elt Ideal) scM0_0.view GA (ix2 x l) = 0 := by
      unfold GA
      rw [read_whole]
      pointwise [k0_pay25]
    have hp := read_P m c ⟨0, hn⟩ GA x l b 8 le_rfl
    rw [hg] at hp
    dsimp only at hx hp
    rw [hx, hp]
    refine and_congr_right fun _ => forall_congr' fun i => ?_
    exact ⟨fun h h1 h2 => h (by omega) (by omega) h2, fun h h1 h2 h3 => h (by omega) h3⟩
  | n + 1, hn => by
    have hN : n + 1 < 32 := lt_of_lt_of_eq hn N_0
    have ih := xm_le c x l b n (by omega)
    have hg : View.read (Elt Ideal) scM0_0.view (GB (outsAt0 m c n (by omega)).2.2.2.2.2.2.2.2.1) = (outsAt0 m c n (by omega)).2.2.2.2.2.2.2.2.1 := Memref.IsWhole.read_unread _ _
    have hp := read_P m c ⟨n + 1, hn⟩ (GB (outsAt0 m c n (by omega)).2.2.2.2.2.2.2.2.1) x l b 8 le_rfl
    rw [hg, ih] at hp
    have hx : (outsAt0 m c (n + 1) hn).2.2.2.2.2.2.2.2.1 = View.read (Elt Ideal) scM0_0.view (scM0_0.view.writes (Elt Ideal) (GB (outsAt0 m c n (by omega)).2.2.2.2.2.2.2.2.1) (P m c ⟨n + 1, hn⟩ (GB (outsAt0 m c n (by omega)).2.2.2.2.2.2.2.2.1) 8).2) := by
      rcases Decidable.em ((n + 1) % 32 = 31) with h | h
      · exact xmC m c ⟨n + 1, hn⟩ (by show ¬(n + 1) % 32 = 0; omega) h
      · exact xmB m c ⟨n + 1, hn⟩ (by show ¬(n + 1) % 32 = 0; omega) h
    rw [hx, hp, and_assoc]
    refine and_congr_right fun _ => ?_
    dsimp only
    constructor
    · rintro ⟨h1, h2⟩ i hi hm
      rcases Nat.lt_or_ge ((i 0).val / 256) (n + 1) with h | h
      · exact h1 i (by omega) hm
      · exact h2 i (by omega) (by omega) hm
    · intro h
      exact ⟨fun i hi hm => h i (by omega) hm, fun i h1 h2 hm => h i (by omega) hm⟩

/-- A bound of one head's row after a point's stores. -/
theorem hrow_le (c : Dev nD) (t : Fin cfg0.N) (hz : (m ((c : Thread nD τ).loc main_arg0)) (ix1 0) ≠ (0 : EReal)) (G : GT) (a : Vec Ideal S16x128 .f32) (n : Fin 14) (l : Fin 128) (b : EReal) :
    k0_pay1 (F := Ideal) (View.ld a (rowR n)) (absf (hd m c t G n)) (ix2 0 l) ≤ b ↔ View.ld a (rowR n) (ix2 0 l) ≤ b ∧
      ∀ r : Fin 8192, r.val / 256 = t.val → (FloatOps.absf (F := Ideal) (φ := .f32) (heads m c n r l) : EReal) ≤ b := by
  rw [pay1_le]
  refine and_congr_right fun _ => ?_
  have e : ∀ x : Fin 256, absf (hd m c t G n) (ix2 x l) = FloatOps.absf (F := Ideal) (φ := .f32) (heads m c n (rowT t x) l) := fun x => by
    rw [← hd_eq m c t hz G n x l]
    rfl
  constructor
  · intro h r hr
    have := h ⟨r.val % 256, Nat.mod_lt _ (by omega)⟩
    rw [e] at this
    have er : rowT t ⟨r.val % 256, Nat.mod_lt _ (by omega)⟩ = r := Fin.ext (by unfold rowT; dsimp only; omega)
    rwa [er] at this
  · intro h x
    rw [e]
    exact h _ (by unfold rowT; dsimp only; omega)

/-- A bound of one head's maxima after point `p`: a bound of its absolute values in the rows up to that point. -/
theorem hm_le (c : Dev nD) (hz : (m ((c : Thread nD τ).loc main_arg0)) (ix1 0) ≠ (0 : EReal)) (n : Fin 14) (l : Fin 128) (b : EReal) : ∀ (p : ℕ) (hp : p < cfg0.N), View.ld (outsAt0 m c p hp).2.2.2.2.2.2.2.2.2 (rowR n) (ix2 0 l) ≤ b ↔
    0 ≤ b ∧ ∀ r : Fin 8192, r.val / 256 ≤ p → (FloatOps.absf (F := Ideal) (φ := .f32) (heads m c n r l) : EReal) ≤ b
  | 0, hp => by
    have hx := hmA m c ⟨0, hp⟩ rfl (by show ¬ 0 % 32 = 31; decide)
    dsimp only at hx
    have hb := row_back m c ⟨0, hp⟩ GA (k0_pay26 (F := Ideal)) [⟨Rect.unit (s := S16x128) ![0, 0] ![16, 128] inb_S16x128_S16x128_0_0, k0_pay26 (F := Ideal)⟩] n
    rw [View.readCov_eq_canon'] at hb
    rw [hx]
    refine (show _ ↔ _ from by rw [show View.ld _ (rowR n) (ix2 0 l) = _ from congrFun hb _]).trans ?_
    rw [hrow_le m c _ hz]
    have h0 : k0_pay26 (F := Ideal) ((rowR n).idx (ix2 0 l)) = (0 : EReal) := by
      pointwise [k0_pay26]
    refine and_congr (by show k0_pay26 (F := Ideal) ((rowR n).idx (ix2 0 l)) ≤ b ↔ _; rw [h0]) (forall_congr' fun r => ?_)
    exact ⟨fun h h1 => h (by dsimp only; omega), fun h h1 => h (by dsimp only at h1; omega)⟩
  | p + 1, hp => by
    have hN : p + 1 < 32 := lt_of_lt_of_eq hp N_0
    have ih := hm_le c hz n l b p (by omega)
    have hx : ∃ G, (outsAt0 m c (p + 1) hp).2.2.2.2.2.2.2.2.2 = View.read (Elt Ideal) scM0_1.view (scM0_1.view.writes (Elt Ideal)
        ((Memref.isWhole_whole _ : scM0_1.IsWhole).unread (outsAt0 m c p (by omega)).2.2.2.2.2.2.2.2.2) (sth m c ⟨p + 1, hp⟩ G (outsAt0 m c p (by omega)).2.2.2.2.2.2.2.2.2)) := by
      rcases Decidable.em ((p + 1) % 32 = 31) with h | h
      · exact ⟨_, hmC m c ⟨p + 1, hp⟩ (by show ¬(p + 1) % 32 = 0; omega) h⟩
      · exact ⟨_, hmB m c ⟨p + 1, hp⟩ (by show ¬(p + 1) % 32 = 0; omega) h⟩
    obtain ⟨G, hx⟩ := hx
    rw [hx, row_read, hrow_le m c _ hz, ih, and_assoc]
    refine and_congr_right fun _ => ?_
    dsimp only
    constructor
    · rintro ⟨h1, h2⟩ r hr
      rcases Nat.lt_or_ge (r.val / 256) (p + 1) with h | h
      · exact h1 r (by omega)
      · exact h2 r (by omega)
    · intro h
      exact ⟨fun r hr => h r (by omega), fun r hr => h r (by omega)⟩

/-- The maximum over the lanes' maxima. -/
theorem pay13_le (v : Vec Ideal S32x128 .f32) (b : EReal) : k0_pay13 (F := Ideal) v ≤ b ↔ ∀ x l, v (ix2 x l) ≤ b := by
  pointwise [k0_pay13]
  rw [Finset.fold_max_le]
  simp only [Finset.mem_univ, true_implies, Prod.forall]
  rw [Cert.Common.ofBits_neg_inf]
  exact ⟨fun h x l => h.2 _ _, fun h => ⟨bot_le, fun x y => h _ _⟩⟩

/-- The maximum over one row of the heads' maxima. -/
theorem pay3_le (v : Vec Ideal S1x128 .f32) (b : EReal) : k0_pay3 (F := Ideal) v ≤ b ↔ ∀ l, v (ix2 0 l) ≤ b := by
  pointwise [k0_pay3]
  rw [Finset.fold_max_le]
  simp only [Finset.mem_univ, true_implies, Prod.forall]
  rw [Cert.Common.ofBits_neg_inf]
  exact ⟨fun h l => h.2 0 _, fun h => ⟨bot_le, fun x y => h _⟩⟩

/-- The last point stores the maximum over the lanes' maxima. -/
theorem o16 (c : Dev nD) (t : Fin cfg0.N) (h0 : ¬t.val % 32 = 0) (h1 : t.val % 32 = 31) : (outsAt0 m c t.val t.isLt).2.2.2.2.1 = fun _ => k0_pay13 (F := Ideal) (outsAt0 m c t.val t.isLt).2.2.2.2.2.2.2.2.1 := by
  rw [xmC m c t h0 h1, outsAt0_C m c t h0 h1]; unfold outC runC
  frame_out
  rfl

/-- The stores of the query heads' greatest absolute values. -/
def st17 (c : Dev nD) (t : Fin cfg0.N) (G : GT) (a : Vec Ideal S16x128 .f32) : List (View.Piece (Elt Ideal) S10 .f32) :=
  [⟨Rect.unit (s := S10) ![9] ![1] inb_S10_S1_9, fun _ => k0_pay3 (F := Ideal) (k0_pay1 (F := Ideal) (View.ld a (rowR 9)) (absf (hd m c t G 9)))⟩,
   ⟨Rect.unit (s := S10) ![8] ![1] inb_S10_S1_8, fun _ => k0_pay3 (F := Ideal) (k0_pay1 (F := Ideal) (View.ld a (rowR 8)) (absf (hd m c t G 8)))⟩,
   ⟨Rect.unit (s := S10) ![7] ![1] inb_S10_S1_7, fun _ => k0_pay3 (F := Ideal) (k0_pay1 (F := Ideal) (View.ld a (rowR 7)) (absf (hd m c t G 7)))⟩,
   ⟨Rect.unit (s := S10) ![6] ![1] inb_S10_S1_6, fun _ => k0_pay3 (F := Ideal) (k0_pay1 (F := Ideal) (View.ld a (rowR 6)) (absf (hd m c t G 6)))⟩,
   ⟨Rect.unit (s := S10) ![5] ![1] inb_S10_S1_5, fun _ => k0_pay3 (F := Ideal) (k0_pay1 (F := Ideal) (View.ld a (rowR 5)) (absf (hd m c t G 5)))⟩,
   ⟨Rect.unit (s := S10) ![4] ![1] inb_S10_S1_4, fun _ => k0_pay3 (F := Ideal) (k0_pay1 (F := Ideal) (View.ld a (rowR 4)) (absf (hd m c t G 4)))⟩,
   ⟨Rect.unit (s := S10) ![3] ![1] inb_S10_S1_3, fun _ => k0_pay3 (F := Ideal) (k0_pay1 (F := Ideal) (View.ld a (rowR 3)) (absf (hd m c t G 3)))⟩,
   ⟨Rect.unit (s := S10) ![2] ![1] inb_S10_S1_2, fun _ => k0_pay3 (F := Ideal) (k0_pay1 (F := Ideal) (View.ld a (rowR 2)) (absf (hd m c t G 2)))⟩,
   ⟨Rect.unit (s := S10) ![1] ![1] inb_S10_S1_1, fun _ => k0_pay3 (F := Ideal) (k0_pay1 (F := Ideal) (View.ld a (rowR 1)) (absf (hd m c t G 1)))⟩,
   ⟨Rect.unit (s := S10) ![0] ![1] inb_S10_S1_0, fun _ => k0_pay3 (F := Ideal) (k0_pay1 (F := Ideal) (View.ld a (rowR 0)) (absf (hd m c t G 0)))⟩]

/-- The last point stores the query heads' greatest absolute values. -/
theorem o17 (c : Dev nD) (t : Fin cfg0.N) (h0 : ¬t.val % 32 = 0) (h1 : t.val % 32 = 31) : (outsAt0 m c t.val t.isLt).2.2.2.2.2.1 = View.canon (st17 m c t (GB (outsAt0 m c (t.val - 1) (lt_of_le_of_lt (Nat.sub_le _ _) t.isLt)).2.2.2.2.2.2.2.2.1) (outsAt0 m c (t.val - 1) (lt_of_le_of_lt (Nat.sub_le _ _) t.isLt)).2.2.2.2.2.2.2.2.2) := by
  rw [outsAt0_C m c t h0 h1]; unfold outC runC
  frame_out
  simp only [read_unread_whole]
  simp (disch := decide) only [View.readCov_skip, View.readCov_cons_toLoadRect]
  rfl

/-- The stores of the key heads' greatest absolute values. -/
def st18 (c : Dev nD) (t : Fin cfg0.N) (G : GT) (a : Vec Ideal S16x128 .f32) : List (View.Piece (Elt Ideal) S2 .f32) :=
  [⟨Rect.unit (s := S2) ![1] ![1] inb_S2_S1_1, fun _ => k0_pay3 (F := Ideal) (k0_pay1 (F := Ideal) (View.ld a (rowR 11)) (absf (hd m c t G 11)))⟩,
   ⟨Rect.unit (s := S2) ![0] ![1] inb_S2_S1_0, fun _ => k0_pay3 (F := Ideal) (k0_pay1 (F := Ideal) (View.ld a (rowR 10)) (absf (hd m c t G 10)))⟩]

/-- The last point stores the key heads' greatest absolute values. -/
theorem o18 (c : Dev nD) (t : Fin cfg0.N) (h0 : ¬t.val % 32 = 0) (h1 : t.val % 32 = 31) : (outsAt0 m c t.val t.isLt).2.2.2.2.2.2.1 = View.canon (st18 m c t (GB (outsAt0 m c (t.val - 1) (lt_of_le_of_lt (Nat.sub_le _ _) t.isLt)).2.2.2.2.2.2.2.2.1) (outsAt0 m c (t.val - 1) (lt_of_le_of_lt (Nat.sub_le _ _) t.isLt)).2.2.2.2.2.2.2.2.2) := by
  rw [outsAt0_C m c t h0 h1]; unfold outC runC
  frame_out
  simp only [read_unread_whole]
  simp (disch := decide) only [View.readCov_skip, View.readCov_cons_toLoadRect]
  rfl

/-- The stores of the value heads' greatest absolute values. -/
def st19 (c : Dev nD) (t : Fin cfg0.N) (G : GT) (a : Vec Ideal S16x128 .f32) : List (View.Piece (Elt Ideal) S2 .f32) :=
  [⟨Rect.unit (s := S2) ![1] ![1] inb_S2_S1_1, fun _ => k0_pay3 (F := Ideal) (k0_pay1 (F := Ideal) (View.ld a (rowR 13)) (absf (hd m c t G 13)))⟩,
   ⟨Rect.unit (s := S2) ![0] ![1] inb_S2_S1_0, fun _ => k0_pay3 (F := Ideal) (k0_pay1 (F := Ideal) (View.ld a (rowR 12)) (absf (hd m c t G 12)))⟩]

/-- The last point stores the value heads' greatest absolute values. -/
theorem o19 (c : Dev nD) (t : Fin cfg0.N) (h0 : ¬t.val % 32 = 0) (h1 : t.val % 32 = 31) : (outsAt0 m c t.val t.isLt).2.2.2.2.2.2.2.1 = View.canon (st19 m c t (GB (outsAt0 m c (t.val - 1) (lt_of_le_of_lt (Nat.sub_le _ _) t.isLt)).2.2.2.2.2.2.2.2.1) (outsAt0 m c (t.val - 1) (lt_of_le_of_lt (Nat.sub_le _ _) t.isLt)).2.2.2.2.2.2.2.2.2) := by
  rw [outsAt0_C m c t h0 h1]; unfold outC runC
  frame_out
  simp only [read_unread_whole]
  simp (disch := decide) only [View.readCov_skip, View.readCov_cons_toLoadRect]
  rfl

end Cert.QkvIdeal.Value
-- ==== Proof.QkvValue.lean ====
module

public import proofs.«01_k».proof.Proof.QkvBounds
set_option maxRecDepth 16384
@[expose] public section
noncomputable section
open Idealize.ShloMosaic Idealize.ShloMosaic.TcCoe Idealize.SL.Sem
open Idealize.ShloMosaic.Pipeline (Dat)
namespace Cert.QkvIdeal.Value
open Cert.QkvIdeal Cert.QkvIdeal.Gen
open Cert.QkvMath (rinv nrm codes xmax proj hinv col opp cosv sinv rot qk head outQ outKV maxQ maxKV hmax hcodes S8192x1792)
variable (m : (ℓ : Loc nD τ sig) → Buf (Elt Ideal) ℓ)

/-- What a point leaves in the block of result 0. -/
theorem ex12 (c : Dev nD) (t : Fin cfg0.N) : ∃ G, (outsAt0 m c t.val t.isLt).1 = View.canon (st12 m c t G) := by
  rcases Decidable.em (t.val % 32 = 0) with h0 | h0
  · exact ⟨_, o12A m c t h0 (by omega)⟩
  · rcases Decidable.em (t.val % 32 = 31) with h1 | h1
    · exact ⟨_, o12C m c t h0 h1⟩
    · exact ⟨_, o12B m c t h0 h1⟩

/-- What a point leaves in the block of result 1. -/
theorem ex13 (c : Dev nD) (t : Fin cfg0.N) : ∃ G, (outsAt0 m c t.val t.isLt).2.1 = View.canon (st13 m c t G) := by
  rcases Decidable.em (t.val % 32 = 0) with h0 | h0
  · exact ⟨_, o13A m c t h0 (by omega)⟩
  · rcases Decidable.em (t.val % 32 = 31) with h1 | h1
    · exact ⟨_, o13C m c t h0 h1⟩
    · exact ⟨_, o13B m c t h0 h1⟩

/-- What a point leaves in the block of result 2. -/
theorem ex14 (c : Dev nD) (t : Fin cfg0.N) : ∃ G, (outsAt0 m c t.val t.isLt).2.2.1 = View.canon (st14 m c t G) := by
  rcases Decidable.em (t.val % 32 = 0) with h0 | h0
  · exact ⟨_, o14A m c t h0 (by omega)⟩
  · rcases Decidable.em (t.val % 32 = 31) with h1 | h1
    · exact ⟨_, o14C m c t h0 h1⟩
    · exact ⟨_, o14B m c t h0 h1⟩

/-- What a point leaves in the block of result 3. -/
theorem ex15 (c : Dev nD) (t : Fin cfg0.N) : ∃ G, (outsAt0 m c t.val t.isLt).2.2.2.1 = View.canon (st15 m c t G) := by
  rcases Decidable.em (t.val % 32 = 0) with h0 | h0
  · exact ⟨_, o15A m c t h0 (by omega)⟩
  · rcases Decidable.em (t.val % 32 = 31) with h1 | h1
    · exact ⟨_, o15C m c t h0 h1⟩
    · exact ⟨_, o15B m c t h0 h1⟩

/-- The array of the codes after the run. -/
theorem final12 (c : Dev nD) (hz : (m ((c : Thread nD τ).loc main_arg0)) (ix1 0) ≠ (0 : EReal)) : (dats m 0 c).arrAt 12 (cfgs 0).N = codes (m ((c : Thread nD τ).loc main_arg0)) (m ((c : Thread nD τ).loc main_arg5)) (m ((c : Thread nD τ).loc main_arg6)) := by
  refine (dats m 0 c).arrAt_eq_of_covers 12 _ (by decide +kernel) fun t hf y => ?_
  blk_simp
  rw [after0_12]
  obtain ⟨G, hG⟩ := ex12 m c t
  rw [hG]
  refine canon_P8 m c t hz G _ _ ?_ ?_
  all_goals (blk_simp [idx_val t] <;> try omega)

/-- The only place of a row of one entry. -/
theorem idx1 {N k : ℕ} (inb : ∀ a, (![k] : Fin 1 → ℕ) a + (![1] : Fin 1 → ℕ) a ≤ (![N] : Fin 1 → ℕ) a) (y : (Rect.unit (s := ⟨1, ![N]⟩) ![k] ![1] inb).shape.Idx) (j : Fin N) (h : j.val = k) :
    (Rect.unit (s := ⟨1, ![N]⟩) ![k] ![1] inb).idx y = ix1 j := by
  funext a
  match a with
  | ⟨0, _⟩ => exact Fin.ext (by show k + 1 * (y 0).val = j.val; have h1 : (y 0).val < 1 := (y 0).isLt; omega)

/-- One place of the codes of one head. -/
theorem piece (c : Dev nD) (t : Fin cfg0.N) (v : FVec Ideal S256x128 .f32) {N : ℕ} (a : ℕ) (ha : a + N ≤ 14) (S : Fin N → EReal) (sc : EReal) (x : S1x1x256x128.Idx) (b : Fin 4) (j : Fin N) (s : Fin 2048) (l : Fin 128)
    (k : ℕ) (hk : a + k < 14) (hv : ∀ x l, v (ix2 x l) = heads m c ⟨a + k, hk⟩ (rowT t x) l) (hs : ∀ j, S j ≠ 0) (hj : j.val = k + (x 1).val) (hsc : ∀ j : Fin N, j.val = k → sc = S j)
    (hb : b.val = t.val / 8 + (x 0).val) (hp : s.val = t.val % 8 * 256 + (x 2).val) (hl : l.val = (x 3).val) : k0_pay2 (F := Ideal) v sc x = hcodes (heads m c) S a ha b j s l := by
  have h0 : (x 0).val < 1 := (x 0).isLt
  have h1 : (x 1).val < 1 := (x 1).isLt
  have er : Cert.QkvMath.row b s = rowT t (x 2) := Fin.ext (by show b.val * 2048 + s.val = t.val * 256 + (x 2).val; omega)
  have el : l = x 3 := Fin.ext hl
  have en : (⟨a + j.val, by omega⟩ : Fin 14) = ⟨a + k, hk⟩ := Fin.ext (by show a + j.val = a + k; omega)
  rw [hsc j (by omega)]
  refine (code_eq v _ (hs j) x).trans ?_
  unfold hcodes
  rw [er, el, en]
  exact congrArg (fun u => Cert.Common.code u _) (hv (x 2) (x 3))

/-- The block of result 1's scales is its array. -/
theorem scale13 (c : Dev nD) (t : Fin cfg0.N) : iblk m c 1 t = (m ((c : Thread nD τ).loc main_arg1)) := by
  funext y
  blk_point [iblk, V, idx_val t]

/-- The array of the query heads' codes after the run. -/
theorem final13 (c : Dev nD) (hz : (m ((c : Thread nD τ).loc main_arg0)) (ix1 0) ≠ (0 : EReal)) (hs : ∀ j : Fin 10, (m ((c : Thread nD τ).loc main_arg1)) (ix1 j) ≠ (0 : EReal)) : (dats m 0 c).arrAt 13 (cfgs 0).N = outQ (heads m c) (m ((c : Thread nD τ).loc main_arg1)) := by
  refine (dats m 0 c).arrAt_eq_of_covers 13 _ (by decide +kernel) fun t hf y => ?_
  blk_simp
  rw [after0_13]
  obtain ⟨G, hG⟩ := ex13 m c t
  rw [hG]
  unfold st13
  have e0 : (((cfg0.win 13).blk t).view.emb y 0).val = t.val / 8 + (y 0).val := by blk_simp [idx_val t]
  have e1 : (((cfg0.win 13).blk t).view.emb y 1).val = (y 1).val := by blk_simp [idx_val t]
  have e2 : (((cfg0.win 13).blk t).view.emb y 2).val = t.val % 8 * 256 + (y 2).val := by blk_simp [idx_val t]
  have e3 : (((cfg0.win 13).blk t).view.emb y 3).val = (y 3).val := by blk_simp [idx_val t]
  canon_tiles x h
  all_goals
    unfold outQ
    rw [scale13 m c t]
    first
    | replace h1 := h1.trans (Nat.zero_add _).symm
      refine piece m c t _ _ _ _ _ x _ _ _ _ 0 (by decide) (fun p q => hq_eq m c t hz G _ _ _ _ _ (by decide) (by decide) (by decide) p q) hs (e1.trans h1) (fun j hj => ?_)
        (e0.trans (congrArg _ h0)) (e2.trans (congrArg _ h2)) (e3.trans h3)
    | refine piece m c t _ _ _ _ _ x _ _ _ _ _ (by decide) (fun p q => hq_eq m c t hz G _ _ _ _ _ (by decide) (by decide) (by decide) p q) hs (e1.trans h1) (fun j hj => ?_)
        (e0.trans (congrArg _ h0)) (e2.trans (congrArg _ h2)) (e3.trans h3)
    exact congrArg _ (idx1 _ _ j hj)

/-- The block of result 2's scales is its array. -/
theorem scale14 (c : Dev nD) (t : Fin cfg0.N) : iblk m c 2 t = (m ((c : Thread nD τ).loc main_arg2)) := by
  funext y
  blk_point [iblk, V, idx_val t]

/-- The array of the key heads' codes after the run. -/
theorem final14 (c : Dev nD) (hz : (m ((c : Thread nD τ).loc main_arg0)) (ix1 0) ≠ (0 : EReal)) (hs : ∀ j : Fin 2, (m ((c : Thread nD τ).loc main_arg2)) (ix1 j) ≠ (0 : EReal)) : (dats m 0 c).arrAt 14 (cfgs 0).N = outKV (heads m c) 10 (by omega) (m ((c : Thread nD τ).loc main_arg2)) := by
  refine (dats m 0 c).arrAt_eq_of_covers 14 _ (by decide +kernel) fun t hf y => ?_
  blk_simp
  rw [after0_14]
  obtain ⟨G, hG⟩ := ex14 m c t
  rw [hG]
  unfold st14
  have e0 : (((cfg0.win 14).blk t).view.emb y 0).val = t.val / 8 + (y 0).val := by blk_simp [idx_val t]
  have e1 : (((cfg0.win 14).blk t).view.emb y 1).val = (y 1).val := by blk_simp [idx_val t]
  have e2 : (((cfg0.win 14).blk t).view.emb y 2).val = t.val % 8 * 256 + (y 2).val := by blk_simp [idx_val t]
  have e3 : (((cfg0.win 14).blk t).view.emb y 3).val = (y 3).val := by blk_simp [idx_val t]
  canon_tiles x h
  all_goals
    unfold outKV
    rw [scale14 m c t]
    first
    | replace h1 := h1.trans (Nat.zero_add _).symm
      refine piece m c t _ _ _ _ _ x _ _ _ _ 0 (by decide) (fun p q => hk_eq m c t hz G _ _ _ _ _ (by decide) (by decide) (by decide) (by decide) p q) hs (e1.trans h1) (fun j hj => ?_)
        (e0.trans (congrArg _ h0)) (e2.trans (congrArg _ h2)) (e3.trans h3)
    | refine piece m c t _ _ _ _ _ x _ _ _ _ _ (by decide) (fun p q => hk_eq m c t hz G _ _ _ _ _ (by decide) (by decide) (by decide) (by decide) p q) hs (e1.trans h1) (fun j hj => ?_)
        (e0.trans (congrArg _ h0)) (e2.trans (congrArg _ h2)) (e3.trans h3)
    exact congrArg _ (idx1 _ _ j hj)

/-- The block of result 3's scales is its array. -/
theorem scale15 (c : Dev nD) (t : Fin cfg0.N) : iblk m c 3 t = (m ((c : Thread nD τ).loc main_arg3)) := by
  funext y
  blk_point [iblk, V, idx_val t]

/-- The array of the value heads' codes after the run. -/
theorem final15 (c : Dev nD) (hz : (m ((c : Thread nD τ).loc main_arg0)) (ix1 0) ≠ (0 : EReal)) (hs : ∀ j : Fin 2, (m ((c : Thread nD τ).loc main_arg3)) (ix1 j) ≠ (0 : EReal)) : (dats m 0 c).arrAt 15 (cfgs 0).N = outKV (heads m c) 12 (by omega) (m ((c : Thread nD τ).loc main_arg3)) := by
  refine (dats m 0 c).arrAt_eq_of_covers 15 _ (by decide +kernel) fun t hf y => ?_
  blk_simp
  rw [after0_15]
  obtain ⟨G, hG⟩ := ex15 m c t
  rw [hG]
  unfold st15
  have e0 : (((cfg0.win 15).blk t).view.emb y 0).val = t.val / 8 + (y 0).val := by blk_simp [idx_val t]
  have e1 : (((cfg0.win 15).blk t).view.emb y 1).val = (y 1).val := by blk_simp [idx_val t]
  have e2 : (((cfg0.win 15).blk t).view.emb y 2).val = t.val % 8 * 256 + (y 2).val := by blk_simp [idx_val t]
  have e3 : (((cfg0.win 15).blk t).view.emb y 3).val = (y 3).val := by blk_simp [idx_val t]
  canon_tiles x h
  all_goals
    unfold outKV
    rw [scale15 m c t]
    first
    | replace h1 := h1.trans (Nat.zero_add _).symm
      refine piece m c t _ _ _ _ _ x _ _ _ _ 0 (by decide) (fun p q => hv_head m c t hz G _ _ _ _ _ (by decide) (by decide) (by decide) p q) hs (e1.trans h1) (fun j hj => ?_)
        (e0.trans (congrArg _ h0)) (e2.trans (congrArg _ h2)) (e3.trans h3)
    | refine piece m c t _ _ _ _ _ x _ _ _ _ _ (by decide) (fun p q => hv_head m c t hz G _ _ _ _ _ (by decide) (by decide) (by decide) p q) hs (e1.trans h1) (fun j hj => ?_)
        (e0.trans (congrArg _ h0)) (e2.trans (congrArg _ h2)) (e3.trans h3)
    exact congrArg _ (idx1 _ _ j hj)

/-- The greatest absolute value after the last point. -/
theorem top_xm (c : Dev nD) (t : Fin cfg0.N) (h31 : t.val % 32 = 31) (j : S1.Idx) : k0_pay13 (F := Ideal) (outsAt0 m c t.val t.isLt).2.2.2.2.2.2.2.2.1 = xmax (m ((c : Thread nD τ).loc main_arg5)) (m ((c : Thread nD τ).loc main_arg6)) j := by
  have ht : t.val < 32 := lt_of_lt_of_eq t.isLt N_0
  refine eq_of_forall_ge_iff fun b => ?_
  unfold xmax
  rw [pay13_le, iSup_le_iff]
  constructor
  · intro h i
    have h0 : (i 0 : ℕ) < 8192 := (i 0).isLt
    exact ((xm_le m c ⟨(i 0 : ℕ) % 32, Nat.mod_lt _ (by omega)⟩ 0 b t.val t.isLt).mp (h _ _)).2 i (by omega) rfl
  · intro h x l
    exact (xm_le m c x l b t.val t.isLt).mpr ⟨le_trans (Cert.Common.abs_nonneg _) (h (ix2 0 0)), fun i _ _ => h i⟩

/-- The array of the greatest absolute value after the run. -/
theorem final16 (c : Dev nD) : (dats m 0 c).arrAt 16 (cfgs 0).N = xmax (m ((c : Thread nD τ).loc main_arg5)) (m ((c : Thread nD τ).loc main_arg6)) := by
  refine (dats m 0 c).arrAt_eq_of_covers 16 _ (by decide +kernel) fun t hf y => ?_
  blk_simp
  rw [after0_16]
  have ht : t.val < 32 := lt_of_lt_of_eq t.isLt N_0
  have h31 : t.val % 32 = 31 := (flush0_16 t).mp hf
  rw [o16 m c t (by omega) h31]
  exact top_xm m c t h31 _

/-- The greatest absolute value of one head after the last point. -/
theorem top_hm (c : Dev nD) (hz : (m ((c : Thread nD τ).loc main_arg0)) (ix1 0) ≠ (0 : EReal)) (t : Fin cfg0.N) (h0 : ¬t.val % 32 = 0) (h31 : t.val % 32 = 31) (n : Fin 14) :
    k0_pay3 (F := Ideal) (k0_pay1 (F := Ideal) (View.ld (outsAt0 m c (t.val - 1) (lt_of_le_of_lt (Nat.sub_le _ _) t.isLt)).2.2.2.2.2.2.2.2.2 (rowR n)) (absf (hd m c t (GB (outsAt0 m c (t.val - 1) (lt_of_le_of_lt (Nat.sub_le _ _) t.isLt)).2.2.2.2.2.2.2.2.1) n))) = hmax (heads m c) n := by
  have ht : t.val < 32 := lt_of_lt_of_eq t.isLt N_0
  have hx := hmC m c t h0 h31
  refine eq_of_forall_ge_iff fun b => ?_
  rw [← row_read, ← hx, pay3_le]
  unfold hmax
  rw [iSup_le_iff]
  constructor
  · rintro h ⟨r, l⟩
    exact ((hm_le m c hz n l b t.val t.isLt).mp (h l)).2 r (by have := r.isLt; omega)
  · intro h l
    exact (hm_le m c hz n l b t.val t.isLt).mpr ⟨le_trans (Cert.Common.abs_nonneg _) (h (0, 0)), fun r _ => h (r, l)⟩

/-- The array of the query heads' greatest absolute values after the run. -/
theorem final17 (c : Dev nD) (hz : (m ((c : Thread nD τ).loc main_arg0)) (ix1 0) ≠ (0 : EReal)) : (dats m 0 c).arrAt 17 (cfgs 0).N = maxQ (heads m c) := by
  refine (dats m 0 c).arrAt_eq_of_covers 17 _ (by decide +kernel) fun t hf y => ?_
  have e : (((cfg0.win 17).blk t).view.emb y : S10.Idx) = y := by blk_ext! [idx_val t]
  have ht : t.val < 32 := lt_of_lt_of_eq t.isLt N_0
  have h31 : t.val % 32 = 31 := (flush0_17 t).mp hf
  blk_simp
  rw [after0_17, o17 m c t (by omega) h31, e]
  unfold st17
  canon_tiles x h
  all_goals
    refine (top_hm m c hz t (by omega) h31 _).trans ?_
    exact congrArg (hmax _) (Fin.ext (by dsimp only; omega))

/-- The array of the key heads' greatest absolute values after the run. -/
theorem final18 (c : Dev nD) (hz : (m ((c : Thread nD τ).loc main_arg0)) (ix1 0) ≠ (0 : EReal)) : (dats m 0 c).arrAt 18 (cfgs 0).N = maxKV (heads m c) 10 (by omega) := by
  refine (dats m 0 c).arrAt_eq_of_covers 18 _ (by decide +kernel) fun t hf y => ?_
  have e : (((cfg0.win 18).blk t).view.emb y : S2.Idx) = y := by blk_ext! [idx_val t]
  have ht : t.val < 32 := lt_of_lt_of_eq t.isLt N_0
  have h31 : t.val % 32 = 31 := (flush0_18 t).mp hf
  blk_simp
  rw [after0_18, o18 m c t (by omega) h31, e]
  unfold st18
  canon_tiles x h
  all_goals
    refine (top_hm m c hz t (by omega) h31 _).trans ?_
    exact congrArg (hmax _) (Fin.ext (by dsimp only; omega))

/-- The array of the value heads' greatest absolute values after the run. -/
theorem final19 (c : Dev nD) (hz : (m ((c : Thread nD τ).loc main_arg0)) (ix1 0) ≠ (0 : EReal)) : (dats m 0 c).arrAt 19 (cfgs 0).N = maxKV (heads m c) 12 (by omega) := by
  refine (dats m 0 c).arrAt_eq_of_covers 19 _ (by decide +kernel) fun t hf y => ?_
  have e : (((cfg0.win 19).blk t).view.emb y : S2.Idx) = y := by blk_ext! [idx_val t]
  have ht : t.val < 32 := lt_of_lt_of_eq t.isLt N_0
  have h31 : t.val % 32 = 31 := (flush0_19 t).mp hf
  blk_simp
  rw [after0_19, o19 m c t (by omega) h31, e]
  unfold st19
  canon_tiles x h
  all_goals
    refine (top_hm m c hz t (by omega) h31 _).trans ?_
    exact congrArg (hmax _) (Fin.ext (by dsimp only; omega))

end Cert.QkvIdeal.Value
-- ==== Proof.QkvRefValue.lean ====
module

public import proofs.«01_k».proof.Proof.Gen.QkvRefIdeal.Value
public import proofs.«01_k».proof.Proof.QkvMath
public import Idealize.ShloMosaic.Lib.Pipeline.ValueKit
public import Idealize.ShloMosaic.Lib.Pipeline.ReadBack
set_option maxRecDepth 16384
@[expose] public section
noncomputable section
open Idealize.ShloMosaic Idealize.ShloMosaic.TcCoe Idealize.SL.Sem
open Idealize.ShloMosaic.Pipeline (Dat)
namespace Cert.QkvRefIdeal.Value
open Cert.QkvRefIdeal Cert.QkvRefIdeal.Gen
open Cert.QkvMath (nrm codes xmax proj rinv hinv col opp cosv sinv rot qk head hcodes hmax)
variable (m : (ℓ : Loc nD τ sig) → Buf (Elt Ideal) ℓ)

/-- The reference has one point, and every block is its whole array. -/
theorem idx_val : ∀ t : Fin cfg0.N, win0_0.index t = ![0] ∧ win0_1.index t = ![0] ∧ win0_2.index t = ![0] ∧ win0_3.index t = ![0]
    ∧ win0_4.index t = ![0] ∧ win0_5.index t = ![0, 0] ∧ win0_6.index t = ![0, 0] ∧ win0_7.index t = ![0, 0] ∧ win0_8.index t = ![0, 0]
    ∧ win0_9.index t = ![0, 0] ∧ win0_10.index t = ![0, 0, 0] ∧ win0_11.index t = ![0, 0, 0] ∧ win0_12.index t = ![0, 0]
    ∧ win0_13.index t = ![0, 0, 0, 0] ∧ win0_14.index t = ![0, 0, 0, 0] ∧ win0_15.index t = ![0, 0, 0, 0]
    ∧ win0_16.index t = ![0] ∧ win0_17.index t = ![0] ∧ win0_18.index t = ![0] ∧ win0_19.index t = ![0] :=
  (by decide +kernel : ∀ t : Fin grid0.N, _)

/-- The reference's normalised rows: it divides by the square root of the mean of squares, which is positive, so that dividing is
    multiplying by the reciprocal. -/
theorem pay3_eq (X : FVec Ideal S8192x5120 .bf16) (g : FVec Ideal S1x5120 .f32) (i : S8192x5120.Idx) :
    k0_pay3 (F := Ideal) X g i = nrm X g i := by
  have e : k0_pay3 (F := Ideal) X g i
      = Ideal.div (X i) (Ideal.sqrt (Ideal.div (∑ j : Fin 5120, (X (ix2 (i 0) j) : EReal) * X (ix2 (i 0) j)) (Ideal.ofBits .f32 0x45A00000#32)
            + Ideal.ofBits .f32 0x358637BD#32)) * g (ix2 0 (i 1)) := by
    pointwise [k0_pay3]
  rw [e]
  rw [Cert.Common.ofBits_5120, Cert.Common.div_coe _ _ (by norm_num), Cert.Common.div_sqrt, mul_right_comm]
  · rfl
  · refine Cert.Common.eps_pos.trans_le (le_add_of_nonneg_left (mul_nonneg (Finset.sum_nonneg fun _ _ => Cert.Common.sq_nonneg _) ?_))
    exact_mod_cast (by norm_num : (0 : ℝ) ≤ 1 / 5120)

/-- The reference's codes. -/
theorem pay4_eq (xs : FVec Ideal S1 .f32) (X : FVec Ideal S8192x5120 .bf16) (g : FVec Ideal S1x5120 .f32) (i : S8192x5120.Idx) :
    k0_pay4 (F := Ideal) X g (xs (ix1 0)) i = codes xs X g i := by
  unfold codes
  rw [← pay3_eq]
  pointwise [k0_pay4, Cert.Common.code]

/-- The reference's greatest absolute value of the normalised rows. -/
theorem pay5_eq (X : FVec Ideal S8192x5120 .bf16) (g : FVec Ideal S1x5120 .f32) (j : S1.Idx) :
    k0_pay5 (F := Ideal) X g = xmax X g j := by
  refine eq_of_forall_ge_iff fun b => ?_
  unfold xmax
  rw [iSup_le_iff]
  simp only [← pay3_eq]
  pointwise [k0_pay5]
  rw [Finset.fold_max_le]
  simp only [Finset.mem_univ, true_implies, Prod.forall]
  constructor
  · intro h i
    have e : i = ix2 (i 0) (i 1) := by
      funext a; match a with | ⟨0, _⟩ => rfl | ⟨1, _⟩ => rfl
    rw [e]
    exact h.2 _ _
  · intro h
    exact ⟨by rw [Cert.Common.ofBits_neg_inf]; exact bot_le, fun x y => h _⟩

/-- The reference's projection. -/
theorem pay6_eq (xs ws : FVec Ideal S1 .f32) (X : FVec Ideal S8192x5120 .bf16) (g : FVec Ideal S1x5120 .f32) (W : FVec Ideal S5120x1792 .fp8e4m3) :
    k0_pay6 (F := Ideal) X g (xs (ix1 0)) W (xs (ix1 0)) (ws (ix1 0)) = proj xs ws X g W := by
  funext i
  unfold proj
  simp only [← pay4_eq]
  pointwise [k0_pay6]

/-- The table of cosines, as the reference joins it. -/
theorem pay7_eq (ct : FVec Ideal S4x64x1024 .f32) (b : Fin 4) (s : Fin 2048) (l : Fin 128) :
    k0_pay7 (F := Ideal) ct (ix3 b s l) = cosv ct (Cert.QkvMath.row b s) l := by
  pointwise [k0_pay7]
  unfold cosv Cert.QkvMath.row
  split_ifs
  all_goals exact Cert.QkvMath.tab_congr _ (by dsimp only; omega) (by dsimp only; omega) (by dsimp only; omega)

/-- The table of sines, as the reference joins it. -/
theorem pay8_eq (st : FVec Ideal S4x64x1024 .f32) (b : Fin 4) (s : Fin 2048) (l : Fin 128) :
    k0_pay8 (F := Ideal) st (ix3 b s l) = sinv st (Cert.QkvMath.row b s) l := by
  pointwise [k0_pay8]
  unfold sinv Cert.QkvMath.row
  split_ifs
  all_goals first
    | exact congrArg (fun x : EReal => 0 - x) (Cert.QkvMath.tab_congr _ (by dsimp only; omega) (by dsimp only; omega) (by dsimp only; omega))
    | exact Cert.QkvMath.tab_congr _ (by dsimp only; omega) (by dsimp only; omega) (by dsimp only; omega)

/-- The 128 columns of the projection from column `o` on, per sequence. -/
def hd (A : FVec Ideal S8192x1792 .f32) (o : ℕ) (hs : S8192x1792.Slices ![0, o] S8192x128) : FVec Ideal S4x2048x128 .f32 :=
  shapeCast S4x2048x128 (extractStridedSlice S8192x128 ![0, o] A hs) shapeCasts_S8192x128_S4x2048x128

/-- One head normalised with the weights `g`. -/
def nrmH (V : FVec Ideal S4x2048x128 .f32) (g : FVec Ideal S1x128 .f32) : FVec Ideal S4x2048x128 .f32 :=
  mulf (divf V (broadcastTo S4x2048x128 (sqrt (addf (divf (shapeCast S4x2048x1
    (multiReduction .add [2] S4x2048 (mulf V V) 0x00000000#32 reduces_S4x2048x128_S4x2048 (.inl rfl) rfl) shapeCasts_S4x2048_S4x2048x1)
    (broadcast S4x2048x1 (Scalar.ofBits .f32 0x43000000#32))) (broadcast S4x2048x1 (Scalar.ofBits .f32 0x358637BD#32)))) broadcasts_S4x2048x1_S4x2048x128))
    (broadcastTo S4x2048x128 (shapeCast S1x1x128 g shapeCasts_S1x128_S1x1x128) broadcasts_S1x1x128_S4x2048x128)

/-- One head normalised with the weights `g` and rotated by the tables `C` and `S`. -/
def rotR (C S V : FVec Ideal S4x2048x128 .f32) (g : FVec Ideal S1x128 .f32) : FVec Ideal S4x2048x128 .f32 :=
  addf (mulf (nrmH V g) C) (mulf (concatenate S4x2048x128 2 [⟨S4x2048x64, extractStridedSlice S4x2048x64 ![0, 0, 64] (nrmH V g) slices_S4x2048x128_o0_0_64_S4x2048x64⟩,
    ⟨S4x2048x64, extractStridedSlice S4x2048x64 ![0, 0, 0] (nrmH V g) slices_S4x2048x128_o0_0_0_S4x2048x64⟩] concatenates_S4x2048x64_S4x2048x64_S4x2048x128_d2) S)

/-- The codes of one head. -/
def codeR (V : FVec Ideal S4x2048x128 .f32) (s : Ideal .f32) : FVec Ideal S4x1x2048x128 .fp8e4m3 :=
  shapeCast S4x1x2048x128 (truncf .fp8e4m3 (minimumf (broadcast S4x2048x128 (Scalar.ofBits .f32 0x43E00000#32))
    (maximumf (broadcast S4x2048x128 (Scalar.ofBits .f32 0xC3E00000#32)) (divf V (broadcast S4x2048x128 s)))) bitsLt_fp8e4m3_f32) shapeCasts_S4x2048x128_S4x1x2048x128

/-- The first head that is rotated is computed this way. -/
theorem pay9_rot (A : FVec Ideal S8192x1792 .f32) (ct st : FVec Ideal S4x64x1024 .f32) (g : FVec Ideal S1x128 .f32) :
    k0_pay9 (F := Ideal) A ct st g = rotR (k0_pay7 ct) (k0_pay8 st) (hd A 0 slices_S8192x1792_o0_0_S8192x128) g := rfl

/-- The lanes of a head are its columns of the projection. -/
theorem hd_eq (A : FVec Ideal S8192x1792 .f32) (o : ℕ) (hs : S8192x1792.Slices ![0, o] S8192x128) (n : Fin 14) (hn : o = n.val * 128)
    (b : Fin 4) (s : Fin 2048) (l : Fin 128) : hd A o hs (ix3 b s l) = A (ix2 (Cert.QkvMath.row b s) (col n l)) := by
  subst hn
  pointwise [hd, Cert.QkvMath.row, col]

/-- One normalised head at one lane. -/
theorem nrmH_eq (V : FVec Ideal S4x2048x128 .f32) (g : FVec Ideal S1x128 .f32) (b : Fin 4) (s : Fin 2048) (l : Fin 128) :
    nrmH V g (ix3 b s l) = V (ix3 b s l) * hinv (fun l => V (ix3 b s l)) * g (ix2 0 l) := by
  rw [← Cert.QkvMath.div_mean]
  pointwise [nrmH]

/-- One rotated head at one lane. -/
theorem rotR_eq (C S V : FVec Ideal S4x2048x128 .f32) (g : FVec Ideal S1x128 .f32) (b : Fin 4) (s : Fin 2048) (l : Fin 128) :
    rotR C S V g (ix3 b s l) = nrmH V g (ix3 b s l) * C (ix3 b s l) + nrmH V g (ix3 b s (opp l)) * S (ix3 b s l) := by
  generalize hN : nrmH V g = N
  unfold rotR
  rw [hN]
  pointwise
  congr 2
  unfold opp
  split_ifs
  all_goals exact congrArg (fun k => N (ix3 b s k)) (Fin.ext (by dsimp only; omega))

/-- One code of one head. -/
theorem codeR_eq (V : FVec Ideal S4x2048x128 .f32) (sc : Ideal .f32) (b : Fin 4) (s : Fin 2048) (l : Fin 128) :
    codeR V sc (ix4 b 0 s l) = Cert.Common.code (V (ix3 b s l)) sc := by
  pointwise [codeR, Cert.Common.code]

/-- The greatest absolute value of one head. -/
theorem maxR_eq (V : FVec Ideal S4x2048x128 .f32) : k0_pay11 (F := Ideal) V
    = ⨆ p : Fin 4 × Fin 2048 × Fin 128, (FloatOps.absf (F := Ideal) (φ := .f32) (V (ix3 p.1 p.2.1 p.2.2)) : EReal) := by
  refine eq_of_forall_ge_iff fun b => ?_
  rw [iSup_le_iff]
  pointwise [k0_pay11]
  rw [Finset.fold_max_le]
  simp only [Finset.mem_univ, true_implies, Prod.forall]
  constructor
  · intro h x y z
    refine h.2 (ix4 0 x y z) ?_
    rw [Finset.mem_filter]
    refine ⟨Finset.mem_univ _, funext fun k => ?_⟩
    match k with
    | ⟨0, _⟩ => exact Subsingleton.elim (α := Fin 1) _ _
  · intro h
    exact ⟨by rw [Cert.Common.ofBits_neg_inf]; exact bot_le, fun x _ => h _ _ _⟩

/-- The block of an input is its whole array. -/
theorem blk0 (c : Dev nD) (t : Fin cfg0.N) : iblk m c 0 t = m ((c : Thread nD τ).loc main_arg0) := by blk_ext! [iblk, V, idx_val t]
/-- The same for argument 1. -/
theorem blk1 (c : Dev nD) (t : Fin cfg0.N) : iblk m c 1 t = m ((c : Thread nD τ).loc main_arg1) := by blk_ext! [iblk, V, idx_val t]
/-- The same for argument 2. -/
theorem blk2 (c : Dev nD) (t : Fin cfg0.N) : iblk m c 2 t = m ((c : Thread nD τ).loc main_arg2) := by blk_ext! [iblk, V, idx_val t]
/-- The same for argument 3. -/
theorem blk3 (c : Dev nD) (t : Fin cfg0.N) : iblk m c 3 t = m ((c : Thread nD τ).loc main_arg3) := by blk_ext! [iblk, V, idx_val t]
/-- The same for argument 4. -/
theorem blk4 (c : Dev nD) (t : Fin cfg0.N) : iblk m c 4 t = m ((c : Thread nD τ).loc main_arg4) := by blk_ext! [iblk, V, idx_val t]
/-- The same for argument 5. -/
theorem blk5 (c : Dev nD) (t : Fin cfg0.N) : iblk m c 5 t = m ((c : Thread nD τ).loc main_arg5) := by blk_ext! [iblk, V, idx_val t]
/-- The same for argument 6. -/
theorem blk6 (c : Dev nD) (t : Fin cfg0.N) : iblk m c 6 t = m ((c : Thread nD τ).loc main_arg6) := by blk_ext! [iblk, V, idx_val t]
/-- The same for argument 7. -/
theorem blk7 (c : Dev nD) (t : Fin cfg0.N) : iblk m c 7 t = m ((c : Thread nD τ).loc main_arg7) := by blk_ext! [iblk, V, idx_val t]
/-- The same for argument 8. -/
theorem blk8 (c : Dev nD) (t : Fin cfg0.N) : iblk m c 8 t = m ((c : Thread nD τ).loc main_arg8) := by blk_ext! [iblk, V, idx_val t]
/-- The same for argument 9. -/
theorem blk9 (c : Dev nD) (t : Fin cfg0.N) : iblk m c 9 t = m ((c : Thread nD τ).loc main_arg9) := by blk_ext! [iblk, V, idx_val t]
/-- The same for argument 10. -/
theorem blk10 (c : Dev nD) (t : Fin cfg0.N) : iblk m c 10 t = m ((c : Thread nD τ).loc main_arg10) := by blk_ext! [iblk, V, idx_val t]
/-- The same for argument 11. -/
theorem blk11 (c : Dev nD) (t : Fin cfg0.N) : iblk m c 11 t = m ((c : Thread nD τ).loc main_arg11) := by blk_ext! [iblk, V, idx_val t]

/-- The first index of a one-element array. -/
theorem first_eq (h : 0 < S1.numel) : Shape.Idx.first h = (ix1 0 : S1.Idx) := by
  funext a; match a with | ⟨0, _⟩ => exact Fin.ext (by have := (Shape.Idx.first h 0).isLt; show (Shape.Idx.first h 0).val = 0; have e : S1.size 0 = 1 := rfl; omega)

/-- The reference's heads: the query heads and the key heads normalised and rotated, the value heads as they are. -/
def hdR (A : FVec Ideal S8192x1792 .f32) (qg kg : FVec Ideal S1x128 .f32) (ct st : FVec Ideal S4x64x1024 .f32) (n : ℕ) (o : ℕ)
    (hs : S8192x1792.Slices ![0, o] S8192x128) : FVec Ideal S4x2048x128 .f32 :=
  if n < 10 then rotR (k0_pay7 ct) (k0_pay8 st) (hd A o hs) qg else if n < 12 then rotR (k0_pay7 ct) (k0_pay8 st) (hd A o hs) kg else hd A o hs

/-- They are the heads. -/
theorem hdR_eq (A : FVec Ideal S8192x1792 .f32) (qg kg : FVec Ideal S1x128 .f32) (ct st : FVec Ideal S4x64x1024 .f32) (n : Fin 14) (o : ℕ)
    (hs : S8192x1792.Slices ![0, o] S8192x128) (hn : o = n.val * 128) (b : Fin 4) (s : Fin 2048) (l : Fin 128) :
    hdR A qg kg ct st n.val o hs (ix3 b s l) = head A qg kg ct st n (Cert.QkvMath.row b s) l := by
  unfold hdR head qk rot
  split_ifs
  · simp only [rotR_eq, nrmH_eq, pay7_eq, pay8_eq, hd_eq A o hs n hn]
  · simp only [rotR_eq, nrmH_eq, pay7_eq, pay8_eq, hd_eq A o hs n hn]
  · exact hd_eq A o hs n hn b s l

/-- The greatest absolute value of a head. -/
theorem hdR_max (A : FVec Ideal S8192x1792 .f32) (qg kg : FVec Ideal S1x128 .f32) (ct st : FVec Ideal S4x64x1024 .f32) (n : Fin 14) (o : ℕ)
    (hs : S8192x1792.Slices ![0, o] S8192x128) (hn : o = n.val * 128) :
    k0_pay11 (F := Ideal) (hdR A qg kg ct st n.val o hs) = hmax (head A qg kg ct st) n := by
  rw [maxR_eq, ← Cert.QkvMath.hmax_eq]
  simp only [hdR_eq A qg kg ct st n o hs hn]

/-- A head's codes. -/
theorem piece (A : FVec Ideal S8192x1792 .f32) (qg kg : FVec Ideal S1x128 .f32) (ct st : FVec Ideal S4x64x1024 .f32) {N : ℕ} (a : ℕ) (ha : a + N ≤ 14)
    (S : Fin N → EReal) (n : ℕ) (hn : n < 14) (o : ℕ) (hs : S8192x1792.Slices ![0, o] S8192x128) (ho : o = n * 128) (sc : EReal)
    (x : S4x1x2048x128.Idx) (b : Fin 4) (j : Fin N) (s : Fin 2048) (l : Fin 128) (h0 : b.val = (x 0).val) (h1 : a + j.val = n) (h2 : s.val = (x 2).val) (h3 : l.val = (x 3).val)
    (hsc : sc = S j) :
    codeR (hdR A qg kg ct st n o hs) sc x = hcodes (head A qg kg ct st) S a ha b j s l := by
  have ex : x = ix4 b 0 s l := by
    funext a
    match a with
    | ⟨0, _⟩ => exact Fin.ext h0.symm
    | ⟨1, _⟩ => exact Subsingleton.elim (α := Fin 1) _ _
    | ⟨2, _⟩ => exact Fin.ext h2.symm
    | ⟨3, _⟩ => exact Fin.ext h3.symm
  rw [ex, codeR_eq, hsc]
  unfold hcodes
  have en : (⟨a + j.val, by omega⟩ : Fin 14) = ⟨n, hn⟩ := Fin.ext h1
  rw [en]
  exact congrArg (fun v => Cert.Common.code v _) (hdR_eq A qg kg ct st ⟨n, hn⟩ o hs ho _ _ _)

end Cert.QkvRefIdeal.Value
-- ==== Proof.QkvRefOut.lean ====
module
public import proofs.«01_k».proof.Proof.QkvRefValue
set_option maxRecDepth 16384
@[expose] public section
noncomputable section
open Idealize.ShloMosaic Idealize.ShloMosaic.TcCoe Idealize.SL.Sem
open Idealize.ShloMosaic.Pipeline (Dat)
namespace Cert.QkvRefIdeal.Value
open Cert.QkvRefIdeal Cert.QkvRefIdeal.Gen
open Cert.QkvMath (nrm codes xmax proj head hcodes hmax outQ outKV maxQ maxKV)
variable (m : (ℓ : Loc nD τ sig) → Buf (Elt Ideal) ℓ)

/-- The one place of a read of one element. -/
theorem idx1 {N k : ℕ} (inb) (j : Fin N) (h : j.val = k) : (Rect.unit (s := ⟨1, ![N]⟩) ![k] ![1] inb).idx (ix1 0) = ix1 j := by
  subst h
  funext a
  match a with
  | ⟨0, _⟩ => exact Fin.ext (by show j.val + 1 * 0 = j.val; omega)

/-- The projection of the arguments. -/
def prj (c : Dev nD) : FVec Ideal S8192x1792 .f32 :=
  proj (m ((c : Thread nD τ).loc main_arg0)) (m ((c : Thread nD τ).loc main_arg4)) (m ((c : Thread nD τ).loc main_arg5)) (m ((c : Thread nD τ).loc main_arg6)) (m ((c : Thread nD τ).loc main_arg7))

/-- The heads of the arguments. -/
def heads (c : Dev nD) : Fin 14 → Fin 8192 → Fin 128 → EReal :=
  head (prj m c) (m ((c : Thread nD τ).loc main_arg8)) (m ((c : Thread nD τ).loc main_arg9)) (m ((c : Thread nD τ).loc main_arg10)) (m ((c : Thread nD τ).loc main_arg11))

/-- The reference's heads of the arguments. -/
def hdA (c : Dev nD) (n : ℕ) (o : ℕ) (hs : S8192x1792.Slices ![0, o] S8192x128) : FVec Ideal S4x2048x128 .f32 :=
  hdR (prj m c) (m ((c : Thread nD τ).loc main_arg8)) (m ((c : Thread nD τ).loc main_arg9)) (m ((c : Thread nD τ).loc main_arg10)) (m ((c : Thread nD τ).loc main_arg11)) n o hs

/-- The reference's projection is that of the arguments. -/
theorem prj_eq (c : Dev nD) (t : Fin cfg0.N) : k0_pay6 (F := Ideal) (iblk m c 5 t) (iblk m c 6 t) (iblk m c 0 t (ix1 0)) (iblk m c 7 t) (iblk m c 0 t (ix1 0)) (iblk m c 4 t (ix1 0)) = prj m c := by
  rw [blk0, blk4, blk5, blk6, blk7]
  exact pay6_eq _ _ _ _ _

/-- What the point leaves of the query heads' codes. -/
theorem out13 (c : Dev nD) (t : Fin cfg0.N) : (outsAt0 m c t).2.1 = View.canon [⟨Rect.unit (s := S4x10x2048x128) ![0, 9, 0, 0] ![4, 1, 2048, 128] inb_S4x10x2048x128_S4x1x2048x128_0_9_0_0, codeR (hdA m c 9 1152 slices_S8192x1792_o0_1152_S8192x128) (iblk m c 1 t ((Rect.unit (s := S10) ![9] ![1] inb_S10_S1_9).idx (ix1 0)))⟩,
      ⟨Rect.unit (s := S4x10x2048x128) ![0, 8, 0, 0] ![4, 1, 2048, 128] inb_S4x10x2048x128_S4x1x2048x128_0_8_0_0, codeR (hdA m c 8 1024 slices_S8192x1792_o0_1024_S8192x128) (iblk m c 1 t ((Rect.unit (s := S10) ![8] ![1] inb_S10_S1_8).idx (ix1 0)))⟩,
      ⟨Rect.unit (s := S4x10x2048x128) ![0, 7, 0, 0] ![4, 1, 2048, 128] inb_S4x10x2048x128_S4x1x2048x128_0_7_0_0, codeR (hdA m c 7 896 slices_S8192x1792_o0_896_S8192x128) (iblk m c 1 t ((Rect.unit (s := S10) ![7] ![1] inb_S10_S1_7).idx (ix1 0)))⟩,
      ⟨Rect.unit (s := S4x10x2048x128) ![0, 6, 0, 0] ![4, 1, 2048, 128] inb_S4x10x2048x128_S4x1x2048x128_0_6_0_0, codeR (hdA m c 6 768 slices_S8192x1792_o0_768_S8192x128) (iblk m c 1 t ((Rect.unit (s := S10) ![6] ![1] inb_S10_S1_6).idx (ix1 0)))⟩,
      ⟨Rect.unit (s := S4x10x2048x128) ![0, 5, 0, 0] ![4, 1, 2048, 128] inb_S4x10x2048x128_S4x1x2048x128_0_5_0_0, codeR (hdA m c 5 640 slices_S8192x1792_o0_640_S8192x128) (iblk m c 1 t ((Rect.unit (s := S10) ![5] ![1] inb_S10_S1_5).idx (ix1 0)))⟩,
      ⟨Rect.unit (s := S4x10x2048x128) ![0, 4, 0, 0] ![4, 1, 2048, 128] inb_S4x10x2048x128_S4x1x2048x128_0_4_0_0, codeR (hdA m c 4 512 slices_S8192x1792_o0_512_S8192x128) (iblk m c 1 t ((Rect.unit (s := S10) ![4] ![1] inb_S10_S1_4).idx (ix1 0)))⟩,
      ⟨Rect.unit (s := S4x10x2048x128) ![0, 3, 0, 0] ![4, 1, 2048, 128] inb_S4x10x2048x128_S4x1x2048x128_0_3_0_0, codeR (hdA m c 3 384 slices_S8192x1792_o0_384_S8192x128) (iblk m c 1 t ((Rect.unit (s := S10) ![3] ![1] inb_S10_S1_3).idx (ix1 0)))⟩,
      ⟨Rect.unit (s := S4x10x2048x128) ![0, 2, 0, 0] ![4, 1, 2048, 128] inb_S4x10x2048x128_S4x1x2048x128_0_2_0_0, codeR (hdA m c 2 256 slices_S8192x1792_o0_256_S8192x128) (iblk m c 1 t ((Rect.unit (s := S10) ![2] ![1] inb_S10_S1_2).idx (ix1 0)))⟩,
      ⟨Rect.unit (s := S4x10x2048x128) ![0, 1, 0, 0] ![4, 1, 2048, 128] inb_S4x10x2048x128_S4x1x2048x128_0_1_0_0, codeR (hdA m c 1 128 slices_S8192x1792_o0_128_S8192x128) (iblk m c 1 t ((Rect.unit (s := S10) ![1] ![1] inb_S10_S1_1).idx (ix1 0)))⟩,
      ⟨Rect.unit (s := S4x10x2048x128) ![0, 0, 0, 0] ![4, 1, 2048, 128] inb_S4x10x2048x128_S4x1x2048x128_0_0_0_0, codeR (hdA m c 0 0 slices_S8192x1792_o0_0_S8192x128) (iblk m c 1 t ((Rect.unit (s := S10) ![0] ![1] inb_S10_S1_0).idx (ix1 0)))⟩] := by
  unfold outsAt0
  frame_out
  simp only [read_unread_whole, first_eq]
  unfold hdA
  rw [← prj_eq m c t, ← blk8 m c t, ← blk9 m c t, ← blk10 m c t, ← blk11 m c t]
  rfl

/-- The array of the query heads' codes after the reference's run. -/
theorem final13 (c : Dev nD) : (dats m 0 c).arrAt 13 (cfgs 0).N = outQ (heads m c) (m ((c : Thread nD τ).loc main_arg1)) := by
  refine (dats m 0 c).arrAt_eq_of_covers 13 _ (by decide +kernel) fun t hf y => ?_
  have e : (((cfg0.win 13).blk t).view.emb y : S4x10x2048x128.Idx) = y := by blk_ext! [idx_val t]
  blk_simp
  rw [after0_13, out13, e]
  unfold hdA
  canon_tiles x h
  all_goals
    unfold outQ
    refine piece _ _ _ _ _ _ _ _ _ (by omega) _ _ (by omega) _ x _ _ _ _ h0 (by omega) h2 h3 ?_
    rw [blk1]
    exact congrArg _ (idx1 _ _ (by omega))

/-- What the point leaves of the query heads' greatest absolute values. -/
theorem out17 (c : Dev nD) (t : Fin cfg0.N) : (outsAt0 m c t).2.2.2.2.2.1 = View.canon [⟨Rect.unit (s := S10) ![9] ![1] inb_S10_S1_9, fun _ => k0_pay11 (F := Ideal) (hdA m c 9 1152 slices_S8192x1792_o0_1152_S8192x128)⟩,
      ⟨Rect.unit (s := S10) ![8] ![1] inb_S10_S1_8, fun _ => k0_pay11 (F := Ideal) (hdA m c 8 1024 slices_S8192x1792_o0_1024_S8192x128)⟩,
      ⟨Rect.unit (s := S10) ![7] ![1] inb_S10_S1_7, fun _ => k0_pay11 (F := Ideal) (hdA m c 7 896 slices_S8192x1792_o0_896_S8192x128)⟩,
      ⟨Rect.unit (s := S10) ![6] ![1] inb_S10_S1_6, fun _ => k0_pay11 (F := Ideal) (hdA m c 6 768 slices_S8192x1792_o0_768_S8192x128)⟩,
      ⟨Rect.unit (s := S10) ![5] ![1] inb_S10_S1_5, fun _ => k0_pay11 (F := Ideal) (hdA m c 5 640 slices_S8192x1792_o0_640_S8192x128)⟩,
      ⟨Rect.unit (s := S10) ![4] ![1] inb_S10_S1_4, fun _ => k0_pay11 (F := Ideal) (hdA m c 4 512 slices_S8192x1792_o0_512_S8192x128)⟩,
      ⟨Rect.unit (s := S10) ![3] ![1] inb_S10_S1_3, fun _ => k0_pay11 (F := Ideal) (hdA m c 3 384 slices_S8192x1792_o0_384_S8192x128)⟩,
      ⟨Rect.unit (s := S10) ![2] ![1] inb_S10_S1_2, fun _ => k0_pay11 (F := Ideal) (hdA m c 2 256 slices_S8192x1792_o0_256_S8192x128)⟩,
      ⟨Rect.unit (s := S10) ![1] ![1] inb_S10_S1_1, fun _ => k0_pay11 (F := Ideal) (hdA m c 1 128 slices_S8192x1792_o0_128_S8192x128)⟩,
      ⟨Rect.unit (s := S10) ![0] ![1] inb_S10_S1_0, fun _ => k0_pay11 (F := Ideal) (hdA m c 0 0 slices_S8192x1792_o0_0_S8192x128)⟩] := by
  unfold outsAt0
  frame_out
  simp only [read_unread_whole, first_eq]
  unfold hdA
  rw [← prj_eq m c t, ← blk8 m c t, ← blk9 m c t, ← blk10 m c t, ← blk11 m c t]
  rfl

/-- The array of the query heads' greatest absolute values after the reference's run. -/
theorem final17 (c : Dev nD) : (dats m 0 c).arrAt 17 (cfgs 0).N = maxQ (heads m c) := by
  refine (dats m 0 c).arrAt_eq_of_covers 17 _ (by decide +kernel) fun t hf y => ?_
  have e : (((cfg0.win 17).blk t).view.emb y : S10.Idx) = y := by blk_ext! [idx_val t]
  blk_simp
  rw [after0_17, out17, e]
  unfold hdA
  canon_tiles x h
  all_goals
    refine (hdR_max _ _ _ _ _ ⟨_, by omega⟩ _ _ (by dsimp only)).trans ?_
    exact congrArg (hmax _) (Fin.ext (by dsimp only; omega))

/-- What the point leaves of the key heads' codes. -/
theorem out14 (c : Dev nD) (t : Fin cfg0.N) : (outsAt0 m c t).2.2.1 = View.canon [⟨Rect.unit (s := S4x2x2048x128) ![0, 1, 0, 0] ![4, 1, 2048, 128] inb_S4x2x2048x128_S4x1x2048x128_0_1_0_0, codeR (hdA m c 11 1408 slices_S8192x1792_o0_1408_S8192x128) (iblk m c 2 t ((Rect.unit (s := S2) ![1] ![1] inb_S2_S1_1).idx (ix1 0)))⟩,
      ⟨Rect.unit (s := S4x2x2048x128) ![0, 0, 0, 0] ![4, 1, 2048, 128] inb_S4x2x2048x128_S4x1x2048x128_0_0_0_0, codeR (hdA m c 10 1280 slices_S8192x1792_o0_1280_S8192x128) (iblk m c 2 t ((Rect.unit (s := S2) ![0] ![1] inb_S2_S1_0).idx (ix1 0)))⟩] := by
  unfold outsAt0
  frame_out
  simp only [read_unread_whole, first_eq]
  unfold hdA
  rw [← prj_eq m c t, ← blk8 m c t, ← blk9 m c t, ← blk10 m c t, ← blk11 m c t]
  rfl

/-- The array of the key heads' codes after the reference's run. -/
theorem final14 (c : Dev nD) : (dats m 0 c).arrAt 14 (cfgs 0).N = outKV (heads m c) 10 (by omega) (m ((c : Thread nD τ).loc main_arg2)) := by
  refine (dats m 0 c).arrAt_eq_of_covers 14 _ (by decide +kernel) fun t hf y => ?_
  have e : (((cfg0.win 14).blk t).view.emb y : S4x2x2048x128.Idx) = y := by blk_ext! [idx_val t]
  blk_simp
  rw [after0_14, out14, e]
  unfold hdA
  canon_tiles x h
  all_goals
    unfold outKV
    refine piece _ _ _ _ _ _ _ _ _ (by omega) _ _ (by omega) _ x _ _ _ _ h0 (by omega) h2 h3 ?_
    rw [blk2]
    exact congrArg _ (idx1 _ _ (by omega))

/-- What the point leaves of the key heads' greatest absolute values. -/
theorem out18 (c : Dev nD) (t : Fin cfg0.N) : (outsAt0 m c t).2.2.2.2.2.2.1 = View.canon [⟨Rect.unit (s := S2) ![1] ![1] inb_S2_S1_1, fun _ => k0_pay11 (F := Ideal) (hdA m c 11 1408 slices_S8192x1792_o0_1408_S8192x128)⟩,
      ⟨Rect.unit (s := S2) ![0] ![1] inb_S2_S1_0, fun _ => k0_pay11 (F := Ideal) (hdA m c 10 1280 slices_S8192x1792_o0_1280_S8192x128)⟩] := by
  unfold outsAt0
  frame_out
  simp only [read_unread_whole, first_eq]
  unfold hdA
  rw [← prj_eq m c t, ← blk8 m c t, ← blk9 m c t, ← blk10 m c t, ← blk11 m c t]
  rfl

/-- The array of the key heads' greatest absolute values after the reference's run. -/
theorem final18 (c : Dev nD) : (dats m 0 c).arrAt 18 (cfgs 0).N = maxKV (heads m c) 10 (by omega) := by
  refine (dats m 0 c).arrAt_eq_of_covers 18 _ (by decide +kernel) fun t hf y => ?_
  have e : (((cfg0.win 18).blk t).view.emb y : S2.Idx) = y := by blk_ext! [idx_val t]
  blk_simp
  rw [after0_18, out18, e]
  unfold hdA
  canon_tiles x h
  all_goals
    refine (hdR_max _ _ _ _ _ ⟨_, by omega⟩ _ _ (by dsimp only)).trans ?_
    exact congrArg (hmax _) (Fin.ext (by dsimp only; omega))

/-- What the point leaves of the value heads' codes. -/
theorem out15 (c : Dev nD) (t : Fin cfg0.N) : (outsAt0 m c t).2.2.2.1 = View.canon [⟨Rect.unit (s := S4x2x2048x128) ![0, 1, 0, 0] ![4, 1, 2048, 128] inb_S4x2x2048x128_S4x1x2048x128_0_1_0_0, codeR (hdA m c 13 1664 slices_S8192x1792_o0_1664_S8192x128) (iblk m c 3 t ((Rect.unit (s := S2) ![1] ![1] inb_S2_S1_1).idx (ix1 0)))⟩,
      ⟨Rect.unit (s := S4x2x2048x128) ![0, 0, 0, 0] ![4, 1, 2048, 128] inb_S4x2x2048x128_S4x1x2048x128_0_0_0_0, codeR (hdA m c 12 1536 slices_S8192x1792_o0_1536_S8192x128) (iblk m c 3 t ((Rect.unit (s := S2) ![0] ![1] inb_S2_S1_0).idx (ix1 0)))⟩] := by
  unfold outsAt0
  frame_out
  simp only [read_unread_whole, first_eq]
  unfold hdA
  rw [← prj_eq m c t, ← blk8 m c t, ← blk9 m c t, ← blk10 m c t, ← blk11 m c t]
  rfl

/-- The array of the value heads' codes after the reference's run. -/
theorem final15 (c : Dev nD) : (dats m 0 c).arrAt 15 (cfgs 0).N = outKV (heads m c) 12 (by omega) (m ((c : Thread nD τ).loc main_arg3)) := by
  refine (dats m 0 c).arrAt_eq_of_covers 15 _ (by decide +kernel) fun t hf y => ?_
  have e : (((cfg0.win 15).blk t).view.emb y : S4x2x2048x128.Idx) = y := by blk_ext! [idx_val t]
  blk_simp
  rw [after0_15, out15, e]
  unfold hdA
  canon_tiles x h
  all_goals
    unfold outKV
    refine piece _ _ _ _ _ _ _ _ _ (by omega) _ _ (by omega) _ x _ _ _ _ h0 (by omega) h2 h3 ?_
    rw [blk3]
    exact congrArg _ (idx1 _ _ (by omega))

/-- What the point leaves of the value heads' greatest absolute values. -/
theorem out19 (c : Dev nD) (t : Fin cfg0.N) : (outsAt0 m c t).2.2.2.2.2.2.2 = View.canon [⟨Rect.unit (s := S2) ![1] ![1] inb_S2_S1_1, fun _ => k0_pay11 (F := Ideal) (hdA m c 13 1664 slices_S8192x1792_o0_1664_S8192x128)⟩,
      ⟨Rect.unit (s := S2) ![0] ![1] inb_S2_S1_0, fun _ => k0_pay11 (F := Ideal) (hdA m c 12 1536 slices_S8192x1792_o0_1536_S8192x128)⟩] := by
  unfold outsAt0
  frame_out
  simp only [read_unread_whole, first_eq]
  unfold hdA
  rw [← prj_eq m c t, ← blk8 m c t, ← blk9 m c t, ← blk10 m c t, ← blk11 m c t]
  rfl

/-- The array of the value heads' greatest absolute values after the reference's run. -/
theorem final19 (c : Dev nD) : (dats m 0 c).arrAt 19 (cfgs 0).N = maxKV (heads m c) 12 (by omega) := by
  refine (dats m 0 c).arrAt_eq_of_covers 19 _ (by decide +kernel) fun t hf y => ?_
  have e : (((cfg0.win 19).blk t).view.emb y : S2.Idx) = y := by blk_ext! [idx_val t]
  blk_simp
  rw [after0_19, out19, e]
  unfold hdA
  canon_tiles x h
  all_goals
    refine (hdR_max _ _ _ _ _ ⟨_, by omega⟩ _ _ (by dsimp only)).trans ?_
    exact congrArg (hmax _) (Fin.ext (by dsimp only; omega))

/-- The codes of the rows after the reference's run. -/
theorem final12 (c : Dev nD) : (dats m 0 c).arrAt 12 (cfgs 0).N
    = codes (m ((c : Thread nD τ).loc main_arg0)) (m ((c : Thread nD τ).loc main_arg5)) (m ((c : Thread nD τ).loc main_arg6)) := by
  refine (dats m 0 c).arrAt_eq_of_covers 12 _ (by decide +kernel) fun t hf y => ?_
  have e : (((cfg0.win 12).blk t).view.emb y : S8192x5120.Idx) = y := by blk_ext! [idx_val t]
  blk_simp
  rw [after0_12]
  unfold outsAt0
  frame_out
  simp only [read_unread_whole]
  rw [blk0, blk5, blk6, first_eq]
  exact (pay4_eq _ _ _ y).trans (congrArg _ e.symm)

/-- The greatest absolute value of the rows after the reference's run. -/
theorem final16 (c : Dev nD) : (dats m 0 c).arrAt 16 (cfgs 0).N = xmax (m ((c : Thread nD τ).loc main_arg5)) (m ((c : Thread nD τ).loc main_arg6)) := by
  refine (dats m 0 c).arrAt_eq_of_covers 16 _ (by decide +kernel) fun t hf y => ?_
  blk_simp
  rw [after0_16]
  unfold outsAt0
  frame_out
  simp only [read_unread_whole]
  rw [blk5, blk6]
  exact pay5_eq _ _ _

end Cert.QkvRefIdeal.Value
-- ==== Proof.QkvClaim.lean ====
module

public import proofs.«01_k».proof.Defs
public import proofs.«01_k».proof.Proof.QkvValue
public import proofs.«01_k».proof.Proof.QkvRefOut
public import proofs.«01_k».proof.Proof.Gen.Pre_scales_nonzero
public import Idealize.ShloMosaic.Lib.Pipeline.ValueKit

@[expose] public section

set_option maxRecDepth 16384

noncomputable section

open Idealize.ShloMosaic Idealize.ShloMosaic.TcCoe Idealize.SL.Sem
open Cert.QkvMath (codes xmax outQ outKV maxQ maxKV)

namespace Cert.Proof.Claims

/-- What the precondition says: the scale of the normalised rows' codes is not zero. -/
theorem scales_ne0 (m : (ℓ : Loc Cert.QkvIdeal.nD Cert.QkvIdeal.τ Cert.QkvIdeal.sig) → Buf (Elt Ideal) ℓ)
    (hp : Cert.Pre_QkvIdeal_scales_nonzero m) (c : Dev Cert.QkvIdeal.nD) (j : Fin 1) :
    (m ((c.tc : Thread Cert.QkvIdeal.nD Cert.QkvIdeal.τ).loc Cert.QkvIdeal.main_arg0)) (ix1 j) ≠ (0 : EReal) := by
  intro h0
  have h := congrFun (hp c).1 (ix1 j)
  revert h
  pointwise [Cert.Pre_scales_nonzero.fn]
  simp [h0]

/-- What the precondition says: the scales of the query heads are not zero. -/
theorem scales_ne1 (m : (ℓ : Loc Cert.QkvIdeal.nD Cert.QkvIdeal.τ Cert.QkvIdeal.sig) → Buf (Elt Ideal) ℓ)
    (hp : Cert.Pre_QkvIdeal_scales_nonzero m) (c : Dev Cert.QkvIdeal.nD) (j : Fin 10) :
    (m ((c.tc : Thread Cert.QkvIdeal.nD Cert.QkvIdeal.τ).loc Cert.QkvIdeal.main_arg1)) (ix1 j) ≠ (0 : EReal) := by
  intro h0
  have h := congrFun (hp c).2.1 (ix1 j)
  revert h
  pointwise [Cert.Pre_scales_nonzero.fn]
  simp [h0]

/-- What the precondition says: the scales of the key heads are not zero. -/
theorem scales_ne2 (m : (ℓ : Loc Cert.QkvIdeal.nD Cert.QkvIdeal.τ Cert.QkvIdeal.sig) → Buf (Elt Ideal) ℓ)
    (hp : Cert.Pre_QkvIdeal_scales_nonzero m) (c : Dev Cert.QkvIdeal.nD) (j : Fin 2) :
    (m ((c.tc : Thread Cert.QkvIdeal.nD Cert.QkvIdeal.τ).loc Cert.QkvIdeal.main_arg2)) (ix1 j) ≠ (0 : EReal) := by
  intro h0
  have h := congrFun (hp c).2.2.1 (ix1 j)
  revert h
  pointwise [Cert.Pre_scales_nonzero.fn]
  simp [h0]

/-- What the precondition says: the scales of the value heads are not zero. -/
theorem scales_ne3 (m : (ℓ : Loc Cert.QkvIdeal.nD Cert.QkvIdeal.τ Cert.QkvIdeal.sig) → Buf (Elt Ideal) ℓ)
    (hp : Cert.Pre_QkvIdeal_scales_nonzero m) (c : Dev Cert.QkvIdeal.nD) (j : Fin 2) :
    (m ((c.tc : Thread Cert.QkvIdeal.nD Cert.QkvIdeal.τ).loc Cert.QkvIdeal.main_arg3)) (ix1 j) ≠ (0 : EReal) := by
  intro h0
  have h := congrFun (hp c).2.2.2 (ix1 j)
  revert h
  pointwise [Cert.Pre_scales_nonzero.fn]
  simp [h0]

/-- The projections onto queries, keys and values: the codes of the rows and of the heads, and their greatest absolute values, of the kernel
    and of the reference end at the same functions of the arguments. -/
theorem algebraic_qkv : Cert.algebraic_QkvIdeal_QkvRefIdeal_pre_scales_nonzero := by
  intro m ρ m' ρ' hp hagree
  have hh : ∀ c : Dev Cert.QkvIdeal.nD, Cert.QkvRefIdeal.Value.heads m' c = Cert.QkvIdeal.Value.heads m c := by
    intro c
    obtain ⟨a0, a1, a2, a3, a4, a5, a6, a7, a8, a9, a10, a11⟩ := hagree c
    unfold Cert.QkvRefIdeal.Value.heads Cert.QkvIdeal.Value.heads Cert.QkvRefIdeal.Value.prj Cert.QkvIdeal.Value.prj
    simp only [a0, a4, a5, a6, a7, a8, a9, a10, a11]
  refine ⟨fun c => codes (m ((c.tc : Thread Cert.QkvIdeal.nD Cert.QkvIdeal.τ).loc Cert.QkvIdeal.main_arg0)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)), fun c => outQ (Cert.QkvIdeal.Value.heads m c) (m ((c.tc : Thread Cert.QkvIdeal.nD Cert.QkvIdeal.τ).loc Cert.QkvIdeal.main_arg1)), fun c => outKV (Cert.QkvIdeal.Value.heads m c) 10 (by omega) (m ((c.tc : Thread Cert.QkvIdeal.nD Cert.QkvIdeal.τ).loc Cert.QkvIdeal.main_arg2)), fun c => outKV (Cert.QkvIdeal.Value.heads m c) 12 (by omega) (m ((c.tc : Thread Cert.QkvIdeal.nD Cert.QkvIdeal.τ).loc Cert.QkvIdeal.main_arg3)), fun c => xmax (m ((c.tc : Thread Cert.QkvIdeal.nD Cert.QkvIdeal.τ).loc Cert.QkvIdeal.main_arg5)) (m ((c.tc : Thread Cert.QkvIdeal.nD Cert.QkvIdeal.τ).loc Cert.QkvIdeal.main_arg6)), fun c => maxQ (Cert.QkvIdeal.Value.heads m c), fun c => maxKV (Cert.QkvIdeal.Value.heads m c) 10 (by omega), fun c => maxKV (Cert.QkvIdeal.Value.heads m c) 12 (by omega), ?_, ?_⟩
  · exact (θ_run Cert.QkvIdeal.defs _ _).mono (fun _ h c => ⟨(h c).1.trans (Cert.QkvIdeal.Value.final12 m c (scales_ne0 m hp c 0)), (h c).2.1.trans (Cert.QkvIdeal.Value.final13 m c (scales_ne0 m hp c 0) (scales_ne1 m hp c)), (h c).2.2.1.trans (Cert.QkvIdeal.Value.final14 m c (scales_ne0 m hp c 0) (scales_ne2 m hp c)), (h c).2.2.2.1.trans (Cert.QkvIdeal.Value.final15 m c (scales_ne0 m hp c 0) (scales_ne3 m hp c)), (h c).2.2.2.2.1.trans (Cert.QkvIdeal.Value.final16 m c ), (h c).2.2.2.2.2.1.trans (Cert.QkvIdeal.Value.final17 m c (scales_ne0 m hp c 0)), (h c).2.2.2.2.2.2.1.trans (Cert.QkvIdeal.Value.final18 m c (scales_ne0 m hp c 0)), (h c).2.2.2.2.2.2.2.1.trans (Cert.QkvIdeal.Value.final19 m c (scales_ne0 m hp c 0)), (h c).2.2.2.2.2.2.2.2⟩)
      (Cert.QkvIdeal.Gen.run_blocks (F := Ideal) m ρ)
  · refine (θ_run Cert.QkvRefIdeal.defs _ _).mono (fun _ h c => ⟨(h c).1.trans ((Cert.QkvRefIdeal.Value.final12 m' c).trans ?_), (h c).2.1.trans ((Cert.QkvRefIdeal.Value.final13 m' c).trans ?_), (h c).2.2.1.trans ((Cert.QkvRefIdeal.Value.final14 m' c).trans ?_), (h c).2.2.2.1.trans ((Cert.QkvRefIdeal.Value.final15 m' c).trans ?_), (h c).2.2.2.2.1.trans ((Cert.QkvRefIdeal.Value.final16 m' c).trans ?_), (h c).2.2.2.2.2.1.trans ((Cert.QkvRefIdeal.Value.final17 m' c).trans ?_), (h c).2.2.2.2.2.2.1.trans ((Cert.QkvRefIdeal.Value.final18 m' c).trans ?_), (h c).2.2.2.2.2.2.2.1.trans ((Cert.QkvRefIdeal.Value.final19 m' c).trans ?_), (h c).2.2.2.2.2.2.2.2⟩)
      (Cert.QkvRefIdeal.Value.run_blocks (F := Ideal) m' ρ')
    all_goals
      obtain ⟨a0, a1, a2, a3, a4, a5, a6, a7, a8, a9, a10, a11⟩ := hagree c
      simp only [a0, a1, a2, a3, a5, a6, hh c]

end Cert.Proof.Claims
-- ==== Proof.QkvLoops.lean ====
module

public import proofs.«01_k».proof.Proof.Gen.Qkv.Skeleton
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- The invariants of the row loop of the kernel body. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3)

/-- The four buffers one trip of the row loop touches: two read, two written. -/
abbrev Trip_k0_t1 (c : Dev nD) (a6 : Memref sig .tc .vmem S256x5120 .bf16) (a7 : Memref sig .tc .vmem S1x5120 .f32) (a13 : Memref sig .tc .vmem S256x5120 .fp8e4m3) (a21 : Memref sig .tc .vmem S32x128 .f32) (X_arg6 : BufTy.Contents (Elt F) a6.view.ty) (X_arg7 : BufTy.Contents (Elt F) a7.view.ty) (f_arg13 : BufTy.Contents (Elt F) a13.view.ty) (f_arg21 : BufTy.Contents (Elt F) a21.view.ty) : sProp 𝕄G :=
  iprop((a6.view.loc (c : Thread nD τ) ↦[a6.view.set]{fullShare} X_arg6) ∗ (a7.view.loc (c : Thread nD τ) ↦[a7.view.set]{fullShare} X_arg7) ∗ (a13.view.loc (c : Thread nD τ) ↦[a13.view.set]{fullShare} f_arg13) ∗ (a21.view.loc (c : Thread nD τ) ↦[a21.view.set]{fullShare} f_arg21))

/-- One trip of the row loop: the pieces it stores, as functions of the running maxima it finds, and the proof that it stores them. -/
@[irreducible] def trip_k0_t1 (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (k : Fin k0_t1_loop.trips) :
    Σ' (L_arg13 : (BufTy.Contents (Elt F) a21.view.ty → List (View.Piece (Elt F) S256x5120 .fp8e4m3))) , { L_arg21 : (BufTy.Contents (Elt F) a21.view.ty → List (View.Piece (Elt F) S32x128 .f32)) // ∀ (E : Set ℕ) (f_arg13 : BufTy.Contents (Elt F) a13.view.ty) (f_arg21 : BufTy.Contents (Elt F) a21.view.ty),
      Trip_k0_t1 (F := F) c a6 a7 a13 a21 X_arg6 X_arg7 f_arg13 f_arg21
      ⊢ wp frame (wpE (defs₀ (F := F)) 𝒱 (c : Thread nD τ) bd) E (k0_t1_body (F := F) i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 k PUnit.unit)
          (fun _ => Trip_k0_t1 (F := F) c a6 a7 a13 a21 X_arg6 X_arg7 (a13.view.writes (Elt F) f_arg13 (L_arg13 f_arg21)) (a21.view.writes (Elt F) f_arg21 (L_arg21 f_arg21))) } := by
  have hk : k.val < 8 := Nat.lt_of_lt_of_le k.isLt k0_t1_abs.2.1
  refine ⟨?_, ?_, fun E f_arg13 f_arg21 => ?run⟩
  case run =>
    unfold k0_t1_body
    iintro ⟨HR_arg6, HR_arg7, HW_arg13, HW_arg21⟩
    sl_exec
    sl_step
    sl_close

/-- The pieces of one trip, without the proof. -/
abbrev tripL_k0_t1 (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (k : Fin k0_t1_loop.trips) (f_arg21 : BufTy.Contents (Elt F) a21.view.ty) : List (View.Piece (Elt F) S256x5120 .fp8e4m3) × List (View.Piece (Elt F) S32x128 .f32) :=
  ((trip_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 k).1 f_arg21, (trip_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 k).2.1 f_arg21)

/-- One more trip: its pieces in front of those before. -/
@[irreducible] def pb_k0_t1Step (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg21 : BufTy.Contents (Elt F) a21.view.ty) (k : ℕ) (prev : List (View.Piece (Elt F) S256x5120 .fp8e4m3) × List (View.Piece (Elt F) S32x128 .f32)) : List (View.Piece (Elt F) S256x5120 .fp8e4m3) × List (View.Piece (Elt F) S32x128 .f32) :=
  if h : k < k0_t1_loop.trips then
    ((tripL_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 ⟨k, h⟩ (a21.view.writes (Elt F) G_arg21 prev.2)).1 ++ prev.1, (tripL_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 ⟨k, h⟩ (a21.view.writes (Elt F) G_arg21 prev.2)).2 ++ prev.2)
  else prev

/-- The pieces of the trips before trip `k`, the latest first. -/
def pb_k0_t1 (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg21 : BufTy.Contents (Elt F) a21.view.ty) : ℕ → List (View.Piece (Elt F) S256x5120 .fp8e4m3) × List (View.Piece (Elt F) S32x128 .f32)
  | 0 => ([], [])
  | k + 1 => pb_k0_t1Step 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k (pb_k0_t1 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k)

/-- The pieces after one more trip. -/
theorem pb_k0_t1_succ (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg21 : BufTy.Contents (Elt F) a21.view.ty) (k : Fin k0_t1_loop.trips) :
    pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 (k.val + 1)
      = ((tripL_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 k (a21.view.writes (Elt F) G_arg21 (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k.val).2)).1 ++ (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k.val).1, (tripL_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 k (a21.view.writes (Elt F) G_arg21 (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k.val).2)).2 ++ (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k.val).2) := by
  rw [pb_k0_t1.eq_2]; unfold pb_k0_t1Step; exact dif_pos k.isLt

/-- What holds before trip `k`: the inputs are unchanged and the written buffers hold the pieces so far. -/
abbrev inv_k0_t1 (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg13 : BufTy.Contents (Elt F) a13.view.ty) (G_arg21 : BufTy.Contents (Elt F) a21.view.ty) (k : ℕ) (_u : PUnit) : sProp 𝕄G :=
  iprop((a6.view.loc (c : Thread nD τ) ↦[a6.view.set]{fullShare} X_arg6) ∗ (a7.view.loc (c : Thread nD τ) ↦[a7.view.set]{fullShare} X_arg7) ∗ (∃ f, (a13.view.loc (c : Thread nD τ) ↦[a13.view.set]{fullShare} f) ∗ ⌜f = a13.view.writes (Elt F) G_arg13 (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k).1⌝) ∗ (∃ f, (a21.view.loc (c : Thread nD τ) ↦[a21.view.set]{fullShare} f) ∗ ⌜f = a21.view.writes (Elt F) G_arg21 (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 k).2⌝))

set_option warn.classDefReducibility false in
/-- The loop by its invariant. -/
@[sl_loop] def loopInv_k0_t1 (𝒱 : Variants) (c : Dev nD) (bd : Option 𝒱.V) (E : Set ℕ) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg13 : BufTy.Contents (Elt F) a13.view.ty) (G_arg21 : BufTy.Contents (Elt F) a21.view.ty) :
    LoopInvTy_k0_t1 (F := F) Unit ℕ (UR sig nD τ) ℕ 𝒱 c bd E i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 where
  inv := inv_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg13 G_arg21
  step k acc := by
    iintro ⟨HR_arg6, HR_arg7, ⟨%f_arg13, HW_arg13, %h_arg13⟩, ⟨%f_arg21, HW_arg21, %h_arg21⟩⟩
    iapply (wp_wand_r Idealize.ShloMosaic.frame (wpE (defs₀ (F := F)) 𝒱 (c : Thread nD τ) bd) E)
    isplitl [HR_arg6 HR_arg7 HW_arg13 HW_arg21]
    · iapply ((trip_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 k).2.2 E f_arg13 f_arg21)
      isplitl [HR_arg6]; · iexact HR_arg6
      isplitl [HR_arg7]; · iexact HR_arg7
      isplitl [HW_arg13]; · iexact HW_arg13
      iexact HW_arg21
    · iintro %_ ⟨HR_arg6, HR_arg7, HW_arg13, HW_arg21⟩
      isplitl [HR_arg6]; · iexact HR_arg6
      isplitl [HR_arg7]; · iexact HR_arg7
      rw [pb_k0_t1_succ]
      isplitl [HW_arg13]
      · iexists _; isplitl [HW_arg13]; · iexact HW_arg13
        ipureintro; rw [h_arg21, h_arg13, ← View.writes_append]
      iexists _; isplitl [HW_arg21]; · iexact HW_arg21
      ipureintro; rw [h_arg21, ← View.writes_append]

end Cert.Qkv.Gen

end
-- ==== Proof.QkvRuns.lean ====
module

public import proofs.«01_k».proof.Proof.QkvLoops
public import proofs.«01_k».proof.Proof.Gen.Qkv.Frame

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body is at the first grid point. -/
abbrev cond0_0 (i : grid0.Coords) : Prop := (Scalar.cmpi .ne (Scalar.extui (Scalar.cmpi .eq (BitVec.ofNat 32 (i 0).val) 0#32)) 0#32) = 1#1
/-- That condition by the number of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The body is at the last grid point. -/
abbrev cond0_1 (i : grid0.Coords) : Prop := k0_cond2 i = 1#1
/-- That condition by the number of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-- Window 0 is used at this point. -/
theorem liveAt0_0 : ∀ t : Fin cfg0.N, cfg0.idle 0 (grid0.coords t) = false := fun _ => rfl
/-- Window 1 is used at this point. -/
theorem liveAt0_1 : ∀ t : Fin cfg0.N, cfg0.idle 1 (grid0.coords t) = false := fun _ => rfl
/-- Window 2 is used at this point. -/
theorem liveAt0_2 : ∀ t : Fin cfg0.N, cfg0.idle 2 (grid0.coords t) = false := fun _ => rfl
/-- Window 3 is used at this point. -/
theorem liveAt0_3 : ∀ t : Fin cfg0.N, cfg0.idle 3 (grid0.coords t) = false := fun _ => rfl
/-- Window 4 is used at this point. -/
theorem liveAt0_4 : ∀ t : Fin cfg0.N, cfg0.idle 4 (grid0.coords t) = false := fun _ => rfl
/-- Window 5 is used at this point. -/
theorem liveAt0_5 : ∀ t : Fin cfg0.N, cfg0.idle 5 (grid0.coords t) = false := fun _ => rfl
/-- Window 6 is used at this point. -/
theorem liveAt0_6 : ∀ t : Fin cfg0.N, cfg0.idle 6 (grid0.coords t) = false := fun _ => rfl
/-- Window 7 is used at this point. -/
theorem liveAt0_7 : ∀ t : Fin cfg0.N, cfg0.idle 7 (grid0.coords t) = false := fun _ => rfl
/-- Window 8 is used at this point. -/
theorem liveAt0_8 : ∀ t : Fin cfg0.N, cfg0.idle 8 (grid0.coords t) = false := fun _ => rfl
/-- Window 9 is used at this point. -/
theorem liveAt0_9 : ∀ t : Fin cfg0.N, cfg0.idle 9 (grid0.coords t) = false := fun _ => rfl
/-- Window 10 is used at this point. -/
theorem liveAt0_10 : ∀ t : Fin cfg0.N, cfg0.idle 10 (grid0.coords t) = false := fun _ => rfl
/-- Window 11 is used at this point. -/
theorem liveAt0_11 : ∀ t : Fin cfg0.N, cfg0.idle 11 (grid0.coords t) = false := fun _ => rfl
/-- Window 12 is used at this point. -/
theorem liveAt0_12 : ∀ t : Fin cfg0.N, cfg0.idle 12 (grid0.coords t) = false := fun _ => rfl
/-- Window 13 is used at this point. -/
theorem liveAt0_13 : ∀ t : Fin cfg0.N, cfg0.idle 13 (grid0.coords t) = false := fun _ => rfl
/-- Window 14 is used at this point. -/
theorem liveAt0_14 : ∀ t : Fin cfg0.N, cfg0.idle 14 (grid0.coords t) = false := fun _ => rfl
/-- Window 15 is used at this point. -/
theorem liveAt0_15 : ∀ t : Fin cfg0.N, cfg0.idle 15 (grid0.coords t) = false := fun _ => rfl
/-- Window 16 is not used at this point. -/
theorem idleAt0_16_A : ∀ t : Fin cfg0.N, cond0_0 (grid0.coords t) → ¬cond0_1 (grid0.coords t) → cfg0.idle 16 (grid0.coords t) = true := by decide +kernel
/-- The block of window 16 is not written back at this point. -/
theorem noFlush0_16_A : ∀ t : Fin cfg0.N, cond0_0 (grid0.coords t) → ¬cond0_1 (grid0.coords t) → (cfg0.win 16).flush t = false := by decide +kernel
/-- Window 16 is not used at this point. -/
theorem idleAt0_16_B : ∀ t : Fin cfg0.N, ¬cond0_0 (grid0.coords t) → ¬cond0_1 (grid0.coords t) → cfg0.idle 16 (grid0.coords t) = true := by decide +kernel
/-- The block of window 16 is not written back at this point. -/
theorem noFlush0_16_B : ∀ t : Fin cfg0.N, ¬cond0_0 (grid0.coords t) → ¬cond0_1 (grid0.coords t) → (cfg0.win 16).flush t = false := by decide +kernel
/-- Window 16 is used at this point. -/
theorem liveAt0_16_C : ∀ t : Fin cfg0.N, ¬cond0_0 (grid0.coords t) → cond0_1 (grid0.coords t) → cfg0.idle 16 (grid0.coords t) = false := by decide +kernel
/-- Window 17 is not used at this point. -/
theorem idleAt0_17_A : ∀ t : Fin cfg0.N, cond0_0 (grid0.coords t) → ¬cond0_1 (grid0.coords t) → cfg0.idle 17 (grid0.coords t) = true := by decide +kernel
/-- The block of window 17 is not written back at this point. -/
theorem noFlush0_17_A : ∀ t : Fin cfg0.N, cond0_0 (grid0.coords t) → ¬cond0_1 (grid0.coords t) → (cfg0.win 17).flush t = false := by decide +kernel
/-- Window 17 is not used at this point. -/
theorem idleAt0_17_B : ∀ t : Fin cfg0.N, ¬cond0_0 (grid0.coords t) → ¬cond0_1 (grid0.coords t) → cfg0.idle 17 (grid0.coords t) = true := by decide +kernel
/-- The block of window 17 is not written back at this point. -/
theorem noFlush0_17_B : ∀ t : Fin cfg0.N, ¬cond0_0 (grid0.coords t) → ¬cond0_1 (grid0.coords t) → (cfg0.win 17).flush t = false := by decide +kernel
/-- Window 17 is used at this point. -/
theorem liveAt0_17_C : ∀ t : Fin cfg0.N, ¬cond0_0 (grid0.coords t) → cond0_1 (grid0.coords t) → cfg0.idle 17 (grid0.coords t) = false := by decide +kernel
/-- Window 18 is not used at this point. -/
theorem idleAt0_18_A : ∀ t : Fin cfg0.N, cond0_0 (grid0.coords t) → ¬cond0_1 (grid0.coords t) → cfg0.idle 18 (grid0.coords t) = true := by decide +kernel
/-- The block of window 18 is not written back at this point. -/
theorem noFlush0_18_A : ∀ t : Fin cfg0.N, cond0_0 (grid0.coords t) → ¬cond0_1 (grid0.coords t) → (cfg0.win 18).flush t = false := by decide +kernel
/-- Window 18 is not used at this point. -/
theorem idleAt0_18_B : ∀ t : Fin cfg0.N, ¬cond0_0 (grid0.coords t) → ¬cond0_1 (grid0.coords t) → cfg0.idle 18 (grid0.coords t) = true := by decide +kernel
/-- The block of window 18 is not written back at this point. -/
theorem noFlush0_18_B : ∀ t : Fin cfg0.N, ¬cond0_0 (grid0.coords t) → ¬cond0_1 (grid0.coords t) → (cfg0.win 18).flush t = false := by decide +kernel
/-- Window 18 is used at this point. -/
theorem liveAt0_18_C : ∀ t : Fin cfg0.N, ¬cond0_0 (grid0.coords t) → cond0_1 (grid0.coords t) → cfg0.idle 18 (grid0.coords t) = false := by decide +kernel
/-- Window 19 is not used at this point. -/
theorem idleAt0_19_A : ∀ t : Fin cfg0.N, cond0_0 (grid0.coords t) → ¬cond0_1 (grid0.coords t) → cfg0.idle 19 (grid0.coords t) = true := by decide +kernel
/-- The block of window 19 is not written back at this point. -/
theorem noFlush0_19_A : ∀ t : Fin cfg0.N, cond0_0 (grid0.coords t) → ¬cond0_1 (grid0.coords t) → (cfg0.win 19).flush t = false := by decide +kernel
/-- Window 19 is not used at this point. -/
theorem idleAt0_19_B : ∀ t : Fin cfg0.N, ¬cond0_0 (grid0.coords t) → ¬cond0_1 (grid0.coords t) → cfg0.idle 19 (grid0.coords t) = true := by decide +kernel
/-- The block of window 19 is not written back at this point. -/
theorem noFlush0_19_B : ∀ t : Fin cfg0.N, ¬cond0_0 (grid0.coords t) → ¬cond0_1 (grid0.coords t) → (cfg0.win 19).flush t = false := by decide +kernel
/-- Window 19 is used at this point. -/
theorem liveAt0_19_C : ∀ t : Fin cfg0.N, ¬cond0_0 (grid0.coords t) → cond0_1 (grid0.coords t) → cfg0.idle 19 (grid0.coords t) = false := by decide +kernel

/-- One staging buffer of window 12. -/
abbrev VO0_12 : View sig .tc .vmem S256x5120 .fp8e4m3 := (Memref.whole cc0_stg12_0 : Memref sig .tc .vmem S256x5120 .fp8e4m3).view
/-- One staging buffer of window 13. -/
abbrev VO0_13 : View sig .tc .vmem S1x10x256x128 .fp8e4m3 := (Memref.whole cc0_stg13_0 : Memref sig .tc .vmem S1x10x256x128 .fp8e4m3).view
/-- One staging buffer of window 14. -/
abbrev VO0_14 : View sig .tc .vmem S1x2x256x128 .fp8e4m3 := (Memref.whole cc0_stg14_0 : Memref sig .tc .vmem S1x2x256x128 .fp8e4m3).view
/-- One staging buffer of window 15. -/
abbrev VO0_15 : View sig .tc .vmem S1x2x256x128 .fp8e4m3 := (Memref.whole cc0_stg15_0 : Memref sig .tc .vmem S1x2x256x128 .fp8e4m3).view
/-- One staging buffer of window 16. -/
abbrev VO0_16 : View sig .tc .smem S1 .f32 := (Memref.whole cc0_stg16_0 : Memref sig .tc .smem S1 .f32).view
/-- One staging buffer of window 17. -/
abbrev VO0_17 : View sig .tc .smem S10 .f32 := (Memref.whole cc0_stg17_0 : Memref sig .tc .smem S10 .f32).view
/-- One staging buffer of window 18. -/
abbrev VO0_18 : View sig .tc .smem S2 .f32 := (Memref.whole cc0_stg18_0 : Memref sig .tc .smem S2 .f32).view
/-- One staging buffer of window 19. -/
abbrev VO0_19 : View sig .tc .smem S2 .f32 := (Memref.whole cc0_stg19_0 : Memref sig .tc .smem S2 .f32).view
/-- The staging buffer of window 0 at point `t`. -/
abbrev ms0_0 (t : Fin cfg0.N) : Memref sig .tc .smem S1 .f32 := win0_0.stage (cfg0.slots t 0)
/-- It is a whole buffer. -/
abbrev hs0_0 (t : Fin cfg0.N) : (ms0_0 t).IsWhole := hstage0_0 ((cfg0.slots t 0).cast nbuf0_0)
/-- The staging buffer of window 1 at point `t`. -/
abbrev ms0_1 (t : Fin cfg0.N) : Memref sig .tc .smem S10 .f32 := win0_1.stage (cfg0.slots t 1)
/-- It is a whole buffer. -/
abbrev hs0_1 (t : Fin cfg0.N) : (ms0_1 t).IsWhole := hstage0_1 ((cfg0.slots t 1).cast nbuf0_1)
/-- The staging buffer of window 2 at point `t`. -/
abbrev ms0_2 (t : Fin cfg0.N) : Memref sig .tc .smem S2 .f32 := win0_2.stage (cfg0.slots t 2)
/-- It is a whole buffer. -/
abbrev hs0_2 (t : Fin cfg0.N) : (ms0_2 t).IsWhole := hstage0_2 ((cfg0.slots t 2).cast nbuf0_2)
/-- The staging buffer of window 3 at point `t`. -/
abbrev ms0_3 (t : Fin cfg0.N) : Memref sig .tc .smem S2 .f32 := win0_3.stage (cfg0.slots t 3)
/-- It is a whole buffer. -/
abbrev hs0_3 (t : Fin cfg0.N) : (ms0_3 t).IsWhole := hstage0_3 ((cfg0.slots t 3).cast nbuf0_3)
/-- The staging buffer of window 4 at point `t`. -/
abbrev ms0_4 (t : Fin cfg0.N) : Memref sig .tc .smem S1 .f32 := win0_4.stage (cfg0.slots t 4)
/-- It is a whole buffer. -/
abbrev hs0_4 (t : Fin cfg0.N) : (ms0_4 t).IsWhole := hstage0_4 ((cfg0.slots t 4).cast nbuf0_4)
/-- The staging buffer of window 5 at point `t`. -/
abbrev ms0_5 (t : Fin cfg0.N) : Memref sig .tc .vmem S256x5120 .bf16 := win0_5.stage (cfg0.slots t 5)
/-- It is a whole buffer. -/
abbrev hs0_5 (t : Fin cfg0.N) : (ms0_5 t).IsWhole := hstage0_5 ((cfg0.slots t 5).cast nbuf0_5)
/-- The staging buffer of window 6 at point `t`. -/
abbrev ms0_6 (t : Fin cfg0.N) : Memref sig .tc .vmem S1x5120 .f32 := win0_6.stage (cfg0.slots t 6)
/-- It is a whole buffer. -/
abbrev hs0_6 (t : Fin cfg0.N) : (ms0_6 t).IsWhole := hstage0_6 ((cfg0.slots t 6).cast nbuf0_6)
/-- The staging buffer of window 7 at point `t`. -/
abbrev ms0_7 (t : Fin cfg0.N) : Memref sig .tc .vmem S5120x1792 .fp8e4m3 := win0_7.stage (cfg0.slots t 7)
/-- It is a whole buffer. -/
abbrev hs0_7 (t : Fin cfg0.N) : (ms0_7 t).IsWhole := hstage0_7 ((cfg0.slots t 7).cast nbuf0_7)
/-- The staging buffer of window 8 at point `t`. -/
abbrev ms0_8 (t : Fin cfg0.N) : Memref sig .tc .vmem S1x128 .f32 := win0_8.stage (cfg0.slots t 8)
/-- It is a whole buffer. -/
abbrev hs0_8 (t : Fin cfg0.N) : (ms0_8 t).IsWhole := hstage0_8 ((cfg0.slots t 8).cast nbuf0_8)
/-- The staging buffer of window 9 at point `t`. -/
abbrev ms0_9 (t : Fin cfg0.N) : Memref sig .tc .vmem S1x128 .f32 := win0_9.stage (cfg0.slots t 9)
/-- It is a whole buffer. -/
abbrev hs0_9 (t : Fin cfg0.N) : (ms0_9 t).IsWhole := hstage0_9 ((cfg0.slots t 9).cast nbuf0_9)
/-- The staging buffer of window 10 at point `t`. -/
abbrev ms0_10 (t : Fin cfg0.N) : Memref sig .tc .vmem S1x64x256 .f32 := win0_10.stage (cfg0.slots t 10)
/-- It is a whole buffer. -/
abbrev hs0_10 (t : Fin cfg0.N) : (ms0_10 t).IsWhole := hstage0_10 ((cfg0.slots t 10).cast nbuf0_10)
/-- The staging buffer of window 11 at point `t`. -/
abbrev ms0_11 (t : Fin cfg0.N) : Memref sig .tc .vmem S1x64x256 .f32 := win0_11.stage (cfg0.slots t 11)
/-- It is a whole buffer. -/
abbrev hs0_11 (t : Fin cfg0.N) : (ms0_11 t).IsWhole := hstage0_11 ((cfg0.slots t 11).cast nbuf0_11)
/-- The staging buffer of window 12 at point `t`. -/
abbrev ms0_12 (t : Fin cfg0.N) : Memref sig .tc .vmem S256x5120 .fp8e4m3 := win0_12.stage (cfg0.slots t 12)
/-- It is a whole buffer. -/
abbrev hs0_12 (t : Fin cfg0.N) : (ms0_12 t).IsWhole := hstage0_12 ((cfg0.slots t 12).cast nbuf0_12)
/-- The staging buffer of window 13 at point `t`. -/
abbrev ms0_13 (t : Fin cfg0.N) : Memref sig .tc .vmem S1x10x256x128 .fp8e4m3 := win0_13.stage (cfg0.slots t 13)
/-- It is a whole buffer. -/
abbrev hs0_13 (t : Fin cfg0.N) : (ms0_13 t).IsWhole := hstage0_13 ((cfg0.slots t 13).cast nbuf0_13)
/-- The staging buffer of window 14 at point `t`. -/
abbrev ms0_14 (t : Fin cfg0.N) : Memref sig .tc .vmem S1x2x256x128 .fp8e4m3 := win0_14.stage (cfg0.slots t 14)
/-- It is a whole buffer. -/
abbrev hs0_14 (t : Fin cfg0.N) : (ms0_14 t).IsWhole := hstage0_14 ((cfg0.slots t 14).cast nbuf0_14)
/-- The staging buffer of window 15 at point `t`. -/
abbrev ms0_15 (t : Fin cfg0.N) : Memref sig .tc .vmem S1x2x256x128 .fp8e4m3 := win0_15.stage (cfg0.slots t 15)
/-- It is a whole buffer. -/
abbrev hs0_15 (t : Fin cfg0.N) : (ms0_15 t).IsWhole := hstage0_15 ((cfg0.slots t 15).cast nbuf0_15)
/-- The staging buffer of window 16 at point `t`. -/
abbrev ms0_16 (t : Fin cfg0.N) : Memref sig .tc .smem S1 .f32 := win0_16.stage (cfg0.slots t 16)
/-- It is a whole buffer. -/
abbrev hs0_16 (t : Fin cfg0.N) : (ms0_16 t).IsWhole := hstage0_16 ((cfg0.slots t 16).cast nbuf0_16)
/-- The staging buffer of window 17 at point `t`. -/
abbrev ms0_17 (t : Fin cfg0.N) : Memref sig .tc .smem S10 .f32 := win0_17.stage (cfg0.slots t 17)
/-- It is a whole buffer. -/
abbrev hs0_17 (t : Fin cfg0.N) : (ms0_17 t).IsWhole := hstage0_17 ((cfg0.slots t 17).cast nbuf0_17)
/-- The staging buffer of window 18 at point `t`. -/
abbrev ms0_18 (t : Fin cfg0.N) : Memref sig .tc .smem S2 .f32 := win0_18.stage (cfg0.slots t 18)
/-- It is a whole buffer. -/
abbrev hs0_18 (t : Fin cfg0.N) : (ms0_18 t).IsWhole := hstage0_18 ((cfg0.slots t 18).cast nbuf0_18)
/-- The staging buffer of window 19 at point `t`. -/
abbrev ms0_19 (t : Fin cfg0.N) : Memref sig .tc .smem S2 .f32 := win0_19.stage (cfg0.slots t 19)
/-- It is a whole buffer. -/
abbrev hs0_19 (t : Fin cfg0.N) : (ms0_19 t).IsWhole := hstage0_19 ((cfg0.slots t 19).cast nbuf0_19)
/-- A buffer kept between grid points. -/
abbrev scM0_0 : Memref sig .tc .vmem S32x128 .f32 := Memref.whole cc0_scratch0
/-- A buffer kept between grid points. -/
abbrev scM0_1 : Memref sig .tc .vmem S16x128 .f32 := Memref.whole cc0_scratch1
/-- The view of that buffer. -/
abbrev VS0_0 : View sig .tc .vmem S32x128 .f32 := scM0_0.view
/-- The view of that buffer. -/
abbrev VS0_1 : View sig .tc .vmem S16x128 .f32 := scM0_1.view

/-- The buffers the kernel keeps between grid points, held at any contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What is read back of the codes the row loop stored depends on its pieces alone. -/
theorem codesRead : ∀ (𝒱 : Variants) (c : Dev nD) (bd : Option 𝒱.V) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (v3 : Elt F .f32) (X_arg6 : BufTy.Contents (Elt F) a6.view.ty) (X_arg7 : BufTy.Contents (Elt F) a7.view.ty) (G_arg21 : BufTy.Contents (Elt F) a21.view.ty) (hrdF : BufTy.Contents (Elt F) a13.view.ty) (hrdB : LoadRect S256x5120), a13.view.readAt (Elt F) hrdB (a13.view.writes (Elt F) hrdF (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 (Scf.trips k0_t1_loop.lb k0_t1_loop.ub k0_t1_loop.st)).1) = a13.view.readCov (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 (Scf.trips k0_t1_loop.lb k0_t1_loop.ub k0_t1_loop.st)).1 hrdB :=
  fun 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 hrdF hrdB => View.readAt_writes_of_cover _ hrdF _ hrdB (fun hrdJ => View.cover_of_tiledL (pb_k0_t1 (F := F) 𝒱 c bd i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 v3 X_arg6 X_arg7 G_arg21 (Scf.trips k0_t1_loop.lb k0_t1_loop.ub k0_t1_loop.st)).1 S32x5120.size (by sl_kernel_rfl) (hrdB.idx hrdJ))

end Cert.Qkv.Gen

end
-- ==== Proof.QkvRunA.lean ====
module

public import proofs.«01_k».proof.Proof.QkvRuns

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.proofsInPublic true in
set_option maxHeartbeats 1000000 in
/-- The kernel body at the first point: the pieces it stores into every block, and the proof that it runs and stores them. -/
noncomputable def kernelRun0_A (c : Dev nD) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (hc0 : cond0_0 i) (hc1 : ¬cond0_1 i)
    (x0 : Vec F S1 .f32) (x1 : Vec F S10 .f32) (x2 : Vec F S2 .f32) (x3 : Vec F S2 .f32) (x4 : Vec F S1 .f32) (x5 : Vec F S256x5120 .bf16) (x6 : Vec F S1x5120 .f32) (x7 : Vec F S5120x1792 .fp8e4m3) (x8 : Vec F S1x128 .f32) (x9 : Vec F S1x128 .f32) (x10 : Vec F S1x64x256 .f32) (x11 : Vec F S1x64x256 .f32) :
    Σ' (L12 : List (View.Piece (Elt F) S256x5120 .fp8e4m3)), Σ' (L13 : List (View.Piece (Elt F) S1x10x256x128 .fp8e4m3)), Σ' (L14 : List (View.Piece (Elt F) S1x2x256x128 .fp8e4m3)), Σ' (L15 : List (View.Piece (Elt F) S1x2x256x128 .fp8e4m3)), Σ' (L16 : List (View.Piece (Elt F) S1 .f32)), Σ' (L17 : List (View.Piece (Elt F) S10 .f32)), Σ' (L18 : List (View.Piece (Elt F) S2 .f32)), Σ' (L19 : List (View.Piece (Elt F) S2 .f32)), Σ' (LS0 : List (View.Piece (Elt F) S32x128 .f32)), { LS1 : List (View.Piece (Elt F) S16x128 .f32) //
      ∀ (xi16 : Vec F S1 .f32) (xi17 : Vec F S10 .f32) (xi18 : Vec F S2 .f32) (xi19 : Vec F S2 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ owns (c : Thread nD τ) a17 fullShare xi16 ∗ owns (c : Thread nD τ) a18 fullShare xi17 ∗ owns (c : Thread nD τ) a19 fullShare xi18 ∗ owns (c : Thread nD τ) a20 fullShare xi19 ∗ (∃ d, owns (c : Thread nD τ) a21 fullShare d) ∗ (∃ d, owns (c : Thread nD τ) a22 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ f, a13.view.loc (c : Thread nD τ) ↦[a13.view.set]{fullShare} a13.view.writes (Elt F) f L12) ∗ (∃ f, a14.view.loc (c : Thread nD τ) ↦[a14.view.set]{fullShare} a14.view.writes (Elt F) f L13) ∗ (∃ f, a15.view.loc (c : Thread nD τ) ↦[a15.view.set]{fullShare} a15.view.writes (Elt F) f L14) ∗ (∃ f, a16.view.loc (c : Thread nD τ) ↦[a16.view.set]{fullShare} a16.view.writes (Elt F) f L15) ∗ owns (c : Thread nD τ) a17 fullShare xi16 ∗ owns (c : Thread nD τ) a18 fullShare xi17 ∗ owns (c : Thread nD τ) a19 fullShare xi18 ∗ owns (c : Thread nD τ) a20 fullShare xi19 ∗ (∃ f, a21.view.loc (c : Thread nD τ) ↦[a21.view.set]{fullShare} a21.view.writes (Elt F) f LS0) ∗ (∃ f, a22.view.loc (c : Thread nD τ) ↦[a22.view.set]{fullShare} a22.view.writes (Elt F) f LS1)) -∗ K ⟨⟩))
          ⊢ wp frame (wpE (defs₀ (F := F)) Variants.none c none) E (cc0_norm_qkv i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22) K } := by
  refine ⟨?_, ?_, ?_, ?_, [], [], [], [], ?_, ?_, fun xi16 xi17 xi18 xi19 E K => ?run⟩
  case run =>
    simp only [cc0_norm_qkv_eq_skeleton]; unfold cc0_norm_qkv_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%ds0, %fs0, -, HS0⟩, ⟨%ds1, %fs1, -, HS1⟩, Hk⟩
    obtain rfl := b1.eq_unread hf0; obtain rfl := b2.eq_unread hf1; obtain rfl := b3.eq_unread hf2; obtain rfl := b4.eq_unread hf3; obtain rfl := b5.eq_unread hf4; obtain rfl := b6.eq_unread hf5; obtain rfl := b7.eq_unread hf6; obtain rfl := b8.eq_unread hf7; obtain rfl := b9.eq_unread hf8; obtain rfl := b10.eq_unread hf9; obtain rfl := b11.eq_unread hf10; obtain rfl := b12.eq_unread hf11; obtain rfl := b17.eq_unread hf16; obtain rfl := b18.eq_unread hf17; obtain rfl := b19.eq_unread hf18; obtain rfl := b20.eq_unread hf19
    have hrd0 := codesRead (F := F)
    sl_exec (disch := first | sl_exact hc0 | sl_exact hc1)
    sl_step
    iapply Hk
    isplitl [H0]
    · iexists _; isplitr; · ipureintro; exact b1.read_unread _
      iexact H0
    isplitl [H1]
    · iexists _; isplitr; · ipureintro; exact b2.read_unread _
      iexact H1
    isplitl [H2]
    · iexists _; isplitr; · ipureintro; exact b3.read_unread _
      iexact H2
    isplitl [H3]
    · iexists _; isplitr; · ipureintro; exact b4.read_unread _
      iexact H3
    isplitl [H4]
    · iexists _; isplitr; · ipureintro; exact b5.read_unread _
      iexact H4
    isplitl [H5]
    · iexists _; isplitr; · ipureintro; exact b6.read_unread _
      iexact H5
    isplitl [H6]
    · iexists _; isplitr; · ipureintro; exact b7.read_unread _
      iexact H6
    isplitl [H7]
    · iexists _; isplitr; · ipureintro; exact b8.read_unread _
      iexact H7
    isplitl [H8]
    · iexists _; isplitr; · ipureintro; exact b9.read_unread _
      iexact H8
    isplitl [H9]
    · iexists _; isplitr; · ipureintro; exact b10.read_unread _
      iexact H9
    isplitl [H10]
    · iexists _; isplitr; · ipureintro; exact b11.read_unread _
      iexact H10
    isplitl [H11]
    · iexists _; isplitr; · ipureintro; exact b12.read_unread _
      iexact H11
    isplitl [H12]; · iexists _; iexact H12
    isplitl [H13]; · iexists _; iexact H13
    isplitl [H14]; · iexists _; iexact H14
    isplitl [H15]; · iexists _; iexact H15
    isplitl [H16]
    · iexists _; isplitr; · ipureintro; exact b17.read_unread _
      iexact H16
    isplitl [H17]
    · iexists _; isplitr; · ipureintro; exact b18.read_unread _
      iexact H17
    isplitl [H18]
    · iexists _; isplitr; · ipureintro; exact b19.read_unread _
      iexact H18
    isplitl [H19]
    · iexists _; isplitr; · ipureintro; exact b20.read_unread _
      iexact H19
    isplitl [HS0]; · iexists _; iexact HS0
    iexists _; iexact HS1

end Cert.Qkv.Gen

end
-- ==== Proof.QkvRunB.lean ====
module

public import proofs.«01_k».proof.Proof.QkvRunA

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.proofsInPublic true in
set_option maxHeartbeats 1000000 in
/-- The kernel body at the points between: the pieces it stores into every block, and the proof that it runs and stores them. -/
noncomputable def kernelRun0_B (c : Dev nD) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (hc0 : ¬cond0_0 i) (hc1 : ¬cond0_1 i)
    (x0 : Vec F S1 .f32) (x1 : Vec F S10 .f32) (x2 : Vec F S2 .f32) (x3 : Vec F S2 .f32) (x4 : Vec F S1 .f32) (x5 : Vec F S256x5120 .bf16) (x6 : Vec F S1x5120 .f32) (x7 : Vec F S5120x1792 .fp8e4m3) (x8 : Vec F S1x128 .f32) (x9 : Vec F S1x128 .f32) (x10 : Vec F S1x64x256 .f32) (x11 : Vec F S1x64x256 .f32) (xs0 : Vec F S32x128 .f32) (xs1 : Vec F S16x128 .f32) :
    Σ' (L12 : List (View.Piece (Elt F) S256x5120 .fp8e4m3)), Σ' (L13 : List (View.Piece (Elt F) S1x10x256x128 .fp8e4m3)), Σ' (L14 : List (View.Piece (Elt F) S1x2x256x128 .fp8e4m3)), Σ' (L15 : List (View.Piece (Elt F) S1x2x256x128 .fp8e4m3)), Σ' (L16 : List (View.Piece (Elt F) S1 .f32)), Σ' (L17 : List (View.Piece (Elt F) S10 .f32)), Σ' (L18 : List (View.Piece (Elt F) S2 .f32)), Σ' (L19 : List (View.Piece (Elt F) S2 .f32)), Σ' (LS0 : List (View.Piece (Elt F) S32x128 .f32)), { LS1 : List (View.Piece (Elt F) S16x128 .f32) //
      ∀ (xi16 : Vec F S1 .f32) (xi17 : Vec F S10 .f32) (xi18 : Vec F S2 .f32) (xi19 : Vec F S2 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ owns (c : Thread nD τ) a17 fullShare xi16 ∗ owns (c : Thread nD τ) a18 fullShare xi17 ∗ owns (c : Thread nD τ) a19 fullShare xi18 ∗ owns (c : Thread nD τ) a20 fullShare xi19 ∗ owns (c : Thread nD τ) a21 fullShare xs0 ∗ owns (c : Thread nD τ) a22 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ f, a13.view.loc (c : Thread nD τ) ↦[a13.view.set]{fullShare} a13.view.writes (Elt F) f L12) ∗ (∃ f, a14.view.loc (c : Thread nD τ) ↦[a14.view.set]{fullShare} a14.view.writes (Elt F) f L13) ∗ (∃ f, a15.view.loc (c : Thread nD τ) ↦[a15.view.set]{fullShare} a15.view.writes (Elt F) f L14) ∗ (∃ f, a16.view.loc (c : Thread nD τ) ↦[a16.view.set]{fullShare} a16.view.writes (Elt F) f L15) ∗ owns (c : Thread nD τ) a17 fullShare xi16 ∗ owns (c : Thread nD τ) a18 fullShare xi17 ∗ owns (c : Thread nD τ) a19 fullShare xi18 ∗ owns (c : Thread nD τ) a20 fullShare xi19 ∗ (∃ f, a21.view.loc (c : Thread nD τ) ↦[a21.view.set]{fullShare} a21.view.writes (Elt F) f LS0) ∗ (a22.view.loc (c : Thread nD τ) ↦[a22.view.set]{fullShare} a22.view.writes (Elt F) (b22.unread xs1) LS1)) -∗ K ⟨⟩))
          ⊢ wp frame (wpE (defs₀ (F := F)) Variants.none c none) E (cc0_norm_qkv i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22) K } := by
  refine ⟨?_, ?_, ?_, ?_, [], [], [], [], ?_, ?_, fun xi16 xi17 xi18 xi19 E K => ?run⟩
  case run =>
    simp only [cc0_norm_qkv_eq_skeleton]; unfold cc0_norm_qkv_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%fs0, %hfs0, HS0⟩, ⟨%fs1, %hfs1, HS1⟩, Hk⟩
    obtain rfl := b1.eq_unread hf0; obtain rfl := b2.eq_unread hf1; obtain rfl := b3.eq_unread hf2; obtain rfl := b4.eq_unread hf3; obtain rfl := b5.eq_unread hf4; obtain rfl := b6.eq_unread hf5; obtain rfl := b7.eq_unread hf6; obtain rfl := b8.eq_unread hf7; obtain rfl := b9.eq_unread hf8; obtain rfl := b10.eq_unread hf9; obtain rfl := b11.eq_unread hf10; obtain rfl := b12.eq_unread hf11; obtain rfl := b17.eq_unread hf16; obtain rfl := b18.eq_unread hf17; obtain rfl := b19.eq_unread hf18; obtain rfl := b20.eq_unread hf19; obtain rfl := b21.eq_unread hfs0; obtain rfl := b22.eq_unread hfs1
    have hrd0 := codesRead (F := F)
    sl_exec (disch := first | sl_exact hc0 | sl_exact hc1)
    sl_step
    iapply Hk
    isplitl [H0]
    · iexists _; isplitr; · ipureintro; exact b1.read_unread _
      iexact H0
    isplitl [H1]
    · iexists _; isplitr; · ipureintro; exact b2.read_unread _
      iexact H1
    isplitl [H2]
    · iexists _; isplitr; · ipureintro; exact b3.read_unread _
      iexact H2
    isplitl [H3]
    · iexists _; isplitr; · ipureintro; exact b4.read_unread _
      iexact H3
    isplitl [H4]
    · iexists _; isplitr; · ipureintro; exact b5.read_unread _
      iexact H4
    isplitl [H5]
    · iexists _; isplitr; · ipureintro; exact b6.read_unread _
      iexact H5
    isplitl [H6]
    · iexists _; isplitr; · ipureintro; exact b7.read_unread _
      iexact H6
    isplitl [H7]
    · iexists _; isplitr; · ipureintro; exact b8.read_unread _
      iexact H7
    isplitl [H8]
    · iexists _; isplitr; · ipureintro; exact b9.read_unread _
      iexact H8
    isplitl [H9]
    · iexists _; isplitr; · ipureintro; exact b10.read_unread _
      iexact H9
    isplitl [H10]
    · iexists _; isplitr; · ipureintro; exact b11.read_unread _
      iexact H10
    isplitl [H11]
    · iexists _; isplitr; · ipureintro; exact b12.read_unread _
      iexact H11
    isplitl [H12]; · iexists _; iexact H12
    isplitl [H13]; · iexists _; iexact H13
    isplitl [H14]; · iexists _; iexact H14
    isplitl [H15]; · iexists _; iexact H15
    isplitl [H16]
    · iexists _; isplitr; · ipureintro; exact b17.read_unread _
      iexact H16
    isplitl [H17]
    · iexists _; isplitr; · ipureintro; exact b18.read_unread _
      iexact H17
    isplitl [H18]
    · iexists _; isplitr; · ipureintro; exact b19.read_unread _
      iexact H18
    isplitl [H19]
    · iexists _; isplitr; · ipureintro; exact b20.read_unread _
      iexact H19
    isplitl [HS0]; · iexists _; iexact HS0
    iexact HS1

end Cert.Qkv.Gen

end
-- ==== Proof.QkvRunC.lean ====
module

public import proofs.«01_k».proof.Proof.QkvRunB

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.proofsInPublic true in
set_option maxHeartbeats 1116000 in
/-- The kernel body at the last point: the pieces it stores into every block, and the proof that it runs and stores them. -/
noncomputable def kernelRun0_C (c : Dev nD) (i : grid0.Coords) (a1 : Memref sig .tc .smem S1 .f32) (b1 : a1.IsWhole) (a2 : Memref sig .tc .smem S10 .f32) (b2 : a2.IsWhole) (a3 : Memref sig .tc .smem S2 .f32) (b3 : a3.IsWhole) (a4 : Memref sig .tc .smem S2 .f32) (b4 : a4.IsWhole) (a5 : Memref sig .tc .smem S1 .f32) (b5 : a5.IsWhole) (a6 : Memref sig .tc .vmem S256x5120 .bf16) (b6 : a6.IsWhole) (a7 : Memref sig .tc .vmem S1x5120 .f32) (b7 : a7.IsWhole) (a8 : Memref sig .tc .vmem S5120x1792 .fp8e4m3) (b8 : a8.IsWhole) (a9 : Memref sig .tc .vmem S1x128 .f32) (b9 : a9.IsWhole) (a10 : Memref sig .tc .vmem S1x128 .f32) (b10 : a10.IsWhole) (a11 : Memref sig .tc .vmem S1x64x256 .f32) (b11 : a11.IsWhole) (a12 : Memref sig .tc .vmem S1x64x256 .f32) (b12 : a12.IsWhole) (a13 : Memref sig .tc .vmem S256x5120 .fp8e4m3) (b13 : a13.IsWhole) (a14 : Memref sig .tc .vmem S1x10x256x128 .fp8e4m3) (b14 : a14.IsWhole) (a15 : Memref sig .tc .vmem S1x2x256x128 .fp8e4m3) (b15 : a15.IsWhole) (a16 : Memref sig .tc .vmem S1x2x256x128 .fp8e4m3) (b16 : a16.IsWhole) (a17 : Memref sig .tc .smem S1 .f32) (b17 : a17.IsWhole) (a18 : Memref sig .tc .smem S10 .f32) (b18 : a18.IsWhole) (a19 : Memref sig .tc .smem S2 .f32) (b19 : a19.IsWhole) (a20 : Memref sig .tc .smem S2 .f32) (b20 : a20.IsWhole) (a21 : Memref sig .tc .vmem S32x128 .f32) (b21 : a21.IsWhole) (a22 : Memref sig .tc .vmem S16x128 .f32) (b22 : a22.IsWhole) (hc0 : ¬cond0_0 i) (hc1 : cond0_1 i)
    (x0 : Vec F S1 .f32) (x1 : Vec F S10 .f32) (x2 : Vec F S2 .f32) (x3 : Vec F S2 .f32) (x4 : Vec F S1 .f32) (x5 : Vec F S256x5120 .bf16) (x6 : Vec F S1x5120 .f32) (x7 : Vec F S5120x1792 .fp8e4m3) (x8 : Vec F S1x128 .f32) (x9 : Vec F S1x128 .f32) (x10 : Vec F S1x64x256 .f32) (x11 : Vec F S1x64x256 .f32) (xs0 : Vec F S32x128 .f32) (xs1 : Vec F S16x128 .f32) :
    Σ' (L12 : List (View.Piece (Elt F) S256x5120 .fp8e4m3)), Σ' (L13 : List (View.Piece (Elt F) S1x10x256x128 .fp8e4m3)), Σ' (L14 : List (View.Piece (Elt F) S1x2x256x128 .fp8e4m3)), Σ' (L15 : List (View.Piece (Elt F) S1x2x256x128 .fp8e4m3)), Σ' (L16 : List (View.Piece (Elt F) S1 .f32)), Σ' (L17 : List (View.Piece (Elt F) S10 .f32)), Σ' (L18 : List (View.Piece (Elt F) S2 .f32)), Σ' (L19 : List (View.Piece (Elt F) S2 .f32)), Σ' (LS0 : List (View.Piece (Elt F) S32x128 .f32)), { LS1 : List (View.Piece (Elt F) S16x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ owns (c : Thread nD τ) a21 fullShare xs0 ∗ owns (c : Thread nD τ) a22 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ f, a13.view.loc (c : Thread nD τ) ↦[a13.view.set]{fullShare} a13.view.writes (Elt F) f L12) ∗ (∃ f, a14.view.loc (c : Thread nD τ) ↦[a14.view.set]{fullShare} a14.view.writes (Elt F) f L13) ∗ (∃ f, a15.view.loc (c : Thread nD τ) ↦[a15.view.set]{fullShare} a15.view.writes (Elt F) f L14) ∗ (∃ f, a16.view.loc (c : Thread nD τ) ↦[a16.view.set]{fullShare} a16.view.writes (Elt F) f L15) ∗ (∃ f, a17.view.loc (c : Thread nD τ) ↦[a17.view.set]{fullShare} a17.view.writes (Elt F) f L16) ∗ (∃ f, a18.view.loc (c : Thread nD τ) ↦[a18.view.set]{fullShare} a18.view.writes (Elt F) f L17) ∗ (∃ f, a19.view.loc (c : Thread nD τ) ↦[a19.view.set]{fullShare} a19.view.writes (Elt F) f L18) ∗ (∃ f, a20.view.loc (c : Thread nD τ) ↦[a20.view.set]{fullShare} a20.view.writes (Elt F) f L19) ∗ (∃ f, a21.view.loc (c : Thread nD τ) ↦[a21.view.set]{fullShare} a21.view.writes (Elt F) f LS0) ∗ (a22.view.loc (c : Thread nD τ) ↦[a22.view.set]{fullShare} a22.view.writes (Elt F) (b22.unread xs1) LS1)) -∗ K ⟨⟩))
          ⊢ wp frame (wpE (defs₀ (F := F)) Variants.none c none) E (cc0_norm_qkv i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22) K } := by
  refine ⟨?_, ?_, ?_, ?_, ?_, ?_, ?_, ?_, ?_, ?_, fun E K => ?run⟩
  case run =>
    simp only [cc0_norm_qkv_eq_skeleton]; unfold cc0_norm_qkv_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, ⟨%fs1, %hfs1, HS1⟩, Hk⟩
    obtain rfl := b1.eq_unread hf0; obtain rfl := b2.eq_unread hf1; obtain rfl := b3.eq_unread hf2; obtain rfl := b4.eq_unread hf3; obtain rfl := b5.eq_unread hf4; obtain rfl := b6.eq_unread hf5; obtain rfl := b7.eq_unread hf6; obtain rfl := b8.eq_unread hf7; obtain rfl := b9.eq_unread hf8; obtain rfl := b10.eq_unread hf9; obtain rfl := b11.eq_unread hf10; obtain rfl := b12.eq_unread hf11; obtain rfl := b21.eq_unread hfs0; obtain rfl := b22.eq_unread hfs1
    have hrd0 := codesRead (F := F)
    sl_exec (disch := first | sl_exact hc0 | sl_exact hc1)
    sl_step
    iapply Hk
    isplitl [H0]
    · iexists _; isplitr; · ipureintro; exact b1.read_unread _
      iexact H0
    isplitl [H1]
    · iexists _; isplitr; · ipureintro; exact b2.read_unread _
      iexact H1
    isplitl [H2]
    · iexists _; isplitr; · ipureintro; exact b3.read_unread _
      iexact H2
    isplitl [H3]
    · iexists _; isplitr; · ipureintro; exact b4.read_unread _
      iexact H3
    isplitl [H4]
    · iexists _; isplitr; · ipureintro; exact b5.read_unread _
      iexact H4
    isplitl [H5]
    · iexists _; isplitr; · ipureintro; exact b6.read_unread _
      iexact H5
    isplitl [H6]
    · iexists _; isplitr; · ipureintro; exact b7.read_unread _
      iexact H6
    isplitl [H7]
    · iexists _; isplitr; · ipureintro; exact b8.read_unread _
      iexact H7
    isplitl [H8]
    · iexists _; isplitr; · ipureintro; exact b9.read_unread _
      iexact H8
    isplitl [H9]
    · iexists _; isplitr; · ipureintro; exact b10.read_unread _
      iexact H9
    isplitl [H10]
    · iexists _; isplitr; · ipureintro; exact b11.read_unread _
      iexact H10
    isplitl [H11]
    · iexists _; isplitr; · ipureintro; exact b12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexists _; iexact HS0
    iexact HS1

end Cert.Qkv.Gen

end
-- ==== Proof.QkvFrame.lean ====
module

public import proofs.«01_k».proof.Proof.QkvRunC
public import Idealize.ShloMosaic.Lib.Claim

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves: the blocks of the eight results and the two buffers it keeps. -/
abbrev Outs (F : FTy → Type) : Type := Vec F S256x5120 .fp8e4m3 × Vec F S1x10x256x128 .fp8e4m3 × Vec F S1x2x256x128 .fp8e4m3 × Vec F S1x2x256x128 .fp8e4m3 × Vec F S1 .f32 × Vec F S10 .f32 × Vec F S2 .f32 × Vec F S2 .f32 × Vec F S32x128 .f32 × Vec F S16x128 .f32

/-- The body at grid point `t`, the first point. -/
abbrev runA (c : Dev nD) (t : Fin cfg0.N) (h0 : t.val % 32 = 0) (h1 : ¬t.val % 32 = 31) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The stores cover the block of result 0. -/
theorem coverA_12 (c : Dev nD) (t : Fin cfg0.N) (h0 : t.val % 32 = 0) (h1 : ¬t.val % 32 = 31) (y : S256x5120.Idx) : ∃ pc ∈ (runA m c t h0 h1).1, y ∈ pc.1.set :=
  View.cover_of_tiledL (runA m c t h0 h1).1 S32x5120.size (by sl_kernel_rfl) y

/-- The stores cover the block of result 1. -/
theorem coverA_13 (c : Dev nD) (t : Fin cfg0.N) (h0 : t.val % 32 = 0) (h1 : ¬t.val % 32 = 31) (y : S1x10x256x128.Idx) : ∃ pc ∈ (runA m c t h0 h1).2.1, y ∈ pc.1.set :=
  View.cover_of_tiledL (runA m c t h0 h1).2.1 S1x1x256x128.size (by sl_kernel_rfl) y

/-- The stores cover the block of result 2. -/
theorem coverA_14 (c : Dev nD) (t : Fin cfg0.N) (h0 : t.val % 32 = 0) (h1 : ¬t.val % 32 = 31) (y : S1x2x256x128.Idx) : ∃ pc ∈ (runA m c t h0 h1).2.2.1, y ∈ pc.1.set :=
  View.cover_of_tiledL (runA m c t h0 h1).2.2.1 S1x1x256x128.size (by sl_kernel_rfl) y

/-- The stores cover the block of result 3. -/
theorem coverA_15 (c : Dev nD) (t : Fin cfg0.N) (h0 : t.val % 32 = 0) (h1 : ¬t.val % 32 = 31) (y : S1x2x256x128.Idx) : ∃ pc ∈ (runA m c t h0 h1).2.2.2.1, y ∈ pc.1.set :=
  View.cover_of_tiledL (runA m c t h0 h1).2.2.2.1 S1x1x256x128.size (by sl_kernel_rfl) y

/-- The stores cover the first kept buffer. -/
theorem coverA_s0 (c : Dev nD) (t : Fin cfg0.N) (h0 : t.val % 32 = 0) (h1 : ¬t.val % 32 = 31) (y : S32x128.Idx) : ∃ pc ∈ (runA m c t h0 h1).2.2.2.2.2.2.2.2.1, y ∈ pc.1.set :=
  View.cover_of_tiledL (runA m c t h0 h1).2.2.2.2.2.2.2.2.1 S32x128.size (by sl_kernel_rfl) y

/-- The stores cover the second kept buffer. -/
theorem coverA_s1 (c : Dev nD) (t : Fin cfg0.N) (h0 : t.val % 32 = 0) (h1 : ¬t.val % 32 = 31) (y : S16x128.Idx) : ∃ pc ∈ (runA m c t h0 h1).2.2.2.2.2.2.2.2.2.1, y ∈ pc.1.set :=
  View.cover_of_wholeMem (runA m c t h0 h1).2.2.2.2.2.2.2.2.2.1 (by sl_whole_mem) y

/-- What the body leaves at the first point. -/
def outA (c : Dev nD) (t : Fin cfg0.N) (h0 : t.val % 32 = 0) (h1 : ¬t.val % 32 = 31) : Outs F :=
  (VO0_12.read (Elt F) (VO0_12.writes (Elt F) VO0_12.junk (runA m c t h0 h1).1),
    VO0_13.read (Elt F) (VO0_13.writes (Elt F) VO0_13.junk (runA m c t h0 h1).2.1),
    VO0_14.read (Elt F) (VO0_14.writes (Elt F) VO0_14.junk (runA m c t h0 h1).2.2.1),
    VO0_15.read (Elt F) (VO0_15.writes (Elt F) VO0_15.junk (runA m c t h0 h1).2.2.2.1),
    VO0_16.read (Elt F) (VO0_16.writes (Elt F) VO0_16.junk (runA m c t h0 h1).2.2.2.2.1),
    VO0_17.read (Elt F) (VO0_17.writes (Elt F) VO0_17.junk (runA m c t h0 h1).2.2.2.2.2.1),
    VO0_18.read (Elt F) (VO0_18.writes (Elt F) VO0_18.junk (runA m c t h0 h1).2.2.2.2.2.2.1),
    VO0_19.read (Elt F) (VO0_19.writes (Elt F) VO0_19.junk (runA m c t h0 h1).2.2.2.2.2.2.2.1),
    VS0_0.read (Elt F) (VS0_0.writes (Elt F) VS0_0.junk (runA m c t h0 h1).2.2.2.2.2.2.2.2.1),
    VS0_1.read (Elt F) (VS0_1.writes (Elt F) VS0_1.junk (runA m c t h0 h1).2.2.2.2.2.2.2.2.2.1))

/-- The body at grid point `t`, the points between. -/
abbrev runB (c : Dev nD) (t : Fin cfg0.N) (h0 : ¬t.val % 32 = 0) (h1 : ¬t.val % 32 = 31) (s0 : Vec F S32x128 .f32) (s1 : Vec F S16x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s0 s1

/-- The stores cover the block of result 0. -/
theorem coverB_12 (c : Dev nD) (t : Fin cfg0.N) (h0 : ¬t.val % 32 = 0) (h1 : ¬t.val % 32 = 31) (s0 : Vec F S32x128 .f32) (s1 : Vec F S16x128 .f32) (y : S256x5120.Idx) : ∃ pc ∈ (runB m c t h0 h1 s0 s1).1, y ∈ pc.1.set :=
  View.cover_of_tiledL (runB m c t h0 h1 s0 s1).1 S32x5120.size (by sl_kernel_rfl) y

/-- The stores cover the block of result 1. -/
theorem coverB_13 (c : Dev nD) (t : Fin cfg0.N) (h0 : ¬t.val % 32 = 0) (h1 : ¬t.val % 32 = 31) (s0 : Vec F S32x128 .f32) (s1 : Vec F S16x128 .f32) (y : S1x10x256x128.Idx) : ∃ pc ∈ (runB m c t h0 h1 s0 s1).2.1, y ∈ pc.1.set :=
  View.cover_of_tiledL (runB m c t h0 h1 s0 s1).2.1 S1x1x256x128.size (by sl_kernel_rfl) y

/-- The stores cover the block of result 2. -/
theorem coverB_14 (c : Dev nD) (t : Fin cfg0.N) (h0 : ¬t.val % 32 = 0) (h1 : ¬t.val % 32 = 31) (s0 : Vec F S32x128 .f32) (s1 : Vec F S16x128 .f32) (y : S1x2x256x128.Idx) : ∃ pc ∈ (runB m c t h0 h1 s0 s1).2.2.1, y ∈ pc.1.set :=
  View.cover_of_tiledL (runB m c t h0 h1 s0 s1).2.2.1 S1x1x256x128.size (by sl_kernel_rfl) y

/-- The stores cover the block of result 3. -/
theorem coverB_15 (c : Dev nD) (t : Fin cfg0.N) (h0 : ¬t.val % 32 = 0) (h1 : ¬t.val % 32 = 31) (s0 : Vec F S32x128 .f32) (s1 : Vec F S16x128 .f32) (y : S1x2x256x128.Idx) : ∃ pc ∈ (runB m c t h0 h1 s0 s1).2.2.2.1, y ∈ pc.1.set :=
  View.cover_of_tiledL (runB m c t h0 h1 s0 s1).2.2.2.1 S1x1x256x128.size (by sl_kernel_rfl) y

/-- The stores cover the first kept buffer. -/
theorem coverB_s0 (c : Dev nD) (t : Fin cfg0.N) (h0 : ¬t.val % 32 = 0) (h1 : ¬t.val % 32 = 31) (s0 : Vec F S32x128 .f32) (s1 : Vec F S16x128 .f32) (y : S32x128.Idx) : ∃ pc ∈ (runB m c t h0 h1 s0 s1).2.2.2.2.2.2.2.2.1, y ∈ pc.1.set :=
  View.cover_of_tiledL (runB m c t h0 h1 s0 s1).2.2.2.2.2.2.2.2.1 S32x128.size (by sl_kernel_rfl) y

/-- What the body leaves at the points between. -/
def outB (c : Dev nD) (t : Fin cfg0.N) (h0 : ¬t.val % 32 = 0) (h1 : ¬t.val % 32 = 31) (s0 : Vec F S32x128 .f32) (s1 : Vec F S16x128 .f32) : Outs F :=
  (VO0_12.read (Elt F) (VO0_12.writes (Elt F) VO0_12.junk (runB m c t h0 h1 s0 s1).1),
    VO0_13.read (Elt F) (VO0_13.writes (Elt F) VO0_13.junk (runB m c t h0 h1 s0 s1).2.1),
    VO0_14.read (Elt F) (VO0_14.writes (Elt F) VO0_14.junk (runB m c t h0 h1 s0 s1).2.2.1),
    VO0_15.read (Elt F) (VO0_15.writes (Elt F) VO0_15.junk (runB m c t h0 h1 s0 s1).2.2.2.1),
    VO0_16.read (Elt F) (VO0_16.writes (Elt F) VO0_16.junk (runB m c t h0 h1 s0 s1).2.2.2.2.1),
    VO0_17.read (Elt F) (VO0_17.writes (Elt F) VO0_17.junk (runB m c t h0 h1 s0 s1).2.2.2.2.2.1),
    VO0_18.read (Elt F) (VO0_18.writes (Elt F) VO0_18.junk (runB m c t h0 h1 s0 s1).2.2.2.2.2.2.1),
    VO0_19.read (Elt F) (VO0_19.writes (Elt F) VO0_19.junk (runB m c t h0 h1 s0 s1).2.2.2.2.2.2.2.1),
    VS0_0.read (Elt F) (VS0_0.writes (Elt F) VS0_0.junk (runB m c t h0 h1 s0 s1).2.2.2.2.2.2.2.2.1),
    scM0_1.view.read (Elt F) (scM0_1.view.writes (Elt F) ((Memref.isWhole_whole _ : scM0_1.IsWhole).unread s1) (runB m c t h0 h1 s0 s1).2.2.2.2.2.2.2.2.2.1))

/-- The body at grid point `t`, the last point. -/
abbrev runC (c : Dev nD) (t : Fin cfg0.N) (h0 : ¬t.val % 32 = 0) (h1 : t.val % 32 = 31) (s0 : Vec F S32x128 .f32) (s1 : Vec F S16x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s0 s1

/-- The stores cover the block of result 0. -/
theorem coverC_12 (c : Dev nD) (t : Fin cfg0.N) (h0 : ¬t.val % 32 = 0) (h1 : t.val % 32 = 31) (s0 : Vec F S32x128 .f32) (s1 : Vec F S16x128 .f32) (y : S256x5120.Idx) : ∃ pc ∈ (runC m c t h0 h1 s0 s1).1, y ∈ pc.1.set :=
  View.cover_of_tiledL (runC m c t h0 h1 s0 s1).1 S32x5120.size (by sl_kernel_rfl) y

/-- The stores cover the block of result 1. -/
theorem coverC_13 (c : Dev nD) (t : Fin cfg0.N) (h0 : ¬t.val % 32 = 0) (h1 : t.val % 32 = 31) (s0 : Vec F S32x128 .f32) (s1 : Vec F S16x128 .f32) (y : S1x10x256x128.Idx) : ∃ pc ∈ (runC m c t h0 h1 s0 s1).2.1, y ∈ pc.1.set :=
  View.cover_of_tiledL (runC m c t h0 h1 s0 s1).2.1 S1x1x256x128.size (by sl_kernel_rfl) y

/-- The stores cover the block of result 2. -/
theorem coverC_14 (c : Dev nD) (t : Fin cfg0.N) (h0 : ¬t.val % 32 = 0) (h1 : t.val % 32 = 31) (s0 : Vec F S32x128 .f32) (s1 : Vec F S16x128 .f32) (y : S1x2x256x128.Idx) : ∃ pc ∈ (runC m c t h0 h1 s0 s1).2.2.1, y ∈ pc.1.set :=
  View.cover_of_tiledL (runC m c t h0 h1 s0 s1).2.2.1 S1x1x256x128.size (by sl_kernel_rfl) y

/-- The stores cover the block of result 3. -/
theorem coverC_15 (c : Dev nD) (t : Fin cfg0.N) (h0 : ¬t.val % 32 = 0) (h1 : t.val % 32 = 31) (s0 : Vec F S32x128 .f32) (s1 : Vec F S16x128 .f32) (y : S1x2x256x128.Idx) : ∃ pc ∈ (runC m c t h0 h1 s0 s1).2.2.2.1, y ∈ pc.1.set :=
  View.cover_of_tiledL (runC m c t h0 h1 s0 s1).2.2.2.1 S1x1x256x128.size (by sl_kernel_rfl) y

/-- The stores cover the block of result 4. -/
theorem coverC_16 (c : Dev nD) (t : Fin cfg0.N) (h0 : ¬t.val % 32 = 0) (h1 : t.val % 32 = 31) (s0 : Vec F S32x128 .f32) (s1 : Vec F S16x128 .f32) (y : S1.Idx) : ∃ pc ∈ (runC m c t h0 h1 s0 s1).2.2.2.2.1, y ∈ pc.1.set :=
  View.cover_of_tiledL (runC m c t h0 h1 s0 s1).2.2.2.2.1 S1.size (by sl_kernel_rfl) y

/-- The stores cover the block of result 5. -/
theorem coverC_17 (c : Dev nD) (t : Fin cfg0.N) (h0 : ¬t.val % 32 = 0) (h1 : t.val % 32 = 31) (s0 : Vec F S32x128 .f32) (s1 : Vec F S16x128 .f32) (y : S10.Idx) : ∃ pc ∈ (runC m c t h0 h1 s0 s1).2.2.2.2.2.1, y ∈ pc.1.set :=
  View.cover_of_tiledL (runC m c t h0 h1 s0 s1).2.2.2.2.2.1 S1.size (by sl_kernel_rfl) y

/-- The stores cover the block of result 6. -/
theorem coverC_18 (c : Dev nD) (t : Fin cfg0.N) (h0 : ¬t.val % 32 = 0) (h1 : t.val % 32 = 31) (s0 : Vec F S32x128 .f32) (s1 : Vec F S16x128 .f32) (y : S2.Idx) : ∃ pc ∈ (runC m c t h0 h1 s0 s1).2.2.2.2.2.2.1, y ∈ pc.1.set :=
  View.cover_of_tiledL (runC m c t h0 h1 s0 s1).2.2.2.2.2.2.1 S1.size (by sl_kernel_rfl) y

/-- The stores cover the block of result 7. -/
theorem coverC_19 (c : Dev nD) (t : Fin cfg0.N) (h0 : ¬t.val % 32 = 0) (h1 : t.val % 32 = 31) (s0 : Vec F S32x128 .f32) (s1 : Vec F S16x128 .f32) (y : S2.Idx) : ∃ pc ∈ (runC m c t h0 h1 s0 s1).2.2.2.2.2.2.2.1, y ∈ pc.1.set :=
  View.cover_of_tiledL (runC m c t h0 h1 s0 s1).2.2.2.2.2.2.2.1 S1.size (by sl_kernel_rfl) y

/-- The stores cover the first kept buffer. -/
theorem coverC_s0 (c : Dev nD) (t : Fin cfg0.N) (h0 : ¬t.val % 32 = 0) (h1 : t.val % 32 = 31) (s0 : Vec F S32x128 .f32) (s1 : Vec F S16x128 .f32) (y : S32x128.Idx) : ∃ pc ∈ (runC m c t h0 h1 s0 s1).2.2.2.2.2.2.2.2.1, y ∈ pc.1.set :=
  View.cover_of_tiledL (runC m c t h0 h1 s0 s1).2.2.2.2.2.2.2.2.1 S32x128.size (by sl_kernel_rfl) y

/-- What the body leaves at the last point. -/
def outC (c : Dev nD) (t : Fin cfg0.N) (h0 : ¬t.val % 32 = 0) (h1 : t.val % 32 = 31) (s0 : Vec F S32x128 .f32) (s1 : Vec F S16x128 .f32) : Outs F :=
  (VO0_12.read (Elt F) (VO0_12.writes (Elt F) VO0_12.junk (runC m c t h0 h1 s0 s1).1),
    VO0_13.read (Elt F) (VO0_13.writes (Elt F) VO0_13.junk (runC m c t h0 h1 s0 s1).2.1),
    VO0_14.read (Elt F) (VO0_14.writes (Elt F) VO0_14.junk (runC m c t h0 h1 s0 s1).2.2.1),
    VO0_15.read (Elt F) (VO0_15.writes (Elt F) VO0_15.junk (runC m c t h0 h1 s0 s1).2.2.2.1),
    VO0_16.read (Elt F) (VO0_16.writes (Elt F) VO0_16.junk (runC m c t h0 h1 s0 s1).2.2.2.2.1),
    VO0_17.read (Elt F) (VO0_17.writes (Elt F) VO0_17.junk (runC m c t h0 h1 s0 s1).2.2.2.2.2.1),
    VO0_18.read (Elt F) (VO0_18.writes (Elt F) VO0_18.junk (runC m c t h0 h1 s0 s1).2.2.2.2.2.2.1),
    VO0_19.read (Elt F) (VO0_19.writes (Elt F) VO0_19.junk (runC m c t h0 h1 s0 s1).2.2.2.2.2.2.2.1),
    VS0_0.read (Elt F) (VS0_0.writes (Elt F) VS0_0.junk (runC m c t h0 h1 s0 s1).2.2.2.2.2.2.2.2.1),
    scM0_1.view.read (Elt F) (scM0_1.view.writes (Elt F) ((Memref.isWhole_whole _ : scM0_1.IsWhole).unread s1) (runC m c t h0 h1 s0 s1).2.2.2.2.2.2.2.2.2.1))

/-- What the blocks and the kept buffers hold after each grid point. -/
def outsAt0 (c : Dev nD) : (n : ℕ) → n < cfg0.N → Outs F
  | 0, hn => outA m c ⟨0, hn⟩ (Nat.zero_mod _) (fun h => by (try dsimp only at h); omega)
  | n + 1, hn =>
    if h0 : (n + 1) % 32 = 0 then
      if h1 : (n + 1) % 32 = 31 then
        False.elim (by have hN : n + 1 < 32 := lt_of_lt_of_eq hn (show cfg0.N = 32 from N_0); omega)
      else outA m c ⟨n + 1, hn⟩ h0 h1
    else
      if h1 : (n + 1) % 32 = 31 then
        outC m c ⟨n + 1, hn⟩ h0 h1 (outsAt0 c n (Nat.lt_of_succ_lt hn)).2.2.2.2.2.2.2.2.1 (outsAt0 c n (Nat.lt_of_succ_lt hn)).2.2.2.2.2.2.2.2.2
      else
        outB m c ⟨n + 1, hn⟩ h0 h1 (outsAt0 c n (Nat.lt_of_succ_lt hn)).2.2.2.2.2.2.2.2.1 (outsAt0 c n (Nat.lt_of_succ_lt hn)).2.2.2.2.2.2.2.2.2

/-- The contents after the first point. -/
theorem outsAt0_A (c : Dev nD) (t : Fin cfg0.N) (h0 : t.val % 32 = 0) (h1 : ¬t.val % 32 = 31) :
    outsAt0 m c t.val t.isLt = outA m c t h0 h1 := by
  obtain ⟨n, hn⟩ := t
  cases n with
  | zero => exact rfl
  | succ n => exact (dif_pos h0).trans ((dif_neg h1).trans rfl)

/-- The contents after the points between. -/
theorem outsAt0_B (c : Dev nD) (t : Fin cfg0.N) (h0 : ¬t.val % 32 = 0) (h1 : ¬t.val % 32 = 31) :
    outsAt0 m c t.val t.isLt = outB m c t h0 h1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 := by
  obtain ⟨n, hn⟩ := t
  cases n with
  | zero => exact absurd (Nat.zero_mod _) h0
  | succ n => exact (dif_neg h0).trans ((dif_neg h1).trans rfl)

/-- The contents after the last point. -/
theorem outsAt0_C (c : Dev nD) (t : Fin cfg0.N) (h0 : ¬t.val % 32 = 0) (h1 : t.val % 32 = 31) :
    outsAt0 m c t.val t.isLt = outC m c t h0 h1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 := by
  obtain ⟨n, hn⟩ := t
  cases n with
  | zero => exact absurd (Nat.zero_mod _) h0
  | succ n => exact (dif_neg h0).trans ((dif_pos h1).trans rfl)

/-- What holds of the kept buffers before position `n`. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2)) ∗ (∃ r, prngReg c r)) := by
  cases n with
  | zero => exact absurd rfl hz
  | succ n => rfl

/-- What the pipeline keeps: the arrays it starts from, the blocks after each point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨_ + 20, h⟩ => absurd h (Nat.not_lt.2 (Nat.le_add_left _ _))
  Φ t := PhiS m c t.val (Nat.le_of_lt_succ t.isLt)
  q _ := fullShare
  owed _ := 0

/-- The arrays it starts from. -/
theorem A_eq (c : Dev nD) (w : Fin cfg0.W) : (dats m 0 c).A w = V m c (Pipeline.arrRef spec0 w) := by
  dsimp only [dats]

/-- The invariant at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0 after a point. -/
theorem after0_0 (c : Dev nD) (t : Fin cfg0.N) : (dats m 0 c).after 0 t = iblk m c 0 t := by dsimp only [dats]
/-- Window 1 after a point. -/
theorem after0_1 (c : Dev nD) (t : Fin cfg0.N) : (dats m 0 c).after 1 t = iblk m c 1 t := by dsimp only [dats]
/-- Window 2 after a point. -/
theorem after0_2 (c : Dev nD) (t : Fin cfg0.N) : (dats m 0 c).after 2 t = iblk m c 2 t := by dsimp only [dats]
/-- Window 3 after a point. -/
theorem after0_3 (c : Dev nD) (t : Fin cfg0.N) : (dats m 0 c).after 3 t = iblk m c 3 t := by dsimp only [dats]
/-- Window 4 after a point. -/
theorem after0_4 (c : Dev nD) (t : Fin cfg0.N) : (dats m 0 c).after 4 t = iblk m c 4 t := by dsimp only [dats]
/-- Window 5 after a point. -/
theorem after0_5 (c : Dev nD) (t : Fin cfg0.N) : (dats m 0 c).after 5 t = iblk m c 5 t := by dsimp only [dats]
/-- Window 6 after a point. -/
theorem after0_6 (c : Dev nD) (t : Fin cfg0.N) : (dats m 0 c).after 6 t = iblk m c 6 t := by dsimp only [dats]
/-- Window 7 after a point. -/
theorem after0_7 (c : Dev nD) (t : Fin cfg0.N) : (dats m 0 c).after 7 t = iblk m c 7 t := by dsimp only [dats]
/-- Window 8 after a point. -/
theorem after0_8 (c : Dev nD) (t : Fin cfg0.N) : (dats m 0 c).after 8 t = iblk m c 8 t := by dsimp only [dats]
/-- Window 9 after a point. -/
theorem after0_9 (c : Dev nD) (t : Fin cfg0.N) : (dats m 0 c).after 9 t = iblk m c 9 t := by dsimp only [dats]
/-- Window 10 after a point. -/
theorem after0_10 (c : Dev nD) (t : Fin cfg0.N) : (dats m 0 c).after 10 t = iblk m c 10 t := by dsimp only [dats]
/-- Window 11 after a point. -/
theorem after0_11 (c : Dev nD) (t : Fin cfg0.N) : (dats m 0 c).after 11 t = iblk m c 11 t := by dsimp only [dats]
/-- Window 12 after a point. -/
theorem after0_12 (c : Dev nD) (t : Fin cfg0.N) : (dats m 0 c).after 12 t = (outsAt0 m c t.val t.isLt).1 := by dsimp only [dats]
/-- Window 13 after a point. -/
theorem after0_13 (c : Dev nD) (t : Fin cfg0.N) : (dats m 0 c).after 13 t = (outsAt0 m c t.val t.isLt).2.1 := by dsimp only [dats]
/-- Window 14 after a point. -/
theorem after0_14 (c : Dev nD) (t : Fin cfg0.N) : (dats m 0 c).after 14 t = (outsAt0 m c t.val t.isLt).2.2.1 := by dsimp only [dats]
/-- Window 15 after a point. -/
theorem after0_15 (c : Dev nD) (t : Fin cfg0.N) : (dats m 0 c).after 15 t = (outsAt0 m c t.val t.isLt).2.2.2.1 := by dsimp only [dats]
/-- Window 16 after a point. -/
theorem after0_16 (c : Dev nD) (t : Fin cfg0.N) : (dats m 0 c).after 16 t = (outsAt0 m c t.val t.isLt).2.2.2.2.1 := by dsimp only [dats]
/-- Window 17 after a point. -/
theorem after0_17 (c : Dev nD) (t : Fin cfg0.N) : (dats m 0 c).after 17 t = (outsAt0 m c t.val t.isLt).2.2.2.2.2.1 := by dsimp only [dats]
/-- Window 18 after a point. -/
theorem after0_18 (c : Dev nD) (t : Fin cfg0.N) : (dats m 0 c).after 18 t = (outsAt0 m c t.val t.isLt).2.2.2.2.2.2.1 := by dsimp only [dats]
/-- Window 19 after a point. -/
theorem after0_19 (c : Dev nD) (t : Fin cfg0.N) : (dats m 0 c).after 19 t = (outsAt0 m c t.val t.isLt).2.2.2.2.2.2.2.1 := by dsimp only [dats]

/-- Window 0 before a point. -/
theorem before0_0 (c : Dev nD) (t : Fin cfg0.N) (d) : (dats m 0 c).before 0 t d = iblk m c 0 t :=
  before0_0_of m (dats m 0 c) (A_eq m c 0) (after0_0 m c) t d
/-- Window 1 before a point. -/
theorem before0_1 (c : Dev nD) (t : Fin cfg0.N) (d) : (dats m 0 c).before 1 t d = iblk m c 1 t :=
  before0_1_of m (dats m 0 c) (A_eq m c 1) (after0_1 m c) t d
/-- Window 2 before a point. -/
theorem before0_2 (c : Dev nD) (t : Fin cfg0.N) (d) : (dats m 0 c).before 2 t d = iblk m c 2 t :=
  before0_2_of m (dats m 0 c) (A_eq m c 2) (after0_2 m c) t d
/-- Window 3 before a point. -/
theorem before0_3 (c : Dev nD) (t : Fin cfg0.N) (d) : (dats m 0 c).before 3 t d = iblk m c 3 t :=
  before0_3_of m (dats m 0 c) (A_eq m c 3) (after0_3 m c) t d
/-- Window 4 before a point. -/
theorem before0_4 (c : Dev nD) (t : Fin cfg0.N) (d) : (dats m 0 c).before 4 t d = iblk m c 4 t :=
  before0_4_of m (dats m 0 c) (A_eq m c 4) (after0_4 m c) t d
/-- Window 5 before a point. -/
theorem before0_5 (c : Dev nD) (t : Fin cfg0.N) (d) : (dats m 0 c).before 5 t d = iblk m c 5 t :=
  before0_5_of m (dats m 0 c) (A_eq m c 5) (after0_5 m c) t d
/-- Window 6 before a point. -/
theorem before0_6 (c : Dev nD) (t : Fin cfg0.N) (d) : (dats m 0 c).before 6 t d = iblk m c 6 t :=
  before0_6_of m (dats m 0 c) (A_eq m c 6) (after0_6 m c) t d
/-- Window 7 before a point. -/
theorem before0_7 (c : Dev nD) (t : Fin cfg0.N) (d) : (dats m 0 c).before 7 t d = iblk m c 7 t :=
  before0_7_of m (dats m 0 c) (A_eq m c 7) (after0_7 m c) t d
/-- Window 8 before a point. -/
theorem before0_8 (c : Dev nD) (t : Fin cfg0.N) (d) : (dats m 0 c).before 8 t d = iblk m c 8 t :=
  before0_8_of m (dats m 0 c) (A_eq m c 8) (after0_8 m c) t d
/-- Window 9 before a point. -/
theorem before0_9 (c : Dev nD) (t : Fin cfg0.N) (d) : (dats m 0 c).before 9 t d = iblk m c 9 t :=
  before0_9_of m (dats m 0 c) (A_eq m c 9) (after0_9 m c) t d
/-- Window 10 before a point. -/
theorem before0_10 (c : Dev nD) (t : Fin cfg0.N) (d) : (dats m 0 c).before 10 t d = iblk m c 10 t :=
  before0_10_of m (dats m 0 c) (A_eq m c 10) (after0_10 m c) t d
/-- Window 11 before a point. -/
theorem before0_11 (c : Dev nD) (t : Fin cfg0.N) (d) : (dats m 0 c).before 11 t d = iblk m c 11 t :=
  before0_11_of m (dats m 0 c) (A_eq m c 11) (after0_11 m c) t d

/-- What window 0 is left with. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
/-- What window 1 is left with. -/
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
/-- What window 2 is left with. -/
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
/-- What window 3 is left with. -/
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
/-- What window 4 is left with. -/
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
/-- What window 5 is left with. -/
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
/-- What window 6 is left with. -/
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
/-- What window 7 is left with. -/
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]
/-- What window 8 is left with. -/
theorem leaves0_8 (c : Dev nD) (t : Fin cfg0.N) :
    (dats m 0 c).leavesExact 8 t = owns (c : Thread nD τ) (ms0_8 t) fullShare (iblk m c 8 t) := by
  unfold Dat.leavesExact; rw [liveAt0_8 t, after0_8]
/-- What window 9 is left with. -/
theorem leaves0_9 (c : Dev nD) (t : Fin cfg0.N) :
    (dats m 0 c).leavesExact 9 t = owns (c : Thread nD τ) (ms0_9 t) fullShare (iblk m c 9 t) := by
  unfold Dat.leavesExact; rw [liveAt0_9 t, after0_9]
/-- What window 10 is left with. -/
theorem leaves0_10 (c : Dev nD) (t : Fin cfg0.N) :
    (dats m 0 c).leavesExact 10 t = owns (c : Thread nD τ) (ms0_10 t) fullShare (iblk m c 10 t) := by
  unfold Dat.leavesExact; rw [liveAt0_10 t, after0_10]
/-- What window 11 is left with. -/
theorem leaves0_11 (c : Dev nD) (t : Fin cfg0.N) :
    (dats m 0 c).leavesExact 11 t = owns (c : Thread nD τ) (ms0_11 t) fullShare (iblk m c 11 t) := by
  unfold Dat.leavesExact; rw [liveAt0_11 t, after0_11]
/-- What window 12 is left with. -/
theorem leaves0_12 (c : Dev nD) (t : Fin cfg0.N) :
    (dats m 0 c).leavesExact 12 t = owns (c : Thread nD τ) (ms0_12 t) fullShare (outsAt0 m c t.val t.isLt).1 := by
  unfold Dat.leavesExact; rw [liveAt0_12 t, after0_12]
/-- What window 13 is left with. -/
theorem leaves0_13 (c : Dev nD) (t : Fin cfg0.N) :
    (dats m 0 c).leavesExact 13 t = owns (c : Thread nD τ) (ms0_13 t) fullShare (outsAt0 m c t.val t.isLt).2.1 := by
  unfold Dat.leavesExact; rw [liveAt0_13 t, after0_13]
/-- What window 14 is left with. -/
theorem leaves0_14 (c : Dev nD) (t : Fin cfg0.N) :
    (dats m 0 c).leavesExact 14 t = owns (c : Thread nD τ) (ms0_14 t) fullShare (outsAt0 m c t.val t.isLt).2.2.1 := by
  unfold Dat.leavesExact; rw [liveAt0_14 t, after0_14]
/-- What window 15 is left with. -/
theorem leaves0_15 (c : Dev nD) (t : Fin cfg0.N) :
    (dats m 0 c).leavesExact 15 t = owns (c : Thread nD τ) (ms0_15 t) fullShare (outsAt0 m c t.val t.isLt).2.2.2.1 := by
  unfold Dat.leavesExact; rw [liveAt0_15 t, after0_15]

/-- What the body is run with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 24000000 in
/-- The body at any point runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [leaves0_0, leaves0_1, leaves0_2, leaves0_3, leaves0_4, leaves0_5, leaves0_6, leaves0_7, leaves0_8, leaves0_9, leaves0_10, leaves0_11, leaves0_12, leaves0_13, leaves0_14, leaves0_15]
      rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
      rw [Dat.leavesExact_idle (dats m 0 c) 17 t (idleAt0_17_A t ((hcond0_0 t).mpr h0) (fun h => h1 ((hcond0_1 t).mp h))) (noFlush0_17_A t ((hcond0_0 t).mpr h0) (fun h => h1 ((hcond0_1 t).mp h)))]
      rw [Dat.leavesExact_idle (dats m 0 c) 18 t (idleAt0_18_A t ((hcond0_0 t).mpr h0) (fun h => h1 ((hcond0_1 t).mp h))) (noFlush0_18_A t ((hcond0_0 t).mpr h0) (fun h => h1 ((hcond0_1 t).mp h)))]
      rw [Dat.leavesExact_idle (dats m 0 c) 19 t (idleAt0_19_A t ((hcond0_0 t).mpr h0) (fun h => h1 ((hcond0_1 t).mp h))) (noFlush0_19_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold outA; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((runA m c t h0 h1).2.2.2.2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexact H16
        isplitl [H17]; · iexact H17
        isplitl [H18]; · iexact H18
        isplitl [H19]; · iexact H19
        isplitl [HS0]; · iexact HS0
        isplitl [HS1]; · iexact HS1
        iintro ⟨H0, H1, H2, H3, H4, H5, H6, H7, H8, H9, H10, H11, ⟨%e12, H12⟩, ⟨%e13, H13⟩, ⟨%e14, H14⟩, ⟨%e15, H15⟩, H16, H17, H18, H19, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverA_s0 m c t h0 h1)
            unfold owns; iexists _; isplitr
            swap; · iexact HS1
            ipureintro; exact View.read_writes_of_cover _ _ _ _ _ (coverA_s1 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (coverA_12 m c t h0 h1)
        isplitl [H13]
        · unfold owns; iexists _; isplitr
          swap; · iexact H13
          ipureintro; exact View.read_writes_of_cover _ _ _ _ _ (coverA_13 m c t h0 h1)
        isplitl [H14]
        · unfold owns; iexists _; isplitr
          swap; · iexact H14
          ipureintro; exact View.read_writes_of_cover _ _ _ _ _ (coverA_14 m c t h0 h1)
        isplitl [H15]
        · unfold owns; iexists _; isplitr
          swap; · iexact H15
          ipureintro; exact View.read_writes_of_cover _ _ _ _ _ (coverA_15 m c t h0 h1)
        isplitl [H16]; · iexists _; iexact H16
        isplitl [H17]; · iexists _; iexact H17
        isplitl [H18]; · iexists _; iexact H18
        iexists _; iexact H19
      · exfalso; have hN : t.val < 32 := lt_of_lt_of_eq t.isLt (show cfg0.N = 32 from N_0); omega
  · by_cases h1 : t.val % 32 = 31
    · rw [leaves0_0, leaves0_1, leaves0_2, leaves0_3, leaves0_4, leaves0_5, leaves0_6, leaves0_7, leaves0_8, leaves0_9, leaves0_10, leaves0_11, leaves0_12, leaves0_13, leaves0_14, leaves0_15]
      rw [show (dats m 0 c).leavesExact 16 t = owns (c : Thread nD τ) (ms0_16 t) fullShare ((dats m 0 c).after 16 t) from by
      unfold Dat.leavesExact; rw [liveAt0_16_C t (fun h => h0 ((hcond0_0 t).mp h)) ((hcond0_1 t).mpr h1)], after0_16]
      rw [show (dats m 0 c).leavesExact 17 t = owns (c : Thread nD τ) (ms0_17 t) fullShare ((dats m 0 c).after 17 t) from by
      unfold Dat.leavesExact; rw [liveAt0_17_C t (fun h => h0 ((hcond0_0 t).mp h)) ((hcond0_1 t).mpr h1)], after0_17]
      rw [show (dats m 0 c).leavesExact 18 t = owns (c : Thread nD τ) (ms0_18 t) fullShare ((dats m 0 c).after 18 t) from by
      unfold Dat.leavesExact; rw [liveAt0_18_C t (fun h => h0 ((hcond0_0 t).mp h)) ((hcond0_1 t).mpr h1)], after0_18]
      rw [show (dats m 0 c).leavesExact 19 t = owns (c : Thread nD τ) (ms0_19 t) fullShare ((dats m 0 c).after 19 t) from by
      unfold Dat.leavesExact; rw [liveAt0_19_C t (fun h => h0 ((hcond0_0 t).mp h)) ((hcond0_1 t).mpr h1)], after0_19]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold outC; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((runC m c t h0 h1 _ _).2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [H19]; · iexists _; iexact H19
        isplitl [HS0]; · iexact HS0
        isplitl [HS1]; · iexact HS1
        iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (coverC_s0 m c t h0 h1 _ _)
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (coverC_12 m c t h0 h1 _ _)
        isplitl [H13]
        · unfold owns; iexists _; isplitr
          swap; · iexact H13
          ipureintro; exact View.read_writes_of_cover _ _ _ _ _ (coverC_13 m c t h0 h1 _ _)
        isplitl [H14]
        · unfold owns; iexists _; isplitr
          swap; · iexact H14
          ipureintro; exact View.read_writes_of_cover _ _ _ _ _ (coverC_14 m c t h0 h1 _ _)
        isplitl [H15]
        · unfold owns; iexists _; isplitr
          swap; · iexact H15
          ipureintro; exact View.read_writes_of_cover _ _ _ _ _ (coverC_15 m c t h0 h1 _ _)
        isplitl [H16]
        · unfold owns; iexists _; isplitr
          swap; · iexact H16
          ipureintro; exact View.read_writes_of_cover _ _ _ _ _ (coverC_16 m c t h0 h1 _ _)
        isplitl [H17]
        · unfold owns; iexists _; isplitr
          swap; · iexact H17
          ipureintro; exact View.read_writes_of_cover _ _ _ _ _ (coverC_17 m c t h0 h1 _ _)
        isplitl [H18]
        · unfold owns; iexists _; isplitr
          swap; · iexact H18
          ipureintro; exact View.read_writes_of_cover _ _ _ _ _ (coverC_18 m c t h0 h1 _ _)
        unfold owns; iexists _; isplitr
        swap; · iexact H19
        ipureintro; exact View.read_writes_of_cover _ _ _ _ _ (coverC_19 m c t h0 h1 _ _)
    · rw [leaves0_0, leaves0_1, leaves0_2, leaves0_3, leaves0_4, leaves0_5, leaves0_6, leaves0_7, leaves0_8, leaves0_9, leaves0_10, leaves0_11, leaves0_12, leaves0_13, leaves0_14, leaves0_15]
      rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
      rw [Dat.leavesExact_idle (dats m 0 c) 17 t (idleAt0_17_B t (fun h => h0 ((hcond0_0 t).mp h)) (fun h => h1 ((hcond0_1 t).mp h))) (noFlush0_17_B t (fun h => h0 ((hcond0_0 t).mp h)) (fun h => h1 ((hcond0_1 t).mp h)))]
      rw [Dat.leavesExact_idle (dats m 0 c) 18 t (idleAt0_18_B t (fun h => h0 ((hcond0_0 t).mp h)) (fun h => h1 ((hcond0_1 t).mp h))) (noFlush0_18_B t (fun h => h0 ((hcond0_0 t).mp h)) (fun h => h1 ((hcond0_1 t).mp h)))]
      rw [Dat.leavesExact_idle (dats m 0 c) 19 t (idleAt0_19_B t (fun h => h0 ((hcond0_0 t).mp h)) (fun h => h1 ((hcond0_1 t).mp h))) (noFlush0_19_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold outB; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((runB m c t h0 h1 _ _).2.2.2.2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexact H16
        isplitl [H17]; · iexact H17
        isplitl [H18]; · iexact H18
        isplitl [H19]; · iexact H19
        isplitl [HS0]; · iexact HS0
        isplitl [HS1]; · iexact HS1
        iintro ⟨H0, H1, H2, H3, H4, H5, H6, H7, H8, H9, H10, H11, ⟨%e12, H12⟩, ⟨%e13, H13⟩, ⟨%e14, H14⟩, ⟨%e15, H15⟩, H16, H17, H18, H19, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (coverB_s0 m c t h0 h1 _ _)
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (coverB_12 m c t h0 h1 _ _)
        isplitl [H13]
        · unfold owns; iexists _; isplitr
          swap; · iexact H13
          ipureintro; exact View.read_writes_of_cover _ _ _ _ _ (coverB_13 m c t h0 h1 _ _)
        isplitl [H14]
        · unfold owns; iexists _; isplitr
          swap; · iexact H14
          ipureintro; exact View.read_writes_of_cover _ _ _ _ _ (coverB_14 m c t h0 h1 _ _)
        isplitl [H15]
        · unfold owns; iexists _; isplitr
          swap; · iexact H15
          ipureintro; exact View.read_writes_of_cover _ _ _ _ _ (coverB_15 m c t h0 h1 _ _)
        isplitl [H16]; · iexists _; iexact H16
        isplitl [H17]; · iexists _; iexact H17
        isplitl [H18]; · iexists _; iexact H18
        iexists _; iexact H19

/-- The body the pipeline calls. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The kept buffers are given back after any point. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The kept buffers are given back at the end. -/
theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- The whole program runs, ends with the computed arrays, and leaves every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program runs and ends with the computed arrays. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The program runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Qkv.Gen

end
-- ==== Proof.lean ====
module

public import proofs.«01_k».proof.Defs
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.Pre_scales_nonzero
public import proofs.«01_k».proof.Proof.Gen.QkvRefIdeal.Value
public import proofs.«01_k».proof.Proof.Gen.Qkv.Frame
public import proofs.«01_k».proof.Proof.Gen.QkvIdeal.Frame
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.Pre_x_scale_nonzero
public import proofs.«01_k».proof.Proof.Gen.Pre_h_scale_nonzero
public import proofs.«01_k».proof.Proof.Gen.OprojIdeal.Value
public import proofs.«01_k».proof.Proof.Gen.OprojRefIdeal.Value
public import proofs.«01_k».proof.Proof.Gen.GateUpIdeal.Value
public import proofs.«01_k».proof.Proof.Gen.GateUpRefIdeal.Value
public import proofs.«01_k».proof.Proof.Gen.DownIdeal.Value
public import proofs.«01_k».proof.Proof.Gen.DownRefIdeal.Value
public import Idealize.ShloMosaic.Adequacy
public import Idealize.ShloMosaic.Init
public import proofs.«01_k».proof.Proof.Claims
public import proofs.«01_k».proof.Proof.QkvClaim
public import proofs.«01_k».proof.Proof.QkvFrame

@[expose] public section

noncomputable section

namespace Cert.Proof

open Idealize.ShloMosaic Idealize.SL.Sem

/-- The statement of `Cert.Claim` with the facts the programs state put in, every conjunct with its proof. -/
theorem claim : Cert.Claim := ⟨Cert.Qkv.Gen.facts, Cert.QkvIdeal.Gen.facts, Cert.QkvRefIdeal.Gen.facts, Cert.Oproj.Gen.facts, Cert.OprojIdeal.Gen.facts, Cert.OprojRefIdeal.Gen.facts, Cert.GateUp.Gen.facts, Cert.GateUpIdeal.Gen.facts, Cert.GateUpRefIdeal.Gen.facts, Cert.Down.Gen.facts, Cert.DownIdeal.Gen.facts, Cert.DownRefIdeal.Gen.facts, Cert.Pre_scales_nonzero.Gen.facts, Cert.Pre_x_scale_nonzero.Gen.facts, Cert.Pre_h_scale_nonzero.Gen.facts,
  fun m ρ _ => Cert.Qkv.Gen.frame m ρ,
  fun m ρ _ => Cert.QkvIdeal.Gen.frame m ρ,
  fun m ρ _ => Cert.QkvIdeal.Gen.frame m ρ,
  fun m ρ _ => Cert.QkvRefIdeal.Gen.frame m ρ,
  fun m ρ _ => Cert.QkvRefIdeal.Gen.frame m ρ,
  fun m ρ _ => Cert.Oproj.Gen.frame m ρ,
  fun m ρ _ => Cert.OprojIdeal.Gen.frame m ρ,
  fun m ρ _ => Cert.OprojIdeal.Gen.frame m ρ,
  fun m ρ _ => Cert.OprojRefIdeal.Gen.frame m ρ,
  fun m ρ _ => Cert.OprojRefIdeal.Gen.frame m ρ,
  fun m ρ _ => Cert.GateUp.Gen.frame m ρ,
  fun m ρ _ => Cert.GateUpIdeal.Gen.frame m ρ,
  fun m ρ _ => Cert.GateUpIdeal.Gen.frame m ρ,
  fun m ρ _ => Cert.GateUpRefIdeal.Gen.frame m ρ,
  fun m ρ _ => Cert.GateUpRefIdeal.Gen.frame m ρ,
  fun m ρ _ => Cert.Down.Gen.frame m ρ,
  fun m ρ _ => Cert.DownIdeal.Gen.frame m ρ,
  fun m ρ _ => Cert.DownRefIdeal.Gen.frame m ρ,
  IdealRules.named_const.statement _ _ _ _ _ rfl, Claims.algebraic_qkv,
  IdealRules.named_const.statement _ _ _ _ _ rfl, Claims.algebraic_oproj,
  trivial, Claims.algebraic_gate_up,
  trivial, Claims.algebraic_down⟩

end Cert.Proof

end
